-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
-- ==== Pre_finite_inputs.lean ====
abbrev S8x2048x3072 : Shape := ⟨3, ![8, 2048, 3072]⟩
abbrev S32x8 : Shape := ⟨2, ![32, 8]⟩
abbrev S1x64 : Shape := ⟨2, ![1, 64]⟩
abbrev S1x128 : Shape := ⟨2, ![1, 128]⟩
abbrev S1x2048x1024 : Shape := ⟨3, ![1, 2048, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S8x2048x3072 : S_.BroadcastsInDim S8x2048x3072 (![] : Fin 0 → Fin S8x2048x3072.rank)
  reducesTo_S8x2048x3072_S_d0_1_2 : S8x2048x3072.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S8x2048x3072 .f32) (main_arg1 : FVec F S32x8 .f32) (main_arg2 : FVec F S1x64 .f32) (main_arg3 : FVec F S1x64 .f32) (main_arg4 : FVec F S1x64 .f32) (main_arg5 : FVec F S1x64 .f32) (main_arg6 : FVec F S1x128 .f32) (main_arg7 : FVec F S1x2048x1024 .f32) (main_arg8 : FVec F S1x1024x5632 .f32) (main_arg9 : FVec F S1x2816x1024 .f32) : IVec S_ 1 :=
  let main_v0 : FVec F S8x2048x3072 .f32 := Host.absf main_arg0
  let main_cst : FVec F S_ .f32 := constant S_ .f32 0x7F800000#32
  let main_v1 : FVec F S8x2048x3072 .f32 := broadcastInDim S8x2048x3072 ![] bcast_S_S8x2048x3072 main_cst
  let main_v2 : IVec S8x2048x3072 1 := cmpf .olt main_v0 main_v1
  let main_c : IVec S_ 1 := constantI S_ 1 1#1
  let main_v3 : IVec S_ 1 := (fun x v => Host.reduce IntOp.andi x v reducesTo_S8x2048x3072_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_v13 main_v16
-- ==== Kernel.lean ====
abbrev S8x2048x3072 : Shape := ⟨3, ![8, 2048, 3072]⟩
abbrev S32x8 : Shape := ⟨2, ![32, 8]⟩
abbrev S1x64 : Shape := ⟨2, ![1, 64]⟩
abbrev S1x128 : Shape := ⟨2, ![1, 128]⟩
abbrev S1x2048x1024 : Shape := ⟨3, ![1, 2048, 1024]⟩
abbrev S1x1024x5632 : Shape := ⟨3, ![1, 1024, 5632]⟩
abbrev S1x2816x1024 : Shape := ⟨3, ![1, 2816, 1024]⟩
abbrev S64 : Shape := ⟨1, ![64]⟩
abbrev S_ : Shape := ⟨0, ![]⟩
abbrev S1 : Shape := ⟨1, ![1]⟩
abbrev S8x2048x1024 : Shape := ⟨3, ![8, 2048, 1024]⟩
abbrev S8x2048x2048 : Shape := ⟨3, ![8, 2048, 2048]⟩
abbrev S128 : Shape := ⟨1, ![128]⟩
abbrev S2048x1024 : Shape := ⟨2, ![2048, 1024]⟩
abbrev S1024x5632 : Shape := ⟨2, ![1024, 5632]⟩
abbrev S2816x1024 : Shape := ⟨2, ![2816, 1024]⟩
abbrev S4x2x2048x3072 : Shape := ⟨4, ![4, 2, 2048, 3072]⟩
abbrev S1024 : Shape := ⟨1, ![1024]⟩
abbrev S1x1024 : Shape := ⟨2, ![1, 1024]⟩
abbrev S8x1024 : Shape := ⟨2, ![8, 1024]⟩
abbrev S4x2x2048x1024 : Shape := ⟨4, ![4, 2, 2048, 1024]⟩
abbrev S1x2x2048x128 : Shape := ⟨4, ![1, 2, 2048, 128]⟩
abbrev S64x1024 : Shape := ⟨2, ![64, 1024]⟩
abbrev S32x5632 : Shape := ⟨2, ![32, 5632]⟩
abbrev S176x1024 : Shape := ⟨2, ![176, 1024]⟩
abbrev S2x2048x256 : Shape := ⟨3, ![2, 2048, 256]⟩
abbrev S256x128 : Shape := ⟨2, ![256, 128]⟩
abbrev S1x1x256x128 : Shape := ⟨4, ![1, 1, 256, 128]⟩
abbrev S512x128 : Shape := ⟨2, ![512, 128]⟩
abbrev S1x1x2048x128 : Shape := ⟨4, ![1, 1, 2048, 128]⟩
abbrev S2048x128 : Shape := ⟨2, ![2048, 128]⟩
abbrev S512x2048 : Shape := ⟨2, ![512, 2048]⟩
abbrev S256x256 : Shape := ⟨2, ![256, 256]⟩
abbrev S1x1 : Shape := ⟨2, ![1, 1]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S1x1x1792x128 : Shape := ⟨4, ![1, 1, 1792, 128]⟩
abbrev S1792x128 : Shape := ⟨2, ![1792, 128]⟩
abbrev S512x1792 : Shape := ⟨2, ![512, 1792]⟩
abbrev S1x1x1536x128 : Shape := ⟨4, ![1, 1, 1536, 128]⟩
abbrev S1536x128 : Shape := ⟨2, ![1536, 128]⟩
abbrev S512x1536 : Shape := ⟨2, ![512, 1536]⟩
abbrev S1x2048x128 : Shape := ⟨3, ![1, 2048, 128]⟩
abbrev S1x2048x256 : Shape := ⟨3, ![1, 2048, 256]⟩
abbrev S2048x256 : Shape := ⟨2, ![2048, 256]⟩
abbrev S256 : Shape := ⟨1, ![256]⟩
abbrev S256x1 : Shape := ⟨2, ![256, 1]⟩
abbrev S1x1x1280x128 : Shape := ⟨4, ![1, 1, 1280, 128]⟩
abbrev S1280x128 : Shape := ⟨2, ![1280, 128]⟩
abbrev S512x1280 : Shape := ⟨2, ![512, 1280]⟩
abbrev S1x1792x256 : Shape := ⟨3, ![1, 1792, 256]⟩
abbrev S1792x256 : Shape := ⟨2, ![1792, 256]⟩
abbrev S1x1x1024x128 : Shape := ⟨4, ![1, 1, 1024, 128]⟩
abbrev S1024x128 : Shape := ⟨2, ![1024, 128]⟩
abbrev S512x1024 : Shape := ⟨2, ![512, 1024]⟩
abbrev S1x1536x256 : Shape := ⟨3, ![1, 1536, 256]⟩
abbrev S1536x256 : Shape := ⟨2, ![1536, 256]⟩
abbrev S1x1x768x128 : Shape := ⟨4, ![1, 1, 768, 128]⟩
abbrev S768x128 : Shape := ⟨2, ![768, 128]⟩
abbrev S512x768 : Shape := ⟨2, ![512, 768]⟩
abbrev S1x1280x256 : Shape := ⟨3, ![1, 1280, 256]⟩
abbrev S1280x256 : Shape := ⟨2, ![1280, 256]⟩
abbrev S1x1x512x128 : Shape := ⟨4, ![1, 1, 512, 128]⟩
abbrev S512x512 : Shape := ⟨2, ![512, 512]⟩
abbrev S1x1024x256 : Shape := ⟨3, ![1, 1024, 256]⟩
abbrev S1024x256 : Shape := ⟨2, ![1024, 256]⟩
abbrev S1x768x256 : Shape := ⟨3, ![1, 768, 256]⟩
abbrev S768x256 : Shape := ⟨2, ![768, 256]⟩
abbrev S1x512x256 : Shape := ⟨3, ![1, 512, 256]⟩
abbrev S1x256x256 : Shape := ⟨3, ![1, 256, 256]⟩

abbrev nBuf : Space → Nat
  | .hbm => 90
  | .vmem => 23
  | .smem => 2
  | _ => 0

abbrev bufTy : (tb : Table) → Fin (tcTables nBuf tb) → BufTy
  | .hbm, ⟨0, _⟩ => ⟨S8x2048x3072, .f32⟩
  | .hbm, ⟨1, _⟩ => ⟨S32x8, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S1x2048x1024, .f32⟩
  | .hbm, ⟨8, _⟩ => ⟨S1x1024x5632, .f32⟩
  | .hbm, ⟨9, _⟩ => ⟨S1x2816x1024, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x2048, .f32⟩
  | .hbm, ⟨36, _⟩ => ⟨S8x2048x3072, .f32⟩
  | .hbm, ⟨37, _⟩ => ⟨S8x2048x3072, .bf16⟩
  | .hbm, ⟨38, _⟩ => ⟨S128, .f32⟩
  | .hbm, ⟨39, _⟩ => ⟨S1x128, .f32⟩
  | .hbm, ⟨40, _⟩ => ⟨S2048x1024, .f32⟩
  | .hbm, ⟨41, _⟩ => ⟨S1024x5632, .f32⟩
  | .hbm, ⟨42, _⟩ => ⟨S2816x1024, .f32⟩
  | .hbm, ⟨43, _⟩ => ⟨S4x2x2048x3072, .bf16⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024, .i32⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S_, .i32⟩
  | .hbm, ⟨76, _⟩ => ⟨S1024, .i32⟩
  | .hbm, ⟨77, _⟩ => ⟨S1024, .i32⟩
  | .hbm, ⟨78, _⟩ => ⟨S_, .i32⟩
  | .hbm, ⟨79, _⟩ => ⟨S1024, .i32⟩
  | .hbm, ⟨80, _⟩ => ⟨S1024, .i1⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S1x1024, .i32⟩
  | .hbm, ⟨85, _⟩ => ⟨S8x1024, .i32⟩
  | .hbm, ⟨86, _⟩ => ⟨S4x2x2048x1024, .bf16⟩
  | .hbm, ⟨87, _⟩ => ⟨S2048x1024, .bf16⟩
  | .hbm, ⟨88, _⟩ => ⟨S1024x5632, .bf16⟩
  | .hbm, ⟨89, _⟩ => ⟨S2816x1024, .bf16⟩
  | .local _ .vmem, ⟨0, _⟩ => ⟨S1x2x2048x128, .bf16⟩
  | .local _ .vmem, ⟨1, _⟩ => ⟨S1x2x2048x128, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x2x2048x128, .bf16⟩
  | .local _ .vmem, ⟨5, _⟩ => ⟨S1x2x2048x128, .bf16⟩
  | .local _ .vmem, ⟨6, _⟩ => ⟨S8x1024, .i32⟩
  | .local _ .vmem, ⟨7, _⟩ => ⟨S1x128, .f32⟩
  | .local _ .vmem, ⟨8, _⟩ => ⟨S64x1024, .f32⟩
  | .local _ .vmem, ⟨9, _⟩ => ⟨S64x1024, .f32⟩
  | .local _ .vmem, ⟨10, _⟩ => ⟨S32x5632, .f32⟩
  | .local _ .vmem, ⟨11, _⟩ => ⟨S32x5632, .f32⟩
  | .local _ .vmem, ⟨12, _⟩ => ⟨S176x1024, .f32⟩
  | .local _ .vmem, ⟨13, _⟩ => ⟨S176x1024, .f32⟩
  | .local _ .vmem, ⟨14, _⟩ => ⟨S1x2x2048x128, .bf16⟩
  | .local _ .vmem, ⟨15, _⟩ => ⟨S1x2x2048x128, .bf16⟩
  | .local _ .vmem, ⟨16, _⟩ => ⟨S64x1024, .bf16⟩
  | .local _ .vmem, ⟨17, _⟩ => ⟨S64x1024, .bf16⟩
  | .local _ .vmem, ⟨18, _⟩ => ⟨S32x5632, .bf16⟩
  | .local _ .vmem, ⟨19, _⟩ => ⟨S32x5632, .bf16⟩
  | .local _ .vmem, ⟨20, _⟩ => ⟨S176x1024, .bf16⟩
  | .local _ .vmem, ⟨21, _⟩ => ⟨S176x1024, .bf16⟩
  | .local _ .vmem, ⟨22, _⟩ => ⟨S2x2048x256, .bf16⟩
  | .local _ .smem, ⟨0, _⟩ => ⟨S1, .f32⟩
  | .local _ .smem, ⟨1, _⟩ => ⟨S32x8, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_c_7 : Ref sig .tc := ⟨.hbm, 52, rfl⟩
abbrev main_call0_v0 : Ref sig .tc := ⟨.hbm, 53, rfl⟩
abbrev main_call0_v1 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_c_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57_0 : Ref sig .tc := ⟨.hbm, 86, rfl⟩
abbrev main_v57_1 : Ref sig .tc := ⟨.hbm, 87, rfl⟩
abbrev main_v57_2 : Ref sig .tc := ⟨.hbm, 88, rfl⟩
abbrev main_v57_3 : Ref sig .tc := ⟨.hbm, 89, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let c15 : Index := 15#32
  let arg1 : BitVec 32 := BitVec.ofNat 32 (i 1).val
  let v80 : Index := Scalar.indexCast arg1
  ![15, v80.toNat]
def k0_off2 (i : grid0.Coords) : Fin 2 → Nat :=
  let c0_37 : Index := 0#32
  let arg1 : BitVec 32 := BitVec.ofNat 32 (i 1).val
  let v85 : Index := Scalar.indexCast arg1
  ![0, v85.toNat]
def k0_off3 (i : grid0.Coords) : Fin 2 → Nat :=
  let c1 : Index := 1#32
  let arg1 : BitVec 32 := BitVec.ofNat 32 (i 1).val
  let v93 : Index := Scalar.indexCast arg1
  ![1, v93.toNat]
def k0_off4 (i : grid0.Coords) : Fin 2 → Nat :=
  let c2 : Index := 2#32
  let arg1 : BitVec 32 := BitVec.ofNat 32 (i 1).val
  let v101 : Index := Scalar.indexCast arg1
  ![2, v101.toNat]
def k0_off5 (i : grid0.Coords) : Fin 2 → Nat :=
  let c3 : Index := 3#32
  let arg1 : BitVec 32 := BitVec.ofNat 32 (i 1).val
  let v109 : Index := Scalar.indexCast arg1
  ![3, v109.toNat]
def k0_off6 (i : grid0.Coords) : Fin 2 → Nat :=
  let c4 : Index := 4#32
  let arg1 : BitVec 32 := BitVec.ofNat 32 (i 1).val
  let v117 : Index := Scalar.indexCast arg1
  ![4, v117.toNat]
def k0_off7 (i : grid0.Coords) : Fin 2 → Nat :=
  let c5 : Index := 5#32
  let arg1 : BitVec 32 := BitVec.ofNat 32 (i 1).val
  let v125 : Index := Scalar.indexCast arg1
  ![5, v125.toNat]
def k0_off8 (i : grid0.Coords) : Fin 2 → Nat :=
  let c6 : Index := 6#32
  let arg1 : BitVec 32 := BitVec.ofNat 32 (i 1).val
  let v133 : Index := Scalar.indexCast arg1
  ![6, v133.toNat]
def k0_off9 (i : grid0.Coords) : Fin 2 → Nat :=
  let c7 : Index := 7#32
  let arg1 : BitVec 32 := BitVec.ofNat 32 (i 1).val
  let v141 : Index := Scalar.indexCast arg1
  ![7, v141.toNat]
def k0_off10 (i : grid0.Coords) : Fin 2 → Nat :=
  let c8 : Index := 8#32
  let arg1 : BitVec 32 := BitVec.ofNat 32 (i 1).val
  let v149 : Index := Scalar.indexCast arg1
  ![8, v149.toNat]
def k0_off11 (i : grid0.Coords) : Fin 2 → Nat :=
  let c9 : Index := 9#32
  let arg1 : BitVec 32 := BitVec.ofNat 32 (i 1).val
  let v157 : Index := Scalar.indexCast arg1
  ![9, v157.toNat]
def k0_off12 (i : grid0.Coords) : Fin 2 → Nat :=
  let c10 : Index := 10#32
  let arg1 : BitVec 32 := BitVec.ofNat 32 (i 1).val
  let v165 : Index := Scalar.indexCast arg1
  ![10, v165.toNat]
def k0_off13 (i : grid0.Coords) : Fin 2 → Nat :=
  let c11 : Index := 11#32
  let arg1 : BitVec 32 := BitVec.ofNat 32 (i 1).val
  let v173 : Index := Scalar.indexCast arg1
  ![11, v173.toNat]
def k0_off14 (i : grid0.Coords) : Fin 2 → Nat :=
  let c12 : Index := 12#32
  let arg1 : BitVec 32 := BitVec.ofNat 32 (i 1).val
  let v181 : Index := Scalar.indexCast arg1
  ![12, v181.toNat]
def k0_off15 (i : grid0.Coords) : Fin 2 → Nat :=
  let c13 : Index := 13#32
  let arg1 : BitVec 32 := BitVec.ofNat 32 (i 1).val
  let v189 : Index := Scalar.indexCast arg1
  ![13, v189.toNat]
def k0_off16 (i : grid0.Coords) : Fin 2 → Nat :=
  let c14 : Index := 14#32
  let arg1 : BitVec 32 := BitVec.ofNat 32 (i 1).val
  let v197 : Index := Scalar.indexCast arg1
  ![14, v197.toNat]
def k0_off17 (i : grid0.Coords) : Fin 2 → Nat :=
  let c16 : Index := 16#32
  let arg1 : BitVec 32 := BitVec.ofNat 32 (i 1).val
  let v213 : Index := Scalar.indexCast arg1
  ![16, v213.toNat]
def k0_off18 (i : grid0.Coords) : Fin 2 → Nat :=
  let c17 : Index := 17#32
  let arg1 : BitVec 32 := BitVec.ofNat 32 (i 1).val
  let v221 : Index := Scalar.indexCast arg1
  ![17, v221.toNat]
def k0_off19 (i : grid0.Coords) : Fin 2 → Nat :=
  let c18 : Index := 18#32
  let arg1 : BitVec 32 := BitVec.ofNat 32 (i 1).val
  let v229 : Index := Scalar.indexCast arg1
  ![18, v229.toNat]
def k0_off20 (i : grid0.Coords) : Fin 2 → Nat :=
  let c19 : Index := 19#32
  let arg1 : BitVec 32 := BitVec.ofNat 32 (i 1).val
  let v237 : Index := Scalar.indexCast arg1
  ![19, v237.toNat]
def k0_off21 (i : grid0.Coords) : Fin 2 → Nat :=
  let c20 : Index := 20#32
  let arg1 : BitVec 32 := BitVec.ofNat 32 (i 1).val
  let v245 : Index := Scalar.indexCast arg1
  ![20, v245.toNat]
def k0_off22 (i : grid0.Coords) : Fin 2 → Nat :=
  let c21 : Index := 21#32
  let arg1 : BitVec 32 := BitVec.ofNat 32 (i 1).val
  let v253 : Index := Scalar.indexCast arg1
  ![21, v253.toNat]
def k0_off23 (i : grid0.Coords) : Fin 2 → Nat :=
  let c22 : Index := 22#32
  let arg1 : BitVec 32 := BitVec.ofNat 32 (i 1).val
  let v261 : Index := Scalar.indexCast arg1
  ![22, v261.toNat]
def k0_off24 (i : grid0.Coords) : Fin 2 → Nat :=
  let c23 : Index := 23#32
  let arg1 : BitVec 32 := BitVec.ofNat 32 (i 1).val
  let v269 : Index := Scalar.indexCast arg1
  ![23, v269.toNat]
def k0_off25 (i : grid0.Coords) : Fin 2 → Nat :=
  let c24 : Index := 24#32
  let arg1 : BitVec 32 := BitVec.ofNat 32 (i 1).val
  let v277 : Index := Scalar.indexCast arg1
  ![24, v277.toNat]
def k0_off26 (i : grid0.Coords) : Fin 2 → Nat :=
  let c25 : Index := 25#32
  let arg1 : BitVec 32 := BitVec.ofNat 32 (i 1).val
  let v285 : Index := Scalar.indexCast arg1
  ![25, v285.toNat]
def k0_off27 (i : grid0.Coords) : Fin 2 → Nat :=
  let c26 : Index := 26#32
  let arg1 : BitVec 32 := BitVec.ofNat 32 (i 1).val
  let v293 : Index := Scalar.indexCast arg1
  ![26, v293.toNat]
def k0_off28 (i : grid0.Coords) : Fin 2 → Nat :=
  let c27 : Index := 27#32
  let arg1 : BitVec 32 := BitVec.ofNat 32 (i 1).val
  let v301 : Index := Scalar.indexCast arg1
  ![27, v301.toNat]
def k0_off29 (i : grid0.Coords) : Fin 2 → Nat :=
  let c28 : Index := 28#32
  let arg1 : BitVec 32 := BitVec.ofNat 32 (i 1).val
  let v309 : Index := Scalar.indexCast arg1
  ![28, v309.toNat]
def k0_off30 (i : grid0.Coords) : Fin 2 → Nat :=
  let c29 : Index := 29#32
  let arg1 : BitVec 32 := BitVec.ofNat 32 (i 1).val
  let v317 : Index := Scalar.indexCast arg1
  ![29, v317.toNat]
def k0_off31 (i : grid0.Coords) : Fin 2 → Nat :=
  let c30 : Index := 30#32
  let arg1 : BitVec 32 := BitVec.ofNat 32 (i 1).val
  let v325 : Index := Scalar.indexCast arg1
  ![30, v325.toNat]
def k0_off32 (i : grid0.Coords) : Fin 2 → Nat :=
  let c31 : Index := 31#32
  let arg1 : BitVec 32 := BitVec.ofNat 32 (i 1).val
  let v333 : Index := Scalar.indexCast arg1
  ![31, v333.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c32_i32_0 : BitVec 32 := 32#32
  let v3 : BitVec 32 := Scalar.divsi v2 c32_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32_0 c0_i32_2
  let v10 : BitVec 32 := Scalar.extui v9
  let c0_i32_3 : BitVec 32 := 0#32
  let v11 : BitVec 1 := Scalar.cmpi .slt c32_i32_0 c0_i32_3
  let v12 : BitVec 32 := Scalar.extui v11
  let v13 : BitVec 32 := Scalar.subi v10 v12
  let v14 : BitVec 1 := Scalar.cmpi .ne v8 v13
  let v15 : BitVec 32 := Scalar.remsi v2 c32_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  ![v19.toNat, c0_i32_4.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x3072 : Shape := ⟨3, ![8, 2048, 3072]⟩
abbrev S32x8 : Shape := ⟨2, ![32, 8]⟩
abbrev S1x64 : Shape := ⟨2, ![1, 64]⟩
abbrev S1x128 : Shape := ⟨2, ![1, 128]⟩
abbrev S1x2048x1024 : Shape := ⟨3, ![1, 2048, 1024]⟩
abbrev S1x1024x5632 : Shape := ⟨3, ![1, 1024, 5632]⟩
abbrev S1x2816x1024 : Shape := ⟨3, ![1, 2816, 1024]⟩
abbrev S8x2048x1024 : Shape := ⟨3, ![8, 2048, 1024]⟩
abbrev S8x2048x8x2x64 : Shape := ⟨5, ![8, 2048, 8, 2, 64]⟩
abbrev S8x2048x8x128 : Shape := ⟨4, ![8, 2048, 8, 128]⟩
abbrev S64 : Shape := ⟨1, ![64]⟩
abbrev S_ : Shape := ⟨0, ![]⟩
abbrev S128 : Shape := ⟨1, ![128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S8x8x2x2048x2048 : Shape := ⟨5, ![8, 8, 2, 2048, 2048]⟩
abbrev S1x8x1x2048x2048 : Shape := ⟨5, ![1, 8, 1, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S4x2x2048x1024 : Shape := ⟨4, ![4, 2, 2048, 1024]⟩
abbrev S2048x1024 : Shape := ⟨2, ![2048, 1024]⟩
abbrev S1024x5632 : Shape := ⟨2, ![1024, 5632]⟩
abbrev S2816x1024 : Shape := ⟨2, ![2816, 1024]⟩

abbrev nBuf : Space → Nat
  | .hbm => 188
  | .vmem => 0
  | .smem => 0
  | _ => 0

abbrev hbmTy0_0 (i : Nat) : BufTy := match i % 128 with
  | 0 => ⟨S8x2048x3072, .f32⟩
  | 1 => ⟨S32x8, .f32⟩
  | 2 => ⟨S1x64, .f32⟩
  | 3 => ⟨S1x64, .f32⟩
  | 4 => ⟨S1x64, .f32⟩
  | 5 => ⟨S1x64, .f32⟩
  | 6 => ⟨S1x128, .f32⟩
  | 7 => ⟨S1x2048x1024, .f32⟩
  | 8 => ⟨S1x1024x5632, .f32⟩
  | 9 => ⟨S1x2816x1024, .f32⟩
  | 10 => ⟨S8x2048x1024, .f32⟩
  | 11 => ⟨S8x2048x1024, .f32⟩
  | 12 => ⟨S8x2048x1024, .f32⟩
  | 13 => ⟨S8x2048x8x2x64, .f32⟩
  | 14 => ⟨S8x2048x8x2x64, .f32⟩
  | 15 => ⟨S8x2048x8x128, .f32⟩
  | 16 => ⟨S64, .f32⟩
  | 17 => ⟨S64, .f32⟩
  | 18 => ⟨S64, .f32⟩
  | 19 => ⟨S_, .f32⟩
  | 20 => ⟨S_, .f32⟩
  | 21 => ⟨S_, .f32⟩
  | 22 => ⟨S64, .f32⟩
  | 23 => ⟨S64, .f32⟩
  | 24 => ⟨S64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S128, .f32⟩
  | 32 => ⟨S2048, .i32⟩
  | 33 => ⟨S1x2048, .i32⟩
  | 34 => ⟨S2048x1, .i32⟩
  | 35 => ⟨S2048x2048, .i32⟩
  | 36 => ⟨S2048x2048, .i32⟩
  | 37 => ⟨S2048x2048, .i32⟩
  | 38 => ⟨S_, .i32⟩
  | 39 => ⟨S2048x2048, .i32⟩
  | 40 => ⟨S2048x2048, .i1⟩
  | 41 => ⟨S_, .i32⟩
  | 42 => ⟨S_, .i32⟩
  | 43 => ⟨S2048x2048, .i32⟩
  | 44 => ⟨S2048x2048, .i32⟩
  | 45 => ⟨S2048x2048, .i32⟩
  | 46 => ⟨S2048x2048, .i32⟩
  | 47 => ⟨S_, .i32⟩
  | 48 => ⟨S2048x2048, .i32⟩
  | 49 => ⟨S2048x2048, .i32⟩
  | 50 => ⟨S2048x2048, .f32⟩
  | 51 => ⟨S_, .f32⟩
  | 52 => ⟨S2048x2048, .f32⟩
  | 53 => ⟨S2048x2048, .f32⟩
  | 54 => ⟨S2048x2048, .f32⟩
  | 55 => ⟨S_, .f32⟩
  | 56 => ⟨S2048x2048, .f32⟩
  | 57 => ⟨S2048x2048, .f32⟩
  | 58 => ⟨S_, .f32⟩
  | 59 => ⟨S2048x2048, .f32⟩
  | 60 => ⟨S2048x2048, .f32⟩
  | 61 => ⟨S2048x2048, .i32⟩
  | 62 => ⟨S_, .i32⟩
  | 63 => ⟨S2048x2048, .i32⟩
  | 64 => ⟨S2048x2048, .i32⟩
  | 65 => ⟨S_, .i32⟩
  | 66 => ⟨S2048x2048, .i32⟩
  | 67 => ⟨S2048x2048, .i32⟩
  | 68 => ⟨S_, .i32⟩
  | 69 => ⟨S2048x2048, .i32⟩
  | 70 => ⟨S2048x2048, .i1⟩
  | 71 => ⟨S2048x2048, .i32⟩
  | 72 => ⟨S2048x2048, .i32⟩
  | 73 => ⟨S2048x2048, .i32⟩
  | 74 => ⟨S_, .i32⟩
  | 75 => ⟨S2048x2048, .i32⟩
  | 76 => ⟨S2048x2048, .i1⟩
  | 77 => ⟨S_, .i32⟩
  | 78 => ⟨S2048x2048, .i32⟩
  | 79 => ⟨S2048x2048, .i32⟩
  | 80 => ⟨S2048x2048, .i32⟩
  | 81 => ⟨S2048x2048x1, .i32⟩
  | 82 => ⟨S2048x2048x8, .f32⟩
  | 83 => ⟨S8x2048x2048, .f32⟩
  | 84 => ⟨S8x8x2x2048x2048, .f32⟩
  | 85 => ⟨S_, .f32⟩
  | 86 => ⟨S8x8x2x2048x2048, .f32⟩
  | 87 => ⟨S8x8x2x2048x2048, .f32⟩
  | 88 => ⟨S1x8x1x2048x2048, .f32⟩
  | 89 => ⟨S8x8x2x2048x2048, .f32⟩
  | 90 => ⟨S8x8x2x2048x2048, .f32⟩
  | 91 => ⟨S1x2048, .i32⟩
  | 92 => ⟨S_, .i32⟩
  | 93 => ⟨S_, .i32⟩
  | 94 => ⟨S1x2048, .i32⟩
  | 95 => ⟨S1x2048, .i32⟩
  | 96 => ⟨S1x2048, .i32⟩
  | 97 => ⟨S_, .i32⟩
  | 98 => ⟨S1x2048, .i32⟩
  | 99 => ⟨S1x2048, .i1⟩
  | 100 => ⟨S1x2048, .i32⟩
  | 101 => ⟨S1x2048, .i32⟩
  | 102 => ⟨S_, .i32⟩
  | 103 => ⟨S1x2048, .i32⟩
  | 104 => ⟨S1x2048, .i1⟩
  | 105 => ⟨S1x2048, .i1⟩
  | 106 => ⟨S_, .i32⟩
  | 107 => ⟨S1x2048, .i32⟩
  | 108 => ⟨S1x2048, .i32⟩
  | 109 => ⟨S1x2048, .i32⟩
  | 110 => ⟨S2048x1, .i32⟩
  | 111 => ⟨S_, .i32⟩
  | 112 => ⟨S_, .i32⟩
  | 113 => ⟨S2048x1, .i32⟩
  | 114 => ⟨S2048x1, .i32⟩
  | 115 => ⟨S2048x1, .i32⟩
  | 116 => ⟨S_, .i32⟩
  | 117 => ⟨S2048x1, .i32⟩
  | 118 => ⟨S2048x1, .i1⟩
  | 119 => ⟨S2048x1, .i32⟩
  | 120 => ⟨S2048x1, .i32⟩
  | 121 => ⟨S_, .i32⟩
  | 122 => ⟨S2048x1, .i32⟩
  | 123 => ⟨S2048x1, .i1⟩
  | 124 => ⟨S2048x1, .i1⟩
  | 125 => ⟨S_, .i32⟩
  | 126 => ⟨S2048x1, .i32⟩
  | 127 => ⟨S2048x1, .i32⟩
  | _ => ⟨S8x2048x3072, .f32⟩

abbrev hbmTy0_1 (i : Nat) : BufTy := match i % 128 with
  | 0 => ⟨S2048x1, .i32⟩
  | 1 => ⟨S2048x2048, .i32⟩
  | 2 => ⟨S2048x2048, .i32⟩
  | 3 => ⟨S2048x2048, .i1⟩
  | 4 => ⟨S_, .f32⟩
  | 5 => ⟨S_, .f32⟩
  | 6 => ⟨S8x8x2x2048x2048, .i1⟩
  | 7 => ⟨S8x8x2x2048x2048, .f32⟩
  | 8 => ⟨S8x8x2x2048x2048, .f32⟩
  | 9 => ⟨S_, .f32⟩
  | 10 => ⟨S8x8x2x2048, .f32⟩
  | 11 => ⟨S_, .f32⟩
  | 12 => ⟨S8x8x2x2048, .f32⟩
  | 13 => ⟨S8x8x2x2048, .f32⟩
  | 14 => ⟨S8x8x2x2048x1, .f32⟩
  | 15 => ⟨S8x8x2x2048x2048, .f32⟩
  | 16 => ⟨S8x8x2x2048x2048, .f32⟩
  | 17 => ⟨S8x8x2x2048x2048, .f32⟩
  | 18 => ⟨S_, .f32⟩
  | 19 => ⟨S8x8x2x2048, .f32⟩
  | 20 => ⟨S8x8x2x2048x1, .f32⟩
  | 21 => ⟨S8x8x2x2048x2048, .f32⟩
  | 22 => ⟨S8x8x2x2048x2048, .f32⟩
  | 23 => ⟨S8x8x1x2048x2048, .f32⟩
  | 24 => ⟨S8x8x2048x2048, .f32⟩
  | 25 => ⟨S8x8x1x2048x2048, .f32⟩
  | 26 => ⟨S8x8x2048x2048, .f32⟩
  | 27 => ⟨S8x8x2048x2048, .f32⟩
  | 28 => ⟨S8x8x2048x2048, .f32⟩
  | 29 => ⟨S8x8x2048x2048, .f32⟩
  | 30 => ⟨S8x8x128x2048, .f32⟩
  | 31 => ⟨S8x2048x8x128, .f32⟩
  | 32 => ⟨S8x2048x8x128, .f32⟩
  | 33 => ⟨S_, .f32⟩
  | 34 => ⟨S8x2048x8, .f32⟩
  | 35 => ⟨S8x2048x8x1, .f32⟩
  | 36 => ⟨S_, .f32⟩
  | 37 => ⟨S8x2048x8x1, .f32⟩
  | 38 => ⟨S8x2048x8x1, .f32⟩
  | 39 => ⟨S_, .f32⟩
  | 40 => ⟨S8x2048x8x1, .f32⟩
  | 41 => ⟨S8x2048x8x1, .f32⟩
  | 42 => ⟨S8x2048x8x1, .f32⟩
  | 43 => ⟨S8x2048x8x128, .f32⟩
  | 44 => ⟨S8x2048x8x128, .f32⟩
  | 45 => ⟨S1x1x1x128, .f32⟩
  | 46 => ⟨S8x2048x8x128, .f32⟩
  | 47 => ⟨S8x2048x8x128, .f32⟩
  | 48 => ⟨S_, .f32⟩
  | 49 => ⟨S8x2048x8x128, .f32⟩
  | 50 => ⟨S8x2048x8x128, .f32⟩
  | 51 => ⟨S8x2048x1024, .f32⟩
  | 52 => ⟨S4x2x2048x1024, .f32⟩
  | 53 => ⟨S4x2x2048x1024, .bf16⟩
  | 54 => ⟨S2048x1024, .f32⟩
  | 55 => ⟨S2048x1024, .bf16⟩
  | 56 => ⟨S1024x5632, .f32⟩
  | 57 => ⟨S1024x5632, .bf16⟩
  | 58 => ⟨S2816x1024, .f32⟩
  | 59 => ⟨S2816x1024, .bf16⟩
  | _ => ⟨S8x2048x3072, .f32⟩

abbrev hbmTy (i : Nat) : BufTy := match i / 128 with
  | 0 => hbmTy0_0 i
  | 1 => hbmTy0_1 i
  | _ => ⟨S8x2048x3072, .f32⟩

abbrev bufTy : (tb : Table) → Fin (tcTables nBuf tb) → BufTy
  | .hbm, ⟨i, _⟩ => hbmTy i
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_c_3 : Ref sig .tc := ⟨.hbm, 42, rfl⟩
abbrev main_call0_v0 : Ref sig .tc := ⟨.hbm, 43, rfl⟩
abbrev main_call0_v1 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v64 : Ref sig .tc := ⟨.hbm, 109, rfl⟩
abbrev main_v65 : Ref sig .tc := ⟨.hbm, 110, rfl⟩
abbrev main_c_15 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_c : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_0 : Ref sig .tc := ⟨.hbm, 125, rfl⟩
abbrev main_call3_v12 : Ref sig .tc := ⟨.hbm, 126, rfl⟩
abbrev main_call3_v13 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_16 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_v70 : Ref sig .tc := ⟨.hbm, 136, rfl⟩
abbrev main_cst_17 : Ref sig .tc := ⟨.hbm, 137, rfl⟩
abbrev main_v71 : Ref sig .tc := ⟨.hbm, 138, rfl⟩
abbrev main_cst_18 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_cst_19 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_20 : Ref sig .tc := ⟨.hbm, 161, rfl⟩
abbrev main_v92 : Ref sig .tc := ⟨.hbm, 162, rfl⟩
abbrev main_v93 : Ref sig .tc := ⟨.hbm, 163, rfl⟩
abbrev main_cst_21 : Ref sig .tc := ⟨.hbm, 164, rfl⟩
abbrev main_v94 : Ref sig .tc := ⟨.hbm, 165, rfl⟩
abbrev main_v95 : Ref sig .tc := ⟨.hbm, 166, rfl⟩
abbrev main_cst_22 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_cst_23 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x2048x1024 : Shape := ⟨3, ![1, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S16384x1024 : Shape := ⟨2, ![16384, 1024]⟩
abbrev S2048x1024 : Shape := ⟨2, ![2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S512x1024 : Shape := ⟨2, ![512, 1024]⟩
abbrev S8x512x128 : Shape := ⟨3, ![8, 512, 128]⟩
abbrev S44x8x256 : Shape := ⟨3, ![44, 8, 256]⟩
abbrev S1024x1024 : Shape := ⟨2, ![1024, 1024]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩
abbrev S512 : Shape := ⟨1, ![512]⟩
abbrev S512x1 : Shape := ⟨2, ![512, 1]⟩
abbrev S64x256 : Shape := ⟨2, ![64, 256]⟩
abbrev S1024x256 : Shape := ⟨2, ![1024, 256]⟩
abbrev S512x256 : Shape := ⟨2, ![512, 256]⟩
abbrev S1x8x256 : Shape := ⟨3, ![1, 8, 256]⟩
abbrev S8x256 : Shape := ⟨2, ![8, 256]⟩
abbrev S1x256 : Shape := ⟨2, ![1, 256]⟩
abbrev S512x2816 : Shape := ⟨2, ![512, 2816]⟩

abbrev nBuf : Space → Nat
  | .hbm => 28
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1x2048x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x5632, .f32⟩
  | .hbm, ⟨8, _⟩ => ⟨S1x2816x1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x1024, .bf16⟩
  | .hbm, ⟨15, _⟩ => ⟨S2048x1024, .f32⟩
  | .hbm, ⟨16, _⟩ => ⟨S2048x1024, .bf16⟩
  | .hbm, ⟨17, _⟩ => ⟨S1024, .f32⟩
  | .hbm, ⟨18, _⟩ => ⟨S1x1024, .f32⟩
  | .hbm, ⟨19, _⟩ => ⟨S1024x5632, .f32⟩
  | .hbm, ⟨20, _⟩ => ⟨S1024x5632, .bf16⟩
  | .hbm, ⟨21, _⟩ => ⟨S3x5632, .f32⟩
  | .hbm, ⟨22, _⟩ => ⟨S5632, .f32⟩
  | .hbm, ⟨23, _⟩ => ⟨S1x5632, .f32⟩
  | .hbm, ⟨24, _⟩ => ⟨S2816x1024, .f32⟩
  | .hbm, ⟨25, _⟩ => ⟨S2816x1024, .bf16⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x512x128, .f32⟩
  | .local _ .vmem, ⟨16, _⟩ => ⟨S512x1024, .f32⟩
  | .local _ .vmem, ⟨17, _⟩ => ⟨S512x1024, .bf16⟩
  | .local _ .vmem, ⟨18, _⟩ => ⟨S8x512x128, .f32⟩
  | .local _ .vmem, ⟨19, _⟩ => ⟨S44x8x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S8x2048x1024 : Shape := ⟨3, ![8, 2048, 1024]⟩
abbrev S1x2048x1024 : Shape := ⟨3, ![1, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S8x2048x2048 : Shape := ⟨3, ![8, 2048, 2048]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x5632 : Shape := ⟨3, ![8, 2048, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩
abbrev S16384x1024 : Shape := ⟨2, ![16384, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1x2048x1024, .f32⟩
  | .hbm, ⟨4, _⟩ => ⟨S1x1024, .f32⟩
  | .hbm, ⟨5, _⟩ => ⟨S1x1024x5632, .f32⟩
  | .hbm, ⟨6, _⟩ => ⟨S1x3x5632, .f32⟩
  | .hbm, ⟨7, _⟩ => ⟨S1x5632, .f32⟩
  | .hbm, ⟨8, _⟩ => ⟨S1x2816x1024, .f32⟩
  | .hbm, ⟨9, _⟩ => ⟨S1024, .f32⟩
  | .hbm, ⟨10, _⟩ => ⟨S8x2048x2048, .f32⟩
  | .hbm, ⟨11, _⟩ => ⟨S2048x1024, .f32⟩
  | .hbm, ⟨12, _⟩ => ⟨S8x2048x1024, .f32⟩
  | .hbm, ⟨13, _⟩ => ⟨S8x2048x1024, .f32⟩
  | .hbm, ⟨14, _⟩ => ⟨S1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S1024x5632, .f32⟩
  | .hbm, ⟨32, _⟩ => ⟨S3x5632, .f32⟩
  | .hbm, ⟨33, _⟩ => ⟨S5632, .f32⟩
  | .hbm, ⟨34, _⟩ => ⟨S2816x1024, .f32⟩
  | .hbm, ⟨35, _⟩ => ⟨S8x2048x5632, .f32⟩
  | .hbm, ⟨36, _⟩ => ⟨S_, .i32⟩
  | .hbm, ⟨37, _⟩ => ⟨S_, .f32⟩
  | .hbm, ⟨38, _⟩ => ⟨S8x2050x5632, .f32⟩
  | .hbm, ⟨39, _⟩ => ⟨S8x2048x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S8x2048x5632, .f32⟩
  | .hbm, ⟨44, _⟩ => ⟨S8x2048x5632, .f32⟩
  | .hbm, ⟨45, _⟩ => ⟨S_, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S8x2048x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S8x2048x5632, .f32⟩
  | .hbm, ⟨60, _⟩ => ⟨S8x2048x5632, .f32⟩
  | .hbm, ⟨61, _⟩ => ⟨S8x2048x5632, .f32⟩
  | .hbm, ⟨62, _⟩ => ⟨S1x1x5632, .f32⟩
  | .hbm, ⟨63, _⟩ => ⟨S8x2048x5632, .f32⟩
  | .hbm, ⟨64, _⟩ => ⟨S8x2048x5632, .f32⟩
  | .hbm, ⟨65, _⟩ => ⟨S8x2048x2816, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S_, .f32⟩
  | .hbm, ⟨70, _⟩ => ⟨S8x2048x2816, .f32⟩
  | .hbm, ⟨71, _⟩ => ⟨S8x2048x2816, .f32⟩
  | .hbm, ⟨72, _⟩ => ⟨S_, .f32⟩
  | .hbm, ⟨73, _⟩ => ⟨S8x2048x2816, .f32⟩
  | .hbm, ⟨74, _⟩ => ⟨S8x2048x2816, .f32⟩
  | .hbm, ⟨75, _⟩ => ⟨S8x2048x2816, .f32⟩
  | .hbm, ⟨76, _⟩ => ⟨S8x2048x2816, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | .hbm, ⟨95, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_3 : Ref sig .tc := ⟨.hbm, 80, rfl⟩
abbrev main_v56 : Ref sig .tc := ⟨.hbm, 81, rfl⟩
abbrev main_v57 : Ref sig .tc := ⟨.hbm, 82, rfl⟩
abbrev main_cst_4 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Proof.Tile.lean ====
/- One tile of the attention: the operations that the kernel prints for one block of 256 query rows of one
   head, at any number `n` of key blocks, and what each of them holds at an index. -/
module

public import proofs.«01_k».proof.Proof.Gen.KernelIdeal.Value
public import Idealize.ShloMosaic.Lib.MatmulPlain
public import Idealize.ShloMosaic.Lib.Pointwise

@[expose] public section

noncomputable section

namespace Cert.KernelIdeal.Tile

open Cert.KernelIdeal Cert.KernelIdeal.Gen Idealize.ShloMosaic

/-- The key rows of `n` blocks. -/
abbrev KeyRows (n : ℕ) : Shape := ⟨2, ![256 * n, 128]⟩
/-- The key rows as they are loaded. -/
abbrev KeyLoad (n : ℕ) : Shape := ⟨4, ![1, 1, 256 * n, 128]⟩
/-- The scores of both halves of 256 query rows against `n` key blocks. -/
abbrev Scores (n : ℕ) : Shape := ⟨2, ![512, 256 * n]⟩
/-- The value rows of `n` blocks, the ones beside them. -/
abbrev ValRows (n : ℕ) : Shape := ⟨2, ![256 * n, 256]⟩
/-- The value rows as they are loaded. -/
abbrev ValLoad (n : ℕ) : Shape := ⟨3, ![1, 256 * n, 256]⟩

theorem casts_key (n : ℕ) : (KeyLoad n).ShapeCasts (KeyRows n) := by
  simp [Shape.ShapeCasts, Shape.numel, Fin.prod_univ_succ]

theorem casts_val (n : ℕ) : (ValLoad n).ShapeCasts (ValRows n) := by
  simp [Shape.ShapeCasts, Shape.numel, Fin.prod_univ_succ]

theorem slices_block (n j : ℕ) (h : j < n) : (Scores n).Slices ![0, 256 * j] S512x256 :=
  ⟨rfl, Fin.forall_fin_two.mpr ⟨by show 0 + 512 ≤ 512; omega, by show 256 * j + 256 ≤ 256 * n; omega⟩⟩

theorem cat_blocks (n : ℕ) (hn : 2 ≤ n) (f : Fin n → FVec Ideal S512x256 .bf16) :
    Shape.Concatenates ((List.ofFn fun j : Fin n => (⟨S512x256, f j⟩ : (s : Shape) × (s.Idx → Ideal .bf16))).map (·.1)) (Scores n) 1 := by
  rw [List.map_ofFn]
  refine ⟨by simpa using hn, ?_, ?_⟩
  · intro s hs
    rw [List.mem_ofFn] at hs
    obtain ⟨j, rfl⟩ := hs
    refine ⟨rfl, Fin.forall_fin_two.mpr ⟨fun _ => rfl, fun h => absurd rfl h⟩⟩
  · show (List.map _ _).sum = 256 * n
    rw [List.map_ofFn]
    have h : (fun s : Shape => if h : s.rank = (Scores n).rank then s.size (Fin.cast h.symm 1) else 0) ∘
        ((fun x => x.1) ∘ fun j : Fin n => (⟨S512x256, f j⟩ : (s : Shape) × (s.Idx → Ideal .bf16))) = fun _ => 256 := rfl
    refine (congrArg (fun g => (List.ofFn g).sum) h).trans ?_
    rw [List.ofFn_const, List.sum_replicate]
    simp [mul_comm]

/-- The query rows twice over: the upper copy keeps the first 64 lanes, the lower one the last 64. -/
def qRows (q : Vec Ideal S1x1x256x128 .bf16) : FVec Ideal S512x128 .bf16 :=
  concatenate S512x128 0
    [⟨S256x128, select (cmpi .slt (iota .tc S256x128 32 [1] iota_S256x128_d1_w32) (broadcast S256x128 64#32))
        (shapeCast S256x128 q shapeCasts_S1x1x256x128_S256x128) (broadcast S256x128 (Scalar.ofBits .bf16 0x0000#16))⟩,
     ⟨S256x128, select (cmpi .sge (iota .tc S256x128 32 [1] iota_S256x128_d1_w32) (broadcast S256x128 64#32))
        (shapeCast S256x128 q shapeCasts_S1x1x256x128_S256x128) (broadcast S256x128 (Scalar.ofBits .bf16 0x0000#16))⟩]
    concatenates_S256x128_S256x128_S512x128_d0

/-- Both halves' products with the keys of `n` blocks. -/
def scores (n : ℕ) (q : Vec Ideal S1x1x256x128 .bf16) (k : Vec Ideal (KeyLoad n) .bf16) : FVec Ideal (Scores n) .f32 :=
  matmul (DotDims.transposedRhs 512 128 (256 * n)) none (qRows q) (shapeCast (KeyRows n) k (casts_key n) : FVec Ideal (KeyRows n) .bf16)
    (constant (Scores n) .f32 0x00000000#32)

/-- Key block `j` of the scores. -/
def cut (n : ℕ) (s : FVec Ideal (Scores n) .f32) (j : ℕ) : FVec Ideal S512x256 .f32 :=
  if h : j < n then extractStridedSlice S512x256 ![0, 256 * j] s (slices_block n j h) else fun _ => 0

/-- The last block with its bias where the mask allows it, the block before it with its own, the others as they are. -/
def biased (n : ℕ) (b : ℕ → FVec Ideal S512x256 .f32) (al : IVec S512x256 1) (bd bp : FVec Ideal S512x256 .f32)
    (j : ℕ) : FVec Ideal S512x256 .f32 :=
  if j + 1 = n then
    select al (addf (b j) bd) (broadcast S512x256 (Named.named κ "mask" 0xF149F2CA#32))
  else if j + 2 = n then addf (b j) bp else b j

/-- The maximum of blocks `0` to `k`, entry by entry. -/
def upTo (b : ℕ → FVec Ideal S512x256 .f32) : ℕ → FVec Ideal S512x256 .f32
  | 0 => b 0
  | k + 1 => maximumf (upTo b k) (b (k + 1))

/-- Each row's maximum over blocks `0` to `k`. -/
def rowMax (b : ℕ → FVec Ideal S512x256 .f32) (k : ℕ) : FVec Ideal S512x1 .f32 :=
  shapeCast S512x1 (multiReduction .maximumf [1] S512 (upTo b k) 0xFF800000#32 reduces_S512x256_S512 (.inl rfl) rfl)
    shapeCasts_S512_S512x1

/-- One block's weights. -/
def weight (b : FVec Ideal S512x256 .f32) (m : FVec Ideal S512x1 .f32) : FVec Ideal S512x256 .bf16 :=
  truncf .bf16 (exp2 (subf b (broadcastTo S512x256 m broadcasts_S512x1_S512x256))) bitsLt_bf16_f32

/-- The weights of all blocks side by side. -/
def weights (n : ℕ) (hn : 2 ≤ n) (b : ℕ → FVec Ideal S512x256 .f32) (m : FVec Ideal S512x1 .f32) : FVec Ideal (Scores n) .bf16 :=
  concatenate (Scores n) 1 (List.ofFn fun j : Fin n => ⟨S512x256, weight (b j) m⟩) (cat_blocks n hn _)

/-- The weighted values over the weights' sum. -/
def quot (n : ℕ) (p : FVec Ideal (Scores n) .bf16) (v : Vec Ideal (ValLoad n) .bf16) : FVec Ideal S512x128 .f32 :=
  divf
    (extractStridedSlice S512x128 ![0, 0] (matmul (DotDims.plain 512 (256 * n) 256) none p
      (shapeCast (ValRows n) v (casts_val n) : FVec Ideal (ValRows n) .bf16) (constant S512x256 .f32 0x00000000#32)) slices_S512x256_o0_0_S512x128)
    (extractStridedSlice S512x128 ![0, 128] (matmul (DotDims.plain 512 (256 * n) 256) none p
      (shapeCast (ValRows n) v (casts_val n) : FVec Ideal (ValRows n) .bf16) (constant S512x256 .f32 0x00000000#32)) slices_S512x256_o0_128_S512x128)

/-- The upper half less `lam` times the lower one. -/
def diff (lam : Elt Ideal .f32) (a : FVec Ideal S512x128 .f32) : FVec Ideal S256x128 .f32 :=
  subf (extractStridedSlice S256x128 ![0, 0] a slices_S512x128_o0_0_S256x128)
    (mulf (broadcast S256x128 lam) (extractStridedSlice S256x128 ![256, 0] a slices_S512x128_o256_0_S256x128))

/-- The rows scaled to unit mean square, weighted by `g` and scaled. -/
def normed (o : FVec Ideal S256x128 .f32) (g : Vec Ideal S1x128 .f32) : FVec Ideal S1x1x256x128 .bf16 :=
  shapeCast S1x1x256x128
    (truncf .bf16
      (mulf
        (mulf
          (mulf o (broadcastTo S256x128
            (rsqrt (addf
              (divf (shapeCast S256x1 (multiReduction .add [1] S256 (mulf o o) 0x00000000#32 reduces_S256x128_S256 (.inl rfl) rfl)
                shapeCasts_S256_S256x1) (broadcast S256x1 (Scalar.ofBits .f32 0x43000000#32)))
              (broadcast S256x1 (Scalar.ofBits .f32 0x3727C5AC#32)))) broadcasts_S256x1_S256x128))
          (broadcastTo S256x128 (shapeCast S1x128 g shapeCasts_S1x128_S1x128) broadcasts_S1x128_S256x128))
        (broadcast S256x128 (Scalar.ofBits .f32 0x3F4CCCCD#32))) bitsLt_bf16_f32)
    shapeCasts_S256x128_S1x1x256x128

/-- A tile over `n` key blocks. -/
def tile (n : ℕ) (hn : 2 ≤ n) (al : IVec S512x256 1) (bd bp : FVec Ideal S512x256 .f32) (q : Vec Ideal S1x1x256x128 .bf16)
    (k : Vec Ideal (KeyLoad n) .bf16) (v : Vec Ideal (ValLoad n) .bf16) (lam : Elt Ideal .f32) (g : Vec Ideal S1x128 .f32) :
    FVec Ideal S1x1x256x128 .bf16 :=
  normed (diff lam (quot n
    (weights n hn (biased n (cut n (scores n q k)) al bd bp) (rowMax (biased n (cut n (scores n q k)) al bd bp) (n - 1))) v)) g

/-- The tile over one key block, whose block is not cut out and whose weights are not laid side by side. -/
def tileOne (al : IVec S512x256 1) (bd : FVec Ideal S512x256 .f32) (q : Vec Ideal S1x1x256x128 .bf16)
    (k : Vec Ideal S1x1x256x128 .bf16) (v : Vec Ideal S1x256x256 .bf16) (lam : Elt Ideal .f32) (g : Vec Ideal S1x128 .f32) :
    FVec Ideal S1x1x256x128 .bf16 :=
  normed (diff lam (quot 1
    (weight (biased 1 (fun _ => scores 1 q k) al bd bd 0) (rowMax (biased 1 (fun _ => scores 1 q k) al bd bd) 0)) v)) g

end Cert.KernelIdeal.Tile

end
-- ==== Proof.Soft.lean ====
/- Sums, quotients and maxima of extended reals that are real numbers, and the two ways of writing a masked
   softmax: weights `2 ^ (l - m)` divided once after the sum, or `exp (x - m)` divided term by term. -/
module

public import Idealize.ShloMosaic.PureOps
public import Idealize.ShloMosaic.PureOps.Ideal

@[expose] public section

noncomputable section

namespace Cert.Soft

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x y : ℝ) (h : y ≠ 0) : Ideal.div (x : EReal) (y : EReal) = ((x / y : ℝ) : EReal) := by
  rw [Ideal.div_coe h, ← EReal.coe_mul, one_div, div_eq_mul_inv]

/-- A maximum from −∞ of numbers none of which is +∞, one of which is not −∞, is a real number. -/
theorem fold_max_real {ι : Type} [DecidableEq ι] (s : Finset ι) (f : ι → EReal) (h : ∀ i ∈ s, f i ≠ ⊤)
    (h' : ∃ i ∈ s, f i ≠ ⊥) : ∃ μ : ℝ, s.fold max ⊥ f = (μ : EReal) := by
  have ht : s.fold max ⊥ f ≠ ⊤ := by
    induction s using Finset.induction_on with
    | empty => simp
    | insert a s ha ih =>
      rw [Finset.fold_insert ha]
      by_cases hs : ∃ i ∈ s, f i ≠ ⊥
      · have := ih (fun i hi => h i (Finset.mem_insert_of_mem hi)) hs
        rcases max_choice (f a) (s.fold max ⊥ f) with e | e <;> rw [e]
        · exact h a (Finset.mem_insert_self _ _)
        · exact this
      · push Not at hs
        have : s.fold max ⊥ f = ⊥ := by
          have hle : s.fold max ⊥ f ≤ ⊥ := by
            rw [Finset.fold_max_le]
            exact ⟨le_rfl, fun i hi => (hs i hi).le⟩
          exact le_bot_iff.mp hle
        rw [this, max_eq_left bot_le]
        exact h a (Finset.mem_insert_self _ _)
  have hb : s.fold max ⊥ f ≠ ⊥ := by
    obtain ⟨i, hi, hne⟩ := h'
    intro e
    have : f i ≤ s.fold max ⊥ f := by
      rw [Finset.le_fold_max]
      exact Or.inr ⟨i, hi, le_rfl⟩
    rw [e] at this
    exact hne (le_bot_iff.mp this)
  exact ⟨(s.fold max ⊥ f).toReal, (EReal.coe_toReal ht hb).symm⟩

open Classical in
/-- A masked logit. -/
def logit (a : Prop) (l : ℝ) : EReal := if a then (l : EReal) else ⊥

open Classical in
/-- A masked weight to base two. -/
def w2 (a : Prop) (l : ℝ) : ℝ := if a then (2 : ℝ) ^ l else 0

theorem logit_ne_top (a : Prop) (l : ℝ) : logit a l ≠ ⊤ := by
  unfold logit; split <;> simp

theorem w2_nonneg (a : Prop) (l : ℝ) : 0 ≤ w2 a l := by
  unfold w2; split
  · exact Real.rpow_nonneg (by norm_num) _
  · exact le_rfl

theorem exp2_logit (a : Prop) (l μ : ℝ) : Ideal.exp2 (logit a l - (μ : EReal)) = ((w2 a l * (2 : ℝ) ^ (-μ) : ℝ) : EReal) := by
  unfold logit w2
  split
  · rw [← EReal.coe_sub, Ideal.exp2_coe]
    congr 1
    show (2 : ℝ) ^ (l - μ) = _
    rw [sub_eq_add_neg, Real.rpow_add (by norm_num)]
  · simp

theorem exp_logit (a : Prop) (x μ : ℝ) :
    Ideal.exp (logit a x - (μ : EReal)) = ((w2 a (x * (Real.log 2)⁻¹) * Real.exp (-μ) : ℝ) : EReal) := by
  unfold logit w2
  split
  · rw [← EReal.coe_sub, Ideal.exp_coe]
    congr 1
    rw [sub_eq_add_neg, Real.exp_add, Real.rpow_def_of_pos (by norm_num)]
    congr 2
    have : Real.log 2 ≠ 0 := (Real.log_pos (by norm_num)).ne'
    field_simp
  · simp

/-- Adding a constant to the logits leaves a normalised masked sum as it is. -/
theorem shift_real {ι : Type} (s : Finset ι) (a : ι → Prop) (l : ι → ℝ) (v : ι → ℝ) (t : ℝ) :
    (∑ i ∈ s, w2 (a i) (l i + t) * v i) = (2 : ℝ) ^ t * ∑ i ∈ s, w2 (a i) (l i) * v i := by
  rw [Finset.mul_sum]
  refine Finset.sum_congr rfl fun i _ => ?_
  unfold w2
  split
  · rw [Real.rpow_add (by norm_num)]; ring
  · simp

open Classical in
theorem w2_sum_pos (N : ℕ) (a : ℕ → Prop) (l : ℕ → ℝ) (h : ∃ J < N, a J) : 0 < ∑ J ∈ Finset.range N, w2 (a J) (l J) := by
  obtain ⟨J, hJ, ha⟩ := h
  refine Finset.sum_pos' (fun i _ => w2_nonneg _ _) ⟨J, Finset.mem_range.mpr hJ, ?_⟩
  unfold w2
  rw [if_pos ha]
  exact Real.rpow_pos_of_pos (by norm_num) _

/-- The weighted mean of `v` over the first `N` keys. -/
def mean (N : ℕ) (a : ℕ → Prop) (l : ℕ → ℝ) (v : ℕ → ℝ) : ℝ :=
  (∑ J ∈ Finset.range N, w2 (a J) (l J) * v J) / ∑ J ∈ Finset.range N, w2 (a J) (l J)

/-- Weighted values over the weights' sum, the weights taken relative to any real maximum. -/
theorem div_exp2 (N : ℕ) (a : ℕ → Prop) (l : ℕ → ℝ) (v : ℕ → ℝ) (μ : ℝ) (h : ∃ J < N, a J) :
    Ideal.div (∑ J : Fin N, Ideal.exp2 (logit (a J) (l J) - (μ : EReal)) * (v J : EReal))
      (∑ J : Fin N, Ideal.exp2 (logit (a J) (l J) - (μ : EReal)) * 1) = (mean N a l v : EReal) := by
  simp only [exp2_logit, mul_one, ← EReal.coe_mul, ← coe_sum]
  rw [Finset.sum_fin_eq_sum_range, Finset.sum_fin_eq_sum_range]
  have e1 : ∀ f : ℕ → ℝ, (∑ i ∈ Finset.range N, if h : i < N then f i else 0) = ∑ i ∈ Finset.range N, f i :=
    fun f => Finset.sum_congr rfl fun i hi => dif_pos (Finset.mem_range.mp hi)
  rw [e1 (fun J => w2 (a J) (l J) * (2 : ℝ) ^ (-μ) * v J), e1 (fun J => w2 (a J) (l J) * (2 : ℝ) ^ (-μ))]
  have hp := w2_sum_pos N a l h
  have hq : (0 : ℝ) < (2 : ℝ) ^ (-μ) := Real.rpow_pos_of_pos (by norm_num) _
  have e2 : (∑ J ∈ Finset.range N, w2 (a J) (l J) * (2 : ℝ) ^ (-μ) * v J) = (2 : ℝ) ^ (-μ) * ∑ J ∈ Finset.range N, w2 (a J) (l J) * v J := by
    rw [Finset.mul_sum]; exact Finset.sum_congr rfl fun _ _ => by ring
  rw [e2, ← Finset.sum_mul, div_real _ _ (mul_pos hp hq).ne']
  congr 1
  unfold mean
  rw [mul_comm (∑ J ∈ Finset.range N, w2 (a J) (l J)), mul_div_mul_left _ _ hq.ne']

/-- Keys that the mask excludes may be left out. -/
theorem mean_extend (N M : ℕ) (hNM : N ≤ M) (a : ℕ → Prop) (l v : ℕ → ℝ) (h : ∀ J, N ≤ J → ¬ a J) : mean N a l v = mean M a l v := by
  have hz : ∀ J, N ≤ J → w2 (a J) (l J) = 0 := fun J hJ => if_neg (h J hJ)
  unfold mean
  rw [Finset.sum_subset (Finset.range_mono hNM) (fun J _ hJ => by rw [hz J (by simpa using hJ), zero_mul]),
    Finset.sum_subset (Finset.range_mono hNM) (fun J _ hJ => hz J (by simpa using hJ))]

/-- A mean does not depend on a constant added to the logits. -/
theorem mean_shift (N : ℕ) (a : ℕ → Prop) (l l' v : ℕ → ℝ) (t : ℝ) (h : ∀ J < N, a J → l J = l' J + t) : mean N a l v = mean N a l' v := by
  have e : ∀ J ∈ Finset.range N, w2 (a J) (l J) = w2 (a J) (l' J + t) := fun J hJ => by
    unfold w2; split
    · rw [h J (Finset.mem_range.mp hJ) ‹_›]
    · rfl
  have h1 := shift_real (Finset.range N) a l' v t
  have h2 := shift_real (Finset.range N) a l' (fun _ => 1) t
  simp only [mul_one] at h2
  unfold mean
  rw [Finset.sum_congr rfl fun J hJ => by rw [e J hJ], Finset.sum_congr rfl e, h1, h2]
  exact mul_div_mul_left _ _ (Real.rpow_pos_of_pos (by norm_num) _).ne'

end Cert.Soft

end
-- ==== Proof.TileRead.lean ====
/- What the operations of one tile hold at an index, over the extended reals. -/
module

public import proofs.«01_k».proof.Proof.Tile
public import proofs.«01_k».proof.Proof.Soft

@[expose] public section

set_option maxRecDepth 16384

noncomputable section

namespace Cert.KernelIdeal.Tile

open Cert.KernelIdeal Cert.KernelIdeal.Gen Idealize.ShloMosaic Cert.Soft

theorem lane_lt (d : Fin 128) (a b : EReal) :
    Scalar.select (IntOp.cmpi .slt (BitVec.ofNat 32 d) 64#32) a b = if d.val < 64 then a else b := by
  have : ∀ d : Fin 128, (IntOp.cmpi .slt (BitVec.ofNat 32 d) 64#32 = 1#1) = (d.val < 64) := by decide
  show (if _ = 1#1 then a else b) = _
  exact if_congr (iff_of_eq (this d)) rfl rfl

theorem lane_ge (d : Fin 128) (a b : EReal) :
    Scalar.select (IntOp.cmpi .sge (BitVec.ofNat 32 d) 64#32) a b = if 64 ≤ d.val then a else b := by
  have : ∀ d : Fin 128, (IntOp.cmpi .sge (BitVec.ofNat 32 d) 64#32 = 1#1) = (64 ≤ d.val) := by decide
  show (if _ = 1#1 then a else b) = _
  exact if_congr (iff_of_eq (this d)) rfl rfl

theorem ofBits_negInf : Ideal.ofBits .f32 0xFF800000#32 = ⊥ := by
  simp [Ideal.ofBits, Ideal.ieee]

theorem ofBits_zero : Ideal.ofBits .f32 0x00000000#32 = 0 := by
  simp [Ideal.ofBits, Ideal.ieee]

theorem named_mask : (Named.named κ "mask" 0xF149F2CA#32 : Ideal .f32) = ⊥ := by
  simp [Named.named, κ]

theorem normed_apply (o : FVec Ideal S256x128 .f32) (g : Vec Ideal S1x128 .f32) (r : Fin 256) (d : Fin 128) :
    normed o g (ix4 0 0 r d) = o (ix2 r d) * Ideal.rsqrt (Ideal.div (∑ x : Fin 128, o (ix2 r x) * o (ix2 r x))
      (Ideal.ofBits .f32 0x43000000#32) + Ideal.ofBits .f32 0x3727C5AC#32) * g (ix2 0 d) * Ideal.ofBits .f32 0x3F4CCCCD#32 := by
  unfold normed
  pointwise

theorem diff_apply (lam : Elt Ideal .f32) (a : FVec Ideal S512x128 .f32) (r : Fin 256) (d : Fin 128) :
    diff lam a (ix2 r d) = a (ix2 ⟨r.val, by omega⟩ d) - lam * a (ix2 ⟨256 + r.val, by omega⟩ d) := by
  unfold diff
  pointwise

theorem qRows_apply_upper (q : Vec Ideal S1x1x256x128 .bf16) (r : Fin 256) (d : Fin 128) :
    qRows q (ix2 ⟨r.val, by omega⟩ d) = if d.val < 64 then q (ix4 0 0 r d) else 0 := by
  unfold qRows
  pointwise
  rw [lane_lt]

theorem qRows_apply_lower (q : Vec Ideal S1x1x256x128 .bf16) (r : Fin 256) (d : Fin 128) :
    qRows q (ix2 ⟨256 + r.val, by omega⟩ d) = if 64 ≤ d.val then q (ix4 0 0 r d) else 0 := by
  unfold qRows
  pointwise
  rw [lane_ge]

theorem rowMax_apply (b : ℕ → FVec Ideal S512x256 .f32) (k : ℕ) (r : Fin 512) :
    rowMax b k (ix2 r 0) = Finset.fold max ⊥ (fun x : Fin 256 => upTo b k (ix2 r x)) Finset.univ := by
  unfold rowMax
  pointwise
  rw [ofBits_negInf]

theorem weight_apply (b : FVec Ideal S512x256 .f32) (m : FVec Ideal S512x1 .f32) (r : Fin 512) (c : Fin 256) :
    weight b m (ix2 r c) = Ideal.exp2 (b (ix2 r c) - m (ix2 r 0)) := by
  unfold weight
  pointwise
  rfl

theorem weights_apply (n : ℕ) (hn : 2 ≤ n) (b : ℕ → FVec Ideal S512x256 .f32) (m : FVec Ideal S512x1 .f32) (r : Fin 512)
    (J : Fin (256 * n)) :
    weights n hn b m (ix2 r J) = Ideal.exp2 (b (J.val / 256) (ix2 r ⟨J.val % 256, Nat.mod_lt _ (by norm_num)⟩) - m (ix2 r 0)) := by
  rw [← weight_apply]
  have hJ := J.isLt
  unfold weights
  exact concatenate_ofFn_apply (t := Scores n) 1 (fun j : Fin n => weight (b j) m) _ rfl 256 rfl (ix2 r J)
    ⟨J.val / 256, by omega⟩ rfl (ix2 r ⟨J.val % 256, Nat.mod_lt _ (by norm_num)⟩) rfl
    (Fin.forall_fin_two.mpr ⟨fun _ => rfl, fun h => absurd rfl h⟩)

theorem matmul_v (n : ℕ) (p : FVec Ideal (Scores n) .bf16) (v : Vec Ideal (ValLoad n) .bf16) (r : Fin 512) (d : Fin 256) :
    (matmul (DotDims.plain 512 (256 * n) 256) none p
      (shapeCast (ValRows n) v (casts_val n) : FVec Ideal (ValRows n) .bf16) (constant S512x256 .f32 0x00000000#32) : FVec Ideal S512x256 .f32) (ix2 r d)
      = ∑ J : Fin (256 * n), p (ix2 r J) * v (ix3 0 J d) := by
  simp only [ix2_eq_valueIdx]
  refine (Ideal.matmul_plain_apply _ _ _ _ _ _).trans ?_
  rw [show (constant S512x256 .f32 0x00000000#32 : FVec Ideal S512x256 .f32) = fun _ => (0 : EReal) from by
    funext _; exact ofBits_zero, zero_add]
  refine Finset.sum_congr rfl fun J _ => ?_
  congr 1
  refine shapeCast_apply _ _ _ _ ?_
  refine (rowMajor_val3 _ _ _ rfl rfl).trans (Eq.trans ?_ (rowMajor_val2 _ _ rfl).symm)
  show 0 * _ + J.val * 256 + d.val = J.val * 256 + d.val
  ring

theorem quot_apply (n : ℕ) (p : FVec Ideal (Scores n) .bf16) (v : Vec Ideal (ValLoad n) .bf16) (r : Fin 512) (d : Fin 128) :
    quot n p v (ix2 r d) = Ideal.div (∑ J : Fin (256 * n), p (ix2 r J) * v (ix3 0 J ⟨d.val, by omega⟩))
      (∑ J : Fin (256 * n), p (ix2 r J) * v (ix3 0 J ⟨128 + d.val, by omega⟩)) := by
  unfold quot
  rw [← matmul_v, ← matmul_v]
  generalize (matmul (DotDims.plain 512 (256 * n) 256) none p
      (shapeCast (ValRows n) v (casts_val n) : FVec Ideal (ValRows n) .bf16) (constant S512x256 .f32 0x00000000#32) : FVec Ideal S512x256 .f32) = a
  pointwise

theorem scores_apply (n : ℕ) (q : Vec Ideal S1x1x256x128 .bf16) (k : Vec Ideal (KeyLoad n) .bf16) (r : Fin 512) (J : Fin (256 * n)) :
    scores n q k (ix2 r J) = ∑ d : Fin 128, qRows q (ix2 r d) * k (ix4 0 0 J d) := by
  unfold scores
  simp only [ix2_eq_valueIdx]
  refine (Ideal.matmul_transposedRhs_apply _ _ _ _ _ _).trans ?_
  rw [show (constant (Scores n) .f32 0x00000000#32 : FVec Ideal (Scores n) .f32) = fun _ => (0 : EReal) from by
    funext _; exact ofBits_zero, zero_add]
  refine Finset.sum_congr rfl fun d _ => ?_
  congr 1
  refine shapeCast_apply _ _ _ _ ?_
  refine (rowMajor_val4 _ _ _ _ rfl rfl rfl).trans (Eq.trans ?_ (rowMajor_val2 _ _ rfl).symm)
  show 0 * _ + 0 * _ + J.val * 128 + d.val = J.val * 128 + d.val
  ring

theorem cut_apply (n : ℕ) (s : FVec Ideal (Scores n) .f32) (j : ℕ) (h : j < n) (r : Fin 512) (c : Fin 256) :
    cut n s j (ix2 r c) = s (ix2 r ⟨256 * j + c.val, by omega⟩) := by
  unfold cut
  rw [dif_pos h]
  refine extractStridedSlice_apply _ _ _ _ _ (Fin.forall_fin_two.mpr ⟨?_, ?_⟩)
  · show r.val = 0 + r.val; omega
  · rfl

theorem biased_apply (n : ℕ) (b : ℕ → FVec Ideal S512x256 .f32) (al : IVec S512x256 1) (bd bp : FVec Ideal S512x256 .f32)
    (j : ℕ) (r : Fin 512) (c : Fin 256) :
    biased n b al bd bp j (ix2 r c) = if j + 1 = n then (if al (ix2 r c) = 1#1 then b j (ix2 r c) + bd (ix2 r c) else ⊥)
      else if j + 2 = n then b j (ix2 r c) + bp (ix2 r c) else b j (ix2 r c) := by
  unfold biased
  split
  · pointwise
    rw [named_mask]
    rfl
  · split <;> pointwise

end Cert.KernelIdeal.Tile

end
-- ==== Proof.TileSoft.lean ====
/- A tile's quotient as a weighted mean of real numbers. -/
module

public import proofs.«01_k».proof.Proof.TileRead

@[expose] public section

noncomputable section

namespace Cert.KernelIdeal.Tile

open Cert.KernelIdeal Cert.KernelIdeal.Gen Idealize.ShloMosaic Cert.Soft

theorem upTo_ne_top (b : ℕ → FVec Ideal S512x256 .f32) (k : ℕ) (r : Fin 512) (c : Fin 256)
    (h : ∀ j ≤ k, b j (ix2 r c) ≠ ⊤) : upTo b k (ix2 r c) ≠ ⊤ := by
  induction k with
  | zero => exact h 0 le_rfl
  | succ k ih =>
    show max (upTo b k (ix2 r c)) (b (k + 1) (ix2 r c)) ≠ ⊤
    rcases max_choice (upTo b k (ix2 r c)) (b (k + 1) (ix2 r c)) with e | e <;> rw [e]
    · exact ih fun j hj => h j (Nat.le_succ_of_le hj)
    · exact h (k + 1) le_rfl

theorem le_upTo (b : ℕ → FVec Ideal S512x256 .f32) (k : ℕ) (r : Fin 512) (c : Fin 256) (j : ℕ) (hj : j ≤ k) :
    (b j (ix2 r c) : EReal) ≤ upTo b k (ix2 r c) := by
  induction k with
  | zero => rw [Nat.le_zero.mp hj]; exact le_rfl
  | succ k ih =>
    show (b j (ix2 r c) : EReal) ≤ max (upTo b k (ix2 r c)) (b (k + 1) (ix2 r c))
    rcases Nat.lt_or_ge k j with h | h
    · rw [Nat.le_antisymm hj h]; exact le_max_right _ _
    · exact (ih h).trans (le_max_left _ _)

/-- Row `r` of `n` blocks holds the masked logits `l`. -/
def Logits (n : ℕ) (b : ℕ → FVec Ideal S512x256 .f32) (r : Fin 512) (a : ℕ → Prop) (l : ℕ → ℝ) : Prop :=
  ∀ j < n, ∀ c : Fin 256, b j (ix2 r c) = logit (a (256 * j + c.val)) (l (256 * j + c.val))

theorem rowMax_real (n : ℕ) (b : ℕ → FVec Ideal S512x256 .f32) (r : Fin 512) (a : ℕ → Prop) (l : ℕ → ℝ)
    (hb : Logits n b r a l) (ha : ∃ J < 256 * n, a J) : ∃ μ : ℝ, rowMax b (n - 1) (ix2 r 0) = (μ : EReal) := by
  obtain ⟨J, hJ, ha⟩ := ha
  rw [rowMax_apply]
  refine fold_max_real _ _ (fun c _ => upTo_ne_top _ _ _ _ fun j hj => ?_)
    ⟨⟨J % 256, Nat.mod_lt _ (by norm_num)⟩, Finset.mem_univ _, ?_⟩
  · rw [hb j (by omega) c]; exact logit_ne_top _ _
  · intro e
    have h := le_upTo b (n - 1) r ⟨J % 256, Nat.mod_lt _ (by norm_num)⟩ (J / 256) (by omega)
    rw [e, hb (J / 256) (by omega), show 256 * (J / 256) + J % 256 = J from Nat.div_add_mod J 256] at h
    unfold logit at h
    rw [if_pos ha] at h
    exact EReal.coe_ne_bot _ (le_bot_iff.mp h)

/-- Column `d` of the loaded values holds `vr`, with a one in the column 128 to its right. -/
def Vals (n : ℕ) (v : Vec Ideal (ValLoad n) .bf16) (d : Fin 128) (vr : ℕ → ℝ) : Prop :=
  ∀ J : Fin (256 * n), v (ix3 0 J ⟨d.val, by omega⟩) = (vr J : EReal) ∧ v (ix3 0 J ⟨128 + d.val, by omega⟩) = (1 : EReal)

theorem quot_weights (n : ℕ) (p : FVec Ideal (Scores n) .bf16) (v : Vec Ideal (ValLoad n) .bf16) (r : Fin 512) (d : Fin 128)
    (a : ℕ → Prop) (l vr : ℕ → ℝ) (μ : ℝ) (ha : ∃ J < 256 * n, a J) (hv : Vals n v d vr)
    (hp : ∀ J : Fin (256 * n), p (ix2 r J) = Ideal.exp2 (logit (a J) (l J) - (μ : EReal))) :
    quot n p v (ix2 r d) = (mean (256 * n) a l vr : EReal) := by
  rw [quot_apply, ← div_exp2 (256 * n) a l vr μ ha]
  congr 1
  · exact Finset.sum_congr rfl fun J _ => by rw [hp, (hv J).1]
  · exact Finset.sum_congr rfl fun J _ => by rw [hp, (hv J).2]

theorem quot_many (n : ℕ) (hn : 2 ≤ n) (b : ℕ → FVec Ideal S512x256 .f32) (v : Vec Ideal (ValLoad n) .bf16) (r : Fin 512) (d : Fin 128)
    (a : ℕ → Prop) (l vr : ℕ → ℝ) (ha : ∃ J < 256 * n, a J) (hv : Vals n v d vr) (hb : Logits n b r a l) :
    quot n (weights n hn b (rowMax b (n - 1))) v (ix2 r d) = (mean (256 * n) a l vr : EReal) := by
  obtain ⟨μ, hμ⟩ := rowMax_real n b r a l hb ha
  refine quot_weights n _ v r d a l vr μ ha hv fun J => ?_
  have hJ := J.isLt
  rw [weights_apply, hμ, hb (J.val / 256) (by omega), show 256 * (J.val / 256) + J.val % 256 = J.val from Nat.div_add_mod _ _]

theorem quot_one (b : ℕ → FVec Ideal S512x256 .f32) (v : Vec Ideal (ValLoad 1) .bf16) (r : Fin 512) (d : Fin 128)
    (a : ℕ → Prop) (l vr : ℕ → ℝ) (ha : ∃ J < 256 * 1, a J) (hv : Vals 1 v d vr) (hb : Logits 1 b r a l) :
    quot 1 (weight (b 0) (rowMax b 0)) v (ix2 r d) = (mean (256 * 1) a l vr : EReal) := by
  obtain ⟨μ, hμ⟩ := rowMax_real 1 b r a l hb ha
  refine quot_weights 1 _ v r d a l vr μ ha hv fun J => ?_
  refine (weight_apply _ _ _ _).trans ?_
  rw [show rowMax b 0 (ix2 r 0) = _ from hμ, hb 0 (by norm_num)]
  simp

/-- The product of half `e` (lanes `64 * e` to `64 * e + 63`) of a query row with the same half of key row `J`. -/
def dot (qr : ℕ → ℝ) (kr : ℕ → ℕ → ℝ) (e J : ℕ) : ℝ := ∑ x : Fin 64, qr (64 * e + x.val) * kr J (64 * e + x.val)

/-- Query `Q` sees key `J`. -/
def Sees (Q J : ℕ) : Prop := J / 64 ≤ Q / 64

/-- The logit to base two of key `J` for query `Q`, before the mask. -/
def score (qr : ℕ → ℝ) (kr : ℕ → ℕ → ℝ) (β : ℤ → ℝ) (Q e J : ℕ) : ℝ := dot qr kr e J + β ((J : ℤ) - (Q : ℤ))

/-- The two halves' weighted means of column `d` of the values, the second taken `lam` times from the first. -/
def mix (qr : ℕ → ℝ) (kr vr : ℕ → ℕ → ℝ) (β : ℤ → ℝ) (lam : EReal) (Q d : ℕ) : EReal :=
  (mean 2048 (Sees Q) (score qr kr β Q 0) (fun J => vr J d) : EReal)
    - lam * (mean 2048 (Sees Q) (score qr kr β Q 1) (fun J => vr J d) : EReal)

/-- A row of 128 numbers scaled to unit mean square, weighted and scaled. -/
def finish (o g : Fin 128 → EReal) (d : Fin 128) : EReal :=
  o d * Ideal.rsqrt (Ideal.div (∑ x : Fin 128, o x * o x) (Ideal.ofBits .f32 0x43000000#32) + Ideal.ofBits .f32 0x3727C5AC#32)
    * g d * Ideal.ofBits .f32 0x3F4CCCCD#32

/-- What a tile is given: query row `r` holds `qr`, the keys and values hold `kr` and `vr`, the ones stand beside the
    values, the mask is the chunks' order, and the two bias blocks hold `β` of the distance, which is zero further off. -/
structure Given (n : ℕ) (al : IVec S512x256 1) (bd bp : FVec Ideal S512x256 .f32) (q : Vec Ideal S1x1x256x128 .bf16)
    (k : Vec Ideal (KeyLoad n) .bf16) (v : Vec Ideal (ValLoad n) .bf16) (qr : ℕ → ℝ) (kr vr : ℕ → ℕ → ℝ) (β : ℤ → ℝ) (r : Fin 256) : Prop where
  pos : 1 ≤ n
  le : n ≤ 8
  query : ∀ d : Fin 128, q (ix4 0 0 r d) = (qr d : EReal)
  key : ∀ (J : Fin (256 * n)) (d : Fin 128), k (ix4 0 0 J d) = (kr J d : EReal)
  val : ∀ d : Fin 128, Vals n v d (fun J => vr J d)
  mask : ∀ (e : Fin 2) (c : Fin 256), al (ix2 ⟨256 * e.val + r.val, by omega⟩ c) = 1#1 ↔ c.val / 64 ≤ r.val / 64
  diag : ∀ (e : Fin 2) (c : Fin 256), bd (ix2 ⟨256 * e.val + r.val, by omega⟩ c) = (β ((c.val : ℤ) - r.val) : EReal)
  prev : ∀ (e : Fin 2) (c : Fin 256), bp (ix2 ⟨256 * e.val + r.val, by omega⟩ c) = (β ((c.val : ℤ) - r.val - 256) : EReal)
  far : ∀ x : ℤ, x ≤ -257 → β x = 0

theorem sum_halves (f : Fin 128 → EReal) : ∑ d : Fin 128, f d = ∑ x : Fin 64, f ⟨x.val, by omega⟩ + ∑ x : Fin 64, f ⟨64 + x.val, by omega⟩ := by
  show ∑ d : Fin (64 + 64), f d = _
  exact Fin.sum_univ_add (a := 64) (b := 64) _

section
variable {n : ℕ} {al : IVec S512x256 1} {bd bp : FVec Ideal S512x256 .f32} {q : Vec Ideal S1x1x256x128 .bf16}
  {k : Vec Ideal (KeyLoad n) .bf16} {v : Vec Ideal (ValLoad n) .bf16} {qr : ℕ → ℝ} {kr vr : ℕ → ℕ → ℝ} {β : ℤ → ℝ} {r : Fin 256}
  (G : Given n al bd bp q k v qr kr vr β r)
include G

theorem Given.scores (e : Fin 2) (J : Fin (256 * n)) :
    Tile.scores n q k (ix2 ⟨256 * e.val + r.val, by omega⟩ J) = (dot qr kr e.val J.val : EReal) := by
  rw [scores_apply, sum_halves]
  match e with
  | 0 =>
    have h1 : ∀ d : Fin 128, qRows q (ix2 ⟨256 * (0 : Fin 2).val + r.val, by omega⟩ d) = if d.val < 64 then q (ix4 0 0 r d) else 0 :=
      fun d => by rw [← qRows_apply_upper]; congr 2; simp
    simp only [h1]
    have e1 : ∀ x : Fin 64, (if x.val < 64 then q (ix4 0 0 r ⟨x.val, by omega⟩) else 0) * k (ix4 0 0 J ⟨x.val, by omega⟩)
        = ((qr x.val * kr J.val x.val : ℝ) : EReal) := fun x => by rw [if_pos x.isLt, G.query, G.key, ← EReal.coe_mul]
    have e2 : ∀ x : Fin 64, (if 64 + x.val < 64 then q (ix4 0 0 r ⟨64 + x.val, by omega⟩) else 0) * k (ix4 0 0 J ⟨64 + x.val, by omega⟩)
        = 0 := fun x => by rw [if_neg (by omega), zero_mul]
    simp only [e1, e2, Finset.sum_const_zero, add_zero, ← coe_sum]
    simp [dot]
  | 1 =>
    have h1 : ∀ d : Fin 128, qRows q (ix2 ⟨256 * (1 : Fin 2).val + r.val, by omega⟩ d) = if 64 ≤ d.val then q (ix4 0 0 r d) else 0 :=
      fun d => qRows_apply_lower q r d
    simp only [h1]
    have e1 : ∀ x : Fin 64, (if 64 ≤ x.val then q (ix4 0 0 r ⟨x.val, by omega⟩) else 0) * k (ix4 0 0 J ⟨x.val, by omega⟩)
        = 0 := fun x => by rw [if_neg (by omega), zero_mul]
    have e2 : ∀ x : Fin 64, (if 64 ≤ 64 + x.val then q (ix4 0 0 r ⟨64 + x.val, by omega⟩) else 0) * k (ix4 0 0 J ⟨64 + x.val, by omega⟩)
        = ((qr (64 + x.val) * kr J.val (64 + x.val) : ℝ) : EReal) := fun x => by rw [if_pos (by omega), G.query, G.key, ← EReal.coe_mul]
    simp only [e1, e2, Finset.sum_const_zero, zero_add, ← coe_sum]
    simp [dot]

/-- The blocks, biased and masked, hold the masked logits. -/
theorem Given.logits (b : ℕ → FVec Ideal S512x256 .f32) (e : Fin 2)
    (hb : ∀ j < n, ∀ c : Fin 256, b j (ix2 ⟨256 * e.val + r.val, by omega⟩ c) = (dot qr kr e.val (256 * j + c.val) : EReal)) :
    Logits n (biased n b al bd bp) ⟨256 * e.val + r.val, by omega⟩ (Sees (256 * (n - 1) + r.val)) (score qr kr β (256 * (n - 1) + r.val) e.val) := by
  intro j hj c
  have hn := G.pos
  rw [biased_apply, hb j hj c]
  unfold logit score Sees
  have hc := c.isLt
  have hr := r.isLt
  split
  · rename_i h
    have hiff : (256 * j + c.val) / 64 ≤ (256 * (n - 1) + r.val) / 64 ↔ c.val / 64 ≤ r.val / 64 := by omega
    rw [G.diag, ← EReal.coe_add]
    by_cases ha : c.val / 64 ≤ r.val / 64
    · rw [if_pos ((G.mask e c).mpr ha), if_pos (hiff.mpr ha)]
      rw [show ((256 * j + c.val : ℕ) : ℤ) - ((256 * (n - 1) + r.val : ℕ) : ℤ) = (c.val : ℤ) - r.val by omega]
    · rw [if_neg fun h => ha ((G.mask e c).mp h), if_neg fun h => ha (hiff.mp h)]
  · have hs : (256 * j + c.val) / 64 ≤ (256 * (n - 1) + r.val) / 64 := by omega
    rw [if_pos hs]
    split
    · rw [G.prev, ← EReal.coe_add]
      rw [show ((256 * j + c.val : ℕ) : ℤ) - ((256 * (n - 1) + r.val : ℕ) : ℤ) = (c.val : ℤ) - r.val - 256 by omega]
    · rw [G.far _ (by omega), add_zero]

theorem Given.sees : ∃ J < 256 * n, Sees (256 * (n - 1) + r.val) J := by
  have := G.pos
  exact ⟨256 * (n - 1) + r.val, by omega, le_rfl⟩

theorem Given.extend (e : ℕ) (d : ℕ) : mean (256 * n) (Sees (256 * (n - 1) + r.val)) (score qr kr β (256 * (n - 1) + r.val) e) (fun J => vr J d)
    = mean 2048 (Sees (256 * (n - 1) + r.val)) (score qr kr β (256 * (n - 1) + r.val) e) (fun J => vr J d) := by
  have h1 := G.le
  have h0 := G.pos
  refine mean_extend _ _ (by omega) _ _ _ fun J hJ => ?_
  unfold Sees
  omega

/-- A tile over two or more key blocks. -/
theorem Given.tile (hn : 2 ≤ n) (lam : EReal) (g : Vec Ideal S1x128 .f32) (d : Fin 128) :
    tile n hn al bd bp q k v lam g (ix4 0 0 r d)
      = finish (fun d => mix qr kr vr β lam (256 * (n - 1) + r.val) d) (fun d => g (ix2 0 d)) d := by
  have hq : ∀ (e : Fin 2) (d : Fin 128), quot n (weights n hn (biased n (cut n (Tile.scores n q k)) al bd bp)
      (rowMax (biased n (cut n (Tile.scores n q k)) al bd bp) (n - 1))) v (ix2 ⟨256 * e.val + r.val, by omega⟩ d)
      = (mean 2048 (Sees (256 * (n - 1) + r.val)) (score qr kr β (256 * (n - 1) + r.val) e.val) (fun J => vr J d) : EReal) := fun e d => by
    rw [← G.extend]
    refine quot_many n hn _ v _ d _ _ _ G.sees (G.val d) (G.logits _ e fun j hj c => ?_)
    rw [cut_apply _ _ _ hj, G.scores]
  unfold Tile.tile
  rw [normed_apply]
  have ho : ∀ d : Fin 128, diff lam (quot n (weights n hn (biased n (cut n (Tile.scores n q k)) al bd bp)
      (rowMax (biased n (cut n (Tile.scores n q k)) al bd bp) (n - 1))) v) (ix2 r d) = mix qr kr vr β lam (256 * (n - 1) + r.val) d := fun d => by
    rw [diff_apply]
    have h0 := hq 0 d
    have h1 := hq 1 d
    simp only [Fin.val_zero, Fin.val_one, mul_zero, zero_add, mul_one] at h0 h1
    rw [h0, h1]
    rfl
  simp only [ho]
  rfl

end

/-- A tile over one key block. -/
theorem Given.tileOne {al : IVec S512x256 1} {bd bp : FVec Ideal S512x256 .f32} {q : Vec Ideal S1x1x256x128 .bf16}
    {k : Vec Ideal S1x1x256x128 .bf16} {v : Vec Ideal S1x256x256 .bf16} {qr : ℕ → ℝ} {kr vr : ℕ → ℕ → ℝ} {β : ℤ → ℝ} {r : Fin 256}
    (G : Given 1 al bd bp q k v qr kr vr β r) (lam : EReal) (g : Vec Ideal S1x128 .f32) (d : Fin 128) :
    tileOne al bd q k v lam g (ix4 0 0 r d) = finish (fun d => mix qr kr vr β lam r.val d) (fun d => g (ix2 0 d)) d := by
  have hz : 256 * (1 - 1) + r.val = r.val := by omega
  have hq : ∀ (e : Fin 2) (d : Fin 128), quot 1 (weight (biased 1 (fun _ => Tile.scores 1 q k) al bd bd 0)
      (rowMax (biased 1 (fun _ => Tile.scores 1 q k) al bd bd) 0)) v (ix2 ⟨256 * e.val + r.val, by omega⟩ d)
      = (mean 2048 (Sees r.val) (score qr kr β r.val e.val) (fun J => vr J d) : EReal) := fun e d => by
    have he := G.extend e.val d
    rw [hz] at he
    rw [← he]
    have hl := G.logits (fun _ => Tile.scores 1 q k) e fun j hj c => by
      obtain rfl : j = 0 := by omega
      rw [mul_zero, zero_add]
      exact G.scores e c
    rw [hz] at hl
    refine quot_one (biased 1 (fun _ => Tile.scores 1 q k) al bd bd) v _ d _ _ _ (by have := G.sees; rwa [hz] at this) (G.val d) ?_
    intro j hj c
    have h1 : j + 1 = 1 := by omega
    rw [← hl j hj c, biased_apply, biased_apply, if_pos h1, if_pos h1]
  unfold Tile.tileOne
  rw [normed_apply]
  have ho : ∀ d : Fin 128, diff lam (quot 1 (weight (biased 1 (fun _ => Tile.scores 1 q k) al bd bd 0)
      (rowMax (biased 1 (fun _ => Tile.scores 1 q k) al bd bd) 0)) v) (ix2 r d) = mix qr kr vr β lam r.val d := fun d => by
    rw [diff_apply]
    have h0 := hq 0 d
    have h1 := hq 1 d
    simp only [Fin.val_zero, Fin.val_one, mul_zero, zero_add, mul_one] at h0 h1
    rw [h0, h1]
    rfl
  simp only [ho]
  rfl

end Cert.KernelIdeal.Tile

end
-- ==== Proof.Loads.lean ====
/- What the loads of the attention body hold at an index: query, key and value rows of one stream out of the
   staged blocks, and the value rows with ones beside them out of the scratch. -/
module

public import proofs.«01_k».proof.Proof.TileSoft
public import Idealize.ShloMosaic.Lib.Pipeline.ValueKit.Tiles

@[expose] public section

set_option maxRecDepth 16384

noncomputable section

namespace Cert.KernelIdeal.Tile

open Cert.KernelIdeal Cert.KernelIdeal.Gen Idealize.ShloMosaic Cert.Soft

theorem exists_ix3 {a b c : ℕ} (x : (⟨3, ![a, b, c]⟩ : Shape).Idx) : ∃ (i : Fin a) (j : Fin b) (k : Fin c), x = ix3 i j k :=
  ⟨x 0, x 1, x 2, by funext i; match i with | 0 => rfl | 1 => rfl | 2 => rfl⟩

theorem exists_ix4 {a b c d : ℕ} (x : (⟨4, ![a, b, c, d]⟩ : Shape).Idx) :
    ∃ (i : Fin a) (j : Fin b) (k : Fin c) (l : Fin d), x = ix4 i j k l :=
  ⟨x 0, x 1, x 2, x 3, by funext i; match i with | 0 => rfl | 1 => rfl | 2 => rfl | 3 => rfl⟩

/-- `N` rows of stream `s` from row `o` on, loaded out of a staged block. -/
theorem load_rows {arg : Memref sig .tc .vmem S1x2x2048x128 .bf16} (harg : arg.IsWhole) (x : Vec Ideal S1x2x2048x128 .bf16)
    (s : Fin 2) (o N : ℕ) (hN : o + N ≤ 2048) (inb) (J : Fin N) (d : Fin 128) :
    View.readAt (Elt Ideal) arg.view (Rect.unit (s := S1x2x2048x128) ![0, s.val, o, 0] ![1, 1, N, 128] inb).toLoadRect (harg.unread x)
      (ix4 0 0 J d) = x (ix4 0 s ⟨o + J.val, by omega⟩ d) := by
  rw [View.readAt_eq_ld, harg.read_unread]
  refine View.ld_unit_apply_of _ _ _ _ _ _ fun a => ?_
  match a with
  | 0 => rfl
  | 1 => rfl
  | 2 => rfl
  | 3 => show d.val = 0 + d.val; omega

/-- The scratch: each stream's value rows in the first 128 lanes, ones in the others. -/
def scratch (x4 : Vec Ideal S1x2x2048x128 .bf16) (y : S2x2048x256.Idx) : EReal :=
  if h : (y 2).val < 128 then x4 (ix4 0 (y 0) (y 1) ⟨(y 2).val, h⟩) else 1

theorem one_bf16 : Ideal.ofBits .bf16 0x3F80#16 = 1 := by
  simp [Ideal.ofBits, Ideal.ieee, -EReal.coe_mul]
  norm_num

theorem ones_apply (y : S1x2048x128.Idx) : kernelRun0_A.sl.v598 (F := Ideal) y = (1 : EReal) :=
  one_bf16

theorem vals0_apply (c : Dev nD) {arg6 : Memref sig .tc .vmem S1x2x2048x128 .bf16} (harg6 : arg6.IsWhole) (x4 : Vec Ideal S1x2x2048x128 .bf16)
    (a : Fin 1) (J : Fin 2048) (d : Fin 128) : kernelRun0_A.sl.v594 c arg6 harg6 x4 (ix3 a J d) = x4 (ix4 0 0 J d) := by
  refine Eq.trans ?_ ((load_rows harg6 x4 0 0 2048 (by norm_num) inb_S1x2x2048x128_S1x1x2048x128_0_0_0_0 J d).trans ?_)
  · unfold kernelRun0_A.sl.v594 kernelRun0_A.sl.v591
    pointwise
  · congr 2
    exact Fin.ext (Nat.zero_add _)

theorem vals1_apply (c : Dev nD) {arg6 : Memref sig .tc .vmem S1x2x2048x128 .bf16} (harg6 : arg6.IsWhole) (x4 : Vec Ideal S1x2x2048x128 .bf16)
    (a : Fin 1) (J : Fin 2048) (d : Fin 128) : kernelRun0_A.sl.v693 c arg6 harg6 x4 (ix3 a J d) = x4 (ix4 0 1 J d) := by
  refine Eq.trans ?_ ((load_rows harg6 x4 1 0 2048 (by norm_num) inb_S1x2x2048x128_S1x1x2048x128_0_1_0_0 J d).trans ?_)
  · unfold kernelRun0_A.sl.v693 kernelRun0_A.sl.v690
    pointwise
  · congr 2
    exact Fin.ext (Nat.zero_add _)

/-- Reading the scratch of both streams, `n` blocks of stream `s`. -/
theorem load_scratch (c : Dev nD) {arg6 : Memref sig .tc .vmem S1x2x2048x128 .bf16} (harg6 : arg6.IsWhole)
    (arg16 : Memref sig .tc .vmem S2x2048x256 .bf16) (x4 : Vec Ideal S1x2x2048x128 .bf16)
    (L : List (View.Piece (Elt Ideal) S2x2048x256 .bf16)) (N : ℕ) (s : Fin 2) (hN : N ≤ 2048)
    (hL : ∀ p ∈ L, ∀ x : p.1.shape.Idx, p.2 x = scratch x4 (p.1.emb x))
    (hc : ∀ y : S2x2048x256.Idx, (y 0).val = s.val → ∃ p ∈ L, y ∈ p.1.set) (inb) (J : Fin N) (d : Fin 256) :
    arg16.view.readCov L (Rect.unit (s := S2x2048x256) ![s.val, 0, 0] ![1, N, 256] inb).toLoadRect (ix3 0 J d)
      = scratch x4 (ix3 s ⟨J.val, by omega⟩ d) := by
  have hi : (Rect.unit (s := S2x2048x256) ![s.val, 0, 0] ![1, N, 256] inb).toLoadRect.idx (ix3 0 J d) = ix3 s ⟨J.val, by omega⟩ d := by
    funext a
    refine Fin.ext ((Rect.idx_unit_val _ _ inb _ a).trans ?_)
    match a with
    | 0 => rfl
    | 1 => show 0 + J.val = J.val; omega
    | 2 => show 0 + d.val = d.val; omega
  rw [View.readCov_eq_canon']
  show View.canon L _ = _
  rw [hi]
  exact View.canon_apply_of_pieces (scratch x4) L hL _ (hc (ix3 s ⟨J.val, by omega⟩ d) rfl)

theorem piece_ones (x4 : Vec Ideal S1x2x2048x128 .bf16) (s : ℕ) (inb) (x : S1x2048x128.Idx) :
    kernelRun0_A.sl.v598 (F := Ideal) x = scratch x4 ((Rect.unit (s := S2x2048x256) ![s, 0, 128] S1x2048x128.size inb).emb x) := by
  rw [ones_apply]
  unfold scratch
  rw [dif_neg]
  show ¬ 128 + 1 * (x 2).val < 128
  omega

theorem piece_vals (x4 : Vec Ideal S1x2x2048x128 .bf16) (s : Fin 2) (inb) (f : S1x2048x128.Idx → EReal)
    (hf : ∀ (a : Fin 1) (J : Fin 2048) (d : Fin 128), f (ix3 a J d) = x4 (ix4 0 s J d)) (x : S1x2048x128.Idx) :
    f x = scratch x4 ((Rect.unit (s := S2x2048x256) ![s.val, 0, 0] S1x2048x128.size inb).emb x) := by
  obtain ⟨a, J, d, rfl⟩ := exists_ix3 x
  refine (hf a J d).trans ?_
  have h2 := d.isLt
  have h0 := a.isLt
  unfold scratch
  refine Eq.trans ?_ (dif_pos (show 0 + 1 * d.val < 128 by omega)).symm
  congr 1
  funext i
  match i with
  | 0 => rfl
  | 1 => exact Fin.ext (show s.val = s.val + 1 * a.val by omega)
  | 2 => exact Fin.ext (show J.val = 0 + 1 * J.val by omega)
  | 3 => exact Fin.ext (show d.val = 0 + 1 * d.val by omega)

section
variable (c : Dev nD) {arg6 : Memref sig .tc .vmem S1x2x2048x128 .bf16} (harg6 : arg6.IsWhole) (x4 : Vec Ideal S1x2x2048x128 .bf16)

theorem pieces_first : ∀ p ∈ kernelRun0_A.sl.HS0_2 c arg6 harg6 x4, ∀ x : p.1.shape.Idx, p.2 x = scratch x4 (p.1.emb x) := by
  intro p hp
  unfold kernelRun0_A.sl.HS0_2 at hp
  simp only [List.mem_cons, List.not_mem_nil, or_false] at hp
  rcases hp with rfl | rfl
  · exact piece_ones x4 0 inb_S2x2048x256_S1x2048x128_0_0_128
  · exact piece_vals x4 0 inb_S2x2048x256_S1x2048x128_0_0_0 _ (vals0_apply c harg6 x4)

theorem pieces_both : ∀ p ∈ kernelRun0_A.sl.HS0_4 c arg6 harg6 x4, ∀ x : p.1.shape.Idx, p.2 x = scratch x4 (p.1.emb x) := by
  intro p hp
  unfold kernelRun0_A.sl.HS0_4 at hp
  simp only [List.mem_cons] at hp
  rcases hp with rfl | rfl | hp
  · exact piece_ones x4 1 inb_S2x2048x256_S1x2048x128_1_0_128
  · exact piece_vals x4 1 inb_S2x2048x256_S1x2048x128_1_0_0 _ (vals1_apply c harg6 x4)
  · exact pieces_first c harg6 x4 p hp

theorem in_lanes (s : Fin 2) (y : S2x2048x256.Idx) (hy : (y 0).val = s.val) (inb inb') :
    y ∈ (Rect.unit (s := S2x2048x256) ![s.val, 0, 128] S1x2048x128.size inb).set
      ∨ y ∈ (Rect.unit (s := S2x2048x256) ![s.val, 0, 0] S1x2048x128.size inb').set := by
  have h1 : (y 1).val < 2048 := (y 1).isLt
  have h2 : (y 2).val < 256 := (y 2).isLt
  have h0 := hy
  rcases Nat.lt_or_ge (y 2).val 128 with h | h
  · refine Or.inr (Rect.mem_set_unit.mpr fun a => ?_)
    match a with
    | 0 => exact ⟨h0.ge, by show (y 0).val < s.val + 1; omega⟩
    | 1 => exact ⟨Nat.zero_le _, by show (y 1).val < 0 + 2048; omega⟩
    | 2 => exact ⟨Nat.zero_le _, by show (y 2).val < 0 + 128; omega⟩
  · refine Or.inl (Rect.mem_set_unit.mpr fun a => ?_)
    match a with
    | 0 => exact ⟨h0.ge, by show (y 0).val < s.val + 1; omega⟩
    | 1 => exact ⟨Nat.zero_le _, by show (y 1).val < 0 + 2048; omega⟩
    | 2 => exact ⟨h, by show (y 2).val < 128 + 128; omega⟩

theorem covers_first (y : S2x2048x256.Idx) (hy : (y 0).val = 0) : ∃ p ∈ kernelRun0_A.sl.HS0_2 c arg6 harg6 x4, y ∈ p.1.set := by
  unfold kernelRun0_A.sl.HS0_2
  rcases in_lanes 0 y hy inb_S2x2048x256_S1x2048x128_0_0_128 inb_S2x2048x256_S1x2048x128_0_0_0 with h | h
  · exact ⟨_, List.mem_cons_self .., h⟩
  · exact ⟨_, List.mem_cons_of_mem _ (List.mem_cons_self ..), h⟩

theorem covers_both (s : Fin 2) (y : S2x2048x256.Idx) (hy : (y 0).val = s.val) : ∃ p ∈ kernelRun0_A.sl.HS0_4 c arg6 harg6 x4, y ∈ p.1.set := by
  unfold kernelRun0_A.sl.HS0_4
  match s with
  | 0 =>
    obtain ⟨p, hp, h⟩ := covers_first c harg6 x4 y hy
    exact ⟨p, List.mem_cons_of_mem _ (List.mem_cons_of_mem _ hp), h⟩
  | 1 =>
    rcases in_lanes 1 y hy inb_S2x2048x256_S1x2048x128_1_0_128 inb_S2x2048x256_S1x2048x128_1_0_0 with h | h
    · exact ⟨_, List.mem_cons_self .., h⟩
    · exact ⟨_, List.mem_cons_of_mem _ (List.mem_cons_self ..), h⟩

end

end Cert.KernelIdeal.Tile

end
-- ==== Proof.Pieces.lean ====
/- The sixteen tiles that one grid point stores — two streams of eight query blocks — as entries of one function. -/
module

public import proofs.«01_k».proof.Proof.Loads

@[expose] public section

set_option maxRecDepth 16384

noncomputable section

namespace Cert.KernelIdeal.Tile

open Cert.KernelIdeal Cert.KernelIdeal.Gen Idealize.ShloMosaic Cert.Soft

/-- What a grid point leaves at stream `y 1`, row `y 2`, column `y 3`. -/
def blockOut (qf kf vf : ℕ → ℕ → ℕ → ℝ) (β : ℤ → ℝ) (lam : EReal) (g : Vec Ideal S1x128 .f32) (y : S1x2x2048x128.Idx) : EReal :=
  finish (fun d => mix (qf (y 1).val (y 2).val) (kf (y 1).val) (vf (y 1).val) β lam (y 2).val d.val) (fun d => g (ix2 0 d)) (y 3)

/-- The blocks of one grid point: real queries, keys and values, the mask and the two bias blocks. -/
structure Block (x2 x3 x4 : Vec Ideal S1x2x2048x128 .bf16) (al : IVec S512x256 1) (bd bp : FVec Ideal S512x256 .f32)
    (qf kf vf : ℕ → ℕ → ℕ → ℝ) (β : ℤ → ℝ) : Prop where
  query : ∀ (s : Fin 2) (P : Fin 2048) (d : Fin 128), x2 (ix4 0 s P d) = (qf s P d : EReal)
  key : ∀ (s : Fin 2) (P : Fin 2048) (d : Fin 128), x3 (ix4 0 s P d) = (kf s P d : EReal)
  val : ∀ (s : Fin 2) (P : Fin 2048) (d : Fin 128), x4 (ix4 0 s P d) = (vf s P d : EReal)
  mask : ∀ (r : Fin 256) (e : Fin 2) (c : Fin 256), al (ix2 ⟨256 * e.val + r.val, by omega⟩ c) = 1#1 ↔ c.val / 64 ≤ r.val / 64
  diag : ∀ (r : Fin 256) (e : Fin 2) (c : Fin 256), bd (ix2 ⟨256 * e.val + r.val, by omega⟩ c) = (β ((c.val : ℤ) - r.val) : EReal)
  prev : ∀ (r : Fin 256) (e : Fin 2) (c : Fin 256), bp (ix2 ⟨256 * e.val + r.val, by omega⟩ c) = (β ((c.val : ℤ) - r.val - 256) : EReal)
  far : ∀ x : ℤ, x ≤ -257 → β x = 0

section
variable {x2 x3 x4 : Vec Ideal S1x2x2048x128 .bf16} {al : IVec S512x256 1} {bd bp : FVec Ideal S512x256 .f32}
  {qf kf vf : ℕ → ℕ → ℕ → ℝ} {β : ℤ → ℝ} (B : Block x2 x3 x4 al bd bp qf kf vf β)
  {arg4 : Memref sig .tc .vmem S1x2x2048x128 .bf16} (harg4 : arg4.IsWhole) {arg5 : Memref sig .tc .vmem S1x2x2048x128 .bf16} (harg5 : arg5.IsWhole)
include B

/-- The tile of query block `n - 1` of stream `s` is given what the blocks hold. -/
theorem Block.given (n : ℕ) (h1 : 1 ≤ n) (h8 : n ≤ 8) (s : Fin 2) (inb4 inb5) (v : Vec Ideal (ValLoad n) .bf16)
    (hv : ∀ (J : Fin (256 * n)) (d : Fin 256), v (ix3 0 J d) = scratch x4 (ix3 s ⟨J.val, by omega⟩ d)) (r : Fin 256) :
    Given n al bd bp
      (View.readAt (Elt Ideal) arg4.view (Rect.unit (s := S1x2x2048x128) ![0, s.val, 256 * (n - 1), 0] ![1, 1, 256, 128] inb4).toLoadRect (harg4.unread x2))
      (View.readAt (Elt Ideal) arg5.view (Rect.unit (s := S1x2x2048x128) ![0, s.val, 0, 0] ![1, 1, 256 * n, 128] inb5).toLoadRect (harg5.unread x3))
      v (qf s.val (256 * (n - 1) + r.val)) (kf s.val) (vf s.val) β r where
  pos := h1
  le := h8
  query d := (load_rows harg4 x2 s _ 256 (by omega) inb4 r d).trans (B.query _ _ _)
  key J d := (load_rows harg5 x3 s 0 (256 * n) (by omega) inb5 J d).trans ((B.key _ _ _).trans (by simp))
  val d J := by
    have hJ := J.isLt
    refine ⟨(hv J _).trans ?_, (hv J _).trans ?_⟩
    · unfold scratch
      exact (dif_pos (show d.val < 128 from d.isLt)).trans (B.val s ⟨J.val, by omega⟩ d)
    · unfold scratch
      exact dif_neg (show ¬ 128 + d.val < 128 by omega)
  mask := B.mask r
  diag := B.diag r
  prev := B.prev r
  far := B.far

theorem finish_emb (lam : EReal) (g : Vec Ideal S1x128 .f32) (s : Fin 2) (o : ℕ) (inb) (a b : Fin 1) (r : Fin 256) (d : Fin 128) :
    finish (fun d => mix (qf s.val (o + r.val)) (kf s.val) (vf s.val) β lam (o + r.val) d) (fun d => g (ix2 0 d)) d
      = blockOut qf kf vf β lam g ((Rect.unit (s := S1x2x2048x128) ![0, s.val, o, 0] ![1, 1, 256, 128] inb).emb (ix4 a b r d)) := by
  have e1 : ((Rect.unit (s := S1x2x2048x128) ![0, s.val, o, 0] ![1, 1, 256, 128] inb).emb (ix4 a b r d) 1).val = s.val :=
    show s.val + 1 * b.val = s.val by omega
  have e2 : ((Rect.unit (s := S1x2x2048x128) ![0, s.val, o, 0] ![1, 1, 256, 128] inb).emb (ix4 a b r d) 2).val = o + r.val :=
    show o + 1 * r.val = o + r.val by omega
  have e3 : (Rect.unit (s := S1x2x2048x128) ![0, s.val, o, 0] ![1, 1, 256, 128] inb).emb (ix4 a b r d) 3 = d :=
    Fin.ext (show 0 + 1 * d.val = d.val by omega)
  unfold blockOut
  rw [e1, e2, e3]

theorem Block.tile (n : ℕ) (hn : 2 ≤ n) (h8 : n ≤ 8) (s : Fin 2) (inb4 inb5) (v : Vec Ideal (ValLoad n) .bf16)
    (hv : ∀ (J : Fin (256 * n)) (d : Fin 256), v (ix3 0 J d) = scratch x4 (ix3 s ⟨J.val, by omega⟩ d)) (lam : EReal) (g : Vec Ideal S1x128 .f32)
    (inb) (x : S1x1x256x128.Idx) :
    tile n hn al bd bp
      (View.readAt (Elt Ideal) arg4.view (Rect.unit (s := S1x2x2048x128) ![0, s.val, 256 * (n - 1), 0] ![1, 1, 256, 128] inb4).toLoadRect (harg4.unread x2))
      (View.readAt (Elt Ideal) arg5.view (Rect.unit (s := S1x2x2048x128) ![0, s.val, 0, 0] ![1, 1, 256 * n, 128] inb5).toLoadRect (harg5.unread x3))
      v lam g x
      = blockOut qf kf vf β lam g ((Rect.unit (s := S1x2x2048x128) ![0, s.val, 256 * (n - 1), 0] ![1, 1, 256, 128] inb).emb x) := by
  obtain ⟨a, b, r, d, rfl⟩ := exists_ix4 x
  obtain rfl : a = 0 := Subsingleton.elim _ _
  obtain rfl : b = 0 := Subsingleton.elim _ _
  exact ((B.given harg4 harg5 n (by omega) h8 s inb4 inb5 v hv r).tile hn lam g d).trans (finish_emb B lam g s _ inb 0 0 r d)

theorem Block.tileOne (s : Fin 2) (inb4 inb5) (v : Vec Ideal S1x256x256 .bf16)
    (hv : ∀ (J : Fin 256) (d : Fin 256), v (ix3 0 J d) = scratch x4 (ix3 s ⟨J.val, by omega⟩ d)) (lam : EReal) (g : Vec Ideal S1x128 .f32)
    (inb) (x : S1x1x256x128.Idx) :
    tileOne al bd
      (View.readAt (Elt Ideal) arg4.view (Rect.unit (s := S1x2x2048x128) ![0, s.val, 0, 0] ![1, 1, 256, 128] inb4).toLoadRect (harg4.unread x2))
      (View.readAt (Elt Ideal) arg5.view (Rect.unit (s := S1x2x2048x128) ![0, s.val, 0, 0] ![1, 1, 256, 128] inb5).toLoadRect (harg5.unread x3))
      v lam g x
      = blockOut qf kf vf β lam g ((Rect.unit (s := S1x2x2048x128) ![0, s.val, 0, 0] ![1, 1, 256, 128] inb).emb x) := by
  obtain ⟨a, b, r, d, rfl⟩ := exists_ix4 x
  obtain rfl : a = 0 := Subsingleton.elim _ _
  obtain rfl : b = 0 := Subsingleton.elim _ _
  refine ((B.given harg4 harg5 1 le_rfl (by norm_num) s inb4 inb5 v hv r).tileOne lam g d).trans (Eq.trans ?_ (finish_emb B lam g s 0 inb 0 0 r d))
  simp only [Nat.sub_self, Nat.mul_zero, Nat.zero_add]

end

section
variable (c : Dev nD) (i : grid0.Coords) (arg2 : Memref sig .tc .smem S1 .f32) (harg2 : arg2.IsWhole) (arg3 : Memref sig .tc .smem S32x8 .f32) (harg3 : arg3.IsWhole) (arg4 : Memref sig .tc .vmem S1x2x2048x128 .bf16) (harg4 : arg4.IsWhole) (arg5 : Memref sig .tc .vmem S1x2x2048x128 .bf16) (harg5 : arg5.IsWhole) (arg6 : Memref sig .tc .vmem S1x2x2048x128 .bf16) (harg6 : arg6.IsWhole) (arg7 : Memref sig .tc .vmem S8x1024 .i32) (harg7 : arg7.IsWhole) (arg8 : Memref sig .tc .vmem S1x128 .f32) (harg8 : arg8.IsWhole) (arg9 : Memref sig .tc .vmem S64x1024 .f32) (harg9 : arg9.IsWhole) (arg10 : Memref sig .tc .vmem S32x5632 .f32) (harg10 : arg10.IsWhole) (arg11 : Memref sig .tc .vmem S176x1024 .f32) (harg11 : arg11.IsWhole) (arg12 : Memref sig .tc .vmem S1x2x2048x128 .bf16) (harg12 : arg12.IsWhole) (arg13 : Memref sig .tc .vmem S64x1024 .bf16) (harg13 : arg13.IsWhole) (arg14 : Memref sig .tc .vmem S32x5632 .bf16) (harg14 : arg14.IsWhole) (arg15 : Memref sig .tc .vmem S176x1024 .bf16) (harg15 : arg15.IsWhole) (arg16 : Memref sig .tc .vmem S2x2048x256 .bf16) (harg16 : arg16.IsWhole)
  (x0 : Vec Ideal S1 .f32) (x1 : Vec Ideal S32x8 .f32) (x2 : Vec Ideal S1x2x2048x128 .bf16) (x3 : Vec Ideal S1x2x2048x128 .bf16) (x4 : Vec Ideal S1x2x2048x128 .bf16) (x5 : Vec Ideal S8x1024 .i32) (x6 : Vec Ideal S1x128 .f32) (x7 : Vec Ideal S64x1024 .f32) (x8 : Vec Ideal S32x5632 .f32) (x9 : Vec Ideal S176x1024 .f32)
  {qf kf vf : ℕ → ℕ → ℕ → ℝ} {β : ℤ → ℝ}
  (B : Block x2 x3 x4 (k0_pay28 kernelRun0_A.sl.r_6) (kernelRun0_A.sl.r_50 c i arg3 harg3 arg7 harg7 x1 x5)
    (kernelRun0_A.sl.r_51 c i arg3 harg3 arg7 harg7 x1 x5) qf kf vf β)
include B

/-- The factor of the second half, as the body reads it. -/
abbrev lamOf : EReal := kernelRun0_A.sl.r c arg2 harg2 x0
/-- The norm's weights, as the body reads them. -/
abbrev gOf : Vec Ideal S1x128 .f32 :=
  View.readAt (Elt Ideal) arg8.view (Rect.unit (s := S1x128) ![0, 0] S1x128.size inb_S1x128_S1x128_0_0).toLoadRect (harg8.unread x6)

theorem piece_0_7 (inb) (x : S1x1x256x128.Idx) :
    k0_pay89 (kernelRun0_A.sl.v609 c i arg2 harg2 arg3 harg3 arg4 harg4 arg5 harg5 arg6 harg6 arg7 harg7 arg16 x0 x1 x2 x3 x4 x5) (kernelRun0_A.sl.v616 c i arg2 harg2 arg3 harg3 arg4 harg4 arg5 harg5 arg6 harg6 arg7 harg7 arg16 x0 x1 x2 x3 x4 x5) (gOf arg8 harg8 x6) x
      = blockOut qf kf vf β (lamOf c arg2 harg2 x0) (gOf arg8 harg8 x6)
        ((Rect.unit (s := S1x2x2048x128) ![0, 0, 1792, 0] S1x1x256x128.size inb).emb x) :=
  B.tile harg4 harg5 8 (by norm_num) (by norm_num) 0 inb_S1x2x2048x128_S1x1x256x128_0_0_1792_0 inb_S1x2x2048x128_S1x1x2048x128_0_0_0_0 (kernelRun0_A.sl.v599 c arg6 harg6 arg16 x4)
    (load_scratch c harg6 arg16 x4 _ 2048 0 (by norm_num) (pieces_first c harg6 x4) (covers_first c harg6 x4) inb_S2x2048x256_S1x2048x256_0_0_0) (lamOf c arg2 harg2 x0) (gOf arg8 harg8 x6) inb x

theorem piece_1_7 (inb) (x : S1x1x256x128.Idx) :
    kernelRun0_A.sl.v728 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 1, 1792, 0] S1x1x256x128.size inb).emb x) :=
  B.tile harg4 harg5 8 (by norm_num) (by norm_num) 1 inb_S1x2x2048x128_S1x1x256x128_0_1_1792_0 inb_S1x2x2048x128_S1x1x2048x128_0_1_0_0 (kernelRun0_A.sl.v698 c arg6 harg6 arg16 x4)
    (load_scratch c harg6 arg16 x4 _ 2048 1 (by norm_num) (pieces_both c harg6 x4) (covers_both c harg6 x4 1) inb_S2x2048x256_S1x2048x256_1_0_0) (lamOf c arg2 harg2 x0) (gOf arg8 harg8 x6) inb x

theorem piece_0_6 (inb) (x : S1x1x256x128.Idx) :
    kernelRun0_A.sl.v812 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 0, 1536, 0] S1x1x256x128.size inb).emb x) :=
  B.tile harg4 harg5 7 (by norm_num) (by norm_num) 0 inb_S1x2x2048x128_S1x1x256x128_0_0_1536_0 inb_S1x2x2048x128_S1x1x1792x128_0_0_0_0 (kernelRun0_A.sl.v782 c arg6 harg6 arg16 x4)
    (load_scratch c harg6 arg16 x4 _ 1792 0 (by norm_num) (pieces_both c harg6 x4) (covers_both c harg6 x4 0) inb_S2x2048x256_S1x1792x256_0_0_0) (lamOf c arg2 harg2 x0) (gOf arg8 harg8 x6) inb x

theorem piece_1_6 (inb) (x : S1x1x256x128.Idx) :
    k0_pay125 (kernelRun0_A.sl.r_122 c i arg2 harg2 arg3 harg3 arg4 harg4 arg5 harg5 arg6 harg6 arg7 harg7 arg16 x0 x1 x2 x3 x4 x5) (kernelRun0_A.sl.r_123 c i arg2 harg2 arg3 harg3 arg4 harg4 arg5 harg5 arg6 harg6 arg7 harg7 arg16 x0 x1 x2 x3 x4 x5) (gOf arg8 harg8 x6) x
      = blockOut qf kf vf β (lamOf c arg2 harg2 x0) (gOf arg8 harg8 x6)
        ((Rect.unit (s := S1x2x2048x128) ![0, 1, 1536, 0] S1x1x256x128.size inb).emb x) :=
  B.tile harg4 harg5 7 (by norm_num) (by norm_num) 1 inb_S1x2x2048x128_S1x1x256x128_0_1_1536_0 inb_S1x2x2048x128_S1x1x1792x128_0_1_0_0 (kernelRun0_A.sl.v866 c arg6 harg6 arg16 x4)
    (load_scratch c harg6 arg16 x4 _ 1792 1 (by norm_num) (pieces_both c harg6 x4) (covers_both c harg6 x4 1) inb_S2x2048x256_S1x1792x256_1_0_0) (lamOf c arg2 harg2 x0) (gOf arg8 harg8 x6) inb x

theorem piece_0_5 (inb) (x : S1x1x256x128.Idx) :
    k0_pay137 (kernelRun0_A.sl.v964 c i arg2 harg2 arg3 harg3 arg4 harg4 arg5 harg5 arg6 harg6 arg7 harg7 arg16 x0 x1 x2 x3 x4 x5) (kernelRun0_A.sl.r_128 c arg8 harg8 x6) x
      = blockOut qf kf vf β (lamOf c arg2 harg2 x0) (gOf arg8 harg8 x6)
        ((Rect.unit (s := S1x2x2048x128) ![0, 0, 1280, 0] S1x1x256x128.size inb).emb x) :=
  B.tile harg4 harg5 6 (by norm_num) (by norm_num) 0 inb_S1x2x2048x128_S1x1x256x128_0_0_1280_0 inb_S1x2x2048x128_S1x1x1536x128_0_0_0_0 (kernelRun0_A.sl.v944 c arg6 harg6 arg16 x4)
    (load_scratch c harg6 arg16 x4 _ 1536 0 (by norm_num) (pieces_both c harg6 x4) (covers_both c harg6 x4 0) inb_S2x2048x256_S1x1536x256_0_0_0) (lamOf c arg2 harg2 x0) (gOf arg8 harg8 x6) inb x

theorem piece_1_5 (inb) (x : S1x1x256x128.Idx) :
    k0_pay148 (kernelRun0_A.sl.v1049 c i arg2 harg2 arg3 harg3 arg4 harg4 arg5 harg5 arg6 harg6 arg7 harg7 arg8 harg8 arg16 x0 x1 x2 x3 x4 x5 x6) x
      = blockOut qf kf vf β (lamOf c arg2 harg2 x0) (gOf arg8 harg8 x6)
        ((Rect.unit (s := S1x2x2048x128) ![0, 1, 1280, 0] S1x1x256x128.size inb).emb x) :=
  B.tile harg4 harg5 6 (by norm_num) (by norm_num) 1 inb_S1x2x2048x128_S1x1x256x128_0_1_1280_0 inb_S1x2x2048x128_S1x1x1536x128_0_1_0_0 (kernelRun0_A.sl.v1022 c arg6 harg6 arg16 x4)
    (load_scratch c harg6 arg16 x4 _ 1536 1 (by norm_num) (pieces_both c harg6 x4) (covers_both c harg6 x4 1) inb_S2x2048x256_S1x1536x256_1_0_0) (lamOf c arg2 harg2 x0) (gOf arg8 harg8 x6) inb x

theorem piece_0_4 (inb) (x : S1x1x256x128.Idx) :
    kernelRun0_A.sl.v1124 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 0, 1024, 0] S1x1x256x128.size inb).emb x) :=
  B.tile harg4 harg5 5 (by norm_num) (by norm_num) 0 inb_S1x2x2048x128_S1x1x256x128_0_0_1024_0 inb_S1x2x2048x128_S1x1x1280x128_0_0_0_0 (kernelRun0_A.sl.v1094 c arg6 harg6 arg16 x4)
    (load_scratch c harg6 arg16 x4 _ 1280 0 (by norm_num) (pieces_both c harg6 x4) (covers_both c harg6 x4 0) inb_S2x2048x256_S1x1280x256_0_0_0) (lamOf c arg2 harg2 x0) (gOf arg8 harg8 x6) inb x

theorem piece_1_4 (inb) (x : S1x1x256x128.Idx) :
    k0_pay165 (kernelRun0_A.sl.r_146 c i arg2 harg2 arg3 harg3 arg4 harg4 arg5 harg5 arg6 harg6 arg7 harg7 arg16 x0 x1 x2 x3 x4 x5) (kernelRun0_A.sl.r_147 c i arg2 harg2 arg3 harg3 arg4 harg4 arg5 harg5 arg6 harg6 arg7 harg7 arg16 x0 x1 x2 x3 x4 x5) (gOf arg8 harg8 x6) x
      = blockOut qf kf vf β (lamOf c arg2 harg2 x0) (gOf arg8 harg8 x6)
        ((Rect.unit (s := S1x2x2048x128) ![0, 1, 1024, 0] S1x1x256x128.size inb).emb x) :=
  B.tile harg4 harg5 5 (by norm_num) (by norm_num) 1 inb_S1x2x2048x128_S1x1x256x128_0_1_1024_0 inb_S1x2x2048x128_S1x1x1280x128_0_1_0_0 (kernelRun0_A.sl.v1166 c arg6 harg6 arg16 x4)
    (load_scratch c harg6 arg16 x4 _ 1280 1 (by norm_num) (pieces_both c harg6 x4) (covers_both c harg6 x4 1) inb_S2x2048x256_S1x1280x256_1_0_0) (lamOf c arg2 harg2 x0) (gOf arg8 harg8 x6) inb x

theorem piece_0_3 (inb) (x : S1x1x256x128.Idx) :
    kernelRun0_A.sl.v1262 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 0, 768, 0] S1x1x256x128.size inb).emb x) :=
  B.tile harg4 harg5 4 (by norm_num) (by norm_num) 0 inb_S1x2x2048x128_S1x1x256x128_0_0_768_0 inb_S1x2x2048x128_S1x1x1024x128_0_0_0_0 (kernelRun0_A.sl.v1232 c arg6 harg6 arg16 x4)
    (load_scratch c harg6 arg16 x4 _ 1024 0 (by norm_num) (pieces_both c harg6 x4) (covers_both c harg6 x4 0) inb_S2x2048x256_S1x1024x256_0_0_0) (lamOf c arg2 harg2 x0) (gOf arg8 harg8 x6) inb x

theorem piece_1_3 (inb) (x : S1x1x256x128.Idx) :
    kernelRun0_A.sl.v1328 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 1, 768, 0] S1x1x256x128.size inb).emb x) :=
  B.tile harg4 harg5 4 (by norm_num) (by norm_num) 1 inb_S1x2x2048x128_S1x1x256x128_0_1_768_0 inb_S1x2x2048x128_S1x1x1024x128_0_1_0_0 (kernelRun0_A.sl.v1298 c arg6 harg6 arg16 x4)
    (load_scratch c harg6 arg16 x4 _ 1024 1 (by norm_num) (pieces_both c harg6 x4) (covers_both c harg6 x4 1) inb_S2x2048x256_S1x1024x256_1_0_0) (lamOf c arg2 harg2 x0) (gOf arg8 harg8 x6) inb x

theorem piece_0_2 (inb) (x : S1x1x256x128.Idx) :
    kernelRun0_A.sl.r_160 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 0, 512, 0] S1x1x256x128.size inb).emb x) :=
  B.tile harg4 harg5 3 (by norm_num) (by norm_num) 0 inb_S1x2x2048x128_S1x1x256x128_0_0_512_0 inb_S1x2x2048x128_S1x1x768x128_0_0_0_0 (kernelRun0_A.sl.v1356 c arg6 harg6 arg16 x4)
    (load_scratch c harg6 arg16 x4 _ 768 0 (by norm_num) (pieces_both c harg6 x4) (covers_both c harg6 x4 0) inb_S2x2048x256_S1x768x256_0_0_0) (lamOf c arg2 harg2 x0) (gOf arg8 harg8 x6) inb x

theorem piece_1_2 (inb) (x : S1x1x256x128.Idx) :
    kernelRun0_A.sl.v1444 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 1, 512, 0] S1x1x256x128.size inb).emb x) :=
  B.tile harg4 harg5 3 (by norm_num) (by norm_num) 1 inb_S1x2x2048x128_S1x1x256x128_0_1_512_0 inb_S1x2x2048x128_S1x1x768x128_0_1_0_0 (kernelRun0_A.sl.v1414 c arg6 harg6 arg16 x4)
    (load_scratch c harg6 arg16 x4 _ 768 1 (by norm_num) (pieces_both c harg6 x4) (covers_both c harg6 x4 1) inb_S2x2048x256_S1x768x256_1_0_0) (lamOf c arg2 harg2 x0) (gOf arg8 harg8 x6) inb x

theorem piece_0_1 (inb) (x : S1x1x256x128.Idx) :
    kernelRun0_A.sl.v1479 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 0, 256, 0] S1x1x256x128.size inb).emb x) :=
  B.tile harg4 harg5 2 (by norm_num) (by norm_num) 0 inb_S1x2x2048x128_S1x1x256x128_0_0_256_0 inb_S1x2x2048x128_S1x1x512x128_0_0_0_0 (kernelRun0_A.sl.v1449 c arg6 harg6 arg16 x4)
    (load_scratch c harg6 arg16 x4 _ 512 0 (by norm_num) (pieces_both c harg6 x4) (covers_both c harg6 x4 0) inb_S2x2048x256_S1x512x256_0_0_0) (lamOf c arg2 harg2 x0) (gOf arg8 harg8 x6) inb x

theorem piece_1_1 (inb) (x : S1x1x256x128.Idx) :
    kernelRun0_A.sl.v1514 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 1, 256, 0] S1x1x256x128.size inb).emb x) :=
  B.tile harg4 harg5 2 (by norm_num) (by norm_num) 1 inb_S1x2x2048x128_S1x1x256x128_0_1_256_0 inb_S1x2x2048x128_S1x1x512x128_0_1_0_0 (kernelRun0_A.sl.v1484 c arg6 harg6 arg16 x4)
    (load_scratch c harg6 arg16 x4 _ 512 1 (by norm_num) (pieces_both c harg6 x4) (covers_both c harg6 x4 1) inb_S2x2048x256_S1x512x256_1_0_0) (lamOf c arg2 harg2 x0) (gOf arg8 harg8 x6) inb x

theorem piece_0_0 (inb) (x : S1x1x256x128.Idx) :
    kernelRun0_A.sl.v1545 c i arg2 harg2 arg3 harg3 arg4 harg4 arg5 harg5 arg6 harg6 arg7 harg7 arg8 harg8 arg16 x0 x1 x2 x3 x4 x5 x6 x
      = blockOut qf kf vf β (lamOf c arg2 harg2 x0) (gOf arg8 harg8 x6)
        ((Rect.unit (s := S1x2x2048x128) ![0, 0, 0, 0] S1x1x256x128.size inb).emb x) :=
  B.tileOne harg4 harg5 0 inb_S1x2x2048x128_S1x1x256x128_0_0_0_0 inb_S1x2x2048x128_S1x1x256x128_0_0_0_0 (kernelRun0_A.sl.v1515 c arg6 harg6 arg16 x4)
    (load_scratch c harg6 arg16 x4 _ 256 0 (by norm_num) (pieces_both c harg6 x4) (covers_both c harg6 x4 0) inb_S2x2048x256_S1x256x256_0_0_0) (lamOf c arg2 harg2 x0) (gOf arg8 harg8 x6) inb x

theorem piece_1_0 (inb) (x : S1x1x256x128.Idx) :
    k0_pay1 (kernelRun0_A.sl.r_166 c i arg2 harg2 arg3 harg3 arg4 harg4 arg5 harg5 arg6 harg6 arg7 harg7 arg16 x0 x1 x2 x3 x4 x5) (gOf arg8 harg8 x6) x
      = blockOut qf kf vf β (lamOf c arg2 harg2 x0) (gOf arg8 harg8 x6)
        ((Rect.unit (s := S1x2x2048x128) ![0, 1, 0, 0] S1x1x256x128.size inb).emb x) :=
  B.tileOne harg4 harg5 1 inb_S1x2x2048x128_S1x1x256x128_0_1_0_0 inb_S1x2x2048x128_S1x1x256x128_0_1_0_0 (kernelRun0_A.sl.v1546 c arg6 harg6 arg16 x4)
    (load_scratch c harg6 arg16 x4 _ 256 1 (by norm_num) (pieces_both c harg6 x4) (covers_both c harg6 x4 1) inb_S2x2048x256_S1x256x256_1_0_0) (lamOf c arg2 harg2 x0) (gOf arg8 harg8 x6) inb x

theorem pieces_block (p) (hp : p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1)
    (x : p.1.shape.Idx) : p.2 x = blockOut qf kf vf β (lamOf c arg2 harg2 x0) (gOf arg8 harg8 x6) (p.1.emb x) := by
  unfold kernelRun0_A at hp
  simp only [List.mem_cons, List.not_mem_nil, or_false] at hp
  rcases hp with rfl | rfl | rfl | rfl | rfl | rfl | rfl | rfl | rfl | rfl | rfl | rfl | rfl | rfl | rfl | rfl
  · exact piece_1_0 c i arg2 harg2 arg3 harg3 arg4 harg4 arg5 harg5 arg6 harg6 arg7 harg7 arg8 harg8 arg16 x0 x1 x2 x3 x4 x5 x6 B inb_S1x2x2048x128_S1x1x256x128_0_1_0_0 x
  · exact piece_0_0 c i arg2 harg2 arg3 harg3 arg4 harg4 arg5 harg5 arg6 harg6 arg7 harg7 arg8 harg8 arg16 x0 x1 x2 x3 x4 x5 x6 B inb_S1x2x2048x128_S1x1x256x128_0_0_0_0 x
  · exact piece_1_1 c i arg2 harg2 arg3 harg3 arg4 harg4 arg5 harg5 arg6 harg6 arg7 harg7 arg8 harg8 arg16 x0 x1 x2 x3 x4 x5 x6 B inb_S1x2x2048x128_S1x1x256x128_0_1_256_0 x
  · exact piece_0_1 c i arg2 harg2 arg3 harg3 arg4 harg4 arg5 harg5 arg6 harg6 arg7 harg7 arg8 harg8 arg16 x0 x1 x2 x3 x4 x5 x6 B inb_S1x2x2048x128_S1x1x256x128_0_0_256_0 x
  · exact piece_1_2 c i arg2 harg2 arg3 harg3 arg4 harg4 arg5 harg5 arg6 harg6 arg7 harg7 arg8 harg8 arg16 x0 x1 x2 x3 x4 x5 x6 B inb_S1x2x2048x128_S1x1x256x128_0_1_512_0 x
  · exact piece_0_2 c i arg2 harg2 arg3 harg3 arg4 harg4 arg5 harg5 arg6 harg6 arg7 harg7 arg8 harg8 arg16 x0 x1 x2 x3 x4 x5 x6 B inb_S1x2x2048x128_S1x1x256x128_0_0_512_0 x
  · exact piece_1_3 c i arg2 harg2 arg3 harg3 arg4 harg4 arg5 harg5 arg6 harg6 arg7 harg7 arg8 harg8 arg16 x0 x1 x2 x3 x4 x5 x6 B inb_S1x2x2048x128_S1x1x256x128_0_1_768_0 x
  · exact piece_0_3 c i arg2 harg2 arg3 harg3 arg4 harg4 arg5 harg5 arg6 harg6 arg7 harg7 arg8 harg8 arg16 x0 x1 x2 x3 x4 x5 x6 B inb_S1x2x2048x128_S1x1x256x128_0_0_768_0 x
  · exact piece_1_4 c i arg2 harg2 arg3 harg3 arg4 harg4 arg5 harg5 arg6 harg6 arg7 harg7 arg8 harg8 arg16 x0 x1 x2 x3 x4 x5 x6 B inb_S1x2x2048x128_S1x1x256x128_0_1_1024_0 x
  · exact piece_0_4 c i arg2 harg2 arg3 harg3 arg4 harg4 arg5 harg5 arg6 harg6 arg7 harg7 arg8 harg8 arg16 x0 x1 x2 x3 x4 x5 x6 B inb_S1x2x2048x128_S1x1x256x128_0_0_1024_0 x
  · exact piece_1_5 c i arg2 harg2 arg3 harg3 arg4 harg4 arg5 harg5 arg6 harg6 arg7 harg7 arg8 harg8 arg16 x0 x1 x2 x3 x4 x5 x6 B inb_S1x2x2048x128_S1x1x256x128_0_1_1280_0 x
  · exact piece_0_5 c i arg2 harg2 arg3 harg3 arg4 harg4 arg5 harg5 arg6 harg6 arg7 harg7 arg8 harg8 arg16 x0 x1 x2 x3 x4 x5 x6 B inb_S1x2x2048x128_S1x1x256x128_0_0_1280_0 x
  · exact piece_1_6 c i arg2 harg2 arg3 harg3 arg4 harg4 arg5 harg5 arg6 harg6 arg7 harg7 arg8 harg8 arg16 x0 x1 x2 x3 x4 x5 x6 B inb_S1x2x2048x128_S1x1x256x128_0_1_1536_0 x
  · exact piece_0_6 c i arg2 harg2 arg3 harg3 arg4 harg4 arg5 harg5 arg6 harg6 arg7 harg7 arg8 harg8 arg16 x0 x1 x2 x3 x4 x5 x6 B inb_S1x2x2048x128_S1x1x256x128_0_0_1536_0 x
  · exact piece_1_7 c i arg2 harg2 arg3 harg3 arg4 harg4 arg5 harg5 arg6 harg6 arg7 harg7 arg8 harg8 arg16 x0 x1 x2 x3 x4 x5 x6 B inb_S1x2x2048x128_S1x1x256x128_0_1_1792_0 x
  · exact piece_0_7 c i arg2 harg2 arg3 harg3 arg4 harg4 arg5 harg5 arg6 harg6 arg7 harg7 arg8 harg8 arg16 x0 x1 x2 x3 x4 x5 x6 B inb_S1x2x2048x128_S1x1x256x128_0_0_1792_0 x

/-- What the run leaves of the attention's output at a grid point. -/
theorem out_block : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
    = blockOut qf kf vf β (lamOf c arg2 harg2 x0) (gOf arg8 harg8 x6) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  funext y
  exact View.canon_apply_of_pieces _ _ (pieces_block c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 B) y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 y)

end

end Cert.KernelIdeal.Tile

end
-- ==== Proof.Bias.lean ====
/- The mask and the two bias blocks that one grid point builds, read at an index. -/
module

public import proofs.«01_k».proof.Proof.Loads

@[expose] public section

set_option maxRecDepth 16384

noncomputable section

namespace Cert.KernelIdeal.Tile

open Cert.KernelIdeal Cert.KernelIdeal.Gen Idealize.ShloMosaic Cert.Soft

/-- The first `k` choices of the bias row: bucket `b` picks word `b` less the base, to base two. -/
def choices (idx : IVec S8x1024 32) (base : EReal) (word : ℕ → EReal) : ℕ → FVec Ideal S8x1024 .f32
  | 0 => broadcast S8x1024 (Scalar.ofBits .f32 0x00000000#32)
  | k + 1 => select (cmpi .eq idx (broadcast S8x1024 (BitVec.ofNat 32 k)))
      (broadcast S8x1024 (Scalar.mulf (Scalar.subf (word k : Ideal .f32) base) (Named.named κ "log2e" 0x3FB8AA3B#32))) (choices idx base word k)

theorem named_log2e : (Named.named κ "log2e" 0x3FB8AA3B#32 : Ideal .f32) = (((Real.log 2)⁻¹ : ℝ) : EReal) := by
  simp [Named.named, κ]

theorem choices_apply (idx : IVec S8x1024 32) (base : EReal) (word : ℕ → EReal) (k : ℕ) (hk : k ≤ 32) (y : S8x1024.Idx) :
    choices idx base word k y = if (idx y).toNat < k then (word (idx y).toNat - base) * (((Real.log 2)⁻¹ : ℝ) : EReal) else 0 := by
  induction k with
  | zero => exact ofBits_zero
  | succ k ih =>
    show Scalar.select (IntOp.cmpi .eq (idx y) (BitVec.ofNat 32 k)) ((word k - base) * (Named.named κ "log2e" 0x3FB8AA3B#32 : Ideal .f32))
      (choices idx base word k y) = _
    rw [ih (by omega), named_log2e]
    have hm : k % 2 ^ 32 = k := Nat.mod_eq_of_lt (by omega)
    by_cases h : idx y = BitVec.ofNat 32 k
    · have h' : (idx y).toNat = k := by rw [h, BitVec.toNat_ofNat, hm]
      rw [h', if_pos (Nat.lt_succ_self k), h]
      simp [Scalar.select, IntOp.cmpi]
    · have h' : (idx y).toNat ≠ k := fun e => h (BitVec.eq_of_toNat_eq (by rw [e, BitVec.toNat_ofNat, hm]))
      have h3 : Scalar.select (IntOp.cmpi .eq (idx y) (BitVec.ofNat 32 k)) ((word k - base) * (((Real.log 2)⁻¹ : ℝ) : EReal))
          (if (idx y).toNat < k then (word (idx y).toNat - base) * (((Real.log 2)⁻¹ : ℝ) : EReal) else 0)
          = if (idx y).toNat < k then (word (idx y).toNat - base) * (((Real.log 2)⁻¹ : ℝ) : EReal) else 0 := by
        have hb : (idx y == BitVec.ofNat 32 k) = false := beq_eq_false_iff_ne.mpr h
        simp [Scalar.select, IntOp.cmpi, hb]
      rw [h3]
      by_cases h2 : (idx y).toNat < k
      · rw [if_pos h2, if_pos (by omega)]
      · rw [if_neg h2, if_neg (by omega)]

/-- The bias row laid 32 times over and turned by each row's number. -/
def turned (v : FVec Ideal S8x1024 .f32) : FVec Ideal S256x1024 .f32 :=
  dynamicRotate 1 0#32 (some (1, 0))
    (concatenate S256x1024 0 [⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩] concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0) rotates_S256x1024_d1s1a0

theorem turned_apply (v : FVec Ideal S8x1024 .f32) (r : Fin 256) (x : Fin 1024) :
    turned v (ix2 r x) = v (ix2 ⟨r.val % 8, Nat.mod_lt _ (by norm_num)⟩ ⟨(x.val + 1024 - r.val) % 1024, Nat.mod_lt _ (by norm_num)⟩) := by
  have hr := r.isLt
  have hx := x.isLt
  have hi : (fun b : Fin S256x1024.rank => if b = 1 then (⟨(((ix2 r x : S256x1024.Idx) b).val + S256x1024.size b
        - (0 + 1 * r.val) % S256x1024.size b) % S256x1024.size b, Nat.mod_lt _ (Fin.pos ((ix2 r x : S256x1024.Idx) b))⟩ : S256x1024.Coord b) else (ix2 r x : S256x1024.Idx) b)
      = ix2 r ⟨(x.val + 1024 - r.val) % 1024, Nat.mod_lt _ (by norm_num)⟩ := by
    funext b
    match b with
    | 0 => rfl
    | 1 =>
      refine Fin.ext ?_
      show (x.val + 1024 - (0 + 1 * r.val) % 1024) % 1024 = (x.val + 1024 - r.val) % 1024
      rw [Nat.zero_add, Nat.one_mul, Nat.mod_eq_of_lt (show r.val < 1024 by omega)]
  unfold turned
  generalize hv : concatenate S256x1024 0 [⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩, ⟨S8x1024, v⟩] concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 = z
  refine (congrArg z hi).trans ?_
  subst hv
  exact concatenate_ofFn_apply (t := S256x1024) 0 (fun _ : Fin 32 => v) concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 rfl 8 rfl
      (ix2 r ⟨(x.val + 1024 - r.val) % 1024, Nat.mod_lt _ (by norm_num)⟩) ⟨r.val / 8, by omega⟩ rfl
      (ix2 ⟨r.val % 8, Nat.mod_lt _ (by norm_num)⟩ ⟨(x.val + 1024 - r.val) % 1024, Nat.mod_lt _ (by norm_num)⟩) rfl
      (Fin.forall_fin_two.mpr ⟨fun h => absurd rfl h, fun _ => rfl⟩)

/-- 256 columns of the turned rows from column `o` on, laid twice over. -/
def twice (o : ℕ) (h : S256x1024.Slices ![0, o] S256x256) (v : FVec Ideal S256x1024 .f32) : FVec Ideal S512x256 .f32 :=
  concatenate S512x256 0 [⟨S256x256, extractStridedSlice S256x256 ![0, o] v h⟩, ⟨S256x256, extractStridedSlice S256x256 ![0, o] v h⟩]
    concatenates_S256x256_S256x256_S512x256_d0

theorem laid_apply {α : Type} (v : S256x256.Idx → α) (e : Fin 2) (r : Fin 256) (c : Fin 256) :
    concatenate S512x256 0 [⟨S256x256, v⟩, ⟨S256x256, v⟩] concatenates_S256x256_S256x256_S512x256_d0
      (ix2 ⟨256 * e.val + r.val, by omega⟩ c) = v (ix2 r c) := by
  have hr := r.isLt
  exact concatenate_ofFn_apply (t := S512x256) 0 (fun _ : Fin 2 => v) concatenates_S256x256_S256x256_S512x256_d0 rfl 256 rfl
    (ix2 ⟨256 * e.val + r.val, by omega⟩ c) e (show (256 * e.val + r.val) / 256 = e.val by omega) (ix2 r c)
    (show r.val = (256 * e.val + r.val) % 256 by omega) (Fin.forall_fin_two.mpr ⟨fun h => absurd rfl h, fun _ => rfl⟩)

theorem twice_apply (o : ℕ) (ho : o ≤ 768) (h : S256x1024.Slices ![0, o] S256x256) (v : FVec Ideal S256x1024 .f32) (e : Fin 2) (r c : Fin 256) :
    twice o h v (ix2 ⟨256 * e.val + r.val, by omega⟩ c) = v (ix2 r ⟨o + c.val, by omega⟩) := by
  refine (laid_apply _ e r c).trans (extractStridedSlice_apply _ _ _ _ _ (Fin.forall_fin_two.mpr ⟨?_, rfl⟩))
  show r.val = 0 + r.val
  omega

/-- A chunk's number as the body computes it: the signed quotient by 64, mended where the operands' signs differ. -/
def chunk (v : IVec S256x256 32) : IVec S256x256 32 :=
  select (andi (cmpi .ne (subi (extui 32 (cmpi .sgt v (broadcast S256x256 0#32)) (by decide)) (extui 32 (cmpi .slt v (broadcast S256x256 0#32)) (by decide)))
      (broadcast S256x256 1#32)) (cmpi .ne (remsi v (broadcast S256x256 64#32)) (broadcast S256x256 0#32)))
    (subi (divsi v (broadcast S256x256 64#32)) (broadcast S256x256 1#32)) (divsi v (broadcast S256x256 64#32))

theorem chunk_congr (v w : IVec S256x256 32) (y z : S256x256.Idx) (h : v y = w z) : chunk v y = chunk w z := by
  unfold chunk
  pointwise
  rw [h]

theorem mask_eq : (kernelRun0_A.sl.r_6 : IVec S256x256 1)
    = cmpi .sle (chunk (iota .tc S256x256 32 [1] iota_S256x256_d1_w32)) (chunk (iota .tc S256x256 32 [0] iota_S256x256_d0_w32)) := rfl

section
variable (c : Dev nD) (i : grid0.Coords) {arg3 : Memref sig .tc .smem S32x8 .f32} (harg3 : arg3.IsWhole)
  {arg7 : Memref sig .tc .vmem S8x1024 .i32} (harg7 : arg7.IsWhole) (x1 : Vec Ideal S32x8 .f32) (x5 : Vec Ideal S8x1024 .i32)

/-- The bias word of bucket `b`, as the body reads it. -/
def word : ℕ → EReal
  | 0 => kernelRun0_A.sl.r_2 c i arg3 harg3 x1
  | 1 => kernelRun0_A.sl.r_3 c i arg3 harg3 x1
  | 2 => kernelRun0_A.sl.r_4 c i arg3 harg3 x1
  | 3 => kernelRun0_A.sl.r_5 c i arg3 harg3 x1
  | 4 => kernelRun0_A.sl.r_10 c i arg3 harg3 x1
  | 5 => kernelRun0_A.sl.r_11 c i arg3 harg3 x1
  | 6 => kernelRun0_A.sl.r_12 c i arg3 harg3 x1
  | 7 => kernelRun0_A.sl.r_13 c i arg3 harg3 x1
  | 8 => kernelRun0_A.sl.r_14 c i arg3 harg3 x1
  | 9 => kernelRun0_A.sl.r_15 c i arg3 harg3 x1
  | 10 => kernelRun0_A.sl.r_19 c i arg3 harg3 x1
  | 11 => kernelRun0_A.sl.r_20 c i arg3 harg3 x1
  | 12 => kernelRun0_A.sl.r_21 c i arg3 harg3 x1
  | 13 => kernelRun0_A.sl.r_22 c i arg3 harg3 x1
  | 14 => kernelRun0_A.sl.r_23 c i arg3 harg3 x1
  | 15 => kernelRun0_A.sl.r_1 c i arg3 harg3 x1
  | 16 => kernelRun0_A.sl.r_26 c i arg3 harg3 x1
  | 17 => kernelRun0_A.sl.r_27 c i arg3 harg3 x1
  | 18 => kernelRun0_A.sl.r_28 c i arg3 harg3 x1
  | 19 => kernelRun0_A.sl.r_29 c i arg3 harg3 x1
  | 20 => kernelRun0_A.sl.r_30 c i arg3 harg3 x1
  | 21 => kernelRun0_A.sl.r_34 c i arg3 harg3 x1
  | 22 => kernelRun0_A.sl.r_35 c i arg3 harg3 x1
  | 23 => kernelRun0_A.sl.r_36 c i arg3 harg3 x1
  | 24 => kernelRun0_A.sl.r_37 c i arg3 harg3 x1
  | 25 => kernelRun0_A.sl.r_38 c i arg3 harg3 x1
  | 26 => kernelRun0_A.sl.r_41 c i arg3 harg3 x1
  | 27 => kernelRun0_A.sl.r_42 c i arg3 harg3 x1
  | 28 => kernelRun0_A.sl.r_43 c i arg3 harg3 x1
  | 29 => kernelRun0_A.sl.r_44 c i arg3 harg3 x1
  | 30 => kernelRun0_A.sl.r_45 c i arg3 harg3 x1
  | 31 => kernelRun0_A.sl.r_46 c i arg3 harg3 x1
  | _ => 0

theorem load_word (k : Fin 32) (off : Fin 2 → ℕ) (h0 : off 0 = k.val) (h1 : off 1 = (BitVec.ofNat 32 (i 1).val).toNat) (inb) (hf) :
    View.readAt (Elt Ideal) arg3.view (Rect.unit (s := S32x8) off S1x1.size inb).toLoadRect (harg3.unread x1) (Shape.Idx.first hf)
      = x1 (ix2 k (i 1)) := by
  rw [View.readAt_eq_ld, harg3.read_unread]
  refine View.ld_unit_apply_of _ _ _ _ _ _ (Fin.forall_fin_two.mpr ⟨?_, ?_⟩)
  · show k.val = off 0 + 0
    rw [h0, Nat.add_zero]
  · show (i 1).val = off 1 + 0
    have : (i 1).val < 8 := (i 1).isLt
    rw [h1, BitVec.toNat_ofNat, Nat.mod_eq_of_lt (by omega), Nat.add_zero]

theorem word_apply (k : Fin 32) : word c i harg3 x1 k.val = x1 (ix2 k (i 1)) := by
  obtain ⟨k, hk⟩ := k
  interval_cases k
  · exact load_word i harg3 x1 0 _ rfl rfl _ _
  · exact load_word i harg3 x1 1 _ rfl rfl _ _
  · exact load_word i harg3 x1 2 _ rfl rfl _ _
  · exact load_word i harg3 x1 3 _ rfl rfl _ _
  · exact load_word i harg3 x1 4 _ rfl rfl _ _
  · exact load_word i harg3 x1 5 _ rfl rfl _ _
  · exact load_word i harg3 x1 6 _ rfl rfl _ _
  · exact load_word i harg3 x1 7 _ rfl rfl _ _
  · exact load_word i harg3 x1 8 _ rfl rfl _ _
  · exact load_word i harg3 x1 9 _ rfl rfl _ _
  · exact load_word i harg3 x1 10 _ rfl rfl _ _
  · exact load_word i harg3 x1 11 _ rfl rfl _ _
  · exact load_word i harg3 x1 12 _ rfl rfl _ _
  · exact load_word i harg3 x1 13 _ rfl rfl _ _
  · exact load_word i harg3 x1 14 _ rfl rfl _ _
  · exact load_word i harg3 x1 15 _ rfl rfl _ _
  · exact load_word i harg3 x1 16 _ rfl rfl _ _
  · exact load_word i harg3 x1 17 _ rfl rfl _ _
  · exact load_word i harg3 x1 18 _ rfl rfl _ _
  · exact load_word i harg3 x1 19 _ rfl rfl _ _
  · exact load_word i harg3 x1 20 _ rfl rfl _ _
  · exact load_word i harg3 x1 21 _ rfl rfl _ _
  · exact load_word i harg3 x1 22 _ rfl rfl _ _
  · exact load_word i harg3 x1 23 _ rfl rfl _ _
  · exact load_word i harg3 x1 24 _ rfl rfl _ _
  · exact load_word i harg3 x1 25 _ rfl rfl _ _
  · exact load_word i harg3 x1 26 _ rfl rfl _ _
  · exact load_word i harg3 x1 27 _ rfl rfl _ _
  · exact load_word i harg3 x1 28 _ rfl rfl _ _
  · exact load_word i harg3 x1 29 _ rfl rfl _ _
  · exact load_word i harg3 x1 30 _ rfl rfl _ _
  · exact load_word i harg3 x1 31 _ rfl rfl _ _

theorem base_apply : kernelRun0_A.sl.r_1 c i arg3 harg3 x1 = x1 (ix2 15 (i 1)) :=
  load_word i harg3 x1 15 _ rfl rfl _ _

/-- The bias row as the body builds it. -/
abbrev row : FVec Ideal S8x1024 .f32 :=
  choices (kernelRun0_A.sl.r_7 c arg7 harg7 x5) (kernelRun0_A.sl.r_1 c i arg3 harg3 x1) (word c i harg3 x1) 32

theorem diag_eq : kernelRun0_A.sl.r_50 c i arg3 harg3 arg7 harg7 x1 x5
    = twice 512 slices_S256x1024_o0_512_S256x256 (turned (row c i harg3 harg7 x1 x5)) := rfl

theorem prev_eq : kernelRun0_A.sl.r_51 c i arg3 harg3 arg7 harg7 x1 x5
    = twice 256 slices_S256x1024_o0_256_S256x256 (turned (row c i harg3 harg7 x1 x5)) := rfl

theorem buckets_apply (y : S8x1024.Idx) : kernelRun0_A.sl.r_7 c arg7 harg7 x5 y = x5 y := by
  have h : View.readAt (Elt Ideal) arg7.view (Rect.unit (s := S8x1024) ![0, 0] S8x1024.size inb_S8x1024_S8x1024_0_0).toLoadRect (harg7.unread x5) y = x5 y := by
    rw [View.readAt_eq_ld, harg7.read_unread]
    exact View.ld_unit_apply_of _ _ _ _ _ _ (Fin.forall_fin_two.mpr ⟨(Nat.zero_add _).symm, (Nat.zero_add _).symm⟩)
  exact (shapeCast_apply _ _ y y rfl).trans h

theorem mask_nat (r c : Fin 256) : (kernelRun0_A.sl.r_6 : IVec S256x256 1) (ix2 r c) = 1#1 ↔ c.val / 64 ≤ r.val / 64 := by
  have hc : ∀ x : Fin 256, chunk (fun _ => BitVec.ofNat 32 x.val) (ix2 0 0) = BitVec.ofNat 32 (x.val / 64) := by decide +kernel
  have h1 : chunk (iota .tc S256x256 32 [1] iota_S256x256_d1_w32) (ix2 r c) = BitVec.ofNat 32 (c.val / 64) := by
    rw [← hc]
    exact chunk_congr _ _ _ _ (by pointwise)
  have h0 : chunk (iota .tc S256x256 32 [0] iota_S256x256_d0_w32) (ix2 r c) = BitVec.ofNat 32 (r.val / 64) := by
    rw [← hc]
    exact chunk_congr _ _ _ _ (by pointwise)
  have hs : ∀ a b : Fin 4, IntOp.cmpi .sle (BitVec.ofNat 32 a.val) (BitVec.ofNat 32 b.val) = 1#1 ↔ a.val ≤ b.val := by decide
  rw [mask_eq]
  show IntOp.cmpi .sle (chunk _ (ix2 r c)) (chunk _ (ix2 r c)) = 1#1 ↔ _
  rw [h1, h0]
  exact hs ⟨c.val / 64, by omega⟩ ⟨r.val / 64, by omega⟩

theorem mask_apply (r : Fin 256) (e : Fin 2) (c : Fin 256) :
    k0_pay28 kernelRun0_A.sl.r_6 (ix2 ⟨256 * e.val + r.val, by omega⟩ c) = 1#1 ↔ c.val / 64 ≤ r.val / 64 := by
  rw [← mask_nat]
  exact iff_of_eq (congrArg (· = 1#1) (laid_apply kernelRun0_A.sl.r_6 e r c))

end

end Cert.KernelIdeal.Tile

end
-- ==== Proof.Bucket.lean ====
/- The bucket of a distance, as one word of a distance word: it is below 32, and far behind it is 15. -/
module

public import proofs.«01_k».proof.Proof.Soft

@[expose] public section

noncomputable section

namespace Cert.Soft

open Idealize.ShloMosaic

/-- The logarithmic part of a bucket, from a distance's size. -/
def large (a : BitVec 32) : BitVec 32 :=
  IntOp.minsi (IntOp.addi 8#32 (FloatOps.fptosi (F := Ideal) (φ := .f32) 32
    (Ideal.div (Ideal.log (Ideal.div (FloatOps.sitofp (F := Ideal) .f32 (IntOp.maxsi a 1#32)) (Ideal.ofBits .f32 1090519040#32)))
      (Ideal.ofBits .f32 1076982296#32) * Ideal.ofBits .f32 1090519040#32))) 15#32

/-- The bucket of a distance. -/
def bucket (r : BitVec 32) : BitVec 32 :=
  IntOp.addi (Scalar.select (IntOp.cmpi .sgt r 0#32) 16#32 0#32)
    (Scalar.select (IntOp.cmpi .slt (IntOp.absi r) 8#32) (IntOp.absi r) (large (IntOp.absi r)))

theorem eight : Ideal.ofBits .f32 1090519040#32 = ((8 : ℝ) : EReal) := by
  simp [Ideal.ofBits, Ideal.ieee, -EReal.coe_mul]; norm_num

/-- The rounded logarithm of 16. -/
def logSixteen : ℝ := 11629080 / 4194304

theorem log_sixteen : Ideal.ofBits .f32 1076982296#32 = (logSixteen : EReal) := by
  simp [Ideal.ofBits, Ideal.ieee, -EReal.coe_mul, logSixteen]; norm_num

theorem fptosi_real (x : ℝ) (h0 : 0 ≤ x) (h1 : x < 100000) :
    FloatOps.fptosi (F := Ideal) (φ := .f32) 32 ((x : ℝ) : EReal) = BitVec.ofNat 32 ⌊x⌋₊ := by
  show Ideal.fptosi 32 _ = _
  have hf : (⌊x⌋ : ℤ) = (⌊x⌋₊ : ℤ) := (Int.natCast_floor_eq_floor h0).symm
  have hlt : ⌊x⌋₊ < 100000 := (Nat.floor_lt h0).mpr (by exact_mod_cast h1)
  show BitVec.ofInt 32 (max _ (min _ (if 0 ≤ x then ⌊x⌋ else ⌈x⌉))) = _
  rw [if_pos h0, hf]
  have : max (-((2 ^ (32 - 1) : ℕ) : ℤ)) (min (((2 ^ (32 - 1) : ℕ) : ℤ) - 1) (⌊x⌋₊ : ℤ)) = (⌊x⌋₊ : ℤ) := by
    norm_num; omega
  rw [this, BitVec.ofInt_natCast]

theorem small_word (n : ℕ) (h : n < 2 ^ 31) : (BitVec.ofNat 32 n).toInt = n := by
  rw [BitVec.toInt_ofNat', Int.bmod_eq_of_le] <;> omega

theorem maxsi_word (n : ℕ) (h1 : 1 ≤ n) (h : n < 2 ^ 31) : IntOp.maxsi (BitVec.ofNat 32 n) 1#32 = BitVec.ofNat 32 n := by
  unfold IntOp.maxsi
  by_cases e : n = 1
  · subst e; rfl
  · have h1' : (1#32).toInt = 1 := rfl
    simp only [BitVec.slt, small_word n h, h1', decide_eq_true_eq]
    rw [if_pos (by omega)]

theorem minsi_word (a b : ℕ) (ha : a < 2 ^ 31) (hb : b < 2 ^ 31) :
    IntOp.minsi (BitVec.ofNat 32 a) (BitVec.ofNat 32 b) = BitVec.ofNat 32 (min a b) := by
  unfold IntOp.minsi
  simp only [BitVec.slt, small_word a ha, small_word b hb, decide_eq_true_eq]
  split
  · rw [min_eq_left (by omega)]
  · rw [min_eq_right (by omega)]

theorem large_eq (n : ℕ) (h8 : 8 ≤ n) (hn : n < 4096) :
    ∃ k, 8 ≤ k ∧ k ≤ 15 ∧ large (BitVec.ofNat 32 n) = BitVec.ofNat 32 k ∧ (257 ≤ n → k = 15) := by
  have hn8 : (1 : ℝ) ≤ (n : ℝ) / 8 := by
    rw [le_div_iff₀ (by norm_num)]; exact_mod_cast (by omega : 1 * 8 ≤ n)
  have hc : 0 < logSixteen := by unfold logSixteen; norm_num
  have hl0 : 0 ≤ Real.log ((n : ℝ) / 8) := Real.log_nonneg hn8
  have hl1 : Real.log ((n : ℝ) / 8) ≤ 511 := by
    have := Real.log_le_sub_one_of_pos (show (0 : ℝ) < (n : ℝ) / 8 by linarith)
    have h2 : (n : ℝ) / 8 ≤ 512 := by rw [div_le_iff₀ (by norm_num)]; exact_mod_cast (by omega : n ≤ 512 * 8)
    linarith
  have hx0 : 0 ≤ Real.log ((n : ℝ) / 8) / logSixteen * 8 := by positivity
  have hx1 : Real.log ((n : ℝ) / 8) / logSixteen * 8 < 100000 := by
    have : Real.log ((n : ℝ) / 8) / logSixteen ≤ 511 / logSixteen := by gcongr
    have h2 : (511 : ℝ) / logSixteen * 8 < 100000 := by unfold logSixteen; norm_num
    nlinarith
  have hv : large (BitVec.ofNat 32 n) = BitVec.ofNat 32 (min (8 + ⌊Real.log ((n : ℝ) / 8) / logSixteen * 8⌋₊) 15) := by
    unfold large
    rw [maxsi_word n (by omega) (by omega)]
    have hs : (FloatOps.sitofp (F := Ideal) .f32 (BitVec.ofNat 32 n) : EReal) = ((n : ℝ) : EReal) := by
      show ((((BitVec.ofNat 32 n).toInt : ℤ) : ℝ) : EReal) = _
      rw [small_word n (by omega)]; simp
    have hl : Ideal.log (((n : ℝ) / 8 : ℝ) : EReal) = (Real.log ((n : ℝ) / 8) : EReal) := by
      show (if ((n : ℝ) / 8) ≤ 0 then (⊥ : EReal) else _) = _
      rw [if_neg (by linarith)]
    have hfl : ⌊Real.log ((n : ℝ) / 8) / logSixteen * 8⌋₊ < 100000 := (Nat.floor_lt hx0).mpr (by exact_mod_cast hx1)
    rw [hs, eight, div_real _ _ (by norm_num), hl, log_sixteen, div_real _ _ hc.ne', ← EReal.coe_mul, fptosi_real _ hx0 hx1]
    show IntOp.minsi (8#32 + BitVec.ofNat 32 _) 15#32 = _
    rw [show (8#32 : BitVec 32) = BitVec.ofNat 32 8 from rfl, ← BitVec.ofNat_add, minsi_word _ 15 (by omega) (by omega)]
  refine ⟨_, ?_, ?_, hv, fun h => ?_⟩
  · omega
  · omega
  · have h7 : (7 : ℕ) ≤ ⌊Real.log ((n : ℝ) / 8) / logSixteen * 8⌋₊ := by
      refine Nat.le_floor ?_
      have h32 : (2 : ℝ) ^ 5 ≤ (n : ℝ) / 8 := by
        rw [le_div_iff₀ (by norm_num)]; norm_num; exact_mod_cast (by omega : 256 ≤ n)
      have h5 : 5 * Real.log 2 ≤ Real.log ((n : ℝ) / 8) := by
        have := Real.log_le_log (by positivity) h32
        rwa [Real.log_pow] at this
      have h2 := Real.one_sub_inv_le_log_of_pos (show (0 : ℝ) < 2 by norm_num)
      rw [div_mul_eq_mul_div, le_div_iff₀ hc]
      unfold logSixteen
      push_cast
      norm_num at *
      linarith
    omega

theorem absi_word (z : ℤ) (h : z.natAbs < 4096) : IntOp.absi (BitVec.ofInt 32 z) = BitVec.ofNat 32 z.natAbs := by
  have hz : (BitVec.ofInt 32 z).toInt = z := by
    rw [BitVec.toInt_ofInt, Int.bmod_eq_of_le] <;> omega
  unfold IntOp.absi
  rw [BitVec.msb_eq_toInt, hz]
  by_cases h0 : z < 0
  · rw [if_pos (by simpa using h0), ← BitVec.ofInt_natCast, ← BitVec.ofInt_neg]
    congr 1; omega
  · rw [if_neg (by simpa using h0), ← BitVec.ofInt_natCast]
    congr 1; omega

/-- A bucket is below 32, and far behind it is 15. -/
theorem bucket_eq (z : ℤ) (h : z.natAbs < 4096) :
    (bucket (BitVec.ofInt 32 z)).toNat < 32 ∧ (z ≤ -257 → (bucket (BitVec.ofInt 32 z)).toNat = 15) := by
  have hz : (BitVec.ofInt 32 z).toInt = z := by
    rw [BitVec.toInt_ofInt, Int.bmod_eq_of_le] <;> omega
  have e0 : (0#32).toInt = 0 := rfl
  have hpos : Scalar.select (IntOp.cmpi .sgt (BitVec.ofInt 32 z) 0#32) 16#32 0#32 = BitVec.ofNat 32 (if 0 < z then 16 else 0) := by
    simp only [Scalar.select, IntOp.cmpi, BitVec.slt, hz, e0]
    by_cases h0 : 0 < z <;> simp [h0]
  obtain ⟨k, hk, hk15, hk'⟩ : ∃ k, Scalar.select (IntOp.cmpi .slt (IntOp.absi (BitVec.ofInt 32 z)) 8#32) (IntOp.absi (BitVec.ofInt 32 z))
      (large (IntOp.absi (BitVec.ofInt 32 z))) = BitVec.ofNat 32 k ∧ k ≤ 15 ∧ (257 ≤ z.natAbs → k = 15) := by
    rw [absi_word z h]
    have e8 : (8#32).toInt = 8 := rfl
    simp only [Scalar.select, IntOp.cmpi, BitVec.slt, small_word z.natAbs (by omega), e8]
    by_cases h8 : z.natAbs < 8
    · refine ⟨z.natAbs, ?_, by omega, by omega⟩
      rw [decide_eq_true (by omega)]; rfl
    · obtain ⟨k, h1, h2, h3, h4⟩ := large_eq z.natAbs (by omega) h
      refine ⟨k, ?_, h2, h4⟩
      rw [h3, decide_eq_false (by omega)]; rfl
  unfold bucket
  rw [hpos, hk]
  show (BitVec.ofNat 32 _ + BitVec.ofNat 32 k).toNat < 32 ∧ (_ → (BitVec.ofNat 32 _ + BitVec.ofNat 32 k).toNat = 15)
  rw [← BitVec.ofNat_add, BitVec.toNat_ofNat]
  constructor
  · split <;> omega
  · intro hf
    rw [hk' (by omega), if_neg (by omega)]

/-- The bucket of a distance, a number. -/
def bucketOf (z : ℤ) : ℕ := (bucket (BitVec.ofInt 32 z)).toNat

/-- A difference of two small words. -/
theorem sub_word (a b : ℕ) : IntOp.subi (BitVec.ofNat 32 a) (BitVec.ofNat 32 b) = BitVec.ofInt 32 ((a : ℤ) - b) := by
  show BitVec.ofNat 32 a - BitVec.ofNat 32 b = _
  rw [BitVec.sub_eq_add_neg, sub_eq_add_neg, BitVec.ofInt_add, BitVec.ofInt_neg, BitVec.ofInt_natCast, BitVec.ofInt_natCast]

end Cert.Soft
-- ==== Proof.Ref.lean ====
/- The reference read at one entry: two masked weighted means of the values, mixed and normalised. -/
module

public import proofs.«01_k».proof.Proof.TileSoft
public import proofs.«01_k».proof.Proof.Bucket
public import proofs.«01_k».proof.Proof.Gen.ReferenceIdeal.Read

@[expose] public section

set_option maxRecDepth 16384

noncomputable section

namespace Cert.ReferenceIdeal.Look

open Cert.ReferenceIdeal.Read Cert.ReferenceIdeal Cert.ReferenceIdeal.Gen Idealize.ShloMosaic Cert.Soft
open Cert.KernelIdeal.Tile (Sees mix finish dot score)

/-- The bucket word of the distance from query `Q` to key `J`. -/
theorem bucket_read (Q J : Fin 2048) : val_main_v48 (F := Ideal) (ix2 Q J) = bucket (BitVec.ofInt 32 ((J.val : ℤ) - Q.val)) := by
  have h24 : val_main_v24 (F := Ideal) (ix2 Q J) = BitVec.ofInt 32 ((J.val : ℤ) - Q.val) := by
    rw [← sub_word]
    pointwise [val_main_v24, val_main_v23, val_main_v22, val_main_v21, val_main_v20, val_main_v19]
  rw [← h24]
  pointwise [val_main_v48, val_main_v47, val_main_v27, val_main_call0_v0, val_main_call0_v1, val_main_v26, val_main_v25, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_c, val_main_c_2, val_main_c_3, val_main_c_4, val_main_cst_5, val_main_cst_6, val_main_cst_7, val_main_c_8, val_main_c_9, val_main_c_10, val_main_v28]
  simp only [id]
  pointwise
  rfl

/-- A row of the table taken at a word, read signed and held within the table. -/
theorem take_apply (x1 : FVec Ideal S32x8 .f32) (w : IVec S2048x2048x1 32) (Q J : Fin 2048) (h : Fin 8) :
    Host.gather gather_S32x8_S2048x2048x1_S2048x2048x8_2_0_n_n_0_2_18 x1 w (ix3 Q J h)
      = x1 (ix2 ⟨min (w (ix3 Q J 0)).toInt.toNat 31, by omega⟩ h) := by
  unfold Host.gather
  refine congrArg x1 (funext fun a => Fin.ext ?_)
  have e : ∀ k, GatherDims.siIdx gather_S32x8_S2048x2048x1_S2048x2048x8_2_0_n_n_0_2_18 (ix3 Q J h) k = ix3 Q J 0 := fun k => by
    funext b; refine Fin.ext ?_
    match b with
    | ⟨0, _⟩ => rfl
    | ⟨1, _⟩ => rfl
    | ⟨2, _⟩ => exact Nat.lt_one_iff.mp k.isLt
  match a with
  | ⟨0, _⟩ =>
    show GatherDims.start gather_S32x8_S2048x2048x1_S2048x2048x8_2_0_n_n_0_2_18 (ix3 Q J h) w 0 + 0 + 0 = _
    unfold GatherDims.start
    rw [dif_pos (show (0 : Fin 2) ∈ GatherDims.startIndexMap gather_S32x8_S2048x2048x1_S2048x2048x8_2_0_n_n_0_2_18 from List.mem_singleton.mpr rfl), e]
    rfl
  | ⟨1, _⟩ =>
    show GatherDims.start gather_S32x8_S2048x2048x1_S2048x2048x8_2_0_n_n_0_2_18 (ix3 Q J h) w 1 + 0 + h.val = h.val
    unfold GatherDims.start
    rw [dif_neg (show (1 : Fin 2) ∉ GatherDims.startIndexMap gather_S32x8_S2048x2048x1_S2048x2048x8_2_0_n_n_0_2_18 from (by decide : (1 : Fin 2) ∉ [(0 : Fin 2)]))]
    simp

theorem word_read (Q J : Fin 2048) : val_main_v54 (F := Ideal) (ix3 Q J 0) = bucket (BitVec.ofInt 32 ((J.val : ℤ) - Q.val)) := by
  have hb := (bucket_eq ((J.val : ℤ) - Q.val) (by omega)).1
  pointwise [val_main_v54, val_main_v53, val_main_v50, val_main_v49, val_main_c_11]
  rw [bucket_read]
  generalize bucket (BitVec.ofInt 32 ((J.val : ℤ) - Q.val)) = w at hb ⊢
  have hi : w.toInt = (w.toNat : ℤ) := BitVec.toInt_eq_toNat_of_lt (by omega)
  have h0 : (0#32).toInt = 0 := rfl
  have : IntOp.cmpi .slt w 0#32 = 0#1 := by
    simp only [IntOp.cmpi, BitVec.slt, hi, h0]
    rw [decide_eq_false (by omega)]; rfl
  rw [this]; rfl

theorem bias_row (x1 : FVec Ideal S32x8 .f32) (b h : Fin 8) (e : Fin 2) (Q J : Fin 2048) :
    val_main_v61 (F := Ideal) x1 (ix5 b h e Q J) = val_main_v55 (F := Ideal) x1 (ix3 Q J h) := by
  pointwise [val_main_v61, val_main_v60, val_main_v56]

theorem take_read (x1 : FVec Ideal S32x8 .f32) (h : Fin 8) (Q J : Fin 2048) :
    val_main_v55 (F := Ideal) x1 (ix3 Q J h)
      = x1 (ix2 ⟨min (bucket (BitVec.ofInt 32 ((J.val : ℤ) - Q.val))).toInt.toNat 31, by omega⟩ h) := by
  have h1 := take_apply x1 (val_main_v54 (F := Ideal)) Q J h
  simp only [word_read] at h1
  unfold val_main_v55
  exact h1

/-- The bias of a query and a key is the table's entry at their distance's bucket. -/
theorem bias_read (x1 : FVec Ideal S32x8 .f32) (b h : Fin 8) (e : Fin 2) (Q J : Fin 2048) :
    val_main_v61 (F := Ideal) x1 (ix5 b h e Q J) = x1 (ix2 ⟨bucketOf ((J.val : ℤ) - Q.val) % 32, Nat.mod_lt _ (by norm_num)⟩ h) := by
  have hb := (bucket_eq ((J.val : ℤ) - Q.val) (by omega)).1
  rw [bias_row, take_read]
  unfold bucketOf
  refine congrArg (fun k => x1 (ix2 k h)) (Fin.ext ?_)
  show min (bucket (BitVec.ofInt 32 ((J.val : ℤ) - Q.val))).toInt.toNat 31 = (bucket (BitVec.ofInt 32 ((J.val : ℤ) - Q.val))).toNat % 32
  rw [BitVec.toInt_eq_toNat_of_lt (by omega)]; omega

theorem chunk_left (J : Fin 2048) : val_main_v64 (F := Ideal) (ix2 0 J) = BitVec.ofNat 32 (J.val / 64) := by
  pointwise [val_main_v64, val_main_call2_v12, val_main_call2_v10, val_main_call2_v11, val_main_call2_v13, val_main_call2_v2, val_main_call2_v1, val_main_call2_v0, val_main_call2_v3, val_main_call2_v4, val_main_call2_v5, val_main_call2_v6, val_main_call2_v7, val_main_call2_v8, val_main_call2_v9, val_main_call2_c, val_main_call2_c_0, val_main_v63, val_main_v19, val_main_c_14]
  revert J
  decide +kernel

theorem chunk_right (J : Fin 2048) : val_main_v66 (F := Ideal) (ix2 J 0) = BitVec.ofNat 32 (J.val / 64) := by
  pointwise [val_main_v66, val_main_call3_v12, val_main_call3_v10, val_main_call3_v11, val_main_call3_v13, val_main_call3_v2, val_main_call3_v1, val_main_call3_v0, val_main_call3_v3, val_main_call3_v4, val_main_call3_v5, val_main_call3_v6, val_main_call3_v7, val_main_call3_v8, val_main_call3_v9, val_main_call3_c, val_main_call3_c_0, val_main_v65, val_main_v19, val_main_c_15]
  revert J
  decide +kernel

/-- The mask lets query `Q` see key `J` by their chunks' order. -/
theorem mask_read (Q J : Fin 2048) : val_main_v69 (F := Ideal) (ix2 Q J) = 1#1 ↔ Sees Q J := by
  have h : val_main_v69 (F := Ideal) (ix2 Q J) = IntOp.cmpi .sle (val_main_v64 (F := Ideal) (ix2 0 J)) (val_main_v66 (F := Ideal) (ix2 Q 0)) := by
    pointwise [val_main_v69, val_main_v67, val_main_v68]
  rw [h, chunk_left, chunk_right]
  simp only [IntOp.cmpi, BitVec.sle, small_word _ (show J.val / 64 < 2 ^ 31 by omega), small_word _ (show Q.val / 64 < 2 ^ 31 by omega), Sees]
  by_cases hc : J.val / 64 ≤ Q.val / 64
  · rw [decide_eq_true (by omega)]; exact ⟨fun _ => hc, fun _ => rfl⟩
  · rw [decide_eq_false (by omega)]; exact ⟨fun h => absurd h (by decide), fun h => absurd h hc⟩

end Cert.ReferenceIdeal.Look
-- ==== Proof.RefSoft.lean ====
/- The reference's masked softmax weights and their mixture, at real arguments. -/
module

public import proofs.«01_k».proof.Proof.Ref

@[expose] public section

set_option maxRecDepth 16384

noncomputable section

namespace Cert.ReferenceIdeal.Look

open Cert.ReferenceIdeal.Read Cert.ReferenceIdeal Cert.ReferenceIdeal.Gen Idealize.ShloMosaic Cert.Soft
open Cert.KernelIdeal.Tile (Sees mix finish dot score)

/-- The logit of query `Q` and key `J` in half `e` of head `h`. -/
def rlogit (X : ℕ → ℕ → ℕ → ℝ) (T : ℕ → ℕ → ℝ) (b h e Q J : ℕ) : ℝ :=
  (∑ x : Fin 64, X b Q (h * 128 + e * 64 + x.val) * X b J (1024 + (h * 128 + e * 64 + x.val))) * 8⁻¹ + T (bucketOf ((J : ℤ) - Q) % 32) h

section
variable {x0 : FVec Ideal S8x2048x3072 .f32} {x1 : FVec Ideal S32x8 .f32} {X : ℕ → ℕ → ℕ → ℝ} {T : ℕ → ℕ → ℝ}

theorem eighth : Ideal.ofBits .f32 0x3E000000#32 = ((8⁻¹ : ℝ) : EReal) := by
  simp [Ideal.ofBits, Ideal.ieee, -EReal.coe_mul]; norm_num

theorem minus_inf : Ideal.ofBits .f32 0xFF800000#32 = (⊥ : EReal) := by
  simp [Ideal.ofBits, Ideal.ieee]

theorem logit_read (hX : ∀ (b : Fin 8) (s : Fin 2048) (c : Fin 3072), x0 (ix3 b s c) = (X b s c : EReal))
    (hT : ∀ (n : Fin 32) (h : Fin 8), x1 (ix2 n h) = (T n h : EReal)) (b h : Fin 8) (e : Fin 2) (Q J : Fin 2048) :
    val_main_v70 (F := Ideal) x0 x1 (ix5 b h e Q J) = logit (Sees Q J) (rlogit X T b h e Q J) := by
  have h59 : val_main_v59 (F := Ideal) x0 (ix5 b h e Q J)
      = (((∑ x : Fin 64, X b Q (h * 128 + e * 64 + x.val) * X b J (1024 + (h * 128 + e * 64 + x.val))) * 8⁻¹ : ℝ) : EReal) := by
    pointwise [val_main_v59, val_main_v58, val_main_v57, val_main_v3, val_main_v4, val_main_v0, val_main_v1, val_main_cst_13]
    simp only [hX]
    rw [eighth, EReal.coe_mul, coe_sum]
    simp only [EReal.coe_mul]
  have h70 : val_main_v70 (F := Ideal) x0 x1 (ix5 b h e Q J)
      = Scalar.select (val_main_v69 (F := Ideal) (ix2 Q J)) (val_main_v59 (F := Ideal) x0 (ix5 b h e Q J) + val_main_v61 (F := Ideal) x1 (ix5 b h e Q J)) (Ideal.ofBits .f32 0xFF800000#32) := by
    pointwise [val_main_v70, val_main_call4_v1, val_main_call4_v2, val_main_call4_v0, val_main_cst_16, val_main_v62]
    rfl
  rw [h70, h59, bias_read, hT, ← EReal.coe_add, minus_inf]
  unfold logit rlogit Scalar.select
  by_cases hs : Sees Q J
  · exact (if_pos ((mask_read Q J).mpr hs)).trans (if_pos hs).symm
  · exact (if_neg (fun hm => hs ((mask_read Q J).mp hm))).trans (if_neg hs).symm

theorem max_read (b h : Fin 8) (e : Fin 2) (Q : Fin 2048) :
    val_main_v71 (F := Ideal) x0 x1 (ix4 b h e Q)
      = (Finset.univ : Finset (Fin 2048)).fold max ⊥ fun J => val_main_v70 (F := Ideal) x0 x1 (ix5 b h e Q J) := by
  unfold val_main_v71
  generalize val_main_v70 (F := Ideal) x0 x1 = y
  rw [Host.reduce_eq_fold_single (FloatOps.maximumf (F := Ideal) (φ := .f32)) y _ reducesTo_S8x8x2x2048x2048_S8x8x2x2048_d4 (by decide)]
  have hi : val_main_cst_17 (F := Ideal) (Shape.Idx.first h_S_) = (⊥ : EReal) := minus_inf
  rw [hi]
  refine congrArg (fun f => Finset.fold (FloatOps.maximumf (F := Ideal) (φ := .f32)) ⊥ f Finset.univ) (funext fun J => ?_)
  refine congrArg y (funext fun a => Fin.ext ?_)
  match a with | ⟨0, _⟩ => rfl | ⟨1, _⟩ => rfl | ⟨2, _⟩ => rfl | ⟨3, _⟩ => rfl | ⟨4, _⟩ => rfl

theorem exp_read (b h : Fin 8) (e : Fin 2) (Q J : Fin 2048) :
    val_main_v77 (F := Ideal) x0 x1 (ix5 b h e Q J)
      = Ideal.exp (val_main_v70 (F := Ideal) x0 x1 (ix5 b h e Q J) - val_main_v73 (F := Ideal) x0 x1 (ix4 b h e Q)) := by
  rw [val_main_v77_apply, val_main_v76_apply, val_main_v75_apply, val_main_v74_apply]
  have hi : idx_main_v74 (idx_main_v75 (ix5 b h e Q J)) = ix4 b h e Q := funext fun a => Fin.ext (by
    match a with | ⟨0, _⟩ => rfl | ⟨1, _⟩ => rfl | ⟨2, _⟩ => rfl | ⟨3, _⟩ => rfl)
  rw [hi]
  rfl

theorem div_read (b h : Fin 8) (e : Fin 2) (Q J : Fin 2048) :
    val_main_v81 (F := Ideal) x0 x1 (ix5 b h e Q J)
      = Ideal.div (val_main_v77 (F := Ideal) x0 x1 (ix5 b h e Q J)) (∑ x : Fin 2048, val_main_v77 (F := Ideal) x0 x1 (ix5 b h e Q x)) := by
  rw [val_main_v81_apply, val_main_v80_apply, val_main_v79_apply, val_main_v78_apply]
  have h0 : val_main_cst_19 (F := Ideal) (Shape.Idx.first h_S_) = (0 : EReal) := by
    simp [val_main_cst_19, constant, Ideal.ofBits, Ideal.ieee]
  have hi : ∀ k : Fin 2048, idx_main_v78 (idx_main_v79 (idx_main_v80 (ix5 b h e Q J))) k = ix5 b h e Q k := fun k => funext fun a => Fin.ext (by
    match a with | ⟨0, _⟩ => rfl | ⟨1, _⟩ => rfl | ⟨2, _⟩ => rfl | ⟨3, _⟩ => rfl | ⟨4, _⟩ => rfl)
  simp only [hi, h0, zero_add]
  rfl

/-- A softmax weight is a masked power of two over the sum of such powers. -/
theorem weight_read (hX : ∀ (b : Fin 8) (s : Fin 2048) (c : Fin 3072), x0 (ix3 b s c) = (X b s c : EReal))
    (hT : ∀ (n : Fin 32) (h : Fin 8), x1 (ix2 n h) = (T n h : EReal)) (b h : Fin 8) (e : Fin 2) (Q J : Fin 2048) :
    val_main_v81 (F := Ideal) x0 x1 (ix5 b h e Q J)
      = ((w2 (Sees Q J) (rlogit X T b h e Q J * (Real.log 2)⁻¹)
          / ∑ K ∈ Finset.range 2048, w2 (Sees Q K) (rlogit X T b h e Q K * (Real.log 2)⁻¹) : ℝ) : EReal) := by
  obtain ⟨μ, hμ⟩ : ∃ μ : ℝ, val_main_v73 (F := Ideal) x0 x1 (ix4 b h e Q) = (μ : EReal) := by
    have h73 : val_main_v73 (F := Ideal) x0 x1 (ix4 b h e Q) = max ⊥ (val_main_v71 (F := Ideal) x0 x1 (ix4 b h e Q)) := by
      rw [val_main_v73_apply, val_main_v72_apply]
      generalize val_main_v71 (F := Ideal) x0 x1 (ix4 b h e Q) = y
      rw [← minus_inf]
      rfl
    rw [h73, max_read, max_eq_right bot_le]
    refine fold_max_real _ _ (fun J _ => ?_) ⟨Q, Finset.mem_univ _, ?_⟩
    · rw [logit_read hX hT]; exact logit_ne_top _ _
    · rw [logit_read hX hT, logit, if_pos (show Sees Q Q from le_rfl)]; exact EReal.coe_ne_bot _
  have hE : ∀ K : Fin 2048, val_main_v77 (F := Ideal) x0 x1 (ix5 b h e Q K)
      = ((w2 (Sees Q K) (rlogit X T b h e Q K * (Real.log 2)⁻¹) * Real.exp (-μ) : ℝ) : EReal) := fun K => by
    rw [exp_read, hμ, logit_read hX hT, exp_logit]
  have hpos := w2_sum_pos 2048 (Sees Q) (fun K => rlogit X T b h e Q K * (Real.log 2)⁻¹) ⟨Q, Q.isLt, le_rfl⟩
  rw [div_read]
  simp only [hE]
  rw [← coe_sum, Fin.sum_univ_eq_sum_range (fun K => w2 (Sees Q K) (rlogit X T b h e Q K * (Real.log 2)⁻¹) * Real.exp (-μ)) 2048,
    ← Finset.sum_mul, div_real _ _ (by positivity), mul_div_mul_right _ _ (Real.exp_pos _).ne']

theorem first_read (b h : Fin 8) (Q J : Fin 2048) :
    val_main_v83 (F := Ideal) x0 x1 (ix4 b h Q J) = val_main_v81 (F := Ideal) x0 x1 (ix5 b h 0 Q J) := by
  rw [val_main_v83_apply, val_main_v82_apply]
  generalize val_main_v81 (F := Ideal) x0 x1 = y
  have hb := b.isLt; have hh := h.isLt; have hQ := Q.isLt; have hJ := J.isLt
  refine congrArg y (funext fun a => Fin.ext ?_)
  match a with
  | ⟨0, _⟩ => show (((b.val * 8 + h.val) * 2048 + Q.val) * 2048 + J.val) / 33554432 = b.val; omega
  | ⟨1, _⟩ => show (((b.val * 8 + h.val) * 2048 + Q.val) * 2048 + J.val) / 4194304 % 8 = h.val; omega
  | ⟨2, _⟩ => rfl
  | ⟨3, _⟩ => show (((b.val * 8 + h.val) * 2048 + Q.val) * 2048 + J.val) / 2048 % 2048 = Q.val; omega
  | ⟨4, _⟩ => show (((b.val * 8 + h.val) * 2048 + Q.val) * 2048 + J.val) % 2048 = J.val; omega

theorem second_read (b h : Fin 8) (Q J : Fin 2048) :
    val_main_v85 (F := Ideal) x0 x1 (ix4 b h Q J) = val_main_v81 (F := Ideal) x0 x1 (ix5 b h 1 Q J) := by
  rw [val_main_v85_apply, val_main_v84_apply]
  generalize val_main_v81 (F := Ideal) x0 x1 = y
  have hb := b.isLt; have hh := h.isLt; have hQ := Q.isLt; have hJ := J.isLt
  refine congrArg y (funext fun a => Fin.ext ?_)
  match a with
  | ⟨0, _⟩ => show (((b.val * 8 + h.val) * 2048 + Q.val) * 2048 + J.val) / 33554432 = b.val; omega
  | ⟨1, _⟩ => show (((b.val * 8 + h.val) * 2048 + Q.val) * 2048 + J.val) / 4194304 % 8 = h.val; omega
  | ⟨2, _⟩ => rfl
  | ⟨3, _⟩ => show (((b.val * 8 + h.val) * 2048 + Q.val) * 2048 + J.val) / 2048 % 2048 = Q.val; omega
  | ⟨4, _⟩ => show (((b.val * 8 + h.val) * 2048 + Q.val) * 2048 + J.val) % 2048 = J.val; omega

theorem value_read (b h : Fin 8) (J : Fin 2048) (d : Fin 128) :
    val_main_v5 (F := Ideal) x0 (ix4 b J h d) = x0 (ix3 b J ⟨2048 + (h.val * 128 + d.val), by omega⟩) := by
  pointwise [val_main_v5, val_main_v2]

theorem blend_read (x2 x3 x4 x5 : FVec Ideal S1x64 .f32) (b h : Fin 8) (Q J : Fin 2048) :
    val_main_v88 (F := Ideal) x0 x1 x2 x3 x4 x5 (ix4 b h Q J)
      = val_main_v81 (F := Ideal) x0 x1 (ix5 b h 0 Q J) - val_main_v17 (F := Ideal) x2 x3 x4 x5 ix0 * val_main_v81 (F := Ideal) x0 x1 (ix5 b h 1 Q J) := by
  rw [val_main_v88_apply, val_main_v87_apply, val_main_v86_apply, first_read, second_read]
  generalize val_main_v81 (F := Ideal) x0 x1 = y
  generalize val_main_v17 (F := Ideal) x2 x3 x4 x5 = l
  have hi : idx_main_v86 (ix4 b h Q J) = ix0 := funext fun a => a.elim0
  rw [hi]
  rfl

/-- The mixture of the values by the two halves' weights. -/
theorem mix_read (x2 x3 x4 x5 : FVec Ideal S1x64 .f32) (b h : Fin 8) (d : Fin 128) (Q : Fin 2048) :
    val_main_v90 (F := Ideal) x0 x1 x2 x3 x4 x5 (ix4 b Q h d)
      = ∑ J : Fin 2048, x0 (ix3 b J ⟨2048 + (h.val * 128 + d.val), by omega⟩)
          * (val_main_v81 (F := Ideal) x0 x1 (ix5 b h 0 Q J) - val_main_v17 (F := Ideal) x2 x3 x4 x5 ix0 * val_main_v81 (F := Ideal) x0 x1 (ix5 b h 1 Q J)) := by
  rw [val_main_v90_apply, val_main_v89_apply]
  refine Finset.sum_congr rfl fun J _ => ?_
  rw [← blend_read, ← value_read (x0 := x0) b h J d]
  refine congrArg₂ (· * ·) (congrArg _ (funext fun a => Fin.ext ?_)) (congrArg _ (funext fun a => Fin.ext ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

/-- At real arguments the mixture is the difference of two weighted means. -/
theorem mix_real (hX : ∀ (b : Fin 8) (s : Fin 2048) (c : Fin 3072), x0 (ix3 b s c) = (X b s c : EReal))
    (hT : ∀ (n : Fin 32) (h : Fin 8), x1 (ix2 n h) = (T n h : EReal)) (x2 x3 x4 x5 : FVec Ideal S1x64 .f32) (lam : ℝ)
    (hlam : val_main_v17 (F := Ideal) x2 x3 x4 x5 ix0 = (lam : EReal)) (b h : Fin 8) (d : Fin 128) (Q : Fin 2048) :
    val_main_v90 (F := Ideal) x0 x1 x2 x3 x4 x5 (ix4 b Q h d)
      = (mean 2048 (Sees Q) (fun J => rlogit X T b h 0 Q J * (Real.log 2)⁻¹) (fun J => X b J (2048 + (h.val * 128 + d.val))) : EReal)
        - (lam : EReal) * (mean 2048 (Sees Q) (fun J => rlogit X T b h 1 Q J * (Real.log 2)⁻¹) (fun J => X b J (2048 + (h.val * 128 + d.val))) : EReal) := by
  rw [mix_read, hlam]
  simp only [hX, weight_read hX hT, ← EReal.coe_mul, ← EReal.coe_sub, ← coe_sum]
  refine congrArg _ ?_
  unfold mean
  rw [Fin.sum_univ_eq_sum_range (fun J => X b J (2048 + (h.val * 128 + d.val)) * (w2 (Sees Q J) (rlogit X T b h (0 : Fin 2).val Q J * (Real.log 2)⁻¹)
          / (∑ K ∈ Finset.range 2048, w2 (Sees Q K) (rlogit X T b h (0 : Fin 2).val Q K * (Real.log 2)⁻¹))
        - lam * (w2 (Sees Q J) (rlogit X T b h (1 : Fin 2).val Q J * (Real.log 2)⁻¹)
          / (∑ K ∈ Finset.range 2048, w2 (Sees Q K) (rlogit X T b h (1 : Fin 2).val Q K * (Real.log 2)⁻¹))))) 2048,
    Finset.sum_div, Finset.sum_div, Finset.mul_sum, ← Finset.sum_sub_distrib]
  refine Finset.sum_congr rfl fun J _ => ?_
  simp only [Fin.val_zero, Fin.val_one]
  ring

end

end Cert.ReferenceIdeal.Look
-- ==== Proof.Join.lean ====
/- The attention's entry as the kernel forms it, and the reference's array as these entries. -/
module

public import proofs.«01_k».proof.Proof.RefSoft

@[expose] public section

set_option maxRecDepth 16384

noncomputable section

namespace Cert.ReferenceIdeal.Look

open Cert.ReferenceIdeal.Read Cert.ReferenceIdeal Cert.ReferenceIdeal.Gen Idealize.ShloMosaic Cert.Soft
open Cert.KernelIdeal.Tile (Sees mix finish dot score)

/-- The bias at a distance relative to the farthest bucket's, to base two. -/
def beta (T : ℕ → ℕ → ℝ) (h : ℕ) (z : ℤ) : ℝ := if z ≤ -257 then 0 else (T (bucketOf z % 32) h - T 15 h) * (Real.log 2)⁻¹

theorem beta_near (T : ℕ → ℕ → ℝ) (h : ℕ) (z : ℤ) (hz : z.natAbs < 4096) : beta T h z = (T (bucketOf z % 32) h - T 15 h) * (Real.log 2)⁻¹ := by
  unfold beta
  split
  · rename_i hz'
    have h15 : bucketOf z = 15 := (bucket_eq z hz).2 hz'
    rw [h15]
    norm_num
  · rfl

/-- The queries of head `h` in batch `b`, scaled. -/
def query (X : ℕ → ℕ → ℕ → ℝ) (b h P d : ℕ) : ℝ := X b P (h * 128 + d) * (Real.log 2 * 8)⁻¹

/-- The keys. -/
def key (X : ℕ → ℕ → ℕ → ℝ) (b h J d : ℕ) : ℝ := X b J (1024 + (h * 128 + d))

/-- The values. -/
def val (X : ℕ → ℕ → ℕ → ℝ) (b h J d : ℕ) : ℝ := X b J (2048 + (h * 128 + d))

theorem score_eq (X : ℕ → ℕ → ℕ → ℝ) (T : ℕ → ℕ → ℝ) (b h e Q J : ℕ) (hQ : Q < 2048) (hJ : J < 2048) :
    rlogit X T b h e Q J * (Real.log 2)⁻¹
      = score (query X b h Q) (key X b h) (beta T h) Q e J + T 15 h * (Real.log 2)⁻¹ := by
  have hd : dot (query X b h Q) (key X b h) e J
      = (∑ x : Fin 64, X b Q (h * 128 + e * 64 + x.val) * X b J (1024 + (h * 128 + e * 64 + x.val))) * (Real.log 2 * 8)⁻¹ := by
    unfold dot query key
    rw [Finset.sum_mul]
    refine Finset.sum_congr rfl fun x _ => ?_
    rw [show h * 128 + (64 * e + x.val) = h * 128 + e * 64 + x.val by ring]
    ring
  unfold score rlogit
  rw [beta_near T h _ (by omega), hd, mul_inv]
  ring

/-- The attention's entry: two masked means of the values mixed, then normalised over the head's 128 columns. -/
def entry (X : ℕ → ℕ → ℕ → ℝ) (T : ℕ → ℕ → ℝ) (lam : EReal) (g : Fin 128 → EReal) (b h Q : ℕ) (d : Fin 128) : EReal :=
  finish (fun d => mix (query X b h Q) (key X b h) (val X b h) (beta T h) lam Q d.val) g d

/-- The factor of the second half's weights. -/
def factor (x2 x3 x4 x5 : FVec Ideal S1x64 .f32) : EReal :=
  Ideal.exp (∑ x : Fin 64, x2 (ix2 0 x) * x3 (ix2 0 x)) - Ideal.exp (∑ x : Fin 64, x4 (ix2 0 x) * x5 (ix2 0 x)) + Ideal.ofBits .f32 1045220557#32

theorem factor_read (x2 x3 x4 x5 : FVec Ideal S1x64 .f32) : val_main_v17 (F := Ideal) x2 x3 x4 x5 ix0 = factor x2 x3 x4 x5 := by
  unfold factor
  pointwise [val_main_v17, val_main_v16, val_main_v15, val_main_v14, val_main_v13, val_main_v12, val_main_v11, val_main_v10, val_main_v9, val_main_v8, val_main_v7, val_main_v6, val_main_cst, val_main_cst_0, val_main_cst_1]

/-- At real vectors the factor is real. -/
theorem factor_real (x2 x3 x4 x5 : FVec Ideal S1x64 .f32) (f2 f3 f4 f5 : Fin 64 → ℝ) (h2 : ∀ x, x2 (ix2 0 x) = (f2 x : EReal))
    (h3 : ∀ x, x3 (ix2 0 x) = (f3 x : EReal)) (h4 : ∀ x, x4 (ix2 0 x) = (f4 x : EReal)) (h5 : ∀ x, x5 (ix2 0 x) = (f5 x : EReal)) :
    ∃ l : ℝ, factor x2 x3 x4 x5 = (l : EReal) := by
  unfold factor
  have hc : ∃ k : ℝ, Ideal.ofBits .f32 1045220557#32 = (k : EReal) := ⟨13421773 / 67108864, by simp [Ideal.ofBits, Ideal.ieee, -EReal.coe_mul]; norm_num⟩
  obtain ⟨k, hk⟩ := hc
  simp only [h2, h3, h4, h5, hk, ← EReal.coe_mul, ← coe_sum, Ideal.exp_coe, ← EReal.coe_sub, ← EReal.coe_add]
  exact ⟨_, rfl⟩

section
variable {x0 : FVec Ideal S8x2048x3072 .f32} {x1 : FVec Ideal S32x8 .f32} {X : ℕ → ℕ → ℕ → ℝ} {T : ℕ → ℕ → ℝ}

theorem mix_entry (hX : ∀ (b : Fin 8) (s : Fin 2048) (c : Fin 3072), x0 (ix3 b s c) = (X b s c : EReal))
    (hT : ∀ (n : Fin 32) (h : Fin 8), x1 (ix2 n h) = (T n h : EReal)) (x2 x3 x4 x5 : FVec Ideal S1x64 .f32) (lam : ℝ)
    (hlam : val_main_v17 (F := Ideal) x2 x3 x4 x5 ix0 = (lam : EReal)) (b h : Fin 8) (d : Fin 128) (Q : Fin 2048) :
    val_main_v90 (F := Ideal) x0 x1 x2 x3 x4 x5 (ix4 b Q h d)
      = mix (query X b h Q) (key X b h) (val X b h) (beta T h) (lam : EReal) Q d := by
  have h1 (e : ℕ) : mean 2048 (Sees Q) (fun J => rlogit X T b h e Q J * (Real.log 2)⁻¹) (fun J => X b J (2048 + (h.val * 128 + d.val)))
      = mean 2048 (Sees Q) (score (query X b h Q) (key X b h) (beta T h) Q e) (fun J => X b J (2048 + (h.val * 128 + d.val))) :=
    mean_shift 2048 (Sees Q) _ _ _ (T 15 h * (Real.log 2)⁻¹) fun J hJ _ => score_eq X T b h e Q J Q.isLt hJ
  rw [mix_real hX hT x2 x3 x4 x5 lam hlam, h1, h1]
  rfl

/-- The reference's attention array at an index. -/
theorem out_entry (hX : ∀ (b : Fin 8) (s : Fin 2048) (c : Fin 3072), x0 (ix3 b s c) = (X b s c : EReal))
    (hT : ∀ (n : Fin 32) (h : Fin 8), x1 (ix2 n h) = (T n h : EReal)) (x2 x3 x4 x5 : FVec Ideal S1x64 .f32) (x6 : FVec Ideal S1x128 .f32) (lam : ℝ)
    (hlam : val_main_v17 (F := Ideal) x2 x3 x4 x5 ix0 = (lam : EReal)) (i : Fin 4) (j : Fin 2) (Q : Fin 2048) (x : Fin 1024) :
    val_main_v108 (F := Ideal) x0 x1 x2 x3 x4 x5 x6 (ix4 i j Q x)
      = entry X T (lam : EReal) (fun d => x6 (ix2 0 d)) (i.val * 2 + j.val) (x.val / 128) Q ⟨x.val % 128, Nat.mod_lt _ (by norm_num)⟩ := by
  have h90 (d : Fin 128) := mix_entry hX hT x2 x3 x4 x5 lam hlam ⟨i.val * 2 + j.val, by omega⟩ ⟨x.val / 128, by omega⟩ d Q
  unfold entry finish
  pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v18, val_main_cst_20, val_main_cst_21, val_main_cst_22, val_main_cst_23]
  simp only [h90]

end

end Cert.ReferenceIdeal.Look
-- ==== Proof.Host.lean ====
/- The arrays the host code prepares for the kernel, and the blocks of one grid point, read at an index. -/
module

public import proofs.«01_k».proof.Proof.Pieces
public import proofs.«01_k».proof.Proof.Bias
public import proofs.«01_k».proof.Proof.Join
public import proofs.«01_k».proof.Proof.Gen.KernelIdeal.Value
public import Idealize.ShloMosaic.Lib.StableHlo.ReadAt

@[expose] public section

set_option maxRecDepth 16384

noncomputable section

namespace Cert.KernelIdeal.Host

open Cert.KernelIdeal Cert.KernelIdeal.Gen Idealize.ShloMosaic Idealize.ShloMosaic.TcCoe Cert.Soft

variable (m : (ℓ : Loc nD τ sig) → Buf (Elt Ideal) ℓ)

/-- The arguments of a launch. -/
abbrev qkv (c : Dev nD) : FVec Ideal S8x2048x3072 .f32 := m ((c : Thread nD τ).loc main_arg0)
abbrev table (c : Dev nD) : FVec Ideal S32x8 .f32 := m ((c : Thread nD τ).loc main_arg1)
abbrev lq1 (c : Dev nD) : FVec Ideal S1x64 .f32 := m ((c : Thread nD τ).loc main_arg2)
abbrev lk1 (c : Dev nD) : FVec Ideal S1x64 .f32 := m ((c : Thread nD τ).loc main_arg3)
abbrev lq2 (c : Dev nD) : FVec Ideal S1x64 .f32 := m ((c : Thread nD τ).loc main_arg4)
abbrev lk2 (c : Dev nD) : FVec Ideal S1x64 .f32 := m ((c : Thread nD τ).loc main_arg5)
abbrev gain (c : Dev nD) : FVec Ideal S1x128 .f32 := m ((c : Thread nD τ).loc main_arg6)
abbrev weightOut (c : Dev nD) : FVec Ideal S1x2048x1024 .f32 := m ((c : Thread nD τ).loc main_arg7)
abbrev weightUp (c : Dev nD) : FVec Ideal S1x1024x5632 .f32 := m ((c : Thread nD τ).loc main_arg8)
abbrev weightDown (c : Dev nD) : FVec Ideal S1x2816x1024 .f32 := m ((c : Thread nD τ).loc main_arg9)

/-- The factor of the scaled queries. -/
theorem scale_eq : Ideal.div (1 : EReal) (Ideal.log (Ideal.ofBits .f32 1073741824#32) * Ideal.ofBits .f32 1090519040#32) = (((Real.log 2 * 8)⁻¹ : ℝ) : EReal) := by
  have h2 : Ideal.ofBits .f32 1073741824#32 = ((2 : ℝ) : EReal) := by simp [Ideal.ofBits, Ideal.ieee, -EReal.coe_mul]; norm_num
  have h8 : Ideal.ofBits .f32 1090519040#32 = ((8 : ℝ) : EReal) := eight
  have hl : Ideal.log ((2 : ℝ) : EReal) = ((Real.log 2 : ℝ) : EReal) := by
    rw [Ideal.log_coe, if_neg (by norm_num)]
  rw [h2, h8, hl, ← EReal.coe_mul, ← EReal.coe_one, div_real _ _ (mul_pos (Real.log_pos (by norm_num)) (by norm_num)).ne', one_div]

set_option maxHeartbeats 1000000 in
theorem qkv_eq (c : Dev nD) (a : Fin 4) (b : Fin 2) (s : Fin 2048) (d : Fin 3072) : V m c main_v27 (ix4 a b s d)
    = if d.val < 1024 then qkv m c (ix3 ⟨a.val * 2 + b.val, by omega⟩ s d) * (((Real.log 2 * 8)⁻¹ : ℝ) : EReal)
      else qkv m c (ix3 ⟨a.val * 2 + b.val, by omega⟩ s d) := by
  simp only [V, hostOps0, hostOps0_1, hostOps0_2, hostOps0_3, hostOps0_4, List.flatten_cons, List.flatten_nil, List.append_nil, List.cons_append,
    List.nil_append]
  after_reads_at
  after_reads_at
  rw [scale_eq]
  split
  · rfl
  · refine congrArg _ (congrArg (ix3 _ _) (Fin.ext ?_))
    show 1024 + (d.val - 1024) = d.val
    omega

set_option maxHeartbeats 1000000 in
theorem bucket_eq (c : Dev nD) (y : Fin 8) (x : Fin 1024) : V m c main_v56 (ix2 y x) = bucket (BitVec.ofInt 32 ((x.val : ℤ) - 512)) := by
  have h := sub_word x.val 512
  simp only [V, hostOps0, hostOps0_1, hostOps0_2, hostOps0_3, hostOps0_4, List.flatten_cons, List.flatten_nil, List.append_nil, List.cons_append,
    List.nil_append]
  after_reads_at
  simp only [id]
  pointwise
  rw [show (x.val : ℤ) - 512 = (x.val : ℤ) - ((512 : ℕ) : ℤ) from rfl, ← h]
  rfl

theorem lam_eq (c : Dev nD) (a : Fin 1) : V m c main_v12 (ix1 a)
    = Cert.ReferenceIdeal.Look.factor (lq1 m c) (lk1 m c) (lq2 m c) (lk2 m c) := by
  unfold Cert.ReferenceIdeal.Look.factor
  simp only [V, hostOps0, hostOps0_1, hostOps0_2, hostOps0_3, hostOps0_4, List.flatten_cons, List.flatten_nil, List.append_nil, List.cons_append,
    List.nil_append]
  after_reads_at

theorem gain_eq (c : Dev nD) (a : Fin 1) (d : Fin 128) : V m c main_v23 (ix2 a d) = gain m c (ix2 0 d) := by
  simp only [V, hostOps0, hostOps0_1, hostOps0_2, hostOps0_3, hostOps0_4, List.flatten_cons, List.flatten_nil, List.append_nil, List.cons_append,
    List.nil_append]
  after_reads_at
theorem w1_eq (c : Dev nD) (a : Fin 2048) (d : Fin 1024) : V m c main_v24 (ix2 a d) = weightOut m c (ix3 0 a d) := by
  simp only [V, hostOps0, hostOps0_1, hostOps0_2, hostOps0_3, hostOps0_4, List.flatten_cons, List.flatten_nil, List.append_nil, List.cons_append,
    List.nil_append]
  after_reads_at
theorem w2_eq (c : Dev nD) (a : Fin 1024) (d : Fin 5632) : V m c main_v25 (ix2 a d) = weightUp m c (ix3 0 a d) := by
  simp only [V, hostOps0, hostOps0_1, hostOps0_2, hostOps0_3, hostOps0_4, List.flatten_cons, List.flatten_nil, List.append_nil, List.cons_append,
    List.nil_append]
  after_reads_at
theorem w3_eq (c : Dev nD) (a : Fin 2816) (d : Fin 1024) : V m c main_v26 (ix2 a d) = weightDown m c (ix3 0 a d) := by
  simp only [V, hostOps0, hostOps0_1, hostOps0_2, hostOps0_3, hostOps0_4, List.flatten_cons, List.flatten_nil, List.append_nil, List.cons_append,
    List.nil_append]
  after_reads_at

end Cert.KernelIdeal.Host
-- ==== Proof.Blocks.lean ====
/- The blocks of one grid point, read at an index. -/
module

public import proofs.«01_k».proof.Proof.Host
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe Cert.Soft Cert.KernelIdeal.Tile
open Cert.ReferenceIdeal.Look (query key val beta entry factor)

variable (m : (ℓ : Loc nD τ sig) → Buf (Elt Ideal) ℓ)

theorem exists_ix2 {a b : ℕ} (y : (⟨2, ![a, b]⟩ : Shape).Idx) : ∃ (i : Fin a) (j : Fin b), y = ix2 i j :=
  ⟨y 0, y 1, funext fun x => by match x with | ⟨0, _⟩ => rfl | ⟨1, _⟩ => rfl⟩

/-- The block indices of every window, at every grid point. -/
theorem idx : ∀ t : Fin cfg0.N,
    win0_2.index t = ![(grid0.coords t 0).val, 0, 0, (grid0.coords t 1).val] ∧
    win0_3.index t = ![(grid0.coords t 0).val, 0, 0, 8 + (grid0.coords t 1).val] ∧
    win0_4.index t = ![(grid0.coords t 0).val, 0, 0, 16 + (grid0.coords t 1).val] ∧
    win0_5.index t = ![0, 0] ∧ win0_6.index t = ![0, 0] ∧ win0_0.index t = ![0] ∧ win0_1.index t = ![0, 0] ∧
    win0_7.index t = ![8 * (grid0.coords t 0).val + (grid0.coords t 1).val, 0] ∧
    win0_8.index t = ![8 * (grid0.coords t 0).val + (grid0.coords t 1).val, 0] ∧
    win0_10.index t = ![(grid0.coords t 0).val, 0, 0, (grid0.coords t 1).val] ∧
    win0_11.index t = ![8 * (grid0.coords t 0).val + (grid0.coords t 1).val, 0] ∧
    win0_12.index t = ![8 * (grid0.coords t 0).val + (grid0.coords t 1).val, 0] ∧
    win0_13.index t = win0_9.index t :=
  (by decide +kernel : ∀ t : Fin grid0.N, _)

theorem coords_lt (t : Fin cfg0.N) : (grid0.coords t 0).val < 4 ∧ (grid0.coords t 1).val < 8 := ⟨(grid0.coords t 0).isLt, (grid0.coords t 1).isLt⟩

/-- A block of the queries' window is the array at the point's two batches and its head's columns. -/
theorem query_read (A : Vec Ideal S4x2x2048x3072 .bf16) (t : Fin cfg0.N) (s : Fin 2) (P : Fin 2048) (d : Fin 128) (a : Fin 4) (h : Fin 8)
    (ha : (grid0.coords t 0).val = a.val) (hh : (grid0.coords t 1).val = h.val) :
    (((cfg0.win 2).blk t).view.read (Elt Ideal) A : Vec Ideal S1x2x2048x128 .bf16) (ix4 0 s P d) = A (ix4 a s P ⟨h.val * 128 + d.val, by omega⟩) := by
  blk_ext [idx t]

theorem key_read (A : Vec Ideal S4x2x2048x3072 .bf16) (t : Fin cfg0.N) (s : Fin 2) (P : Fin 2048) (d : Fin 128) (a : Fin 4) (h : Fin 8)
    (ha : (grid0.coords t 0).val = a.val) (hh : (grid0.coords t 1).val = h.val) :
    (((cfg0.win 3).blk t).view.read (Elt Ideal) A : Vec Ideal S1x2x2048x128 .bf16) (ix4 0 s P d) = A (ix4 a s P ⟨1024 + (h.val * 128 + d.val), by omega⟩) := by
  blk_ext [idx t]

theorem val_read (A : Vec Ideal S4x2x2048x3072 .bf16) (t : Fin cfg0.N) (s : Fin 2) (P : Fin 2048) (d : Fin 128) (a : Fin 4) (h : Fin 8)
    (ha : (grid0.coords t 0).val = a.val) (hh : (grid0.coords t 1).val = h.val) :
    (((cfg0.win 4).blk t).view.read (Elt Ideal) A : Vec Ideal S1x2x2048x128 .bf16) (ix4 0 s P d) = A (ix4 a s P ⟨2048 + (h.val * 128 + d.val), by omega⟩) := by
  blk_ext [idx t]

theorem query_block (c : Dev nD) (t : Fin cfg0.N) (s : Fin 2) (P : Fin 2048) (d : Fin 128) (a : Fin 4) (h : Fin 8)
    (ha : (grid0.coords t 0).val = a.val) (hh : (grid0.coords t 1).val = h.val) :
    (iblk m c 2 t : Vec Ideal S1x2x2048x128 .bf16) (ix4 0 s P d) = V m c main_v27 (ix4 a s P ⟨h.val * 128 + d.val, by omega⟩) :=
  query_read (V m c main_v27) t s P d a h ha hh

theorem key_block (c : Dev nD) (t : Fin cfg0.N) (s : Fin 2) (P : Fin 2048) (d : Fin 128) (a : Fin 4) (h : Fin 8)
    (ha : (grid0.coords t 0).val = a.val) (hh : (grid0.coords t 1).val = h.val) :
    (iblk m c 3 t : Vec Ideal S1x2x2048x128 .bf16) (ix4 0 s P d) = V m c main_v27 (ix4 a s P ⟨1024 + (h.val * 128 + d.val), by omega⟩) :=
  key_read (V m c main_v27) t s P d a h ha hh

theorem val_block (c : Dev nD) (t : Fin cfg0.N) (s : Fin 2) (P : Fin 2048) (d : Fin 128) (a : Fin 4) (h : Fin 8)
    (ha : (grid0.coords t 0).val = a.val) (hh : (grid0.coords t 1).val = h.val) :
    (iblk m c 4 t : Vec Ideal S1x2x2048x128 .bf16) (ix4 0 s P d) = V m c main_v27 (ix4 a s P ⟨2048 + (h.val * 128 + d.val), by omega⟩) :=
  val_read (V m c main_v27) t s P d a h ha hh

theorem bucket_block (c : Dev nD) (t : Fin cfg0.N) (y : Fin 8) (x : Fin 1024) :
    (iblk m c 5 t : Vec Ideal S8x1024 .i32) (ix2 y x) = V m c main_v56 (ix2 y x) := by
  blk_ext [iblk, idx t]

theorem table_block (c : Dev nD) (t : Fin cfg0.N) (n : Fin 32) (h : Fin 8) :
    (iblk m c 1 t : Vec Ideal S32x8 .f32) (ix2 n h) = table m c (ix2 n h) := by
  rw [← show V m c main_arg1 (ix2 n h) = table m c (ix2 n h) from congrFun (V_main_arg1 m c) _]
  blk_ext [iblk, idx t]

theorem gain_block (c : Dev nD) (t : Fin cfg0.N) (d : Fin 128) :
    (iblk m c 6 t : Vec Ideal S1x128 .f32) (ix2 0 d) = gain m c (ix2 0 d) := by
  rw [← gain_eq m c 0 d]
  blk_ext [iblk, idx t]

theorem factor_block (c : Dev nD) (t : Fin cfg0.N) :
    (iblk m c 0 t : Vec Ideal S1 .f32) (ix1 0) = factor (lq1 m c) (lk1 m c) (lq2 m c) (lk2 m c) := by
  rw [← lam_eq m c 0]
  blk_ext [iblk, idx t]

end Cert.KernelIdeal.Host
-- ==== Proof.Point.lean ====
/- What the run leaves of each output. -/
module

public import proofs.«01_k».proof.Proof.Blocks
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe Cert.Soft Cert.KernelIdeal.Tile
open Cert.ReferenceIdeal.Look (query key val beta entry factor)

variable (m : (ℓ : Loc nD τ sig) → Buf (Elt Ideal) ℓ)

/-- The table's column of the point's head, in the bias row at a distance. -/
theorem row_apply {X : ℕ → ℕ → ℕ → ℝ} {T : ℕ → ℕ → ℝ} (c : Dev nD) (t : Fin cfg0.N) (hT : ∀ (n : Fin 32) (h : Fin 8), table m c (ix2 n h) = (T n h : EReal))
    (y : Fin 8) (x : Fin 1024) :
    row c (grid0.coords t) (hs0_1 t) (hs0_5 t) (iblk m c 1 t) (iblk m c 5 t) (ix2 y x)
      = (beta T (grid0.coords t 1).val ((x.val : ℤ) - 512) : EReal) := by
  have hx := x.isLt
  have hb : (iblk m c 5 t : Vec Ideal S8x1024 .i32) (ix2 y x) = bucket (BitVec.ofInt 32 ((x.val : ℤ) - 512)) :=
    (bucket_block m c t y x).trans (bucket_eq m c y x)
  have hlt : bucketOf ((x.val : ℤ) - 512) < 32 := (Cert.Soft.bucket_eq ((x.val : ℤ) - 512) (by omega)).1
  have hw : word c (grid0.coords t) (hs0_1 t) (iblk m c 1 t) (bucketOf ((x.val : ℤ) - 512)) = (T (bucketOf ((x.val : ℤ) - 512)) (grid0.coords t 1).val : EReal) :=
    (word_apply c (grid0.coords t) (hs0_1 t) (iblk m c 1 t) ⟨_, hlt⟩).trans ((table_block m c t ⟨_, hlt⟩ (grid0.coords t 1)).trans (hT _ _))
  have h15 : kernelRun0_A.sl.r_1 c (grid0.coords t) (ms0_1 t) (hs0_1 t) (iblk m c 1 t) = (T 15 (grid0.coords t 1).val : EReal) :=
    (base_apply c (grid0.coords t) (hs0_1 t) (iblk m c 1 t)).trans ((table_block m c t 15 (grid0.coords t 1)).trans (hT _ _))
  unfold row
  rw [choices_apply _ _ _ _ le_rfl, buckets_apply, hb, h15]
  show (if bucketOf ((x.val : ℤ) - 512) < 32 then (word c (grid0.coords t) (hs0_1 t) (iblk m c 1 t) (bucketOf ((x.val : ℤ) - 512)) - _) * _ else 0) = _
  rw [if_pos hlt, hw, Cert.ReferenceIdeal.Look.beta_near _ _ _ (by omega), Nat.mod_eq_of_lt hlt, EReal.coe_mul, EReal.coe_sub]

/-- The blocks of a grid point hold the scaled queries, the keys and the values of its two batches and its head, the mask and the bias. -/
theorem point_block {X : ℕ → ℕ → ℕ → ℝ} {T : ℕ → ℕ → ℝ} (c : Dev nD) (t : Fin cfg0.N)
    (hX : ∀ (b : Fin 8) (s : Fin 2048) (x : Fin 3072), qkv m c (ix3 b s x) = (X b s x : EReal))
    (hT : ∀ (n : Fin 32) (h : Fin 8), table m c (ix2 n h) = (T n h : EReal)) :
    Block (iblk m c 2 t) (iblk m c 3 t) (iblk m c 4 t) (k0_pay28 kernelRun0_A.sl.r_6)
      (kernelRun0_A.sl.r_50 c (grid0.coords t) (ms0_1 t) (hs0_1 t) (ms0_5 t) (hs0_5 t) (iblk m c 1 t) (iblk m c 5 t))
      (kernelRun0_A.sl.r_51 c (grid0.coords t) (ms0_1 t) (hs0_1 t) (ms0_5 t) (hs0_5 t) (iblk m c 1 t) (iblk m c 5 t))
      (fun s => query X ((grid0.coords t 0).val * 2 + s) (grid0.coords t 1).val) (fun s => key X ((grid0.coords t 0).val * 2 + s) (grid0.coords t 1).val)
      (fun s => val X ((grid0.coords t 0).val * 2 + s) (grid0.coords t 1).val) (beta T (grid0.coords t 1).val) where
  query s P d := by
    have hh : (grid0.coords t 1).val < 8 := (grid0.coords t 1).isLt
    refine (query_block m c t s P d (grid0.coords t 0) (grid0.coords t 1) rfl rfl).trans ((qkv_eq m c _ _ _ _).trans ?_)
    rw [if_pos (show (grid0.coords t 1).val * 128 + d.val < 1024 by omega), hX, ← EReal.coe_mul]
    rfl
  key s P d := by
    refine (key_block m c t s P d (grid0.coords t 0) (grid0.coords t 1) rfl rfl).trans ((qkv_eq m c _ _ _ _).trans ?_)
    rw [if_neg (show ¬ 1024 + ((grid0.coords t 1).val * 128 + d.val) < 1024 by omega), hX]
    rfl
  val s P d := by
    refine (val_block m c t s P d (grid0.coords t 0) (grid0.coords t 1) rfl rfl).trans ((qkv_eq m c _ _ _ _).trans ?_)
    rw [if_neg (show ¬ 2048 + ((grid0.coords t 1).val * 128 + d.val) < 1024 by omega), hX]
    rfl
  mask r e k := mask_apply r e k
  diag r e k := by
    have hr := r.isLt
    have hk := k.isLt
    rw [diag_eq, twice_apply 512 (by norm_num), turned_apply, row_apply (X := X) m c t hT]
    refine congrArg (fun z => (beta T (grid0.coords t 1).val z : EReal)) ?_
    show (((512 + k.val + 1024 - r.val) % 1024 : ℕ) : ℤ) - 512 = _
    omega
  prev r e k := by
    have hr := r.isLt
    have hk := k.isLt
    rw [prev_eq, twice_apply 256 (by norm_num), turned_apply, row_apply (X := X) m c t hT]
    refine congrArg (fun z => (beta T (grid0.coords t 1).val z : EReal)) ?_
    show (((256 + k.val + 1024 - r.val) % 1024 : ℕ) : ℤ) - 512 = _
    omega
  far z hz := by
    unfold beta
    rw [if_pos hz]

end Cert.KernelIdeal.Host
-- ==== Proof.Outs.lean ====
/- What the run leaves of each output. -/
module

public import proofs.«01_k».proof.Proof.Point
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe Cert.Soft Cert.KernelIdeal.Tile
open Cert.ReferenceIdeal.Look (query key val beta entry factor)

variable (m : (ℓ : Loc nD τ sig) → Buf (Elt Ideal) ℓ)

/-- The attention's array, at an index. -/
def att (X : ℕ → ℕ → ℕ → ℝ) (T : ℕ → ℕ → ℝ) (lam : EReal) (g : Vec Ideal S1x128 .f32) : Vec Ideal S4x2x2048x1024 .bf16 := fun y =>
  entry X T lam (fun d => g (ix2 0 d)) ((y 0).val * 2 + (y 1).val) ((y 3).val / 128) (y 2).val ⟨(y 3).val % 128, Nat.mod_lt _ (by norm_num)⟩

/-- The place of a block's entry in the attention's array. -/
theorem att_emb (t : Fin cfg0.N) (s : Fin 2) (P : Fin 2048) (d : Fin 128) (a : Fin 4) (h : Fin 8)
    (ha : (grid0.coords t 0).val = a.val) (hh : (grid0.coords t 1).val = h.val) :
    (((cfg0.win 10).blk t).view.emb (ix4 0 s P d : S1x2x2048x128.Idx) : S4x2x2048x1024.Idx)
      = (ix4 a s P ⟨h.val * 128 + d.val, by omega⟩ : S4x2x2048x1024.Idx) := by
  blk_ext [idx t]

/-- One entry of a point's block is the array's entry at its place. -/
theorem att_point {X : ℕ → ℕ → ℕ → ℝ} {T : ℕ → ℕ → ℝ} (t : Fin cfg0.N) (lam : EReal) (g : Vec Ideal S1x128 .f32) (y : S1x2x2048x128.Idx) :
    blockOut (fun s => query X ((grid0.coords t 0).val * 2 + s) (grid0.coords t 1).val) (fun s => key X ((grid0.coords t 0).val * 2 + s) (grid0.coords t 1).val)
      (fun s => val X ((grid0.coords t 0).val * 2 + s) (grid0.coords t 1).val) (beta T (grid0.coords t 1).val) lam g y
      = att X T lam g (((cfg0.win 10).blk t).view.emb y) := by
  obtain ⟨a, s, P, d, rfl⟩ := exists_ix4 y
  have hs := s.isLt; have hd := d.isLt; have hP := P.isLt
  have ha : a = 0 := Fin.ext (by omega)
  subst ha
  rw [att_emb t s P d (grid0.coords t 0) (grid0.coords t 1) rfl rfl]
  have h1 : ((grid0.coords t 1).val * 128 + d.val) / 128 = (grid0.coords t 1).val := by omega
  have h2 : (⟨((grid0.coords t 1).val * 128 + d.val) % 128, Nat.mod_lt _ (by norm_num)⟩ : Fin 128) = d := Fin.ext (by show _ % 128 = d.val; omega)
  show _ = entry X T lam (fun d => g (ix2 0 d)) ((grid0.coords t 0).val * 2 + s.val) (((grid0.coords t 1).val * 128 + d.val) / 128) P.val
    ⟨((grid0.coords t 1).val * 128 + d.val) % 128, _⟩
  rw [h1, h2]
  rfl

theorem gain_load (c : Dev nD) (t : Fin cfg0.N) : gOf (ms0_6 t) (hs0_6 t) (iblk m c 6 t) = gain m c := by
  funext y
  obtain ⟨a, d, rfl⟩ := exists_ix2 y
  have ha : a = 0 := Fin.ext (by omega)
  subst ha
  refine Eq.trans ?_ (gain_block m c t d)
  unfold gOf
  rw [View.readAt_eq_ld, (hs0_6 t).read_unread]
  exact View.ld_unit_apply_of _ _ _ _ _ _ (Fin.forall_fin_two.mpr ⟨(Nat.zero_add _).symm, (Nat.zero_add _).symm⟩)

theorem factor_load (c : Dev nD) (t : Fin cfg0.N) : lamOf c (ms0_0 t) (hs0_0 t) (iblk m c 0 t) = factor (lq1 m c) (lk1 m c) (lq2 m c) (lk2 m c) := by
  refine Eq.trans ?_ (factor_block m c t)
  unfold lamOf kernelRun0_A.sl.r
  rw [View.readAt_eq_ld, (hs0_0 t).read_unread]
  refine View.ld_unit_apply_of _ _ _ _ _ _ fun a => ?_
  match a with
  | ⟨0, _⟩ => rfl

/-- The attention's array after the run. -/
theorem final_att {X : ℕ → ℕ → ℕ → ℝ} {T : ℕ → ℕ → ℝ} (c : Dev nD)
    (hX : ∀ (b : Fin 8) (s : Fin 2048) (x : Fin 3072), qkv m c (ix3 b s x) = (X b s x : EReal))
    (hT : ∀ (n : Fin 32) (h : Fin 8), table m c (ix2 n h) = (T n h : EReal)) :
    (dats m 0 c).arrAt 10 cfg0.N = att X T (factor (lq1 m c) (lk1 m c) (lq2 m c) (lk2 m c)) (gain m c) := by
  refine (dats m 0 c).arrAt_eq_of_covers 10 _ (by decide +kernel) fun t hf y => ?_
  blk_simp
  rw [after0_10]
  simp only [outsAt0]
  rw [out_block _ _ _ _ _ _ _ _ _ _ _ _ _ _ _ _ _ _ _ _ _ _ _ _ _ _ _ _ _ _ _ _ _ _ _ _ _ _ _ _ _ _ (point_block m c t hX hT)]
  rw [gain_load, factor_load]
  exact att_point t _ _ y

end Cert.KernelIdeal.Host
-- ==== Proof.Weights.lean ====
/- What the run leaves of the three weights. -/
module

public import proofs.«01_k».proof.Proof.Blocks
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe Cert.Soft Cert.KernelIdeal.Tile
open Cert.ReferenceIdeal.Look (query key val beta entry factor)

variable (m : (ℓ : Loc nD τ sig) → Buf (Elt Ideal) ℓ)

/-- A recast of a block to its own shape and to another type reads the block. -/
theorem cast_apply {S : Shape} (B : FVec Ideal S .f32) (hs : S.ShapeCasts S) (hb : FTy.bf16.bits < FTy.f32.bits) (y : S.Idx) :
    (truncf (F := Ideal) .bf16 (shapeCast S B hs) hb y : EReal) = B y :=
  shapeCast_apply _ hs y y rfl

/-- A block of the weight's window, at its entry's place in the output. -/
theorem out_read (A : Vec Ideal S2048x1024 .f32) (t : Fin cfg0.N) (y : S64x1024.Idx) :
    (((cfg0.win 7).blk t).view.read (Elt Ideal) A : Vec Ideal S64x1024 .f32) y = A (((cfg0.win 11).blk t).view.emb y) := by
  blk_ext [idx t]

theorem out_entry (c : Dev nD) (y : S2048x1024.Idx) : V m c main_v24 y = weightOut m c (ix3 0 (y 0) (y 1)) := by
  obtain ⟨a, d, rfl⟩ := exists_ix2 y
  exact w1_eq m c a d

theorem final_out (c : Dev nD) : (dats m 0 c).arrAt 11 cfg0.N = fun y : S2048x1024.Idx => weightOut m c (ix3 0 (y 0) (y 1)) := by
  refine (dats m 0 c).arrAt_eq_of_covers 11 _ (by decide +kernel) fun t hf y => ?_
  blk_simp
  rw [after0_11]
  frame_out
  exact (cast_apply (S := S64x1024) _ _ _ y).trans ((out_read (V m c main_v24) t y).trans (out_entry m c _))

/-- A block of the weight's window, at its entry's place in the output. -/
theorem up_read (A : Vec Ideal S1024x5632 .f32) (t : Fin cfg0.N) (y : S32x5632.Idx) :
    (((cfg0.win 8).blk t).view.read (Elt Ideal) A : Vec Ideal S32x5632 .f32) y = A (((cfg0.win 12).blk t).view.emb y) := by
  blk_ext [idx t]

theorem up_entry (c : Dev nD) (y : S1024x5632.Idx) : V m c main_v25 y = weightUp m c (ix3 0 (y 0) (y 1)) := by
  obtain ⟨a, d, rfl⟩ := exists_ix2 y
  exact w2_eq m c a d

theorem final_up (c : Dev nD) : (dats m 0 c).arrAt 12 cfg0.N = fun y : S1024x5632.Idx => weightUp m c (ix3 0 (y 0) (y 1)) := by
  refine (dats m 0 c).arrAt_eq_of_covers 12 _ (by decide +kernel) fun t hf y => ?_
  blk_simp
  rw [after0_12]
  frame_out
  exact (cast_apply (S := S32x5632) _ _ _ y).trans ((up_read (V m c main_v25) t y).trans (up_entry m c _))

/-- A block of the weight's window, at its entry's place in the output. -/
theorem down_read (A : Vec Ideal S2816x1024 .f32) (t : Fin cfg0.N) (y : S176x1024.Idx) :
    (((cfg0.win 9).blk t).view.read (Elt Ideal) A : Vec Ideal S176x1024 .f32) y = A (((cfg0.win 13).blk t).view.emb y) := by
  blk_ext [idx t]

theorem down_entry (c : Dev nD) (y : S2816x1024.Idx) : V m c main_v26 y = weightDown m c (ix3 0 (y 0) (y 1)) := by
  obtain ⟨a, d, rfl⟩ := exists_ix2 y
  exact w3_eq m c a d

theorem final_down (c : Dev nD) : (dats m 0 c).arrAt 13 cfg0.N = fun y : S2816x1024.Idx => weightDown m c (ix3 0 (y 0) (y 1)) := by
  refine (dats m 0 c).arrAt_eq_of_covers 13 _ (by decide +kernel) fun t hf y => ?_
  blk_simp
  rw [after0_13]
  frame_out
  exact (cast_apply (S := S176x1024) _ _ _ y).trans ((down_read (V m c main_v26) t y).trans (down_entry m c _))

end Cert.KernelIdeal.Host
-- ==== Proof.Finite.lean ====
/- The precondition read back: every entry of the arrays it names is a real number. -/
module

public import proofs.«01_k».proof.Pre_finite_inputs
public import Idealize.ShloMosaic.Lib.ReduceAll
public import Idealize.ShloMosaic.Lib.Pointwise

@[expose] public section

noncomputable section

namespace Cert.Finite

open Cert.Pre_finite_inputs Idealize.ShloMosaic

/-- The shape facts the precondition is stated over. -/
theorem facts : Facts where
  bcast_S_S8x2048x3072 := by decide
  reducesTo_S8x2048x3072_S_d0_1_2 := by decide
  h_S_ := by decide
  bcast_S_S32x8 := by decide
  reducesTo_S32x8_S_d0_1 := by decide
  bcast_S_S1x64 := by decide
  reducesTo_S1x64_S_d0_1 := by decide

/-- An extended real whose size is below +∞ is a real number. -/
theorem real_of_lt (x : EReal) (h : Ideal.cmp .olt (max x (-x)) (Ideal.ofBits .f32 0x7F800000#32) = 1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

/-- An array below +∞ in size everywhere, by the conjunction of all its comparisons, holds reals. -/
theorem real_of_all {s t u : Shape} [Subsingleton t.Idx] {axes : List (Fin s.rank)} (x : FVec Ideal s .f32) (top : FVec Ideal s .f32)
    (htop : ∀ i, top i = Ideal.ofBits .f32 0x7F800000#32) (init : u.Idx → BitVec 1) (h : s.ReducesTo axes t) (hu : 0 < u.numel) (j : t.Idx)
    (e : Host.reduce IntOp.andi (cmpf .olt (Host.absf x) top) init h hu j = 1#1) (i : s.Idx) : ∃ r : ℝ, x i = (r : EReal) := by
  have h1 := Host.reduce_andi_all _ _ _ _ _ e i
  refine real_of_lt (x i) ?_
  rw [← htop i]
  exact h1

instance : Subsingleton S_.Idx := ⟨fun a b => funext fun i => i.elim0⟩

theorem reals (x0 : FVec Ideal S8x2048x3072 .f32) (x1 : FVec Ideal S32x8 .f32) (x2 x3 x4 x5 : FVec Ideal S1x64 .f32) (x6 : FVec Ideal S1x128 .f32)
    (x7 : FVec Ideal S1x2048x1024 .f32) (x8 : FVec Ideal S1x1024x5632 .f32) (x9 : FVec Ideal S1x2816x1024 .f32) [Facts]
    (h : ∀ j, fn (F := Ideal) x0 x1 x2 x3 x4 x5 x6 x7 x8 x9 j = 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ ∀ i, ∃ r : ℝ, x5 i = (r : EReal) := by
  have h := h (fun a => a.elim0)
  unfold fn fn_part1 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ (fun _ => rfl) _ _ _ _ h0, real_of_all x1 _ (fun _ => rfl) _ _ _ _ h1, real_of_all x2 _ (fun _ => rfl) _ _ _ _ h2,
    real_of_all x3 _ (fun _ => rfl) _ _ _ _ h3, real_of_all x4 _ (fun _ => rfl) _ _ _ _ h4, real_of_all x5 _ (fun _ => rfl) _ _ _ _ h5⟩

end Cert.Finite
-- ==== Proof.Final.lean ====
/- The kernel's four outputs and the reference's four results are the same arrays, where the inputs are real numbers. -/
module

public import proofs.«01_k».proof.Proof.Outs
public import proofs.«01_k».proof.Proof.Weights
public import proofs.«01_k».proof.Proof.Join
public import proofs.«01_k».proof.Proof.Finite

@[expose] public section

noncomputable section

namespace Cert.Final

open Idealize.ShloMosaic Idealize.SL.Sem Cert.KernelIdeal Cert.KernelIdeal.Gen Cert.KernelIdeal.Host Cert.ReferenceIdeal.Look Cert.ReferenceIdeal.Read

/-- An array of three axes as a function of three numbers, zero outside. -/
def real3 {a b c : ℕ} (x : FVec Ideal ⟨3, ![a, b, c]⟩ .f32) (i j k : ℕ) : ℝ :=
  if h : i < a ∧ j < b ∧ k < c then (x (ix3 ⟨i, h.1⟩ ⟨j, h.2.1⟩ ⟨k, h.2.2⟩) : EReal).toReal else 0

/-- An array of two axes as a function of two numbers, zero outside. -/
def real2 {a b : ℕ} (x : FVec Ideal ⟨2, ![a, b]⟩ .f32) (i j : ℕ) : ℝ :=
  if h : i < a ∧ j < b then (x (ix2 ⟨i, h.1⟩ ⟨j, h.2⟩) : EReal).toReal else 0

theorem real3_eq {a b c : ℕ} (x : FVec Ideal ⟨3, ![a, b, c]⟩ .f32) (h : ∀ i, ∃ r : ℝ, x i = (r : EReal)) (i : Fin a) (j : Fin b) (k : Fin c) :
    x (ix3 i j k) = ((real3 x i j k : ℝ) : EReal) := by
  obtain ⟨r, hr⟩ := h (ix3 i j k)
  rw [real3, dif_pos ⟨i.2, j.2, k.2⟩]
  simp only [Fin.eta, hr, EReal.toReal_coe]

theorem real2_eq {a b : ℕ} (x : FVec Ideal ⟨2, ![a, b]⟩ .f32) (h : ∀ i, ∃ r : ℝ, x i = (r : EReal)) (i : Fin a) (j : Fin b) :
    x (ix2 i j) = ((real2 x i j : ℝ) : EReal) := by
  obtain ⟨r, hr⟩ := h (ix2 i j)
  rw [real2, dif_pos ⟨i.2, j.2⟩]
  simp only [Fin.eta, hr, EReal.toReal_coe]

variable (m : (ℓ : Loc nD τ sig) → Buf (Elt Ideal) ℓ) (c : Dev nD)

/-- The attention's result. -/
theorem att_eq (h0 : ∀ i, ∃ r : ℝ, qkv m c i = (r : EReal)) (h1 : ∀ i, ∃ r : ℝ, table m c i = (r : EReal))
    (h2 : ∀ i, ∃ r : ℝ, lq1 m c i = (r : EReal)) (h3 : ∀ i, ∃ r : ℝ, lk1 m c i = (r : EReal))
    (h4 : ∀ i, ∃ r : ℝ, lq2 m c i = (r : EReal)) (h5 : ∀ i, ∃ r : ℝ, lk2 m c i = (r : EReal)) :
    val_main_v108 (F := Ideal) (qkv m c) (table m c) (lq1 m c) (lk1 m c) (lq2 m c) (lk2 m c) (gain m c) = (dats m 0 c).arrAt 10 cfg0.N := by
  have hX := real3_eq (qkv m c) h0
  have hT := real2_eq (table m c) h1
  obtain ⟨l, hl⟩ := factor_real (lq1 m c) (lk1 m c) (lq2 m c) (lk2 m c) (fun x => real2 (lq1 m c) 0 x) (fun x => real2 (lk1 m c) 0 x)
    (fun x => real2 (lq2 m c) 0 x) (fun x => real2 (lk2 m c) 0 x)
    (fun x => real2_eq (lq1 m c) h2 0 x) (fun x => real2_eq (lk1 m c) h3 0 x) (fun x => real2_eq (lq2 m c) h4 0 x) (fun x => real2_eq (lk2 m c) h5 0 x)
  refine Eq.trans ?_ (final_att m c hX hT).symm
  funext y
  obtain ⟨i, j, Q, x, rfl⟩ : ∃ (i : Fin 4) (j : Fin 2) (Q : Fin 2048) (x : Fin 1024), y = ix4 i j Q x :=
    ⟨y 0, y 1, y 2, y 3, by funext k; fin_cases k <;> rfl⟩
  rw [out_entry hX hT (lq1 m c) (lk1 m c) (lq2 m c) (lk2 m c) (gain m c) l ((factor_read _ _ _ _).trans hl), hl]
  rfl

theorem out_eq : val_main_v110 (F := Ideal) (weightOut m c) = (dats m 0 c).arrAt 11 cfg0.N := by
  refine Eq.trans ?_ (final_out m c).symm
  funext y
  obtain ⟨a, d, rfl⟩ := exists_ix2 y
  pointwise [val_main_v110, val_main_v109]

theorem up_eq : val_main_v112 (F := Ideal) (weightUp m c) = (dats m 0 c).arrAt 12 cfg0.N := by
  refine Eq.trans ?_ (final_up m c).symm
  funext y
  obtain ⟨a, d, rfl⟩ := exists_ix2 y
  pointwise [val_main_v112, val_main_v111]

theorem down_eq : val_main_v114 (F := Ideal) (weightDown m c) = (dats m 0 c).arrAt 13 cfg0.N := by
  refine Eq.trans ?_ (final_down m c).symm
  funext y
  obtain ⟨a, d, rfl⟩ := exists_ix2 y
  pointwise [val_main_v114, val_main_v113]

end Cert.Final
-- ==== Proof.Row.lean ====
/- The output mix, the feed-forward network and the closing norm, one token at a time over the extended reals. -/
module

public import proofs.«01_k».proof.Proof.Soft
public import Idealize.ShloMosaic.Lib.Claim
public import Idealize.ShloMosaic.Lib.Pipeline.ValueKit.Tiles

@[expose] public section

set_option maxRecDepth 16384

noncomputable section

namespace Cert.Row

open Idealize.ShloMosaic

/-- A row scaled to unit mean square and weighted. -/
def norm (v g : Fin 1024 → EReal) (c : Fin 1024) : EReal :=
  v c * Ideal.rsqrt (Ideal.div (∑ x : Fin 1024, v x * v x) (Ideal.ofBits .f32 0x44800000#32) + Ideal.ofBits .f32 0x358637BD#32) * g c

/-- A row plus the projection of its two branches. -/
def mixed (x a s : Fin 1024 → EReal) (w : Fin 2048 → Fin 1024 → EReal) (c : Fin 1024) : EReal :=
  x c + (∑ k : Fin 1024, a k * w ⟨k.val, by omega⟩ c) + ∑ k : Fin 1024, s k * w ⟨1024 + k.val, by omega⟩ c

/-- The logistic function. -/
def sig (y : EReal) : EReal :=
  Ideal.div 1 (1 + Ideal.exp (-y))

/-- The weights of the mix, the network and the norms. -/
structure Weights where
  wo : Fin 2048 → Fin 1024 → EReal
  g2 : Fin 1024 → EReal
  wup : Fin 1024 → Fin 5632 → EReal
  cw : Fin 3 → Fin 5632 → EReal
  cb : Fin 5632 → EReal
  wdn : Fin 2816 → Fin 1024 → EReal
  gf : Fin 1024 → EReal

variable (W : Weights)

/-- The upward projection of a normalised row. -/
def up (v : Fin 1024 → EReal) (f : Fin 5632) : EReal := ∑ k : Fin 1024, norm v W.g2 k * W.wup k f

/-- The convolution's value at a token with row `u2`, whose last token had `u1` and the one before it `u0`. -/
def conv (u0 u1 u2 : Fin 5632 → EReal) (f : Fin 5632) : EReal :=
  W.cb f + W.cw 2 f * u2 f + W.cw 1 f * u1 f + W.cw 0 f * u0 f

/-- The gated activation of a row of the convolution. -/
def act (z : Fin 5632 → EReal) (f : Fin 2816) : EReal :=
  z ⟨f.val, by omega⟩ * sig (z ⟨f.val, by omega⟩) * z ⟨2816 + f.val, by omega⟩

/-- The closing norm of a row plus the downward projection of its activation. -/
def close (v : Fin 1024 → EReal) (z : Fin 5632 → EReal) : Fin 1024 → EReal :=
  norm (fun c => v c + ∑ f : Fin 2816, act z f * W.wdn f c) W.gf

variable (M : ℕ → Fin 1024 → EReal)

/-- The upward projection `k` tokens back, zero before the sequence's start. -/
def back (k T : ℕ) (f : Fin 5632) : EReal := if T % 2048 < k then 0 else up W (M (T - k)) f

/-- The result at a token, of the mixed rows. -/
def out (T : ℕ) : Fin 1024 → EReal :=
  close W (M T) (conv W (back W M 2 T) (back W M 1 T) (back W M 0 T))

end Cert.Row
-- ==== Proof.Net.lean ====
/- One tile of the mix and the network as whole-array operations. -/
module

public import proofs.«01_k».proof.Proof.Row
public import proofs.«01_k».proof.Proof.Gen.Kernel2Ideal.Value
public import Idealize.ShloMosaic.Lib.MatmulPlain
public import Idealize.ShloMosaic.Lib.Pointwise

@[expose] public section

set_option maxRecDepth 16384

noncomputable section

namespace Cert.Kernel2Ideal.Net

open Cert.Kernel2Ideal Cert.Kernel2Ideal.Gen Idealize.ShloMosaic

/-- Rows scaled to unit mean square and weighted. -/
def normed (x : FVec Ideal S512x1024 .f32) (g : Vec Ideal S1x1024 .f32) : FVec Ideal S512x1024 .f32 :=
  mulf (mulf x (broadcastTo S512x1024
    (rsqrt (addf (divf (shapeCast S512x1 (multiReduction .add [1] S512 (mulf x x) 0x00000000#32 reduces_S512x1024_S512 (.inl rfl) rfl) shapeCasts_S512_S512x1 : FVec Ideal S512x1 .f32)
      (broadcast S512x1 (Scalar.ofBits .f32 0x44800000#32))) (broadcast S512x1 (Scalar.ofBits .f32 0x358637BD#32))))
    broadcasts_S512x1_S512x1024))
    (broadcastTo S512x1024 (shapeCast S1x1024 g shapeCasts_S1x1024_S1x1024) broadcasts_S1x1024_S512x1024)

/-- The rows of a block, one row later, the first from a tail. -/
def prev (t : Vec Ideal S1x8x256 .f32) (x : FVec Ideal S64x256 .f32) : FVec Ideal S64x256 .f32 :=
  select (cmpi .eq (iota .tc S64x256 32 [0] (by decide)) (broadcast S64x256 0#32))
    (broadcastTo S64x256 (shapeCast S1x256 (extractStridedSlice S1x256 ![7, 0] (shapeCast S8x256 t shapeCasts_S1x8x256_S8x256 : FVec Ideal S8x256 .f32) slices_S8x256_o7_0_S1x256 : FVec Ideal S1x256 .f32)
      shapeCasts_S1x256_S1x256) broadcasts_S1x256_S64x256)
    (dynamicRotate 0 1#32 none x rotates_S64x256_d0)

/-- A block of the convolution. -/
def line (w0 w1 w2 b : Vec Ideal S1x256 .f32) (p2 p1 p0 : FVec Ideal S64x256 .f32) : FVec Ideal S64x256 .f32 :=
  addf (addf (addf (broadcastTo S64x256 (shapeCast S1x256 b shapeCasts_S1x256_S1x256) broadcasts_S1x256_S64x256)
    (mulf (broadcastTo S64x256 (shapeCast S1x256 w2 shapeCasts_S1x256_S1x256) broadcasts_S1x256_S64x256) p0))
    (mulf (broadcastTo S64x256 (shapeCast S1x256 w1 shapeCasts_S1x256_S1x256) broadcasts_S1x256_S64x256) p1))
    (mulf (broadcastTo S64x256 (shapeCast S1x256 w0 shapeCasts_S1x256_S1x256) broadcasts_S1x256_S64x256) p2)

/-- The upward projection's columns. -/
def cols (h : FVec Ideal S512x1024 .bf16) (w : Vec Ideal S1024x256 .bf16) : FVec Ideal S512x256 .f32 :=
  matmul dot_S512x1024_S1024x256_S512x256_1_0_0_1_n_n none h (shapeCast S1024x256 w shapeCasts_S1024x256_S1024x256 : FVec Ideal S1024x256 .bf16) (constant S512x256 .f32 0x00000000#32)

section
variable (u : FVec Ideal S512x256 .f32)

def b0 : FVec Ideal S64x256 .f32 := extractStridedSlice S64x256 ![0, 0] u slices_S512x256_o0_0_S64x256
def b1 : FVec Ideal S64x256 .f32 := extractStridedSlice S64x256 ![64, 0] u slices_S512x256_o64_0_S64x256
def b2 : FVec Ideal S64x256 .f32 := extractStridedSlice S64x256 ![128, 0] u slices_S512x256_o128_0_S64x256
def b3 : FVec Ideal S64x256 .f32 := extractStridedSlice S64x256 ![192, 0] u slices_S512x256_o192_0_S64x256
def b4 : FVec Ideal S64x256 .f32 := extractStridedSlice S64x256 ![256, 0] u slices_S512x256_o256_0_S64x256
def b5 : FVec Ideal S64x256 .f32 := extractStridedSlice S64x256 ![320, 0] u slices_S512x256_o320_0_S64x256
def b6 : FVec Ideal S64x256 .f32 := extractStridedSlice S64x256 ![384, 0] u slices_S512x256_o384_0_S64x256
def b7 : FVec Ideal S64x256 .f32 := extractStridedSlice S64x256 ![448, 0] u slices_S512x256_o448_0_S64x256
end

/-- The last eight rows of a block, kept for the next tile. -/
def tail (x : FVec Ideal S64x256 .f32) : FVec Ideal S1x8x256 .f32 :=
  shapeCast S1x8x256 (extractStridedSlice S8x256 ![56, 0] x slices_S64x256_o56_0_S8x256 : FVec Ideal S8x256 .f32) shapeCasts_S8x256_S1x8x256

/-- The convolution over a tile whose rows stand by residue. -/
def conv (w0 w1 w2 b : Vec Ideal S1x256 .f32) (t1 t2 : Vec Ideal S1x8x256 .f32) (u : FVec Ideal S512x256 .f32) : FVec Ideal S512x256 .f32 :=
  concatenate S512x256 0 [⟨S64x256, line w0 w1 w2 b (prev t2 (b6 u)) (prev t1 (b7 u)) (b0 u)⟩, ⟨S64x256, line w0 w1 w2 b (prev t1 (b7 u)) (b0 u) (b1 u)⟩,
    ⟨S64x256, line w0 w1 w2 b (b0 u) (b1 u) (b2 u)⟩, ⟨S64x256, line w0 w1 w2 b (b1 u) (b2 u) (b3 u)⟩,
    ⟨S64x256, line w0 w1 w2 b (b2 u) (b3 u) (b4 u)⟩, ⟨S64x256, line w0 w1 w2 b (b3 u) (b4 u) (b5 u)⟩,
    ⟨S64x256, line w0 w1 w2 b (b4 u) (b5 u) (b6 u)⟩, ⟨S64x256, line w0 w1 w2 b (b5 u) (b6 u) (b7 u)⟩]
    concatenates_S64x256_S64x256_S64x256_S64x256_S64x256_S64x256_S64x256_S64x256_S512x256_d0

/-- The gated activation. -/
def gated (g v : FVec Ideal S512x256 .f32) : FVec Ideal S512x256 .bf16 :=
  truncf .bf16 (mulf (mulf g (divf (broadcast S512x256 (Scalar.ofBits .f32 0x3F800000#32))
    (addf (broadcast S512x256 (Scalar.ofBits .f32 0x3F800000#32)) (exp2 (mulf g (broadcast S512x256 (Named.named κ "neg_log2e" 0xBFB8AA3B#32))))))) v) bitsLt_bf16_f32

/-- The activations side by side. -/
def acts (a : Fin 11 → FVec Ideal S512x256 .bf16) : FVec Ideal S512x2816 .bf16 :=
  concatenate S512x2816 1 [⟨S512x256, a 0⟩, ⟨S512x256, a 1⟩, ⟨S512x256, a 2⟩, ⟨S512x256, a 3⟩, ⟨S512x256, a 4⟩, ⟨S512x256, a 5⟩, ⟨S512x256, a 6⟩, ⟨S512x256, a 7⟩,
    ⟨S512x256, a 8⟩, ⟨S512x256, a 9⟩, ⟨S512x256, a 10⟩]
    concatenates_S512x256_S512x256_S512x256_S512x256_S512x256_S512x256_S512x256_S512x256_S512x256_S512x256_S512x256_S512x2816_d1

/-- The closing norm of the rows plus the downward projection. -/
def closing (x : FVec Ideal S512x1024 .f32) (a : FVec Ideal S512x2816 .bf16) (w : Vec Ideal S2816x1024 .bf16) (g : Vec Ideal S1x1024 .f32) : FVec Ideal S512x1024 .f32 :=
  normed (addf x (matmul dot_S512x2816_S2816x1024_S512x1024_1_0_0_1_n_n none a (shapeCast S2816x1024 w shapeCasts_S2816x1024_S2816x1024 : FVec Ideal S2816x1024 .bf16)
    (constant S512x1024 .f32 0x00000000#32))) g

/-- The mixed rows. -/
def mixing (x : Vec Ideal S512x1024 .f32) (a s : Vec Ideal S512x1024 .bf16) (wa ws : Vec Ideal S1024x1024 .bf16) : FVec Ideal S512x1024 .f32 :=
  addf (addf (shapeCast S512x1024 x shapeCasts_S512x1024_S512x1024 : FVec Ideal S512x1024 .f32)
    (matmul dot_S512x1024_S1024x1024_S512x1024_1_0_0_1_n_n none (shapeCast S512x1024 a shapeCasts_S512x1024_S512x1024 : FVec Ideal S512x1024 .bf16)
      (shapeCast S1024x1024 wa shapeCasts_S1024x1024_S1024x1024 : FVec Ideal S1024x1024 .bf16) (constant S512x1024 .f32 0x00000000#32)))
    (matmul dot_S512x1024_S1024x1024_S512x1024_1_0_0_1_n_n none (shapeCast S512x1024 s shapeCasts_S512x1024_S512x1024 : FVec Ideal S512x1024 .bf16)
      (shapeCast S1024x1024 ws shapeCasts_S1024x1024_S1024x1024 : FVec Ideal S1024x1024 .bf16) (constant S512x1024 .f32 0x00000000#32))

/-! ## The operations at an index -/

theorem normed_apply (x : FVec Ideal S512x1024 .f32) (g : Vec Ideal S1x1024 .f32) (r : Fin 512) (c : Fin 1024) :
    normed x g (ix2 r c) = Row.norm (fun k => x (ix2 r k)) (fun k => g (ix2 0 k)) c := by
  unfold normed Row.norm
  pointwise

theorem cols_apply (h : FVec Ideal S512x1024 .bf16) (w : Vec Ideal S1024x256 .bf16) (r : Fin 512) (f : Fin 256) :
    cols h w (ix2 r f) = ∑ k : Fin 1024, h (ix2 r k) * w (ix2 k f) := by
  unfold cols
  pointwise

theorem prev_apply (t : Vec Ideal S1x8x256 .f32) (x : FVec Ideal S64x256 .f32) (p : Fin 64) (f : Fin 256) :
    prev t x (ix2 p f) = if p.val = 0 then t (ix3 0 7 f) else x (ix2 ⟨p.val - 1, by omega⟩ f) := by
  have h (q : Fin 64) (a b : EReal) : Scalar.select (IntOp.cmpi .eq (BitVec.ofNat 32 q) 0#32) a b = if q.val = 0 then a else b := by
    have : ∀ q : Fin 64, (IntOp.cmpi .eq (BitVec.ofNat 32 q) 0#32 = 1#1) = (q.val = 0) := by decide
    show (if _ = 1#1 then a else b) = _
    exact if_congr (iff_of_eq (this q)) rfl rfl
  unfold prev
  pointwise
  refine (h p _ _).trans ?_
  split
  · rfl
  · congr 2
    exact Fin.ext (by show (p.val + 64 - 1) % 64 = p.val - 1; omega)

theorem line_apply (w0 w1 w2 b : Vec Ideal S1x256 .f32) (p2 p1 p0 : FVec Ideal S64x256 .f32) (p : Fin 64) (f : Fin 256) :
    line w0 w1 w2 b p2 p1 p0 (ix2 p f)
      = b (ix2 0 f) + w2 (ix2 0 f) * p0 (ix2 p f) + w1 (ix2 0 f) * p1 (ix2 p f) + w0 (ix2 0 f) * p2 (ix2 p f) := by
  unfold line
  pointwise

theorem tail_apply (x : FVec Ideal S64x256 .f32) (f : Fin 256) : tail x (ix3 0 7 f) = x (ix2 63 f) := by
  unfold tail
  pointwise

theorem exp2_named (y : EReal) : Ideal.exp2 (y * (Named.named κ "neg_log2e" 0xBFB8AA3B#32 : Ideal .f32)) = Ideal.exp (-y) := by
  have hk : (Named.named κ "neg_log2e" 0xBFB8AA3B#32 : Ideal .f32) = ((-(Real.log 2)⁻¹ : ℝ) : EReal) := by
    simp [Named.named, κ]
  have hpos : 0 < Real.log 2 := Real.log_pos (by norm_num)
  have hneg : (-(Real.log 2)⁻¹ : ℝ) < 0 := neg_lt_zero.mpr (inv_pos.mpr hpos)
  rw [hk]
  induction y using EReal.rec with
  | bot => rw [EReal.bot_mul_coe_of_neg hneg]; rfl
  | top => rw [EReal.top_mul_coe_of_neg hneg]; rfl
  | coe y =>
    rw [← EReal.coe_mul, ← EReal.coe_neg]
    show ((_ : ℝ) : EReal) = ((_ : ℝ) : EReal)
    refine congrArg _ ?_
    refine (Real.rpow_def_of_pos (by norm_num : (0 : ℝ) < 2) _).trans ?_
    refine congrArg Real.exp ?_
    field_simp

theorem gated_apply (g v : FVec Ideal S512x256 .f32) (r : Fin 512) (f : Fin 256) :
    gated g v (ix2 r f) = g (ix2 r f) * Row.sig (g (ix2 r f)) * v (ix2 r f) := by
  unfold gated Row.sig
  rw [← exp2_named]
  pointwise
  rfl

theorem closing_apply (x : FVec Ideal S512x1024 .f32) (a : FVec Ideal S512x2816 .bf16) (w : Vec Ideal S2816x1024 .bf16) (g : Vec Ideal S1x1024 .f32)
    (r : Fin 512) (c : Fin 1024) :
    closing x a w g (ix2 r c)
      = Row.norm (fun k => x (ix2 r k) + ∑ f : Fin 2816, a (ix2 r f) * w (ix2 f k)) (fun k => g (ix2 0 k)) c := by
  unfold closing
  rw [normed_apply]
  refine congrArg (fun v => Row.norm v (fun k => g (ix2 0 k)) c) (funext fun k => ?_)
  pointwise

theorem mixing_apply (x : Vec Ideal S512x1024 .f32) (a s : Vec Ideal S512x1024 .bf16) (wa ws : Vec Ideal S1024x1024 .bf16) (r : Fin 512) (c : Fin 1024) :
    mixing x a s wa ws (ix2 r c)
      = x (ix2 r c) + (∑ k : Fin 1024, a (ix2 r k) * wa (ix2 k c)) + ∑ k : Fin 1024, s (ix2 r k) * ws (ix2 k c) := by
  unfold mixing
  pointwise

end Cert.Kernel2Ideal.Net
-- ==== Proof.Place.lean ====
/- A tile's rows by residue: row `8 p + k` of the tile stands at place `64 k + p`. -/
module

public import proofs.«01_k».proof.Proof.Net

@[expose] public section

set_option maxRecDepth 16384

noncomputable section

namespace Cert.Kernel2Ideal.Net

open Cert.Kernel2Ideal Cert.Kernel2Ideal.Gen Idealize.ShloMosaic

/-- The place of a tile's row. -/
def perm (r : Fin 512) : Fin 512 := ⟨64 * (r.val % 8) + r.val / 8, by have := r.isLt; omega⟩

/-- Row `n` of a tile's columns. -/
def rowOf (u : FVec Ideal S512x256 .f32) (f : Fin 256) (n : ℕ) : EReal := if h : n < 512 then u (ix2 (perm ⟨n, h⟩) f) else 0

theorem rowOf_perm (u : FVec Ideal S512x256 .f32) (f : Fin 256) (r : Fin 512) : u (ix2 (perm r) f) = rowOf u f r.val := by
  rw [rowOf, dif_pos r.isLt]

section
variable (u : FVec Ideal S512x256 .f32) (p : Fin 64) (f : Fin 256)

theorem b0_apply : b0 u (ix2 p f) = rowOf u f (8 * p.val + 0) := by
  have h : 8 * p.val + 0 < 512 := by omega
  have e : b0 u (ix2 p f) = u (ix2 ⟨0 + p.val, by omega⟩ f) := by
    unfold b0
    pointwise
    try exact congrArg (fun q => u (ix2 q f)) (Fin.ext (by show _ = 0 + p.val; omega))
  rw [e, rowOf, dif_pos h]
  refine congrArg (fun q => u (ix2 q f)) (Fin.ext ?_)
  show 0 + p.val = 64 * ((8 * p.val + 0) % 8) + (8 * p.val + 0) / 8
  omega

theorem b1_apply : b1 u (ix2 p f) = rowOf u f (8 * p.val + 1) := by
  have h : 8 * p.val + 1 < 512 := by omega
  have e : b1 u (ix2 p f) = u (ix2 ⟨64 + p.val, by omega⟩ f) := by
    unfold b1
    pointwise
    try exact congrArg (fun q => u (ix2 q f)) (Fin.ext (by show _ = 64 + p.val; omega))
  rw [e, rowOf, dif_pos h]
  refine congrArg (fun q => u (ix2 q f)) (Fin.ext ?_)
  show 64 + p.val = 64 * ((8 * p.val + 1) % 8) + (8 * p.val + 1) / 8
  omega

theorem b2_apply : b2 u (ix2 p f) = rowOf u f (8 * p.val + 2) := by
  have h : 8 * p.val + 2 < 512 := by omega
  have e : b2 u (ix2 p f) = u (ix2 ⟨128 + p.val, by omega⟩ f) := by
    unfold b2
    pointwise
    try exact congrArg (fun q => u (ix2 q f)) (Fin.ext (by show _ = 128 + p.val; omega))
  rw [e, rowOf, dif_pos h]
  refine congrArg (fun q => u (ix2 q f)) (Fin.ext ?_)
  show 128 + p.val = 64 * ((8 * p.val + 2) % 8) + (8 * p.val + 2) / 8
  omega

theorem b3_apply : b3 u (ix2 p f) = rowOf u f (8 * p.val + 3) := by
  have h : 8 * p.val + 3 < 512 := by omega
  have e : b3 u (ix2 p f) = u (ix2 ⟨192 + p.val, by omega⟩ f) := by
    unfold b3
    pointwise
    try exact congrArg (fun q => u (ix2 q f)) (Fin.ext (by show _ = 192 + p.val; omega))
  rw [e, rowOf, dif_pos h]
  refine congrArg (fun q => u (ix2 q f)) (Fin.ext ?_)
  show 192 + p.val = 64 * ((8 * p.val + 3) % 8) + (8 * p.val + 3) / 8
  omega

theorem b4_apply : b4 u (ix2 p f) = rowOf u f (8 * p.val + 4) := by
  have h : 8 * p.val + 4 < 512 := by omega
  have e : b4 u (ix2 p f) = u (ix2 ⟨256 + p.val, by omega⟩ f) := by
    unfold b4
    pointwise
    try exact congrArg (fun q => u (ix2 q f)) (Fin.ext (by show _ = 256 + p.val; omega))
  rw [e, rowOf, dif_pos h]
  refine congrArg (fun q => u (ix2 q f)) (Fin.ext ?_)
  show 256 + p.val = 64 * ((8 * p.val + 4) % 8) + (8 * p.val + 4) / 8
  omega

theorem b5_apply : b5 u (ix2 p f) = rowOf u f (8 * p.val + 5) := by
  have h : 8 * p.val + 5 < 512 := by omega
  have e : b5 u (ix2 p f) = u (ix2 ⟨320 + p.val, by omega⟩ f) := by
    unfold b5
    pointwise
    try exact congrArg (fun q => u (ix2 q f)) (Fin.ext (by show _ = 320 + p.val; omega))
  rw [e, rowOf, dif_pos h]
  refine congrArg (fun q => u (ix2 q f)) (Fin.ext ?_)
  show 320 + p.val = 64 * ((8 * p.val + 5) % 8) + (8 * p.val + 5) / 8
  omega

theorem b6_apply : b6 u (ix2 p f) = rowOf u f (8 * p.val + 6) := by
  have h : 8 * p.val + 6 < 512 := by omega
  have e : b6 u (ix2 p f) = u (ix2 ⟨384 + p.val, by omega⟩ f) := by
    unfold b6
    pointwise
    try exact congrArg (fun q => u (ix2 q f)) (Fin.ext (by show _ = 384 + p.val; omega))
  rw [e, rowOf, dif_pos h]
  refine congrArg (fun q => u (ix2 q f)) (Fin.ext ?_)
  show 384 + p.val = 64 * ((8 * p.val + 6) % 8) + (8 * p.val + 6) / 8
  omega

theorem b7_apply : b7 u (ix2 p f) = rowOf u f (8 * p.val + 7) := by
  have h : 8 * p.val + 7 < 512 := by omega
  have e : b7 u (ix2 p f) = u (ix2 ⟨448 + p.val, by omega⟩ f) := by
    unfold b7
    pointwise
    try exact congrArg (fun q => u (ix2 q f)) (Fin.ext (by show _ = 448 + p.val; omega))
  rw [e, rowOf, dif_pos h]
  refine congrArg (fun q => u (ix2 q f)) (Fin.ext ?_)
  show 448 + p.val = 64 * ((8 * p.val + 7) % 8) + (8 * p.val + 7) / 8
  omega

end

section
variable (w0 w1 w2 b : Vec Ideal S1x256 .f32) (t1 t2 : Vec Ideal S1x8x256 .f32) (u : FVec Ideal S512x256 .f32)

/-- The convolution's blocks. -/
def blocks : Fin 8 → FVec Ideal S64x256 .f32
  | 0 => line w0 w1 w2 b (prev t2 (b6 u)) (prev t1 (b7 u)) (b0 u)
  | 1 => line w0 w1 w2 b (prev t1 (b7 u)) (b0 u) (b1 u)
  | 2 => line w0 w1 w2 b (b0 u) (b1 u) (b2 u)
  | 3 => line w0 w1 w2 b (b1 u) (b2 u) (b3 u)
  | 4 => line w0 w1 w2 b (b2 u) (b3 u) (b4 u)
  | 5 => line w0 w1 w2 b (b3 u) (b4 u) (b5 u)
  | 6 => line w0 w1 w2 b (b4 u) (b5 u) (b6 u)
  | 7 => line w0 w1 w2 b (b5 u) (b6 u) (b7 u)

theorem conv_at (k : Fin 8) (p : Fin 64) (f : Fin 256) :
    conv w0 w1 w2 b t1 t2 u (ix2 ⟨64 * k.val + p.val, by omega⟩ f) = blocks w0 w1 w2 b t1 t2 u k (ix2 p f) := by
  have hk := k.isLt
  exact concatenate_ofFn_apply (t := S512x256) 0 (blocks w0 w1 w2 b t1 t2 u) _ rfl 64 rfl (ix2 ⟨64 * k.val + p.val, by omega⟩ f)
    k (by show (64 * k.val + p.val) / 64 = k.val; omega) (ix2 p f) (by show p.val = (64 * k.val + p.val) % 64; omega)
    (Fin.forall_fin_two.mpr ⟨fun h => absurd rfl h, fun _ => rfl⟩)

/-- The convolution of three rows. -/
def three (r0 r1 r2 : EReal) (f : Fin 256) : EReal :=
  b (ix2 0 f) + w2 (ix2 0 f) * r2 + w1 (ix2 0 f) * r1 + w0 (ix2 0 f) * r0

/-- The convolution at a row: the two rows before it, out of the tails at the tile's start. -/
theorem conv_apply (r : Fin 512) (f : Fin 256) :
    conv w0 w1 w2 b t1 t2 u (ix2 (perm r) f)
      = three w0 w1 w2 b (if r.val < 1 then t2 (ix3 0 7 f) else if r.val < 2 then t1 (ix3 0 7 f) else rowOf u f (r.val - 2))
          (if r.val < 1 then t1 (ix3 0 7 f) else rowOf u f (r.val - 1)) (rowOf u f r.val) f := by
  obtain ⟨p, k, hr⟩ : ∃ (p : Fin 64) (k : Fin 8), r.val = 8 * p.val + k.val :=
    ⟨⟨r.val / 8, by have := r.isLt; omega⟩, ⟨r.val % 8, by omega⟩, by show r.val = 8 * (r.val / 8) + r.val % 8; omega⟩
  have hp : perm r = ⟨64 * k.val + p.val, by omega⟩ := Fin.ext (by
    have hk := k.isLt
    have e1 : r.val % 8 = k.val := by omega
    have e2 : r.val / 8 = p.val := by omega
    show 64 * (r.val % 8) + r.val / 8 = 64 * k.val + p.val
    rw [e1, e2])
  rw [hp, conv_at, hr]
  have hpp := p.isLt
  match k with
  | 0 =>
    show line w0 w1 w2 b (prev t2 (b6 u)) (prev t1 (b7 u)) (b0 u) (ix2 p f) = three w0 w1 w2 b (if 8 * p.val + 0 < 1 then _ else if 8 * p.val + 0 < 2 then _ else rowOf u f (8 * p.val + 0 - 2)) (if 8 * p.val + 0 < 1 then _ else rowOf u f (8 * p.val + 0 - 1)) (rowOf u f (8 * p.val + 0)) f
    rw [line_apply, prev_apply, prev_apply, b6_apply, b7_apply, b0_apply]
    by_cases h : p.val = 0
    · rw [if_pos h, if_pos h, if_pos (by omega), if_pos (by omega)]
      rfl
    · rw [if_neg h, if_neg h, if_neg (by omega), if_neg (by omega), if_neg (by omega),
        show 8 * (p.val - 1) + 7 = 8 * p.val + 0 - 1 by omega, show 8 * (p.val - 1) + 6 = 8 * p.val + 0 - 2 by omega]
      rfl
  | 1 =>
    show line w0 w1 w2 b (prev t1 (b7 u)) (b0 u) (b1 u) (ix2 p f) = three w0 w1 w2 b (if 8 * p.val + 1 < 1 then _ else if 8 * p.val + 1 < 2 then _ else rowOf u f (8 * p.val + 1 - 2)) (if 8 * p.val + 1 < 1 then _ else rowOf u f (8 * p.val + 1 - 1)) (rowOf u f (8 * p.val + 1)) f
    rw [line_apply, prev_apply, b7_apply, b0_apply, b1_apply, if_neg (by omega : ¬ 8 * p.val + 1 < 1), if_neg (by omega : ¬ 8 * p.val + 1 < 1)]
    by_cases h : p.val = 0
    · rw [if_pos h, if_pos (by omega)]
      rfl
    · rw [if_neg h, if_neg (by omega), show 8 * (p.val - 1) + 7 = 8 * p.val + 1 - 2 by omega]
      rfl
  | 2 =>
    show line w0 w1 w2 b (b0 u) (b1 u) (b2 u) (ix2 p f) = three w0 w1 w2 b (if 8 * p.val + 2 < 1 then _ else if 8 * p.val + 2 < 2 then _ else rowOf u f (8 * p.val + 2 - 2)) (if 8 * p.val + 2 < 1 then _ else rowOf u f (8 * p.val + 2 - 1)) (rowOf u f (8 * p.val + 2)) f
    rw [line_apply, b0_apply, b1_apply, b2_apply, if_neg (by omega), if_neg (by omega), if_neg (by omega)]
    rfl
  | 3 =>
    show line w0 w1 w2 b (b1 u) (b2 u) (b3 u) (ix2 p f) = three w0 w1 w2 b (if 8 * p.val + 3 < 1 then _ else if 8 * p.val + 3 < 2 then _ else rowOf u f (8 * p.val + 3 - 2)) (if 8 * p.val + 3 < 1 then _ else rowOf u f (8 * p.val + 3 - 1)) (rowOf u f (8 * p.val + 3)) f
    rw [line_apply, b1_apply, b2_apply, b3_apply, if_neg (by omega), if_neg (by omega), if_neg (by omega)]
    rfl
  | 4 =>
    show line w0 w1 w2 b (b2 u) (b3 u) (b4 u) (ix2 p f) = three w0 w1 w2 b (if 8 * p.val + 4 < 1 then _ else if 8 * p.val + 4 < 2 then _ else rowOf u f (8 * p.val + 4 - 2)) (if 8 * p.val + 4 < 1 then _ else rowOf u f (8 * p.val + 4 - 1)) (rowOf u f (8 * p.val + 4)) f
    rw [line_apply, b2_apply, b3_apply, b4_apply, if_neg (by omega), if_neg (by omega), if_neg (by omega)]
    rfl
  | 5 =>
    show line w0 w1 w2 b (b3 u) (b4 u) (b5 u) (ix2 p f) = three w0 w1 w2 b (if 8 * p.val + 5 < 1 then _ else if 8 * p.val + 5 < 2 then _ else rowOf u f (8 * p.val + 5 - 2)) (if 8 * p.val + 5 < 1 then _ else rowOf u f (8 * p.val + 5 - 1)) (rowOf u f (8 * p.val + 5)) f
    rw [line_apply, b3_apply, b4_apply, b5_apply, if_neg (by omega), if_neg (by omega), if_neg (by omega)]
    rfl
  | 6 =>
    show line w0 w1 w2 b (b4 u) (b5 u) (b6 u) (ix2 p f) = three w0 w1 w2 b (if 8 * p.val + 6 < 1 then _ else if 8 * p.val + 6 < 2 then _ else rowOf u f (8 * p.val + 6 - 2)) (if 8 * p.val + 6 < 1 then _ else rowOf u f (8 * p.val + 6 - 1)) (rowOf u f (8 * p.val + 6)) f
    rw [line_apply, b4_apply, b5_apply, b6_apply, if_neg (by omega), if_neg (by omega), if_neg (by omega)]
    rfl
  | 7 =>
    show line w0 w1 w2 b (b5 u) (b6 u) (b7 u) (ix2 p f) = three w0 w1 w2 b (if 8 * p.val + 7 < 1 then _ else if 8 * p.val + 7 < 2 then _ else rowOf u f (8 * p.val + 7 - 2)) (if 8 * p.val + 7 < 1 then _ else rowOf u f (8 * p.val + 7 - 1)) (rowOf u f (8 * p.val + 7)) f
    rw [line_apply, b5_apply, b6_apply, b7_apply, if_neg (by omega), if_neg (by omega), if_neg (by omega)]
    rfl

end

theorem acts_apply (a : Fin 11 → FVec Ideal S512x256 .bf16) (r : Fin 512) (f : Fin 2816) :
    acts a (ix2 r f) = a ⟨f.val / 256, by have := f.isLt; omega⟩ (ix2 r ⟨f.val % 256, Nat.mod_lt _ (by norm_num)⟩) := by
  have hf := f.isLt
  exact concatenate_ofFn_apply (t := S512x2816) 1 a _ rfl 256 rfl (ix2 r f)
    ⟨f.val / 256, by omega⟩ rfl (ix2 r ⟨f.val % 256, Nat.mod_lt _ (by norm_num)⟩) rfl
    (Fin.forall_fin_two.mpr ⟨fun _ => rfl, fun h => absurd rfl h⟩)

theorem tail7_apply (u : FVec Ideal S512x256 .f32) (f : Fin 256) : tail (b7 u) (ix3 0 7 f) = rowOf u f 511 := by
  rw [tail_apply, b7_apply]
  rfl

theorem tail6_apply (u : FVec Ideal S512x256 .f32) (f : Fin 256) : tail (b6 u) (ix3 0 7 f) = rowOf u f 510 := by
  rw [tail_apply, b6_apply]
  rfl

end Cert.Kernel2Ideal.Net
-- ==== Proof.Cut.lean ====
/- The network's loads and the columns they take. -/
module

public import proofs.«01_k».proof.Proof.Place

@[expose] public section

set_option maxRecDepth 16384

noncomputable section

namespace Cert.Kernel2Ideal.Net

open Cert.Kernel2Ideal Cert.Kernel2Ideal.Gen Idealize.ShloMosaic

theorem inb6 (j : ℕ) (h : j + 256 ≤ 5632) : ∀ a, (![0, j] : Fin 2 → ℕ) a + (![1024, 256] : Fin 2 → ℕ) a ≤ (![1024, 5632] : Fin 2 → ℕ) a
  | 0 => le_refl 1024
  | 1 => h

theorem inb7 (t : ℕ) (ht : t + 1 ≤ 3) (j : ℕ) (h : j + 256 ≤ 5632) : ∀ a, (![t, j] : Fin 2 → ℕ) a + (![1, 256] : Fin 2 → ℕ) a ≤ (![3, 5632] : Fin 2 → ℕ) a
  | 0 => ht
  | 1 => h

theorem inb8 (j : ℕ) (h : j + 256 ≤ 5632) : ∀ a, (![0, j] : Fin 2 → ℕ) a + (![1, 256] : Fin 2 → ℕ) a ≤ (![1, 5632] : Fin 2 → ℕ) a
  | 0 => le_refl 1
  | 1 => h

theorem inb16 (n : ℕ) (h : n + 1 ≤ 44) : ∀ a, (![n, 0, 0] : Fin 3 → ℕ) a + (![1, 8, 256] : Fin 3 → ℕ) a ≤ (![44, 8, 256] : Fin 3 → ℕ) a
  | 0 => h
  | 1 => le_refl 8
  | 2 => le_refl 256

section
variable (arg6 : Memref sig .tc .vmem S1024x5632 .bf16) (harg6 : arg6.IsWhole) (arg7 : Memref sig .tc .vmem S3x5632 .f32) (harg7 : arg7.IsWhole)
  (arg8 : Memref sig .tc .vmem S1x5632 .f32) (harg8 : arg8.IsWhole) (arg16 : Memref sig .tc .vmem S44x8x256 .f32) (harg16 : arg16.IsWhole)
  (x5 : Vec Ideal S1024x5632 .bf16) (x6 : Vec Ideal S3x5632 .f32) (x7 : Vec Ideal S1x5632 .f32) (xs4 : Vec Ideal S44x8x256 .f32)

/-- Columns of the upward weights, loaded. -/
def ld6 (j : ℕ) (h : j + 256 ≤ 5632) : Vec Ideal S1024x256 .bf16 :=
  View.readAt (Elt Ideal) arg6.view (Rect.unit (s := S1024x5632) ![0, j] S1024x256.size (inb6 j h)).toLoadRect (harg6.unread x5)

/-- A tap's columns, loaded. -/
def ld7 (t : ℕ) (ht : t + 1 ≤ 3) (j : ℕ) (h : j + 256 ≤ 5632) : Vec Ideal S1x256 .f32 :=
  View.readAt (Elt Ideal) arg7.view (Rect.unit (s := S3x5632) ![t, j] S1x256.size (inb7 t ht j h)).toLoadRect (harg7.unread x6)

/-- The bias's columns, loaded. -/
def ld8 (j : ℕ) (h : j + 256 ≤ 5632) : Vec Ideal S1x256 .f32 :=
  View.readAt (Elt Ideal) arg8.view (Rect.unit (s := S1x5632) ![0, j] S1x256.size (inb8 j h)).toLoadRect (harg8.unread x7)

/-- A tail of the tile before, loaded. -/
def ld16 (n : ℕ) (h : n + 1 ≤ 44) : Vec Ideal S1x8x256 .f32 :=
  View.readAt (Elt Ideal) arg16.view (Rect.unit (s := S44x8x256) ![n, 0, 0] S1x8x256.size (inb16 n h)).toLoadRect (harg16.unread xs4)

/-- Columns of the upward weights. -/
def cut6 (j : ℕ) (h : j + 256 ≤ 5632) : Vec Ideal S1024x256 .bf16 := fun y => x5 (ix2 (y 0) ⟨j + (y 1).val, by have := (y 1).isLt; change _ < 256 at this; omega⟩)

/-- A tap's columns. -/
def cut7 (t : ℕ) (ht : t + 1 ≤ 3) (j : ℕ) (h : j + 256 ≤ 5632) : Vec Ideal S1x256 .f32 :=
  fun y => x6 (ix2 ⟨t, ht⟩ ⟨j + (y 1).val, by have := (y 1).isLt; change _ < 256 at this; omega⟩)

/-- The bias's columns. -/
def cut8 (j : ℕ) (h : j + 256 ≤ 5632) : Vec Ideal S1x256 .f32 := fun y => x7 (ix2 0 ⟨j + (y 1).val, by have := (y 1).isLt; change _ < 256 at this; omega⟩)

/-- A tail of the tile before. -/
def cut16 (n : ℕ) (h : n + 1 ≤ 44) : Vec Ideal S1x8x256 .f32 := fun y => xs4 (ix3 ⟨n, h⟩ (y 1) (y 2))

theorem ld6_eq (j : ℕ) (h : j + 256 ≤ 5632) : ld6 arg6 harg6 x5 j h = cut6 x5 j h := by
  funext y
  unfold ld6 cut6
  rw [View.readAt_eq_ld, harg6.read_unread]
  refine View.ld_unit_apply_of _ _ _ _ _ _ fun a => ?_
  match a with
  | 0 => show (y 0).val = 0 + (y 0).val; omega
  | 1 => rfl

theorem ld7_eq (t : ℕ) (ht : t + 1 ≤ 3) (j : ℕ) (h : j + 256 ≤ 5632) : ld7 arg7 harg7 x6 t ht j h = cut7 x6 t ht j h := by
  funext y
  unfold ld7 cut7
  rw [View.readAt_eq_ld, harg7.read_unread]
  refine View.ld_unit_apply_of _ _ _ _ _ _ fun a => ?_
  match a with
  | 0 => show t = t + (y 0).val; have := (y 0).isLt; change _ < 1 at this; omega
  | 1 => rfl

theorem ld8_eq (j : ℕ) (h : j + 256 ≤ 5632) : ld8 arg8 harg8 x7 j h = cut8 x7 j h := by
  funext y
  unfold ld8 cut8
  rw [View.readAt_eq_ld, harg8.read_unread]
  refine View.ld_unit_apply_of _ _ _ _ _ _ fun a => ?_
  match a with
  | 0 => show 0 = 0 + (y 0).val; have := (y 0).isLt; change _ < 1 at this; omega
  | 1 => rfl

theorem ld16_eq (n : ℕ) (h : n + 1 ≤ 44) : ld16 arg16 harg16 xs4 n h = cut16 xs4 n h := by
  funext y
  unfold ld16 cut16
  rw [View.readAt_eq_ld, harg16.read_unread]
  refine View.ld_unit_apply_of _ _ _ _ _ _ fun a => ?_
  match a with
  | 0 => show n = n + (y 0).val; have := (y 0).isLt; change _ < 1 at this; omega
  | 1 => show (y 1).val = 0 + (y 1).val; omega
  | 2 => show (y 2).val = 0 + (y 2).val; omega

end

/-- A slot's convolution. -/
def slot (x6 : Vec Ideal S3x5632 .f32) (x7 : Vec Ideal S1x5632 .f32) (t1 t2 : Vec Ideal S1x8x256 .f32) (u : FVec Ideal S512x256 .f32)
    (j : ℕ) (h : j + 256 ≤ 5632) : FVec Ideal S512x256 .f32 :=
  conv (cut7 x6 0 (by norm_num) j h) (cut7 x6 1 (by norm_num) j h) (cut7 x6 2 (by norm_num) j h) (cut8 x7 j h) t1 t2 u

end Cert.Kernel2Ideal.Net
-- ==== Proof.Slots.lean ====
/- The twenty-two column slots of a tile and the tails they leave. -/
module

public import proofs.«01_k».proof.Proof.Cut

@[expose] public section

set_option maxRecDepth 16384

noncomputable section

namespace Cert.Kernel2Ideal.Net

open Cert.Kernel2Ideal Cert.Kernel2Ideal.Gen Idealize.ShloMosaic

/-- The first column of a slot: gates at even slots, values at odd ones. -/
def colOf (s : ℕ) : ℕ := 256 * (s / 2) + 2816 * (s % 2)

theorem colOf_le (s : ℕ) (h : s < 22) : colOf s + 256 ≤ 5632 := by unfold colOf; omega

/-- A slot of the upward projection. -/
def uSlot (x5 : Vec Ideal S1024x5632 .bf16) (H : FVec Ideal S512x1024 .bf16) (s : ℕ) (h : s < 22) : FVec Ideal S512x256 .f32 :=
  cols H (cut6 x5 (colOf s) (colOf_le s h))

/-- A slot's convolution over tails `T`. -/
def cSlot (x5 : Vec Ideal S1024x5632 .bf16) (x6 : Vec Ideal S3x5632 .f32) (x7 : Vec Ideal S1x5632 .f32) (H : FVec Ideal S512x1024 .bf16)
    (T : (n : ℕ) → n + 1 ≤ 44 → Vec Ideal S1x8x256 .f32) (s : ℕ) (h : s < 22) : FVec Ideal S512x256 .f32 :=
  slot x6 x7 (T (2 * s) (by omega)) (T (2 * s + 1) (by omega)) (uSlot x5 H s h) (colOf s) (colOf_le s h)

/-- The activations' columns `256 j` to `256 j + 255`. -/
def actSlot (x5 : Vec Ideal S1024x5632 .bf16) (x6 : Vec Ideal S3x5632 .f32) (x7 : Vec Ideal S1x5632 .f32) (H : FVec Ideal S512x1024 .bf16)
    (T : (n : ℕ) → n + 1 ≤ 44 → Vec Ideal S1x8x256 .f32) (j : Fin 11) : FVec Ideal S512x256 .bf16 :=
  gated (cSlot x5 x6 x7 H T (2 * j.val) (by omega)) (cSlot x5 x6 x7 H T (2 * j.val + 1) (by omega))

/-- The tail a slot leaves: of its rows by residue, the last block's and the last but one's. -/
def tailOf (x5 : Vec Ideal S1024x5632 .bf16) (H : FVec Ideal S512x1024 .bf16) (n : ℕ) (h : n + 1 ≤ 44) : Vec Ideal S1x8x256 .f32 :=
  if n % 2 = 0 then tail (b7 (uSlot x5 H (n / 2) (by omega))) else tail (b6 (uSlot x5 H (n / 2) (by omega)))

theorem pay7 (x5 : Vec Ideal S1024x5632 .bf16) (H : FVec Ideal S512x1024 .bf16) (arg6 : Memref sig .tc .vmem S1024x5632 .bf16) (harg6 : arg6.IsWhole)
    (n : ℕ) (h : n + 1 ≤ 44) (j : ℕ) (hj : j + 256 ≤ 5632) (e : n % 2 = 0) (ej : colOf (n / 2) = j) :
    tail (b7 (cols H (ld6 arg6 harg6 x5 j hj))) = tailOf x5 H n h := by
  subst ej
  rw [ld6_eq, tailOf, if_pos e]
  rfl

theorem pay6 (x5 : Vec Ideal S1024x5632 .bf16) (H : FVec Ideal S512x1024 .bf16) (arg6 : Memref sig .tc .vmem S1024x5632 .bf16) (harg6 : arg6.IsWhole)
    (n : ℕ) (h : n + 1 ≤ 44) (j : ℕ) (hj : j + 256 ≤ 5632) (e : n % 2 ≠ 0) (ej : colOf (n / 2) = j) :
    tail (b6 (cols H (ld6 arg6 harg6 x5 j hj))) = tailOf x5 H n h := by
  subst ej
  rw [ld6_eq, tailOf, if_neg e]
  rfl

/-- Eleven activations side by side. -/
def acts11 (a0 a1 a2 a3 a4 a5 a6 a7 a8 a9 a10 : FVec Ideal S512x256 .bf16) : FVec Ideal S512x2816 .bf16 :=
  concatenate S512x2816 1 [⟨S512x256, a0⟩, ⟨S512x256, a1⟩, ⟨S512x256, a2⟩, ⟨S512x256, a3⟩, ⟨S512x256, a4⟩, ⟨S512x256, a5⟩, ⟨S512x256, a6⟩, ⟨S512x256, a7⟩,
    ⟨S512x256, a8⟩, ⟨S512x256, a9⟩, ⟨S512x256, a10⟩]
    concatenates_S512x256_S512x256_S512x256_S512x256_S512x256_S512x256_S512x256_S512x256_S512x256_S512x256_S512x256_S512x2816_d1

theorem acts11_eq (a : Fin 11 → FVec Ideal S512x256 .bf16) : acts11 (a 0) (a 1) (a 2) (a 3) (a 4) (a 5) (a 6) (a 7) (a 8) (a 9) (a 10) = acts a := rfl

theorem pay_closing (a0 a1 a2 a3 a4 a5 a6 a7 a8 a9 : FVec Ideal S512x256 .bf16) (u v : FVec Ideal S512x256 .f32) (X : FVec Ideal S512x1024 .f32) (w w' : Vec Ideal S2816x1024 .bf16)
    (g g' : Vec Ideal S1x1024 .f32) (hw : w = w') (hg : g = g') (a : Fin 11 → FVec Ideal S512x256 .bf16) (h0 : a0 = a 0) (h1 : a1 = a 1) (h2 : a2 = a 2) (h3 : a3 = a 3) (h4 : a4 = a 4) (h5 : a5 = a 5) (h6 : a6 = a 6) (h7 : a7 = a 7) (h8 : a8 = a 8) (h9 : a9 = a 9) (h10 : gated u v = a 10) :
    k0_pay589 (F := Ideal) a0 a1 a2 a3 a4 a5 a6 a7 a8 a9 u v (k0_pay588 u) (Scalar.ofBits .f32 0x3F800000#32) X w g = closing X (acts a) w' g' := by
  subst hw hg h0 h1 h2 h3 h4 h5 h6 h7 h8 h9
  refine Eq.trans (b := closing X (acts11 (a 0) (a 1) (a 2) (a 3) (a 4) (a 5) (a 6) (a 7) (a 8) (a 9) (gated u v)) w g) rfl ?_
  rw [h10, acts11_eq]

/-- A list of pieces has the tails `tl` at the first `m` entries and `z` behind them. -/
structure Kept (tl : (n : ℕ) → n + 1 ≤ 44 → Vec Ideal S1x8x256 .f32) (z : S44x8x256.Idx → EReal) (m : ℕ) (L : List (View.Piece (Elt Ideal) S44x8x256 .f32)) : Prop where
  kept : ∀ (n : ℕ) (h : n + 1 ≤ 44) (r : Fin 8) (f : Fin 256), n < m → View.canon L (ix3 ⟨n, h⟩ r f) = tl n h (ix3 0 r f)
  left : ∀ (n : ℕ) (h : n + 1 ≤ 44) (r : Fin 8) (f : Fin 256), m ≤ n → View.canon L (ix3 ⟨n, h⟩ r f) = z (ix3 ⟨n, h⟩ r f)

theorem Kept.start (tl : (n : ℕ) → n + 1 ≤ 44 → Vec Ideal S1x8x256 .f32) (L : List (View.Piece (Elt Ideal) S44x8x256 .f32)) : Kept tl (View.canon L) 0 L :=
  ⟨fun n _ _ _ h => absurd h (Nat.not_lt_zero n), fun _ _ _ _ _ => rfl⟩

theorem Kept.step {tl : (n : ℕ) → n + 1 ≤ 44 → Vec Ideal S1x8x256 .f32} {z : S44x8x256.Idx → EReal} {m : ℕ} {L : List (View.Piece (Elt Ideal) S44x8x256 .f32)} (hL : Kept tl z m L)
    (hm : m + 1 ≤ 44) {v : Vec Ideal S1x8x256 .f32} (hv : v = tl m hm) :
    Kept tl z (m + 1) (⟨Rect.unit (s := S44x8x256) ![m, 0, 0] S1x8x256.size (inb16 m hm), v⟩ :: L) := by
  have off (n : ℕ) (h : n + 1 ≤ 44) (r : Fin 8) (f : Fin 256) (hn : n ≠ m) :
      View.canon (⟨Rect.unit (s := S44x8x256) ![m, 0, 0] S1x8x256.size (inb16 m hm), v⟩ :: L) (ix3 ⟨n, h⟩ r f) = View.canon L (ix3 ⟨n, h⟩ r f) := by
    refine View.canon_cons_of_not_mem _ L fun hc => ?_
    have h0 := (Rect.mem_set_unit (s := S44x8x256) (off := ![m, 0, 0]) (size := S1x8x256.size) (inb := inb16 m hm)).mp hc 0
    have h1 : m ≤ n := h0.1
    have h2 : n < m + 1 := h0.2
    omega
  refine ⟨fun n h r f hn => ?_, fun n h r f hn => (off n h r f (by omega)).trans (hL.left n h r f (by omega))⟩
  by_cases e : n = m
  · subst e
    rw [← hv]
    have he : (ix3 ⟨n, h⟩ r f : S44x8x256.Idx) = (Rect.unit (s := S44x8x256) ![n, 0, 0] S1x8x256.size (inb16 n hm)).emb (ix3 0 r f) := by
      funext a
      refine Fin.ext (Eq.trans ?_ (Rect.idx_unit_val _ _ (inb16 n hm) _ a).symm)
      match a with
      | 0 => rfl
      | 1 => show r.val = 0 + r.val; omega
      | 2 => show f.val = 0 + f.val; omega
    rw [he]
    exact View.canon_cons_emb (Rect.unit (s := S44x8x256) ![n, 0, 0] S1x8x256.size (inb16 n hm)) v L (ix3 0 r f)
  · rw [off n h r f e, hL.kept n h r f (by omega)]

/-- Reading an entry that isn't kept yet. -/
theorem Kept.read {tl : (n : ℕ) → n + 1 ≤ 44 → Vec Ideal S1x8x256 .f32} {z : S44x8x256.Idx → EReal} {m : ℕ} {L : List (View.Piece (Elt Ideal) S44x8x256 .f32)} (hL : Kept tl z m L)
    (arg16 : Memref sig .tc .vmem S44x8x256 .f32) (hm : m + 1 ≤ 44) :
    arg16.view.readCov L (Rect.unit (s := S44x8x256) ![m, 0, 0] S1x8x256.size (inb16 m hm)).toLoadRect = cut16 z m hm := by
  rw [View.readCov_eq_canon']
  funext y
  have e : (Rect.unit (s := S44x8x256) ![m, 0, 0] S1x8x256.size (inb16 m hm)).toLoadRect.idx y = ix3 ⟨m, hm⟩ (y 1) (y 2) := by
    funext a
    refine Fin.ext ((Rect.idx_unit_val _ _ (inb16 m hm) _ a).trans ?_)
    match a with
    | 0 => show m + (y 0).val = m; have := (y 0).isLt; change _ < 1 at this; omega
    | 1 => show 0 + (y 1).val = (y 1).val; omega
    | 2 => show 0 + (y 2).val = (y 2).val; omega
  show View.canon L _ = _
  rw [e]
  exact hL.left m hm (y 1) (y 2) (le_refl m)

end Cert.Kernel2Ideal.Net
-- ==== Proof.Perm.lean ====
/- The rows put in order of residue and back through the strided scratch. -/
module

public import proofs.«01_k».proof.Proof.Slots

@[expose] public section

set_option maxRecDepth 16384

noncomputable section

namespace Cert.Kernel2Ideal.Net

open Cert.Kernel2Ideal Cert.Kernel2Ideal.Gen Idealize.ShloMosaic

theorem place_apply (x : FVec Ideal S512x1024 .f32) (j : ℕ) (hj : j + 128 ≤ 1024) (sl : S512x1024.Slices ![0, j] S512x128) (r : Fin 512) (d : Fin 128) :
    (shapeCast S1x512x128 (extractStridedSlice S512x128 ![0, j] x sl : FVec Ideal S512x128 .f32) shapeCasts_S512x128_S1x512x128 : FVec Ideal S1x512x128 .f32) (ix3 0 r d)
      = x (ix2 r ⟨j + d.val, by omega⟩) := by
  pointwise
  try exact congrArg x (congrArg₂ ix2 (Fin.ext (Nat.zero_add _)) rfl)

theorem lay_apply (o : FVec Ideal S512x1024 .f32) (a b : ℕ) (ha : a + 64 ≤ 512) (hb : b + 128 ≤ 1024) (sl : S512x1024.Slices ![a, b] S64x128) (p : Fin 64) (d : Fin 128) :
    (shapeCast S1x64x128 (extractStridedSlice S64x128 ![a, b] o sl : FVec Ideal S64x128 .f32) shapeCasts_S64x128_S1x64x128 : FVec Ideal S1x64x128 .f32) (ix3 0 p d)
      = o (ix2 ⟨a + p.val, by omega⟩ ⟨b + d.val, by omega⟩) := by
  pointwise

theorem inbIn (n : ℕ) (h : n < 8) : ∀ a, (![n, 0, 0] : Fin 3 → ℕ) a + (![1, 512, 128] : Fin 3 → ℕ) a ≤ (![8, 512, 128] : Fin 3 → ℕ) a
  | 0 => h
  | 1 => le_refl 512
  | 2 => le_refl 128

theorem inbOut (n : ℕ) (h : n < 8) (j : ℕ) (hj : j = 128 * n) : ∀ a, (![0, j] : Fin 2 → ℕ) a + (![512, 128] : Fin 2 → ℕ) a ≤ (![512, 1024] : Fin 2 → ℕ) a
  | 0 => le_refl 512
  | 1 => by show j + 128 ≤ 1024; omega

theorem inbRow (c k : ℕ) (hc : c < 8) (hk : k < 8) : ∀ a, (![1, 64, 128] : Fin 3 → ℕ) a = 0 ∨ (![c, k, 0] : Fin 3 → Nat) a + (![1, 8, 1] : Fin 3 → Nat) a * ((![1, 64, 128] : Fin 3 → ℕ) a - 1) < (![8, 512, 128] : Fin 3 → ℕ) a
  | 0 => .inr (by show c + 1 * 0 < 8; omega)
  | 1 => .inr (by show k + 8 * 63 < 512; omega)
  | 2 => .inr (by show 0 + 1 * 127 < 128; omega)

/-- The pieces written so far hold `x`'s columns, 128 to a plane. -/
def Planes (x : FVec Ideal S512x1024 .f32) (m : ℕ) (L : List (View.Piece (Elt Ideal) S8x512x128 .f32)) : Prop :=
  ∀ (c : ℕ) (h : c < 8) (r : Fin 512) (d : Fin 128), c < m → View.canon L (ix3 ⟨c, h⟩ r d) = x (ix2 r ⟨128 * c + d.val, by omega⟩)

theorem Planes.step {x : FVec Ideal S512x1024 .f32} {m : ℕ} {L : List (View.Piece (Elt Ideal) S8x512x128 .f32)} (hL : Planes x m L) (hm : m < 8) {j : ℕ} (hj : j = 128 * m)
    (sl : S512x1024.Slices ![0, j] S512x128) :
    Planes x (m + 1) (⟨Rect.unit (s := S8x512x128) ![m, 0, 0] S1x512x128.size (inbIn m hm),
      (shapeCast S1x512x128 (extractStridedSlice S512x128 ![0, j] x sl : FVec Ideal S512x128 .f32) shapeCasts_S512x128_S1x512x128 : FVec Ideal S1x512x128 .f32)⟩ :: L) := by
  subst hj
  intro n h r d hn
  by_cases e : n = m
  · subst e
    have he : (ix3 ⟨n, h⟩ r d : S8x512x128.Idx) = (Rect.unit (s := S8x512x128) ![n, 0, 0] S1x512x128.size (inbIn n hm)).emb (ix3 0 r d) := by
      funext a
      refine Fin.ext (Eq.trans ?_ (Rect.idx_unit_val _ _ (inbIn n hm) _ a).symm)
      match a with
      | 0 => rfl
      | 1 => show r.val = 0 + r.val; omega
      | 2 => show d.val = 0 + d.val; omega
    rw [he]
    refine (View.canon_cons_emb (Rect.unit (s := S8x512x128) ![n, 0, 0] S1x512x128.size (inbIn n hm)) _ L (ix3 0 r d)).trans ?_
    exact place_apply x (128 * n) (by omega) sl r d
  · refine (View.canon_cons_of_not_mem _ L fun hc => ?_).trans (hL n h r d (by omega))
    have h0 := (Rect.mem_set_unit (s := S8x512x128) (off := ![m, 0, 0]) (size := S1x512x128.size) (inb := inbIn m hm)).mp hc 0
    have h1 : m ≤ n := h0.1
    have h2 : n < m + 1 := h0.2
    omega

/-- Row `8 p + k` of plane `c` for every `p`. -/
def strip (arg : Memref sig .tc .vmem S8x512x128 .f32) (L : List (View.Piece (Elt Ideal) S8x512x128 .f32)) (c k : ℕ) (hc : c < 8) (hk : k < 8) : FVec Ideal S64x128 .f32 :=
  shapeCast S64x128 (arg.view.readCov L { off := ![c, k, 0], size := S1x64x128.size, stride := ![1, 8, 1], inb := inbRow c k hc hk } : Vec Ideal S1x64x128 .f32) shapeCasts_S1x64x128_S64x128

theorem strip_apply {x : FVec Ideal S512x1024 .f32} {L : List (View.Piece (Elt Ideal) S8x512x128 .f32)} (hL : Planes x 8 L) (arg : Memref sig .tc .vmem S8x512x128 .f32)
    (c k : ℕ) (hc : c < 8) (hk : k < 8) (p : Fin 64) (d : Fin 128) :
    strip arg L c k hc hk (ix2 p d) = x (ix2 ⟨8 * p.val + k, by omega⟩ ⟨128 * c + d.val, by omega⟩) := by
  have h : ∀ v : Vec Ideal S1x64x128 .f32, (shapeCast S64x128 v shapeCasts_S1x64x128_S64x128 : FVec Ideal S64x128 .f32) (ix2 p d) = v (ix3 0 p d) := by
    intro v
    pointwise
  unfold strip
  rw [h, View.readCov_eq_canon']
  have e : ({ off := ![c, k, 0], size := S1x64x128.size, stride := ![1, 8, 1], inb := inbRow c k hc hk } : LoadRect S8x512x128).idx (ix3 0 p d)
      = ix3 ⟨c, hc⟩ ⟨8 * p.val + k, by omega⟩ d := by
    funext a
    refine Fin.ext ?_
    match a with
    | 0 => rfl
    | 1 => show k + 8 * p.val = 8 * p.val + k; omega
    | 2 => show 0 + 1 * d.val = d.val; omega
  show View.canon L _ = _
  rw [e]
  exact hL c hc _ d hc

/-- The strips one below another, the planes side by side. -/
def gathered (arg : Memref sig .tc .vmem S8x512x128 .f32) (L : List (View.Piece (Elt Ideal) S8x512x128 .f32)) : FVec Ideal S512x1024 .f32 :=
  concatenate S512x1024 1 [
    ⟨S512x128, concatenate S512x128 0 [⟨S64x128, strip arg L 0 0 (by norm_num) (by norm_num)⟩, ⟨S64x128, strip arg L 0 1 (by norm_num) (by norm_num)⟩, ⟨S64x128, strip arg L 0 2 (by norm_num) (by norm_num)⟩, ⟨S64x128, strip arg L 0 3 (by norm_num) (by norm_num)⟩, ⟨S64x128, strip arg L 0 4 (by norm_num) (by norm_num)⟩, ⟨S64x128, strip arg L 0 5 (by norm_num) (by norm_num)⟩, ⟨S64x128, strip arg L 0 6 (by norm_num) (by norm_num)⟩, ⟨S64x128, strip arg L 0 7 (by norm_num) (by norm_num)⟩]
      concatenates_S64x128_S64x128_S64x128_S64x128_S64x128_S64x128_S64x128_S64x128_S512x128_d0⟩,
    ⟨S512x128, concatenate S512x128 0 [⟨S64x128, strip arg L 1 0 (by norm_num) (by norm_num)⟩, ⟨S64x128, strip arg L 1 1 (by norm_num) (by norm_num)⟩, ⟨S64x128, strip arg L 1 2 (by norm_num) (by norm_num)⟩, ⟨S64x128, strip arg L 1 3 (by norm_num) (by norm_num)⟩, ⟨S64x128, strip arg L 1 4 (by norm_num) (by norm_num)⟩, ⟨S64x128, strip arg L 1 5 (by norm_num) (by norm_num)⟩, ⟨S64x128, strip arg L 1 6 (by norm_num) (by norm_num)⟩, ⟨S64x128, strip arg L 1 7 (by norm_num) (by norm_num)⟩]
      concatenates_S64x128_S64x128_S64x128_S64x128_S64x128_S64x128_S64x128_S64x128_S512x128_d0⟩,
    ⟨S512x128, concatenate S512x128 0 [⟨S64x128, strip arg L 2 0 (by norm_num) (by norm_num)⟩, ⟨S64x128, strip arg L 2 1 (by norm_num) (by norm_num)⟩, ⟨S64x128, strip arg L 2 2 (by norm_num) (by norm_num)⟩, ⟨S64x128, strip arg L 2 3 (by norm_num) (by norm_num)⟩, ⟨S64x128, strip arg L 2 4 (by norm_num) (by norm_num)⟩, ⟨S64x128, strip arg L 2 5 (by norm_num) (by norm_num)⟩, ⟨S64x128, strip arg L 2 6 (by norm_num) (by norm_num)⟩, ⟨S64x128, strip arg L 2 7 (by norm_num) (by norm_num)⟩]
      concatenates_S64x128_S64x128_S64x128_S64x128_S64x128_S64x128_S64x128_S64x128_S512x128_d0⟩,
    ⟨S512x128, concatenate S512x128 0 [⟨S64x128, strip arg L 3 0 (by norm_num) (by norm_num)⟩, ⟨S64x128, strip arg L 3 1 (by norm_num) (by norm_num)⟩, ⟨S64x128, strip arg L 3 2 (by norm_num) (by norm_num)⟩, ⟨S64x128, strip arg L 3 3 (by norm_num) (by norm_num)⟩, ⟨S64x128, strip arg L 3 4 (by norm_num) (by norm_num)⟩, ⟨S64x128, strip arg L 3 5 (by norm_num) (by norm_num)⟩, ⟨S64x128, strip arg L 3 6 (by norm_num) (by norm_num)⟩, ⟨S64x128, strip arg L 3 7 (by norm_num) (by norm_num)⟩]
      concatenates_S64x128_S64x128_S64x128_S64x128_S64x128_S64x128_S64x128_S64x128_S512x128_d0⟩,
    ⟨S512x128, concatenate S512x128 0 [⟨S64x128, strip arg L 4 0 (by norm_num) (by norm_num)⟩, ⟨S64x128, strip arg L 4 1 (by norm_num) (by norm_num)⟩, ⟨S64x128, strip arg L 4 2 (by norm_num) (by norm_num)⟩, ⟨S64x128, strip arg L 4 3 (by norm_num) (by norm_num)⟩, ⟨S64x128, strip arg L 4 4 (by norm_num) (by norm_num)⟩, ⟨S64x128, strip arg L 4 5 (by norm_num) (by norm_num)⟩, ⟨S64x128, strip arg L 4 6 (by norm_num) (by norm_num)⟩, ⟨S64x128, strip arg L 4 7 (by norm_num) (by norm_num)⟩]
      concatenates_S64x128_S64x128_S64x128_S64x128_S64x128_S64x128_S64x128_S64x128_S512x128_d0⟩,
    ⟨S512x128, concatenate S512x128 0 [⟨S64x128, strip arg L 5 0 (by norm_num) (by norm_num)⟩, ⟨S64x128, strip arg L 5 1 (by norm_num) (by norm_num)⟩, ⟨S64x128, strip arg L 5 2 (by norm_num) (by norm_num)⟩, ⟨S64x128, strip arg L 5 3 (by norm_num) (by norm_num)⟩, ⟨S64x128, strip arg L 5 4 (by norm_num) (by norm_num)⟩, ⟨S64x128, strip arg L 5 5 (by norm_num) (by norm_num)⟩, ⟨S64x128, strip arg L 5 6 (by norm_num) (by norm_num)⟩, ⟨S64x128, strip arg L 5 7 (by norm_num) (by norm_num)⟩]
      concatenates_S64x128_S64x128_S64x128_S64x128_S64x128_S64x128_S64x128_S64x128_S512x128_d0⟩,
    ⟨S512x128, concatenate S512x128 0 [⟨S64x128, strip arg L 6 0 (by norm_num) (by norm_num)⟩, ⟨S64x128, strip arg L 6 1 (by norm_num) (by norm_num)⟩, ⟨S64x128, strip arg L 6 2 (by norm_num) (by norm_num)⟩, ⟨S64x128, strip arg L 6 3 (by norm_num) (by norm_num)⟩, ⟨S64x128, strip arg L 6 4 (by norm_num) (by norm_num)⟩, ⟨S64x128, strip arg L 6 5 (by norm_num) (by norm_num)⟩, ⟨S64x128, strip arg L 6 6 (by norm_num) (by norm_num)⟩, ⟨S64x128, strip arg L 6 7 (by norm_num) (by norm_num)⟩]
      concatenates_S64x128_S64x128_S64x128_S64x128_S64x128_S64x128_S64x128_S64x128_S512x128_d0⟩,
    ⟨S512x128, concatenate S512x128 0 [⟨S64x128, strip arg L 7 0 (by norm_num) (by norm_num)⟩, ⟨S64x128, strip arg L 7 1 (by norm_num) (by norm_num)⟩, ⟨S64x128, strip arg L 7 2 (by norm_num) (by norm_num)⟩, ⟨S64x128, strip arg L 7 3 (by norm_num) (by norm_num)⟩, ⟨S64x128, strip arg L 7 4 (by norm_num) (by norm_num)⟩, ⟨S64x128, strip arg L 7 5 (by norm_num) (by norm_num)⟩, ⟨S64x128, strip arg L 7 6 (by norm_num) (by norm_num)⟩, ⟨S64x128, strip arg L 7 7 (by norm_num) (by norm_num)⟩]
      concatenates_S64x128_S64x128_S64x128_S64x128_S64x128_S64x128_S64x128_S64x128_S512x128_d0⟩]
    concatenates_S512x128_S512x128_S512x128_S512x128_S512x128_S512x128_S512x128_S512x128_S512x1024_d1

theorem gathered_apply {x : FVec Ideal S512x1024 .f32} {L : List (View.Piece (Elt Ideal) S8x512x128 .f32)} (hL : Planes x 8 L) (arg : Memref sig .tc .vmem S8x512x128 .f32)
    (r : Fin 512) (q : Fin 1024) : gathered arg L (ix2 (perm r) q) = x (ix2 r q) := by
  have hr := r.isLt
  have hq := q.isLt
  have e1 : gathered arg L (ix2 (perm r) q) = (concatenate S512x128 0 (List.ofFn fun k : Fin 8 => (⟨S64x128, strip arg L (q.val / 128) k.val (by omega) k.isLt⟩ : (s : Shape) × FVec Ideal s .f32))
      concatenates_S64x128_S64x128_S64x128_S64x128_S64x128_S64x128_S64x128_S64x128_S512x128_d0 : FVec Ideal S512x128 .f32) (ix2 (perm r) ⟨q.val % 128, Nat.mod_lt _ (by norm_num)⟩) :=
    concatenate_ofFn_apply (t := S512x1024) 1 (fun c : Fin 8 => (concatenate S512x128 0 (List.ofFn fun k : Fin 8 => (⟨S64x128, strip arg L c.val k.val c.isLt k.isLt⟩ : (s : Shape) × FVec Ideal s .f32))
      concatenates_S64x128_S64x128_S64x128_S64x128_S64x128_S64x128_S64x128_S64x128_S512x128_d0 : FVec Ideal S512x128 .f32)) _ rfl 128 rfl (ix2 (perm r) q)
      ⟨q.val / 128, by omega⟩ rfl (ix2 (perm r) ⟨q.val % 128, Nat.mod_lt _ (by norm_num)⟩) rfl
      (Fin.forall_fin_two.mpr ⟨fun _ => rfl, fun h => absurd rfl h⟩)
  have e2 := concatenate_ofFn_apply (t := S512x128) 0 (fun k : Fin 8 => strip arg L (q.val / 128) k.val (by omega) k.isLt)
      concatenates_S64x128_S64x128_S64x128_S64x128_S64x128_S64x128_S64x128_S64x128_S512x128_d0 rfl 64 rfl (ix2 (perm r) ⟨q.val % 128, Nat.mod_lt _ (by norm_num)⟩)
      ⟨r.val % 8, by omega⟩ (by show (64 * (r.val % 8) + r.val / 8) / 64 = r.val % 8; omega) (ix2 ⟨r.val / 8, by omega⟩ ⟨q.val % 128, Nat.mod_lt _ (by norm_num)⟩)
      (by show r.val / 8 = (64 * (r.val % 8) + r.val / 8) % 64; omega)
      (Fin.forall_fin_two.mpr ⟨fun h => absurd rfl h, fun _ => rfl⟩)
  rw [e1]
  refine e2.trans ((strip_apply hL arg _ _ _ _ _ _).trans (congrArg x (congrArg₂ ix2 (Fin.ext ?_) (Fin.ext ?_))))
  · show 8 * (r.val / 8) + r.val % 8 = r.val
    omega
  · show 128 * (q.val / 128) + q.val % 128 = q.val
    omega

/-- The strips written so far hold `o`'s rows by residue. -/
def Strips (o : FVec Ideal S512x1024 .f32) (m : ℕ) (L : List (View.Piece (Elt Ideal) S8x512x128 .f32)) : Prop :=
  ∀ (c k : ℕ) (hc : c < 8) (hk : k < 8) (p : Fin 64) (d : Fin 128), 8 * c + k < m →
    View.canon L (ix3 ⟨c, hc⟩ ⟨8 * p.val + k, by omega⟩ d) = o (ix2 ⟨64 * k + p.val, by omega⟩ ⟨128 * c + d.val, by omega⟩)

theorem Strips.start (o : FVec Ideal S512x1024 .f32) : Strips o 0 [] := fun _ _ _ _ _ _ h => absurd h (Nat.not_lt_zero _)

theorem Strips.step {o : FVec Ideal S512x1024 .f32} {m : ℕ} {L : List (View.Piece (Elt Ideal) S8x512x128 .f32)} (hL : Strips o m L) (c k : ℕ) (hc : c < 8) (hk : k < 8) (hm : 8 * c + k = m)
    {a b : ℕ} (ha : a = 64 * k) (hb : b = 128 * c) (sl : S512x1024.Slices ![a, b] S64x128) :
    Strips o (m + 1) (⟨{ off := ![c, k, 0], size := S1x64x128.size, stride := ![1, 8, 1], inb := inbRow c k hc hk, stride_pos := spos_1_8_1 },
      (shapeCast S1x64x128 (extractStridedSlice S64x128 ![a, b] o sl : FVec Ideal S64x128 .f32) shapeCasts_S64x128_S1x64x128 : FVec Ideal S1x64x128 .f32)⟩ :: L) := by
  subst ha hb
  intro c' k' hc' hk' p d hn
  by_cases e : c' = c ∧ k' = k
  · obtain ⟨rfl, rfl⟩ := e
    have he : (ix3 ⟨c', hc'⟩ ⟨8 * p.val + k', by omega⟩ d : S8x512x128.Idx)
        = ({ off := ![c', k', 0], size := S1x64x128.size, stride := ![1, 8, 1], inb := inbRow c' k' hc hk, stride_pos := spos_1_8_1 } : Rect S8x512x128).emb (ix3 0 p d) := by
      funext a
      refine Fin.ext ?_
      match a with
      | 0 => rfl
      | 1 => show 8 * p.val + k' = k' + 8 * p.val; omega
      | 2 => show d.val = 0 + 1 * d.val; omega
    rw [he]
    refine (View.canon_cons_emb ({ off := ![c', k', 0], size := S1x64x128.size, stride := ![1, 8, 1], inb := inbRow c' k' hc hk, stride_pos := spos_1_8_1 } : Rect S8x512x128) _ L (ix3 0 p d)).trans ?_
    exact lay_apply o (64 * k') (128 * c') (by omega) (by omega) sl p d
  · refine (View.canon_cons_of_not_mem _ L fun hi => ?_).trans (hL c' k' hc' hk' p d (by omega))
    have hs := (LoadRect.mem_set ({ off := ![c, k, 0], size := S1x64x128.size, stride := ![1, 8, 1], inb := inbRow c k hc hk } : LoadRect S8x512x128)).mp hi
    obtain ⟨j0, h0, g0⟩ := hs 0
    obtain ⟨j1, h1, g1⟩ := hs 1
    change j0 < 1 at h0
    change c' = c + 1 * j0 at g0
    change 8 * p.val + k' = k + 8 * j1 at g1
    omega

/-- The columns written so far are `o`'s, its rows back in order. -/
def Back (o : FVec Ideal S512x1024 .f32) (m : ℕ) (L : List (View.Piece (Elt Ideal) S512x1024 .f32)) : Prop :=
  ∀ (r : Fin 512) (q : Fin 1024), q.val < 128 * m → View.canon L (ix2 r q) = o (ix2 (perm r) q)

theorem Back.start (o : FVec Ideal S512x1024 .f32) : Back o 0 [] := fun _ _ h => absurd h (Nat.not_lt_zero _)

theorem Back.step {o : FVec Ideal S512x1024 .f32} {m : ℕ} {L : List (View.Piece (Elt Ideal) S512x1024 .f32)} (hL : Back o m L) {L3 : List (View.Piece (Elt Ideal) S8x512x128 .f32)} (h3 : Strips o 64 L3)
    (arg : Memref sig .tc .vmem S8x512x128 .f32) (hm : m < 8) {j : ℕ} (hj : j = 128 * m) :
    Back o (m + 1) (⟨Rect.unit (s := S512x1024) ![0, j] S512x128.size (inbOut m hm j hj),
      (shapeCast S512x128 (arg.view.readCov L3 (Rect.unit (s := S8x512x128) ![m, 0, 0] S1x512x128.size (inbIn m hm)).toLoadRect : Vec Ideal S1x512x128 .f32) shapeCasts_S1x512x128_S512x128 : FVec Ideal S512x128 .f32)⟩ :: L) := by
  subst hj
  intro r q hn
  have hr := r.isLt
  by_cases e : 128 * m ≤ q.val
  · have hd : q.val - 128 * m < 128 := by omega
    have he : (ix2 r q : S512x1024.Idx) = (Rect.unit (s := S512x1024) ![0, 128 * m] S512x128.size (inbOut m hm _ rfl)).emb (ix2 r ⟨q.val - 128 * m, hd⟩) := by
      funext a
      refine Fin.ext (Eq.trans ?_ (Rect.idx_unit_val _ _ (inbOut m hm _ rfl) _ a).symm)
      match a with
      | 0 => show r.val = 0 + r.val; omega
      | 1 => show q.val = 128 * m + (q.val - 128 * m); omega
    have h : ∀ v : Vec Ideal S1x512x128 .f32, (shapeCast S512x128 v shapeCasts_S1x512x128_S512x128 : FVec Ideal S512x128 .f32) (ix2 r ⟨q.val - 128 * m, hd⟩) = v (ix3 0 r ⟨q.val - 128 * m, hd⟩) := by
      intro v
      pointwise
    rw [he]
    refine (View.canon_cons_emb (Rect.unit (s := S512x1024) ![0, 128 * m] S512x128.size (inbOut m hm _ rfl)) _ L (ix2 r ⟨q.val - 128 * m, hd⟩)).trans ((h _).trans ?_)
    rw [View.readCov_eq_canon']
    have e3 : (Rect.unit (s := S8x512x128) ![m, 0, 0] S1x512x128.size (inbIn m hm)).toLoadRect.idx (ix3 0 r ⟨q.val - 128 * m, hd⟩)
        = ix3 ⟨m, hm⟩ ⟨8 * (⟨r.val / 8, by omega⟩ : Fin 64).val + r.val % 8, by show 8 * (r.val / 8) + r.val % 8 < 512; omega⟩ ⟨q.val - 128 * m, hd⟩ := by
      funext a
      refine Fin.ext ((Rect.idx_unit_val _ _ (inbIn m hm) _ a).trans ?_)
      match a with
      | 0 => rfl
      | 1 => show 0 + r.val = 8 * (r.val / 8) + r.val % 8; omega
      | 2 => show 0 + (q.val - 128 * m) = q.val - 128 * m; omega
    show View.canon L3 _ = _
    rw [e3, h3 m (r.val % 8) hm (by omega) ⟨r.val / 8, by omega⟩ ⟨q.val - 128 * m, hd⟩ (by omega)]
    refine congrArg o (congrArg₂ ix2 rfl (Fin.ext ?_))
    show 128 * m + (q.val - 128 * m) = q.val
    omega
  · refine (View.canon_cons_of_not_mem _ L fun hi => ?_).trans (hL r q (by omega))
    have h0 := (Rect.mem_set_unit (s := S512x1024) (off := ![0, 128 * m]) (size := S512x128.size) (inb := inbOut m hm _ rfl)).mp hi 1
    have h1 : 128 * m ≤ q.val := h0.1
    omega

/-- A whole store read back. -/
theorem read_whole {S : Shape} {e : EltTy} (arg : Memref sig .tc .vmem S e) {off : Fin S.rank → ℕ} (inb inb' : ∀ a, off a + S.size a ≤ S.size a) (h : ∀ a, off a = 0) (w : S.Idx → Elt Ideal e) :
    arg.view.readCov (Val := Elt Ideal) [⟨Rect.unit off S.size inb, w⟩] (Rect.unit off S.size inb').toLoadRect = w := by
  rw [View.readCov_eq_canon']
  funext y
  have ei : (Rect.unit off S.size inb').toLoadRect.idx y = y := by
    funext a
    refine Fin.ext ((Rect.idx_unit_val _ _ inb' _ a).trans ?_)
    rw [h a, Nat.zero_add]
  show View.canon _ _ = _
  rw [ei, View.canon_cons_unit_lit inb w [] h]

end Cert.Kernel2Ideal.Net
-- ==== Proof.Done.lean ====
/- What one tile computes, its rows in order. -/
module

public import proofs.«01_k».proof.Proof.Perm

@[expose] public section

set_option maxRecDepth 16384

noncomputable section

namespace Cert.Kernel2Ideal.Net

open Cert.Kernel2Ideal Cert.Kernel2Ideal.Gen Idealize.ShloMosaic

theorem inbW (a : ℕ) (h : a + 1024 ≤ 2048) : ∀ d, (![a, 0] : Fin 2 → ℕ) d + (![1024, 1024] : Fin 2 → ℕ) d ≤ (![2048, 1024] : Fin 2 → ℕ) d
  | 0 => h
  | 1 => le_refl 1024

/-- A half of the mixing weights. -/
def cutW (x3 : Vec Ideal S2048x1024 .bf16) (a : ℕ) (h : a + 1024 ≤ 2048) : Vec Ideal S1024x1024 .bf16 :=
  fun y => x3 (ix2 ⟨a + (y 0).val, by have := (y 0).isLt; change _ < 1024 at this; omega⟩ (y 1))

theorem ldW_eq {arg4 : Memref sig .tc .vmem S2048x1024 .bf16} (harg4 : arg4.IsWhole) (x3 : Vec Ideal S2048x1024 .bf16) (a : ℕ) (h : a + 1024 ≤ 2048) :
    View.readAt (Elt Ideal) arg4.view (Rect.unit (s := S2048x1024) ![a, 0] S1024x1024.size (inbW a h)).toLoadRect (harg4.unread x3) = cutW x3 a h := by
  funext y
  unfold cutW
  rw [View.readAt_eq_ld, harg4.read_unread]
  refine View.ld_unit_apply_of _ _ _ _ _ _ fun d => ?_
  match d with
  | 0 => rfl
  | 1 => show (y 1).val = 0 + (y 1).val; omega

theorem ld_whole {S : Shape} {e : EltTy} {arg : Memref sig .tc .vmem S e} (harg : arg.IsWhole) {off : Fin S.rank → ℕ} (inb : ∀ a, off a + S.size a ≤ S.size a) (h : ∀ a, off a = 0) (x : Vec Ideal S e) :
    View.readAt (Elt Ideal) arg.view (Rect.unit off S.size inb).toLoadRect (harg.unread x) = x := by
  rw [View.readAt_eq_ld, harg.read_unread]
  exact View.ld_unit_lit _ _ h

theorem cast_f32 (x : FVec Ideal S512x1024 .f32) : (shapeCast S512x1024 x shapeCasts_S512x1024_S512x1024 : FVec Ideal S512x1024 .f32) = x := by
  funext y
  obtain ⟨r, q, rfl⟩ : ∃ (r : Fin 512) (q : Fin 1024), y = ix2 r q := ⟨y 0, y 1, by funext i; match i with | 0 => rfl | 1 => rfl⟩
  pointwise

theorem cast_bf16 (x : FVec Ideal S512x1024 .bf16) : (shapeCast S512x1024 x shapeCasts_S512x1024_S512x1024 : FVec Ideal S512x1024 .bf16) = x := by
  funext y
  obtain ⟨r, q, rfl⟩ : ∃ (r : Fin 512) (q : Fin 1024), y = ix2 r q := ⟨y 0, y 1, by funext i; match i with | 0 => rfl | 1 => rfl⟩
  pointwise

/-- The normed rows the upward projection reads. -/
def halved (X : FVec Ideal S512x1024 .f32) (x4 : Vec Ideal S1x1024 .f32) : FVec Ideal S512x1024 .bf16 := truncf .bf16 (normed X x4) bitsLt_bf16_f32

/-- A tile: `X` holds the mixed rows by residue, `out` the closing rows in order, `car` the tails left. -/
structure Done (x0 : Vec Ideal S512x1024 .f32) (x1 x2 : Vec Ideal S512x1024 .bf16) (x3 : Vec Ideal S2048x1024 .bf16) (x4 : Vec Ideal S1x1024 .f32)
    (x5 : Vec Ideal S1024x5632 .bf16) (x6 : Vec Ideal S3x5632 .f32) (x7 : Vec Ideal S1x5632 .f32) (x8 : Vec Ideal S2816x1024 .bf16) (x9 : Vec Ideal S1x1024 .f32)
    (z : S44x8x256.Idx → EReal) (out : S512x1024.Idx → EReal) (car : S44x8x256.Idx → EReal) (X : FVec Ideal S512x1024 .f32) : Prop where
  rows : ∀ (r : Fin 512) (q : Fin 1024), X (ix2 (perm r) q) = mixing x0 x1 x2 (cutW x3 0 (by norm_num)) (cutW x3 1024 (by norm_num)) (ix2 r q)
  out : ∀ (r : Fin 512) (q : Fin 1024), out (ix2 r q)
    = closing X (acts (actSlot x5 x6 x7 (halved X x4) (fun n h => cut16 z n h))) x8 x9 (ix2 (perm r) q)
  car : ∀ (n : ℕ) (h : n + 1 ≤ 44) (r : Fin 8) (f : Fin 256), car (ix3 ⟨n, h⟩ r f) = tailOf x5 (halved X x4) n h (ix3 0 r f)

end Cert.Kernel2Ideal.Net
-- ==== Proof.Token.lean ====
/- One tile of rows, from the rows that it and the tile before it hold. -/
module

public import proofs.«01_k».proof.Proof.Done

@[expose] public section

set_option maxRecDepth 16384

noncomputable section

namespace Cert.Kernel2Ideal.Net

open Cert.Kernel2Ideal Cert.Kernel2Ideal.Gen Idealize.ShloMosaic

open Cert.Row (Weights)

/-- What a tile is given: its mixed rows are rows `512 t` and on of `M`, its weights are `W`, its tails are the two rows before it. -/
structure Given (W : Weights) (M : ℕ → Fin 1024 → EReal) (t : ℕ) (x0 : Vec Ideal S512x1024 .f32) (x1 x2 : Vec Ideal S512x1024 .bf16) (x3 : Vec Ideal S2048x1024 .bf16) (x4 : Vec Ideal S1x1024 .f32)
    (x5 : Vec Ideal S1024x5632 .bf16) (x6 : Vec Ideal S3x5632 .f32) (x7 : Vec Ideal S1x5632 .f32) (x8 : Vec Ideal S2816x1024 .bf16) (x9 : Vec Ideal S1x1024 .f32)
    (z : S44x8x256.Idx → EReal) : Prop where
  rows : ∀ (r : Fin 512) (c : Fin 1024), mixing x0 x1 x2 (cutW x3 0 (by norm_num)) (cutW x3 1024 (by norm_num)) (ix2 r c) = M (512 * t + r.val) c
  g2 : ∀ c : Fin 1024, x4 (ix2 0 c) = W.g2 c
  wup : ∀ (k : Fin 1024) (f : Fin 5632), x5 (ix2 k f) = W.wup k f
  cw : ∀ (k : Fin 3) (f : Fin 5632), x6 (ix2 k f) = W.cw k f
  cb : ∀ f : Fin 5632, x7 (ix2 0 f) = W.cb f
  wdn : ∀ (f : Fin 2816) (c : Fin 1024), x8 (ix2 f c) = W.wdn f c
  gf : ∀ c : Fin 1024, x9 (ix2 0 c) = W.gf c
  one : ∀ (s : ℕ) (h : s < 22) (f : Fin 256), z (ix3 ⟨2 * s, by omega⟩ 7 f) = Row.back W M 1 (512 * t) ⟨colOf s + f.val, by have := colOf_le s h; omega⟩
  two : ∀ (s : ℕ) (h : s < 22) (f : Fin 256), z (ix3 ⟨2 * s + 1, by omega⟩ 7 f) = Row.back W M 2 (512 * t) ⟨colOf s + f.val, by have := colOf_le s h; omega⟩

section
variable {W : Weights} {M : ℕ → Fin 1024 → EReal} {t : ℕ} {x0 : Vec Ideal S512x1024 .f32} {x1 x2 : Vec Ideal S512x1024 .bf16} {x3 : Vec Ideal S2048x1024 .bf16} {x4 : Vec Ideal S1x1024 .f32}
    {x5 : Vec Ideal S1024x5632 .bf16} {x6 : Vec Ideal S3x5632 .f32} {x7 : Vec Ideal S1x5632 .f32} {x8 : Vec Ideal S2816x1024 .bf16} {x9 : Vec Ideal S1x1024 .f32}
    {z : S44x8x256.Idx → EReal} {out : S512x1024.Idx → EReal} {car : S44x8x256.Idx → EReal} {X : FVec Ideal S512x1024 .f32}
    (G : Given W M t x0 x1 x2 x3 x4 x5 x6 x7 x8 x9 z) (D : Done x0 x1 x2 x3 x4 x5 x6 x7 x8 x9 z out car X)
include G D

theorem row_eq (r : Fin 512) : (fun k : Fin 1024 => X (ix2 (perm r) k)) = M (512 * t + r.val) :=
  funext fun k => (D.rows r k).trans (G.rows r k)

theorem up_row (s : ℕ) (h : s < 22) (f : Fin 256) (n : ℕ) (hn : n < 512) :
    rowOf (uSlot x5 (halved X x4) s h) f n = Row.up W (M (512 * t + n)) ⟨colOf s + f.val, by have := colOf_le s h; omega⟩ := by
  rw [rowOf, dif_pos hn, uSlot, cols_apply]
  refine Finset.sum_congr rfl fun k _ => ?_
  refine congrArg₂ (· * ·) ?_ (G.wup k _)
  refine (normed_apply X x4 (perm ⟨n, hn⟩) k).trans ?_
  rw [row_eq G D, show (fun k => x4 (ix2 0 k)) = W.g2 from funext G.g2]

theorem conv_row (s : ℕ) (h : s < 22) (r : Fin 512) (f : Fin 256) :
    cSlot x5 x6 x7 (halved X x4) (fun n h => cut16 z n h) s h (ix2 (perm r) f)
      = Row.conv W (Row.back W M 2 (512 * t + r.val)) (Row.back W M 1 (512 * t + r.val)) (Row.back W M 0 (512 * t + r.val))
          ⟨colOf s + f.val, by have := colOf_le s h; omega⟩ := by
  have hr := r.isLt
  unfold cSlot slot
  rw [conv_apply]
  have e0 : rowOf (uSlot x5 (halved X x4) s h) f r.val = Row.back W M 0 (512 * t + r.val) ⟨colOf s + f.val, by have := colOf_le s h; omega⟩ := by
    rw [up_row G D s h f _ hr, Row.back, if_neg (by omega)]
    rfl
  have e1 : (if r.val < 1 then cut16 z (2 * s) (by omega) (ix3 0 7 f) else rowOf (uSlot x5 (halved X x4) s h) f (r.val - 1))
      = Row.back W M 1 (512 * t + r.val) ⟨colOf s + f.val, by have := colOf_le s h; omega⟩ := by
    by_cases h1 : r.val < 1
    · rw [if_pos h1, show r.val = 0 by omega]
      exact G.one s h f
    · rw [if_neg h1, up_row G D s h f _ (by omega), Row.back, if_neg (by omega), show 512 * t + (r.val - 1) = 512 * t + r.val - 1 by omega]
  have e2 : (if r.val < 1 then cut16 z (2 * s + 1) (by omega) (ix3 0 7 f) else if r.val < 2 then cut16 z (2 * s) (by omega) (ix3 0 7 f)
      else rowOf (uSlot x5 (halved X x4) s h) f (r.val - 2)) = Row.back W M 2 (512 * t + r.val) ⟨colOf s + f.val, by have := colOf_le s h; omega⟩ := by
    by_cases h1 : r.val < 1
    · rw [if_pos h1, show r.val = 0 by omega]
      exact G.two s h f
    · rw [if_neg h1]
      by_cases h2 : r.val < 2
      · rw [if_pos h2, show r.val = 1 by omega]
        refine (G.one s h f).trans ?_
        unfold Row.back
        by_cases h3 : 512 * t % 2048 < 1
        · rw [if_pos h3, if_pos (by omega)]
        · rw [if_neg h3, if_neg (by omega), show 512 * t + 1 - 2 = 512 * t - 1 by omega]
      · rw [if_neg h2, up_row G D s h f _ (by omega), Row.back, if_neg (by omega), show 512 * t + (r.val - 2) = 512 * t + r.val - 2 by omega]
  rw [e0, e1, e2]
  unfold three Row.conv
  rw [show cut8 x7 (colOf s) (colOf_le s h) (ix2 0 f) = W.cb _ from G.cb _, show cut7 x6 2 (by norm_num) (colOf s) (colOf_le s h) (ix2 0 f) = W.cw 2 _ from G.cw 2 _,
    show cut7 x6 1 (by norm_num) (colOf s) (colOf_le s h) (ix2 0 f) = W.cw 1 _ from G.cw 1 _, show cut7 x6 0 (by norm_num) (colOf s) (colOf_le s h) (ix2 0 f) = W.cw 0 _ from G.cw 0 _]
  rfl

theorem act_row (r : Fin 512) (f : Fin 2816) :
    acts (actSlot x5 x6 x7 (halved X x4) (fun n h => cut16 z n h)) (ix2 (perm r) f)
      = Row.act (Row.conv W (Row.back W M 2 (512 * t + r.val)) (Row.back W M 1 (512 * t + r.val)) (Row.back W M 0 (512 * t + r.val))) f := by
  have hf := f.isLt
  rw [acts_apply]
  unfold actSlot
  rw [gated_apply, conv_row G D, conv_row G D]
  have eg : (⟨colOf (2 * (f.val / 256)) + f.val % 256, by have := colOf_le (2 * (f.val / 256)) (by omega); omega⟩ : Fin 5632) = ⟨f.val, by omega⟩ :=
    Fin.ext (by show 256 * (2 * (f.val / 256) / 2) + 2816 * (2 * (f.val / 256) % 2) + f.val % 256 = f.val; omega)
  have ev : (⟨colOf (2 * (f.val / 256) + 1) + f.val % 256, by have := colOf_le (2 * (f.val / 256) + 1) (by omega); omega⟩ : Fin 5632) = ⟨2816 + f.val, by omega⟩ :=
    Fin.ext (by show 256 * ((2 * (f.val / 256) + 1) / 2) + 2816 * ((2 * (f.val / 256) + 1) % 2) + f.val % 256 = 2816 + f.val; omega)
  unfold Row.act
  rw [← eg, ← ev]

/-- The tile's rows of the result. -/
theorem out_row (r : Fin 512) (q : Fin 1024) : out (ix2 r q) = Row.out W M (512 * t + r.val) q := by
  rw [D.out, closing_apply]
  unfold Row.out Row.close
  rw [show (fun k => x9 (ix2 0 k)) = W.gf from funext G.gf]
  refine congrArg (fun v => Row.norm v W.gf q) (funext fun k => ?_)
  refine congrArg₂ (· + ·) (congrFun (row_eq G D r) k) (Finset.sum_congr rfl fun f _ => congrArg₂ (· * ·) (act_row G D r f) (G.wdn f k))

theorem car_one (s : ℕ) (h : s < 22) (f : Fin 256) :
    car (ix3 ⟨2 * s, by omega⟩ 7 f) = Row.up W (M (512 * t + 511)) ⟨colOf s + f.val, by have := colOf_le s h; omega⟩ := by
  rw [D.car (2 * s) (by omega), tailOf, if_pos (by omega), tail7_apply, up_row G D _ _ f _ (by norm_num)]
  congr 2
  rw [show 2 * s / 2 = s by omega]

theorem car_two (s : ℕ) (h : s < 22) (f : Fin 256) :
    car (ix3 ⟨2 * s + 1, by omega⟩ 7 f) = Row.up W (M (512 * t + 510)) ⟨colOf s + f.val, by have := colOf_le s h; omega⟩ := by
  rw [D.car (2 * s + 1) (by omega), tailOf, if_neg (by omega), tail6_apply, up_row G D _ _ f _ (by norm_num)]
  congr 2
  rw [show (2 * s + 1) / 2 = s by omega]

end

end Cert.Kernel2Ideal.Net
-- ==== Proof.TileA.lean ====
/- A tile in the first position of its sequence: its activations, its closing rows and the tails it leaves. -/
module

public import proofs.«01_k».proof.Proof.Slots

@[expose] public section

set_option maxRecDepth 100000

noncomputable section

namespace Cert.Kernel2Ideal.Net

open Cert.Kernel2Ideal Cert.Kernel2Ideal.Gen Idealize.ShloMosaic

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S2048x1024 .bf16) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S512x1024 .f32) (harg11 : arg11.IsWhole)
  (arg12 : Memref sig .tc .vmem S8x512x128 .f32) (harg12 : arg12.IsWhole)
  (arg13 : Memref sig .tc .vmem S512x1024 .f32) (harg13 : arg13.IsWhole)
  (arg14 : Memref sig .tc .vmem S512x1024 .bf16) (harg14 : arg14.IsWhole)
  (arg15 : Memref sig .tc .vmem S8x512x128 .f32) (harg15 : arg15.IsWhole)
  (arg16 : Memref sig .tc .vmem S44x8x256 .f32) (harg16 : arg16.IsWhole)
  (x0 : Vec Ideal S512x1024 .f32) (x1 : Vec Ideal S512x1024 .bf16) (x2 : Vec Ideal S512x1024 .bf16) (x3 : Vec Ideal S2048x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)

theorem keptA_0 : Kept (tailOf x5 (kernelRun0_A.sl.v220 c arg1 harg1 arg2 harg2 arg3 harg3 arg4 harg4 arg5 harg5 arg12 arg14 x0 x1 x2 x3 x4)) (fun _ => (0 : EReal)) 0 (kernelRun0_A.sl.HS4_1 (F := Ideal)) := by
  have e : View.canon (kernelRun0_A.sl.HS4_1 (F := Ideal)) = fun _ => (0 : EReal) := by
    refine (View.canon_cons_unit_lit _ _ [] (by decide)).trans ?_
    funext y
    exact Ideal.ofBits_zero_f32
  have h := Kept.start (tailOf x5 (kernelRun0_A.sl.v220 c arg1 harg1 arg2 harg2 arg3 harg3 arg4 harg4 arg5 harg5 arg12 arg14 x0 x1 x2 x3 x4)) (kernelRun0_A.sl.HS4_1 (F := Ideal))
  rw [e] at h
  exact h

theorem keptA_1 : Kept (tailOf x5 (kernelRun0_A.sl.v220 c arg1 harg1 arg2 harg2 arg3 harg3 arg4 harg4 arg5 harg5 arg12 arg14 x0 x1 x2 x3 x4)) (fun _ => (0 : EReal)) 1 (kernelRun0_A.sl.HS4_2 c arg1 harg1 arg2 harg2 arg3 harg3 arg4 harg4 arg5 harg5 arg6 harg6 arg12 arg14 x0 x1 x2 x3 x4 x5) :=
  Kept.step (keptA_0 c arg1 harg1 arg2 harg2 arg3 harg3 arg4 harg4 arg5 harg5 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 0 (by norm_num)))))) (pay7 x5 _ arg6 harg6 0 (by norm_num) 0 (by norm_num) (by norm_num) rfl)

theorem keptA_2 : Kept (tailOf x5 (kernelRun0_A.sl.v220 c arg1 harg1 arg2 harg2 arg3 harg3 arg4 harg4 arg5 harg5 arg12 arg14 x0 x1 x2 x3 x4)) (fun _ => (0 : EReal)) 2 (kernelRun0_A.sl.HS4_3 c arg1 harg1 arg2 harg2 arg3 harg3 arg4 harg4 arg5 harg5 arg6 harg6 arg12 arg14 x0 x1 x2 x3 x4 x5) :=
  Kept.step (keptA_1 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 0 (by norm_num)))))) (pay6 x5 _ arg6 harg6 1 (by norm_num) 0 (by norm_num) (by norm_num) rfl)

theorem keptA_3 : Kept (tailOf x5 (kernelRun0_A.sl.v220 c arg1 harg1 arg2 harg2 arg3 harg3 arg4 harg4 arg5 harg5 arg12 arg14 x0 x1 x2 x3 x4)) (fun _ => (0 : EReal)) 3 (kernelRun0_A.sl.HS4_4 c arg1 harg1 arg2 harg2 arg3 harg3 arg4 harg4 arg5 harg5 arg6 harg6 arg12 arg14 x0 x1 x2 x3 x4 x5) :=
  Kept.step (keptA_2 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 2816 (by norm_num)))))) (pay7 x5 _ arg6 harg6 2 (by norm_num) 2816 (by norm_num) (by norm_num) rfl)

theorem keptA_4 : Kept (tailOf x5 (kernelRun0_A.sl.v220 c arg1 harg1 arg2 harg2 arg3 harg3 arg4 harg4 arg5 harg5 arg12 arg14 x0 x1 x2 x3 x4)) (fun _ => (0 : EReal)) 4 (kernelRun0_A.sl.HS4_5 c arg1 harg1 arg2 harg2 arg3 harg3 arg4 harg4 arg5 harg5 arg6 harg6 arg12 arg14 x0 x1 x2 x3 x4 x5) :=
  Kept.step (keptA_3 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 2816 (by norm_num)))))) (pay6 x5 _ arg6 harg6 3 (by norm_num) 2816 (by norm_num) (by norm_num) rfl)

theorem keptA_5 : Kept (tailOf x5 (kernelRun0_A.sl.v220 c arg1 harg1 arg2 harg2 arg3 harg3 arg4 harg4 arg5 harg5 arg12 arg14 x0 x1 x2 x3 x4)) (fun _ => (0 : EReal)) 5 (kernelRun0_A.sl.HS4_6 c arg1 harg1 arg2 harg2 arg3 harg3 arg4 harg4 arg5 harg5 arg6 harg6 arg12 arg14 x0 x1 x2 x3 x4 x5) :=
  Kept.step (keptA_4 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 256 (by norm_num)))))) (pay7 x5 _ arg6 harg6 4 (by norm_num) 256 (by norm_num) (by norm_num) rfl)

theorem keptA_6 : Kept (tailOf x5 (kernelRun0_A.sl.v220 c arg1 harg1 arg2 harg2 arg3 harg3 arg4 harg4 arg5 harg5 arg12 arg14 x0 x1 x2 x3 x4)) (fun _ => (0 : EReal)) 6 (kernelRun0_A.sl.HS4_7 c arg1 harg1 arg2 harg2 arg3 harg3 arg4 harg4 arg5 harg5 arg6 harg6 arg12 arg14 x0 x1 x2 x3 x4 x5) :=
  Kept.step (keptA_5 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 256 (by norm_num)))))) (pay6 x5 _ arg6 harg6 5 (by norm_num) 256 (by norm_num) (by norm_num) rfl)

theorem keptA_7 : Kept (tailOf x5 (kernelRun0_A.sl.v220 c arg1 harg1 arg2 harg2 arg3 harg3 arg4 harg4 arg5 harg5 arg12 arg14 x0 x1 x2 x3 x4)) (fun _ => (0 : EReal)) 7 (kernelRun0_A.sl.HS4_8 c arg1 harg1 arg2 harg2 arg3 harg3 arg4 harg4 arg5 harg5 arg6 harg6 arg12 arg14 x0 x1 x2 x3 x4 x5) :=
  Kept.step (keptA_6 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 3072 (by norm_num)))))) (pay7 x5 _ arg6 harg6 6 (by norm_num) 3072 (by norm_num) (by norm_num) rfl)

theorem keptA_8 : Kept (tailOf x5 (kernelRun0_A.sl.v220 c arg1 harg1 arg2 harg2 arg3 harg3 arg4 harg4 arg5 harg5 arg12 arg14 x0 x1 x2 x3 x4)) (fun _ => (0 : EReal)) 8 (kernelRun0_A.sl.HS4_9 c arg1 harg1 arg2 harg2 arg3 harg3 arg4 harg4 arg5 harg5 arg6 harg6 arg12 arg14 x0 x1 x2 x3 x4 x5) :=
  Kept.step (keptA_7 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 3072 (by norm_num)))))) (pay6 x5 _ arg6 harg6 7 (by norm_num) 3072 (by norm_num) (by norm_num) rfl)

theorem keptA_9 : Kept (tailOf x5 (kernelRun0_A.sl.v220 c arg1 harg1 arg2 harg2 arg3 harg3 arg4 harg4 arg5 harg5 arg12 arg14 x0 x1 x2 x3 x4)) (fun _ => (0 : EReal)) 9 (kernelRun0_A.sl.HS4_10 c arg1 harg1 arg2 harg2 arg3 harg3 arg4 harg4 arg5 harg5 arg6 harg6 arg12 arg14 x0 x1 x2 x3 x4 x5) :=
  Kept.step (keptA_8 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 512 (by norm_num)))))) (pay7 x5 _ arg6 harg6 8 (by norm_num) 512 (by norm_num) (by norm_num) rfl)

theorem keptA_10 : Kept (tailOf x5 (kernelRun0_A.sl.v220 c arg1 harg1 arg2 harg2 arg3 harg3 arg4 harg4 arg5 harg5 arg12 arg14 x0 x1 x2 x3 x4)) (fun _ => (0 : EReal)) 10 (kernelRun0_A.sl.HS4_11 c arg1 harg1 arg2 harg2 arg3 harg3 arg4 harg4 arg5 harg5 arg6 harg6 arg12 arg14 x0 x1 x2 x3 x4 x5) :=
  Kept.step (keptA_9 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 512 (by norm_num)))))) (pay6 x5 _ arg6 harg6 9 (by norm_num) 512 (by norm_num) (by norm_num) rfl)

theorem keptA_11 : Kept (tailOf x5 (kernelRun0_A.sl.v220 c arg1 harg1 arg2 harg2 arg3 harg3 arg4 harg4 arg5 harg5 arg12 arg14 x0 x1 x2 x3 x4)) (fun _ => (0 : EReal)) 11 (kernelRun0_A.sl.HS4_12 c arg1 harg1 arg2 harg2 arg3 harg3 arg4 harg4 arg5 harg5 arg6 harg6 arg12 arg14 x0 x1 x2 x3 x4 x5) :=
  Kept.step (keptA_10 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 3328 (by norm_num)))))) (pay7 x5 _ arg6 harg6 10 (by norm_num) 3328 (by norm_num) (by norm_num) rfl)

theorem keptA_12 : Kept (tailOf x5 (kernelRun0_A.sl.v220 c arg1 harg1 arg2 harg2 arg3 harg3 arg4 harg4 arg5 harg5 arg12 arg14 x0 x1 x2 x3 x4)) (fun _ => (0 : EReal)) 12 (kernelRun0_A.sl.HS4_13 c arg1 harg1 arg2 harg2 arg3 harg3 arg4 harg4 arg5 harg5 arg6 harg6 arg12 arg14 x0 x1 x2 x3 x4 x5) :=
  Kept.step (keptA_11 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 3328 (by norm_num)))))) (pay6 x5 _ arg6 harg6 11 (by norm_num) 3328 (by norm_num) (by norm_num) rfl)

theorem keptA_13 : Kept (tailOf x5 (kernelRun0_A.sl.v220 c arg1 harg1 arg2 harg2 arg3 harg3 arg4 harg4 arg5 harg5 arg12 arg14 x0 x1 x2 x3 x4)) (fun _ => (0 : EReal)) 13 (kernelRun0_A.sl.HS4_14 c arg1 harg1 arg2 harg2 arg3 harg3 arg4 harg4 arg5 harg5 arg6 harg6 arg12 arg14 x0 x1 x2 x3 x4 x5) :=
  Kept.step (keptA_12 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 768 (by norm_num)))))) (pay7 x5 _ arg6 harg6 12 (by norm_num) 768 (by norm_num) (by norm_num) rfl)

theorem keptA_14 : Kept (tailOf x5 (kernelRun0_A.sl.v220 c arg1 harg1 arg2 harg2 arg3 harg3 arg4 harg4 arg5 harg5 arg12 arg14 x0 x1 x2 x3 x4)) (fun _ => (0 : EReal)) 14 (kernelRun0_A.sl.HS4_15 c arg1 harg1 arg2 harg2 arg3 harg3 arg4 harg4 arg5 harg5 arg6 harg6 arg12 arg14 x0 x1 x2 x3 x4 x5) :=
  Kept.step (keptA_13 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 768 (by norm_num)))))) (pay6 x5 _ arg6 harg6 13 (by norm_num) 768 (by norm_num) (by norm_num) rfl)

theorem keptA_15 : Kept (tailOf x5 (kernelRun0_A.sl.v220 c arg1 harg1 arg2 harg2 arg3 harg3 arg4 harg4 arg5 harg5 arg12 arg14 x0 x1 x2 x3 x4)) (fun _ => (0 : EReal)) 15 (kernelRun0_A.sl.HS4_16 c arg1 harg1 arg2 harg2 arg3 harg3 arg4 harg4 arg5 harg5 arg6 harg6 arg12 arg14 x0 x1 x2 x3 x4 x5) :=
  Kept.step (keptA_14 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 3584 (by norm_num)))))) (pay7 x5 _ arg6 harg6 14 (by norm_num) 3584 (by norm_num) (by norm_num) rfl)

theorem keptA_16 : Kept (tailOf x5 (kernelRun0_A.sl.v220 c arg1 harg1 arg2 harg2 arg3 harg3 arg4 harg4 arg5 harg5 arg12 arg14 x0 x1 x2 x3 x4)) (fun _ => (0 : EReal)) 16 (kernelRun0_A.sl.HS4_17 c arg1 harg1 arg2 harg2 arg3 harg3 arg4 harg4 arg5 harg5 arg6 harg6 arg12 arg14 x0 x1 x2 x3 x4 x5) :=
  Kept.step (keptA_15 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 3584 (by norm_num)))))) (pay6 x5 _ arg6 harg6 15 (by norm_num) 3584 (by norm_num) (by norm_num) rfl)

theorem keptA_17 : Kept (tailOf x5 (kernelRun0_A.sl.v220 c arg1 harg1 arg2 harg2 arg3 harg3 arg4 harg4 arg5 harg5 arg12 arg14 x0 x1 x2 x3 x4)) (fun _ => (0 : EReal)) 17 (kernelRun0_A.sl.HS4_18 c arg1 harg1 arg2 harg2 arg3 harg3 arg4 harg4 arg5 harg5 arg6 harg6 arg12 arg14 x0 x1 x2 x3 x4 x5) :=
  Kept.step (keptA_16 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 1024 (by norm_num)))))) (pay7 x5 _ arg6 harg6 16 (by norm_num) 1024 (by norm_num) (by norm_num) rfl)

theorem keptA_18 : Kept (tailOf x5 (kernelRun0_A.sl.v220 c arg1 harg1 arg2 harg2 arg3 harg3 arg4 harg4 arg5 harg5 arg12 arg14 x0 x1 x2 x3 x4)) (fun _ => (0 : EReal)) 18 (kernelRun0_A.sl.HS4_19 c arg1 harg1 arg2 harg2 arg3 harg3 arg4 harg4 arg5 harg5 arg6 harg6 arg12 arg14 x0 x1 x2 x3 x4 x5) :=
  Kept.step (keptA_17 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 1024 (by norm_num)))))) (pay6 x5 _ arg6 harg6 17 (by norm_num) 1024 (by norm_num) (by norm_num) rfl)

theorem keptA_19 : Kept (tailOf x5 (kernelRun0_A.sl.v220 c arg1 harg1 arg2 harg2 arg3 harg3 arg4 harg4 arg5 harg5 arg12 arg14 x0 x1 x2 x3 x4)) (fun _ => (0 : EReal)) 19 (kernelRun0_A.sl.HS4_20 c arg1 harg1 arg2 harg2 arg3 harg3 arg4 harg4 arg5 harg5 arg6 harg6 arg12 arg14 x0 x1 x2 x3 x4 x5) :=
  Kept.step (keptA_18 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 3840 (by norm_num)))))) (pay7 x5 _ arg6 harg6 18 (by norm_num) 3840 (by norm_num) (by norm_num) rfl)

theorem keptA_20 : Kept (tailOf x5 (kernelRun0_A.sl.v220 c arg1 harg1 arg2 harg2 arg3 harg3 arg4 harg4 arg5 harg5 arg12 arg14 x0 x1 x2 x3 x4)) (fun _ => (0 : EReal)) 20 (kernelRun0_A.sl.HS4_21 c arg1 harg1 arg2 harg2 arg3 harg3 arg4 harg4 arg5 harg5 arg6 harg6 arg12 arg14 x0 x1 x2 x3 x4 x5) :=
  Kept.step (keptA_19 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 3840 (by norm_num)))))) (pay6 x5 _ arg6 harg6 19 (by norm_num) 3840 (by norm_num) (by norm_num) rfl)

theorem keptA_21 : Kept (tailOf x5 (kernelRun0_A.sl.v220 c arg1 harg1 arg2 harg2 arg3 harg3 arg4 harg4 arg5 harg5 arg12 arg14 x0 x1 x2 x3 x4)) (fun _ => (0 : EReal)) 21 (kernelRun0_A.sl.HS4_22 c arg1 harg1 arg2 harg2 arg3 harg3 arg4 harg4 arg5 harg5 arg6 harg6 arg12 arg14 x0 x1 x2 x3 x4 x5) :=
  Kept.step (keptA_20 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 1280 (by norm_num)))))) (pay7 x5 _ arg6 harg6 20 (by norm_num) 1280 (by norm_num) (by norm_num) rfl)

theorem keptA_22 : Kept (tailOf x5 (kernelRun0_A.sl.v220 c arg1 harg1 arg2 harg2 arg3 harg3 arg4 harg4 arg5 harg5 arg12 arg14 x0 x1 x2 x3 x4)) (fun _ => (0 : EReal)) 22 (kernelRun0_A.sl.HS4_23 c arg1 harg1 arg2 harg2 arg3 harg3 arg4 harg4 arg5 harg5 arg6 harg6 arg12 arg14 x0 x1 x2 x3 x4 x5) :=
  Kept.step (keptA_21 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 1280 (by norm_num)))))) (pay6 x5 _ arg6 harg6 21 (by norm_num) 1280 (by norm_num) (by norm_num) rfl)

theorem keptA_23 : Kept (tailOf x5 (kernelRun0_A.sl.v220 c arg1 harg1 arg2 harg2 arg3 harg3 arg4 harg4 arg5 harg5 arg12 arg14 x0 x1 x2 x3 x4)) (fun _ => (0 : EReal)) 23 (kernelRun0_A.sl.HS4_24 c arg1 harg1 arg2 harg2 arg3 harg3 arg4 harg4 arg5 harg5 arg6 harg6 arg12 arg14 x0 x1 x2 x3 x4 x5) :=
  Kept.step (keptA_22 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 4096 (by norm_num)))))) (pay7 x5 _ arg6 harg6 22 (by norm_num) 4096 (by norm_num) (by norm_num) rfl)

theorem keptA_24 : Kept (tailOf x5 (kernelRun0_A.sl.v220 c arg1 harg1 arg2 harg2 arg3 harg3 arg4 harg4 arg5 harg5 arg12 arg14 x0 x1 x2 x3 x4)) (fun _ => (0 : EReal)) 24 (kernelRun0_A.sl.HS4_25 c arg1 harg1 arg2 harg2 arg3 harg3 arg4 harg4 arg5 harg5 arg6 harg6 arg12 arg14 x0 x1 x2 x3 x4 x5) :=
  Kept.step (keptA_23 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 4096 (by norm_num)))))) (pay6 x5 _ arg6 harg6 23 (by norm_num) 4096 (by norm_num) (by norm_num) rfl)

theorem keptA_25 : Kept (tailOf x5 (kernelRun0_A.sl.v220 c arg1 harg1 arg2 harg2 arg3 harg3 arg4 harg4 arg5 harg5 arg12 arg14 x0 x1 x2 x3 x4)) (fun _ => (0 : EReal)) 25 (kernelRun0_A.sl.HS4_26 c arg1 harg1 arg2 harg2 arg3 harg3 arg4 harg4 arg5 harg5 arg6 harg6 arg12 arg14 x0 x1 x2 x3 x4 x5) :=
  Kept.step (keptA_24 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 1536 (by norm_num)))))) (pay7 x5 _ arg6 harg6 24 (by norm_num) 1536 (by norm_num) (by norm_num) rfl)

theorem keptA_26 : Kept (tailOf x5 (kernelRun0_A.sl.v220 c arg1 harg1 arg2 harg2 arg3 harg3 arg4 harg4 arg5 harg5 arg12 arg14 x0 x1 x2 x3 x4)) (fun _ => (0 : EReal)) 26 (kernelRun0_A.sl.HS4_27 c arg1 harg1 arg2 harg2 arg3 harg3 arg4 harg4 arg5 harg5 arg6 harg6 arg12 arg14 x0 x1 x2 x3 x4 x5) :=
  Kept.step (keptA_25 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 1536 (by norm_num)))))) (pay6 x5 _ arg6 harg6 25 (by norm_num) 1536 (by norm_num) (by norm_num) rfl)

theorem keptA_27 : Kept (tailOf x5 (kernelRun0_A.sl.v220 c arg1 harg1 arg2 harg2 arg3 harg3 arg4 harg4 arg5 harg5 arg12 arg14 x0 x1 x2 x3 x4)) (fun _ => (0 : EReal)) 27 (kernelRun0_A.sl.HS4_28 c arg1 harg1 arg2 harg2 arg3 harg3 arg4 harg4 arg5 harg5 arg6 harg6 arg12 arg14 x0 x1 x2 x3 x4 x5) :=
  Kept.step (keptA_26 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 4352 (by norm_num)))))) (pay7 x5 _ arg6 harg6 26 (by norm_num) 4352 (by norm_num) (by norm_num) rfl)

theorem keptA_28 : Kept (tailOf x5 (kernelRun0_A.sl.v220 c arg1 harg1 arg2 harg2 arg3 harg3 arg4 harg4 arg5 harg5 arg12 arg14 x0 x1 x2 x3 x4)) (fun _ => (0 : EReal)) 28 (kernelRun0_A.sl.HS4_29 c arg1 harg1 arg2 harg2 arg3 harg3 arg4 harg4 arg5 harg5 arg6 harg6 arg12 arg14 x0 x1 x2 x3 x4 x5) :=
  Kept.step (keptA_27 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 4352 (by norm_num)))))) (pay6 x5 _ arg6 harg6 27 (by norm_num) 4352 (by norm_num) (by norm_num) rfl)

theorem keptA_29 : Kept (tailOf x5 (kernelRun0_A.sl.v220 c arg1 harg1 arg2 harg2 arg3 harg3 arg4 harg4 arg5 harg5 arg12 arg14 x0 x1 x2 x3 x4)) (fun _ => (0 : EReal)) 29 (kernelRun0_A.sl.HS4_30 c arg1 harg1 arg2 harg2 arg3 harg3 arg4 harg4 arg5 harg5 arg6 harg6 arg12 arg14 x0 x1 x2 x3 x4 x5) :=
  Kept.step (keptA_28 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 1792 (by norm_num)))))) (pay7 x5 _ arg6 harg6 28 (by norm_num) 1792 (by norm_num) (by norm_num) rfl)

theorem keptA_30 : Kept (tailOf x5 (kernelRun0_A.sl.v220 c arg1 harg1 arg2 harg2 arg3 harg3 arg4 harg4 arg5 harg5 arg12 arg14 x0 x1 x2 x3 x4)) (fun _ => (0 : EReal)) 30 (kernelRun0_A.sl.HS4_31 c arg1 harg1 arg2 harg2 arg3 harg3 arg4 harg4 arg5 harg5 arg6 harg6 arg12 arg14 x0 x1 x2 x3 x4 x5) :=
  Kept.step (keptA_29 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 1792 (by norm_num)))))) (pay6 x5 _ arg6 harg6 29 (by norm_num) 1792 (by norm_num) (by norm_num) rfl)

theorem keptA_31 : Kept (tailOf x5 (kernelRun0_A.sl.v220 c arg1 harg1 arg2 harg2 arg3 harg3 arg4 harg4 arg5 harg5 arg12 arg14 x0 x1 x2 x3 x4)) (fun _ => (0 : EReal)) 31 (kernelRun0_A.sl.HS4_32 c arg1 harg1 arg2 harg2 arg3 harg3 arg4 harg4 arg5 harg5 arg6 harg6 arg12 arg14 x0 x1 x2 x3 x4 x5) :=
  Kept.step (keptA_30 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 4608 (by norm_num)))))) (pay7 x5 _ arg6 harg6 30 (by norm_num) 4608 (by norm_num) (by norm_num) rfl)

theorem keptA_32 : Kept (tailOf x5 (kernelRun0_A.sl.v220 c arg1 harg1 arg2 harg2 arg3 harg3 arg4 harg4 arg5 harg5 arg12 arg14 x0 x1 x2 x3 x4)) (fun _ => (0 : EReal)) 32 (kernelRun0_A.sl.HS4_33 c arg1 harg1 arg2 harg2 arg3 harg3 arg4 harg4 arg5 harg5 arg6 harg6 arg12 arg14 x0 x1 x2 x3 x4 x5) :=
  Kept.step (keptA_31 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 4608 (by norm_num)))))) (pay6 x5 _ arg6 harg6 31 (by norm_num) 4608 (by norm_num) (by norm_num) rfl)

theorem keptA_33 : Kept (tailOf x5 (kernelRun0_A.sl.v220 c arg1 harg1 arg2 harg2 arg3 harg3 arg4 harg4 arg5 harg5 arg12 arg14 x0 x1 x2 x3 x4)) (fun _ => (0 : EReal)) 33 (kernelRun0_A.sl.HS4_34 c arg1 harg1 arg2 harg2 arg3 harg3 arg4 harg4 arg5 harg5 arg6 harg6 arg12 arg14 x0 x1 x2 x3 x4 x5) :=
  Kept.step (keptA_32 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 2048 (by norm_num)))))) (pay7 x5 _ arg6 harg6 32 (by norm_num) 2048 (by norm_num) (by norm_num) rfl)

theorem keptA_34 : Kept (tailOf x5 (kernelRun0_A.sl.v220 c arg1 harg1 arg2 harg2 arg3 harg3 arg4 harg4 arg5 harg5 arg12 arg14 x0 x1 x2 x3 x4)) (fun _ => (0 : EReal)) 34 (kernelRun0_A.sl.HS4_35 c arg1 harg1 arg2 harg2 arg3 harg3 arg4 harg4 arg5 harg5 arg6 harg6 arg12 arg14 x0 x1 x2 x3 x4 x5) :=
  Kept.step (keptA_33 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 2048 (by norm_num)))))) (pay6 x5 _ arg6 harg6 33 (by norm_num) 2048 (by norm_num) (by norm_num) rfl)

theorem keptA_35 : Kept (tailOf x5 (kernelRun0_A.sl.v220 c arg1 harg1 arg2 harg2 arg3 harg3 arg4 harg4 arg5 harg5 arg12 arg14 x0 x1 x2 x3 x4)) (fun _ => (0 : EReal)) 35 (kernelRun0_A.sl.HS4_36 c arg1 harg1 arg2 harg2 arg3 harg3 arg4 harg4 arg5 harg5 arg6 harg6 arg12 arg14 x0 x1 x2 x3 x4 x5) :=
  Kept.step (keptA_34 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 4864 (by norm_num)))))) (pay7 x5 _ arg6 harg6 34 (by norm_num) 4864 (by norm_num) (by norm_num) rfl)

theorem keptA_36 : Kept (tailOf x5 (kernelRun0_A.sl.v220 c arg1 harg1 arg2 harg2 arg3 harg3 arg4 harg4 arg5 harg5 arg12 arg14 x0 x1 x2 x3 x4)) (fun _ => (0 : EReal)) 36 (kernelRun0_A.sl.HS4_37 c arg1 harg1 arg2 harg2 arg3 harg3 arg4 harg4 arg5 harg5 arg6 harg6 arg12 arg14 x0 x1 x2 x3 x4 x5) :=
  Kept.step (keptA_35 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 4864 (by norm_num)))))) (pay6 x5 _ arg6 harg6 35 (by norm_num) 4864 (by norm_num) (by norm_num) rfl)

theorem keptA_37 : Kept (tailOf x5 (kernelRun0_A.sl.v220 c arg1 harg1 arg2 harg2 arg3 harg3 arg4 harg4 arg5 harg5 arg12 arg14 x0 x1 x2 x3 x4)) (fun _ => (0 : EReal)) 37 (kernelRun0_A.sl.HS4_38 c arg1 harg1 arg2 harg2 arg3 harg3 arg4 harg4 arg5 harg5 arg6 harg6 arg12 arg14 x0 x1 x2 x3 x4 x5) :=
  Kept.step (keptA_36 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 2304 (by norm_num)))))) (pay7 x5 _ arg6 harg6 36 (by norm_num) 2304 (by norm_num) (by norm_num) rfl)

theorem keptA_38 : Kept (tailOf x5 (kernelRun0_A.sl.v220 c arg1 harg1 arg2 harg2 arg3 harg3 arg4 harg4 arg5 harg5 arg12 arg14 x0 x1 x2 x3 x4)) (fun _ => (0 : EReal)) 38 (kernelRun0_A.sl.HS4_39 c arg1 harg1 arg2 harg2 arg3 harg3 arg4 harg4 arg5 harg5 arg6 harg6 arg12 arg14 x0 x1 x2 x3 x4 x5) :=
  Kept.step (keptA_37 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 2304 (by norm_num)))))) (pay6 x5 _ arg6 harg6 37 (by norm_num) 2304 (by norm_num) (by norm_num) rfl)

theorem keptA_39 : Kept (tailOf x5 (kernelRun0_A.sl.v220 c arg1 harg1 arg2 harg2 arg3 harg3 arg4 harg4 arg5 harg5 arg12 arg14 x0 x1 x2 x3 x4)) (fun _ => (0 : EReal)) 39 (kernelRun0_A.sl.HS4_40 c arg1 harg1 arg2 harg2 arg3 harg3 arg4 harg4 arg5 harg5 arg6 harg6 arg12 arg14 x0 x1 x2 x3 x4 x5) :=
  Kept.step (keptA_38 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 5120 (by norm_num)))))) (pay7 x5 _ arg6 harg6 38 (by norm_num) 5120 (by norm_num) (by norm_num) rfl)

theorem keptA_40 : Kept (tailOf x5 (kernelRun0_A.sl.v220 c arg1 harg1 arg2 harg2 arg3 harg3 arg4 harg4 arg5 harg5 arg12 arg14 x0 x1 x2 x3 x4)) (fun _ => (0 : EReal)) 40 (kernelRun0_A.sl.HS4_41 c arg1 harg1 arg2 harg2 arg3 harg3 arg4 harg4 arg5 harg5 arg6 harg6 arg12 arg14 x0 x1 x2 x3 x4 x5) :=
  Kept.step (keptA_39 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 5120 (by norm_num)))))) (pay6 x5 _ arg6 harg6 39 (by norm_num) 5120 (by norm_num) (by norm_num) rfl)

theorem keptA_41 : Kept (tailOf x5 (kernelRun0_A.sl.v220 c arg1 harg1 arg2 harg2 arg3 harg3 arg4 harg4 arg5 harg5 arg12 arg14 x0 x1 x2 x3 x4)) (fun _ => (0 : EReal)) 41 (kernelRun0_A.sl.HS4_42 c arg1 harg1 arg2 harg2 arg3 harg3 arg4 harg4 arg5 harg5 arg6 harg6 arg12 arg14 x0 x1 x2 x3 x4 x5) :=
  Kept.step (keptA_40 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 2560 (by norm_num)))))) (pay7 x5 _ arg6 harg6 40 (by norm_num) 2560 (by norm_num) (by norm_num) rfl)

theorem keptA_42 : Kept (tailOf x5 (kernelRun0_A.sl.v220 c arg1 harg1 arg2 harg2 arg3 harg3 arg4 harg4 arg5 harg5 arg12 arg14 x0 x1 x2 x3 x4)) (fun _ => (0 : EReal)) 42 (kernelRun0_A.sl.HS4_43 c arg1 harg1 arg2 harg2 arg3 harg3 arg4 harg4 arg5 harg5 arg6 harg6 arg12 arg14 x0 x1 x2 x3 x4 x5) :=
  Kept.step (keptA_41 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 2560 (by norm_num)))))) (pay6 x5 _ arg6 harg6 41 (by norm_num) 2560 (by norm_num) (by norm_num) rfl)

theorem keptA_43 : Kept (tailOf x5 (kernelRun0_A.sl.v220 c arg1 harg1 arg2 harg2 arg3 harg3 arg4 harg4 arg5 harg5 arg12 arg14 x0 x1 x2 x3 x4)) (fun _ => (0 : EReal)) 43 (kernelRun0_A.sl.HS4_44 c arg1 harg1 arg2 harg2 arg3 harg3 arg4 harg4 arg5 harg5 arg6 harg6 arg12 arg14 x0 x1 x2 x3 x4 x5) :=
  Kept.step (keptA_42 c arg1 harg1 arg2 harg2 arg3 harg3 arg4 harg4 arg5 harg5 arg6 harg6 arg12 arg14 x0 x1 x2 x3 x4 x5) (by norm_num) (v := (tail (b7 (cols (kernelRun0_A.sl.v220 c arg1 harg1 arg2 harg2 arg3 harg3 arg4 harg4 arg5 harg5 arg12 arg14 x0 x1 x2 x3 x4) (ld6 arg6 harg6 x5 5376 (by norm_num)))))) (pay7 x5 _ arg6 harg6 42 (by norm_num) 5376 (by norm_num) (by norm_num) rfl)

theorem actA_0 : kernelRun0_A.sl.r_1 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 0 := by
  refine Eq.trans (b := gated (conv (ld7 arg7 harg7 x6 0 (by norm_num) 0 (by norm_num)) (ld7 arg7 harg7 x6 1 (by norm_num) 0 (by norm_num)) (ld7 arg7 harg7 x6 2 (by norm_num) 0 (by norm_num)) (ld8 arg8 harg8 x7 0 (by norm_num)) (arg16.view.readCov (kernelRun0_A.sl.HS4_1 (F := Ideal)) (Rect.unit (s := S44x8x256) ![0, 0, 0] S1x8x256.size (inb16 0 (by norm_num))).toLoadRect) (arg16.view.readCov (kernelRun0_A.sl.HS4_2 c arg1 harg1 arg2 harg2 arg3 harg3 arg4 harg4 arg5 harg5 arg6 harg6 arg12 arg14 x0 x1 x2 x3 x4 x5) (Rect.unit (s := S44x8x256) ![1, 0, 0] S1x8x256.size (inb16 1 (by norm_num))).toLoadRect) (cols (kernelRun0_A.sl.v220 c arg1 harg1 arg2 harg2 arg3 harg3 arg4 harg4 arg5 harg5 arg12 arg14 x0 x1 x2 x3 x4) (ld6 arg6 harg6 x5 0 (by norm_num))))
      (conv (ld7 arg7 harg7 x6 0 (by norm_num) 2816 (by norm_num)) (ld7 arg7 harg7 x6 1 (by norm_num) 2816 (by norm_num)) (ld7 arg7 harg7 x6 2 (by norm_num) 2816 (by norm_num)) (ld8 arg8 harg8 x7 2816 (by norm_num)) (arg16.view.readCov (kernelRun0_A.sl.HS4_3 c arg1 harg1 arg2 harg2 arg3 harg3 arg4 harg4 arg5 harg5 arg6 harg6 arg12 arg14 x0 x1 x2 x3 x4 x5) (Rect.unit (s := S44x8x256) ![2, 0, 0] S1x8x256.size (inb16 2 (by norm_num))).toLoadRect) (arg16.view.readCov (kernelRun0_A.sl.HS4_4 c arg1 harg1 arg2 harg2 arg3 harg3 arg4 harg4 arg5 harg5 arg6 harg6 arg12 arg14 x0 x1 x2 x3 x4 x5) (Rect.unit (s := S44x8x256) ![3, 0, 0] S1x8x256.size (inb16 3 (by norm_num))).toLoadRect) (cols (kernelRun0_A.sl.v220 c arg1 harg1 arg2 harg2 arg3 harg3 arg4 harg4 arg5 harg5 arg12 arg14 x0 x1 x2 x3 x4) (ld6 arg6 harg6 x5 2816 (by norm_num))))) rfl ?_
  rw [(keptA_0 c arg1 harg1 arg2 harg2 arg3 harg3 arg4 harg4 arg5 harg5 arg12 arg14 x0 x1 x2 x3 x4 x5).read, (keptA_1 c arg1 harg1 arg2 harg2 arg3 harg3 arg4 harg4 arg5 harg5 arg6 harg6 arg12 arg14 x0 x1 x2 x3 x4 x5).read, (keptA_2 c arg1 harg1 arg2 harg2 arg3 harg3 arg4 harg4 arg5 harg5 arg6 harg6 arg12 arg14 x0 x1 x2 x3 x4 x5).read, (keptA_3 c arg1 harg1 arg2 harg2 arg3 harg3 arg4 harg4 arg5 harg5 arg6 harg6 arg12 arg14 x0 x1 x2 x3 x4 x5).read]
  simp only [ld6_eq, ld7_eq, ld8_eq]
  rfl

theorem actA_1 : kernelRun0_A.sl.r_13 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 1 := by
  refine Eq.trans (b := gated (conv (ld7 arg7 harg7 x6 0 (by norm_num) 256 (by norm_num)) (ld7 arg7 harg7 x6 1 (by norm_num) 256 (by norm_num)) (ld7 arg7 harg7 x6 2 (by norm_num) 256 (by norm_num)) (ld8 arg8 harg8 x7 256 (by norm_num)) (arg16.view.readCov (kernelRun0_A.sl.HS4_5 c arg1 harg1 arg2 harg2 arg3 harg3 arg4 harg4 arg5 harg5 arg6 harg6 arg12 arg14 x0 x1 x2 x3 x4 x5) (Rect.unit (s := S44x8x256) ![4, 0, 0] S1x8x256.size (inb16 4 (by norm_num))).toLoadRect) (arg16.view.readCov (kernelRun0_A.sl.HS4_6 c arg1 harg1 arg2 harg2 arg3 harg3 arg4 harg4 arg5 harg5 arg6 harg6 arg12 arg14 x0 x1 x2 x3 x4 x5) (Rect.unit (s := S44x8x256) ![5, 0, 0] S1x8x256.size (inb16 5 (by norm_num))).toLoadRect) (cols (kernelRun0_A.sl.v220 c arg1 harg1 arg2 harg2 arg3 harg3 arg4 harg4 arg5 harg5 arg12 arg14 x0 x1 x2 x3 x4) (ld6 arg6 harg6 x5 256 (by norm_num))))
      (conv (ld7 arg7 harg7 x6 0 (by norm_num) 3072 (by norm_num)) (ld7 arg7 harg7 x6 1 (by norm_num) 3072 (by norm_num)) (ld7 arg7 harg7 x6 2 (by norm_num) 3072 (by norm_num)) (ld8 arg8 harg8 x7 3072 (by norm_num)) (arg16.view.readCov (kernelRun0_A.sl.HS4_7 c arg1 harg1 arg2 harg2 arg3 harg3 arg4 harg4 arg5 harg5 arg6 harg6 arg12 arg14 x0 x1 x2 x3 x4 x5) (Rect.unit (s := S44x8x256) ![6, 0, 0] S1x8x256.size (inb16 6 (by norm_num))).toLoadRect) (arg16.view.readCov (kernelRun0_A.sl.HS4_8 c arg1 harg1 arg2 harg2 arg3 harg3 arg4 harg4 arg5 harg5 arg6 harg6 arg12 arg14 x0 x1 x2 x3 x4 x5) (Rect.unit (s := S44x8x256) ![7, 0, 0] S1x8x256.size (inb16 7 (by norm_num))).toLoadRect) (cols (kernelRun0_A.sl.v220 c arg1 harg1 arg2 harg2 arg3 harg3 arg4 harg4 arg5 harg5 arg12 arg14 x0 x1 x2 x3 x4) (ld6 arg6 harg6 x5 3072 (by norm_num))))) rfl ?_
  rw [(keptA_4 c arg1 harg1 arg2 harg2 arg3 harg3 arg4 harg4 arg5 harg5 arg6 harg6 arg12 arg14 x0 x1 x2 x3 x4 x5).read, (keptA_5 c arg1 harg1 arg2 harg2 arg3 harg3 arg4 harg4 arg5 harg5 arg6 harg6 arg12 arg14 x0 x1 x2 x3 x4 x5).read, (keptA_6 c arg1 harg1 arg2 harg2 arg3 harg3 arg4 harg4 arg5 harg5 arg6 harg6 arg12 arg14 x0 x1 x2 x3 x4 x5).read, (keptA_7 c arg1 harg1 arg2 harg2 arg3 harg3 arg4 harg4 arg5 harg5 arg6 harg6 arg12 arg14 x0 x1 x2 x3 x4 x5).read]
  simp only [ld6_eq, ld7_eq, ld8_eq]
  rfl

theorem actA_2 : kernelRun0_A.sl.r_24 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 2 := by
  refine Eq.trans (b := gated (conv (ld7 arg7 harg7 x6 0 (by norm_num) 512 (by norm_num)) (ld7 arg7 harg7 x6 1 (by norm_num) 512 (by norm_num)) (ld7 arg7 harg7 x6 2 (by norm_num) 512 (by norm_num)) (ld8 arg8 harg8 x7 512 (by norm_num)) (arg16.view.readCov (kernelRun0_A.sl.HS4_9 c arg1 harg1 arg2 harg2 arg3 harg3 arg4 harg4 arg5 harg5 arg6 harg6 arg12 arg14 x0 x1 x2 x3 x4 x5) (Rect.unit (s := S44x8x256) ![8, 0, 0] S1x8x256.size (inb16 8 (by norm_num))).toLoadRect) (arg16.view.readCov (kernelRun0_A.sl.HS4_10 c arg1 harg1 arg2 harg2 arg3 harg3 arg4 harg4 arg5 harg5 arg6 harg6 arg12 arg14 x0 x1 x2 x3 x4 x5) (Rect.unit (s := S44x8x256) ![9, 0, 0] S1x8x256.size (inb16 9 (by norm_num))).toLoadRect) (cols (kernelRun0_A.sl.v220 c arg1 harg1 arg2 harg2 arg3 harg3 arg4 harg4 arg5 harg5 arg12 arg14 x0 x1 x2 x3 x4) (ld6 arg6 harg6 x5 512 (by norm_num))))
      (conv (ld7 arg7 harg7 x6 0 (by norm_num) 3328 (by norm_num)) (ld7 arg7 harg7 x6 1 (by norm_num) 3328 (by norm_num)) (ld7 arg7 harg7 x6 2 (by norm_num) 3328 (by norm_num)) (ld8 arg8 harg8 x7 3328 (by norm_num)) (arg16.view.readCov (kernelRun0_A.sl.HS4_11 c arg1 harg1 arg2 harg2 arg3 harg3 arg4 harg4 arg5 harg5 arg6 harg6 arg12 arg14 x0 x1 x2 x3 x4 x5) (Rect.unit (s := S44x8x256) ![10, 0, 0] S1x8x256.size (inb16 10 (by norm_num))).toLoadRect) (arg16.view.readCov (kernelRun0_A.sl.HS4_12 c arg1 harg1 arg2 harg2 arg3 harg3 arg4 harg4 arg5 harg5 arg6 harg6 arg12 arg14 x0 x1 x2 x3 x4 x5) (Rect.unit (s := S44x8x256) ![11, 0, 0] S1x8x256.size (inb16 11 (by norm_num))).toLoadRect) (cols (kernelRun0_A.sl.v220 c arg1 harg1 arg2 harg2 arg3 harg3 arg4 harg4 arg5 harg5 arg12 arg14 x0 x1 x2 x3 x4) (ld6 arg6 harg6 x5 3328 (by norm_num))))) rfl ?_
  rw [(keptA_8 c arg1 harg1 arg2 harg2 arg3 harg3 arg4 harg4 arg5 harg5 arg6 harg6 arg12 arg14 x0 x1 x2 x3 x4 x5).read, (keptA_9 c arg1 harg1 arg2 harg2 arg3 harg3 arg4 harg4 arg5 harg5 arg6 harg6 arg12 arg14 x0 x1 x2 x3 x4 x5).read, (keptA_10 c arg1 harg1 arg2 harg2 arg3 harg3 arg4 harg4 arg5 harg5 arg6 harg6 arg12 arg14 x0 x1 x2 x3 x4 x5).read, (keptA_11 c arg1 harg1 arg2 harg2 arg3 harg3 arg4 harg4 arg5 harg5 arg6 harg6 arg12 arg14 x0 x1 x2 x3 x4 x5).read]
  simp only [ld6_eq, ld7_eq, ld8_eq]
  rfl

theorem actA_3 : kernelRun0_A.sl.v1243 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 3 := by
  refine Eq.trans (b := gated (conv (ld7 arg7 harg7 x6 0 (by norm_num) 768 (by norm_num)) (ld7 arg7 harg7 x6 1 (by norm_num) 768 (by norm_num)) (ld7 arg7 harg7 x6 2 (by norm_num) 768 (by norm_num)) (ld8 arg8 harg8 x7 768 (by norm_num)) (arg16.view.readCov (kernelRun0_A.sl.HS4_13 c arg1 harg1 arg2 harg2 arg3 harg3 arg4 harg4 arg5 harg5 arg6 harg6 arg12 arg14 x0 x1 x2 x3 x4 x5) (Rect.unit (s := S44x8x256) ![12, 0, 0] S1x8x256.size (inb16 12 (by norm_num))).toLoadRect) (arg16.view.readCov (kernelRun0_A.sl.HS4_14 c arg1 harg1 arg2 harg2 arg3 harg3 arg4 harg4 arg5 harg5 arg6 harg6 arg12 arg14 x0 x1 x2 x3 x4 x5) (Rect.unit (s := S44x8x256) ![13, 0, 0] S1x8x256.size (inb16 13 (by norm_num))).toLoadRect) (cols (kernelRun0_A.sl.v220 c arg1 harg1 arg2 harg2 arg3 harg3 arg4 harg4 arg5 harg5 arg12 arg14 x0 x1 x2 x3 x4) (ld6 arg6 harg6 x5 768 (by norm_num))))
      (conv (ld7 arg7 harg7 x6 0 (by norm_num) 3584 (by norm_num)) (ld7 arg7 harg7 x6 1 (by norm_num) 3584 (by norm_num)) (ld7 arg7 harg7 x6 2 (by norm_num) 3584 (by norm_num)) (ld8 arg8 harg8 x7 3584 (by norm_num)) (arg16.view.readCov (kernelRun0_A.sl.HS4_15 c arg1 harg1 arg2 harg2 arg3 harg3 arg4 harg4 arg5 harg5 arg6 harg6 arg12 arg14 x0 x1 x2 x3 x4 x5) (Rect.unit (s := S44x8x256) ![14, 0, 0] S1x8x256.size (inb16 14 (by norm_num))).toLoadRect) (arg16.view.readCov (kernelRun0_A.sl.HS4_16 c arg1 harg1 arg2 harg2 arg3 harg3 arg4 harg4 arg5 harg5 arg6 harg6 arg12 arg14 x0 x1 x2 x3 x4 x5) (Rect.unit (s := S44x8x256) ![15, 0, 0] S1x8x256.size (inb16 15 (by norm_num))).toLoadRect) (cols (kernelRun0_A.sl.v220 c arg1 harg1 arg2 harg2 arg3 harg3 arg4 harg4 arg5 harg5 arg12 arg14 x0 x1 x2 x3 x4) (ld6 arg6 harg6 x5 3584 (by norm_num))))) rfl ?_
  rw [(keptA_12 c arg1 harg1 arg2 harg2 arg3 harg3 arg4 harg4 arg5 harg5 arg6 harg6 arg12 arg14 x0 x1 x2 x3 x4 x5).read, (keptA_13 c arg1 harg1 arg2 harg2 arg3 harg3 arg4 harg4 arg5 harg5 arg6 harg6 arg12 arg14 x0 x1 x2 x3 x4 x5).read, (keptA_14 c arg1 harg1 arg2 harg2 arg3 harg3 arg4 harg4 arg5 harg5 arg6 harg6 arg12 arg14 x0 x1 x2 x3 x4 x5).read, (keptA_15 c arg1 harg1 arg2 harg2 arg3 harg3 arg4 harg4 arg5 harg5 arg6 harg6 arg12 arg14 x0 x1 x2 x3 x4 x5).read]
  simp only [ld6_eq, ld7_eq, ld8_eq]
  rfl

theorem actA_4 : kernelRun0_A.sl.r_30 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 4 := by
  refine Eq.trans (b := gated (conv (ld7 arg7 harg7 x6 0 (by norm_num) 1024 (by norm_num)) (ld7 arg7 harg7 x6 1 (by norm_num) 1024 (by norm_num)) (ld7 arg7 harg7 x6 2 (by norm_num) 1024 (by norm_num)) (ld8 arg8 harg8 x7 1024 (by norm_num)) (arg16.view.readCov (kernelRun0_A.sl.HS4_17 c arg1 harg1 arg2 harg2 arg3 harg3 arg4 harg4 arg5 harg5 arg6 harg6 arg12 arg14 x0 x1 x2 x3 x4 x5) (Rect.unit (s := S44x8x256) ![16, 0, 0] S1x8x256.size (inb16 16 (by norm_num))).toLoadRect) (arg16.view.readCov (kernelRun0_A.sl.HS4_18 c arg1 harg1 arg2 harg2 arg3 harg3 arg4 harg4 arg5 harg5 arg6 harg6 arg12 arg14 x0 x1 x2 x3 x4 x5) (Rect.unit (s := S44x8x256) ![17, 0, 0] S1x8x256.size (inb16 17 (by norm_num))).toLoadRect) (cols (kernelRun0_A.sl.v220 c arg1 harg1 arg2 harg2 arg3 harg3 arg4 harg4 arg5 harg5 arg12 arg14 x0 x1 x2 x3 x4) (ld6 arg6 harg6 x5 1024 (by norm_num))))
      (conv (ld7 arg7 harg7 x6 0 (by norm_num) 3840 (by norm_num)) (ld7 arg7 harg7 x6 1 (by norm_num) 3840 (by norm_num)) (ld7 arg7 harg7 x6 2 (by norm_num) 3840 (by norm_num)) (ld8 arg8 harg8 x7 3840 (by norm_num)) (arg16.view.readCov (kernelRun0_A.sl.HS4_19 c arg1 harg1 arg2 harg2 arg3 harg3 arg4 harg4 arg5 harg5 arg6 harg6 arg12 arg14 x0 x1 x2 x3 x4 x5) (Rect.unit (s := S44x8x256) ![18, 0, 0] S1x8x256.size (inb16 18 (by norm_num))).toLoadRect) (arg16.view.readCov (kernelRun0_A.sl.HS4_20 c arg1 harg1 arg2 harg2 arg3 harg3 arg4 harg4 arg5 harg5 arg6 harg6 arg12 arg14 x0 x1 x2 x3 x4 x5) (Rect.unit (s := S44x8x256) ![19, 0, 0] S1x8x256.size (inb16 19 (by norm_num))).toLoadRect) (cols (kernelRun0_A.sl.v220 c arg1 harg1 arg2 harg2 arg3 harg3 arg4 harg4 arg5 harg5 arg12 arg14 x0 x1 x2 x3 x4) (ld6 arg6 harg6 x5 3840 (by norm_num))))) rfl ?_
  rw [(keptA_16 c arg1 harg1 arg2 harg2 arg3 harg3 arg4 harg4 arg5 harg5 arg6 harg6 arg12 arg14 x0 x1 x2 x3 x4 x5).read, (keptA_17 c arg1 harg1 arg2 harg2 arg3 harg3 arg4 harg4 arg5 harg5 arg6 harg6 arg12 arg14 x0 x1 x2 x3 x4 x5).read, (keptA_18 c arg1 harg1 arg2 harg2 arg3 harg3 arg4 harg4 arg5 harg5 arg6 harg6 arg12 arg14 x0 x1 x2 x3 x4 x5).read, (keptA_19 c arg1 harg1 arg2 harg2 arg3 harg3 arg4 harg4 arg5 harg5 arg6 harg6 arg12 arg14 x0 x1 x2 x3 x4 x5).read]
  simp only [ld6_eq, ld7_eq, ld8_eq]
  rfl

theorem actA_5 : kernelRun0_A.sl.r_40 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 5 := by
  refine Eq.trans (b := gated (conv (ld7 arg7 harg7 x6 0 (by norm_num) 1280 (by norm_num)) (ld7 arg7 harg7 x6 1 (by norm_num) 1280 (by norm_num)) (ld7 arg7 harg7 x6 2 (by norm_num) 1280 (by norm_num)) (ld8 arg8 harg8 x7 1280 (by norm_num)) (arg16.view.readCov (kernelRun0_A.sl.HS4_21 c arg1 harg1 arg2 harg2 arg3 harg3 arg4 harg4 arg5 harg5 arg6 harg6 arg12 arg14 x0 x1 x2 x3 x4 x5) (Rect.unit (s := S44x8x256) ![20, 0, 0] S1x8x256.size (inb16 20 (by norm_num))).toLoadRect) (arg16.view.readCov (kernelRun0_A.sl.HS4_22 c arg1 harg1 arg2 harg2 arg3 harg3 arg4 harg4 arg5 harg5 arg6 harg6 arg12 arg14 x0 x1 x2 x3 x4 x5) (Rect.unit (s := S44x8x256) ![21, 0, 0] S1x8x256.size (inb16 21 (by norm_num))).toLoadRect) (cols (kernelRun0_A.sl.v220 c arg1 harg1 arg2 harg2 arg3 harg3 arg4 harg4 arg5 harg5 arg12 arg14 x0 x1 x2 x3 x4) (ld6 arg6 harg6 x5 1280 (by norm_num))))
      (conv (ld7 arg7 harg7 x6 0 (by norm_num) 4096 (by norm_num)) (ld7 arg7 harg7 x6 1 (by norm_num) 4096 (by norm_num)) (ld7 arg7 harg7 x6 2 (by norm_num) 4096 (by norm_num)) (ld8 arg8 harg8 x7 4096 (by norm_num)) (arg16.view.readCov (kernelRun0_A.sl.HS4_23 c arg1 harg1 arg2 harg2 arg3 harg3 arg4 harg4 arg5 harg5 arg6 harg6 arg12 arg14 x0 x1 x2 x3 x4 x5) (Rect.unit (s := S44x8x256) ![22, 0, 0] S1x8x256.size (inb16 22 (by norm_num))).toLoadRect) (arg16.view.readCov (kernelRun0_A.sl.HS4_24 c arg1 harg1 arg2 harg2 arg3 harg3 arg4 harg4 arg5 harg5 arg6 harg6 arg12 arg14 x0 x1 x2 x3 x4 x5) (Rect.unit (s := S44x8x256) ![23, 0, 0] S1x8x256.size (inb16 23 (by norm_num))).toLoadRect) (cols (kernelRun0_A.sl.v220 c arg1 harg1 arg2 harg2 arg3 harg3 arg4 harg4 arg5 harg5 arg12 arg14 x0 x1 x2 x3 x4) (ld6 arg6 harg6 x5 4096 (by norm_num))))) rfl ?_
  rw [(keptA_20 c arg1 harg1 arg2 harg2 arg3 harg3 arg4 harg4 arg5 harg5 arg6 harg6 arg12 arg14 x0 x1 x2 x3 x4 x5).read, (keptA_21 c arg1 harg1 arg2 harg2 arg3 harg3 arg4 harg4 arg5 harg5 arg6 harg6 arg12 arg14 x0 x1 x2 x3 x4 x5).read, (keptA_22 c arg1 harg1 arg2 harg2 arg3 harg3 arg4 harg4 arg5 harg5 arg6 harg6 arg12 arg14 x0 x1 x2 x3 x4 x5).read, (keptA_23 c arg1 harg1 arg2 harg2 arg3 harg3 arg4 harg4 arg5 harg5 arg6 harg6 arg12 arg14 x0 x1 x2 x3 x4 x5).read]
  simp only [ld6_eq, ld7_eq, ld8_eq]
  rfl

theorem actA_6 : kernelRun0_A.sl.r_49 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 6 := by
  refine Eq.trans (b := gated (conv (ld7 arg7 harg7 x6 0 (by norm_num) 1536 (by norm_num)) (ld7 arg7 harg7 x6 1 (by norm_num) 1536 (by norm_num)) (ld7 arg7 harg7 x6 2 (by norm_num) 1536 (by norm_num)) (ld8 arg8 harg8 x7 1536 (by norm_num)) (arg16.view.readCov (kernelRun0_A.sl.HS4_25 c arg1 harg1 arg2 harg2 arg3 harg3 arg4 harg4 arg5 harg5 arg6 harg6 arg12 arg14 x0 x1 x2 x3 x4 x5) (Rect.unit (s := S44x8x256) ![24, 0, 0] S1x8x256.size (inb16 24 (by norm_num))).toLoadRect) (arg16.view.readCov (kernelRun0_A.sl.HS4_26 c arg1 harg1 arg2 harg2 arg3 harg3 arg4 harg4 arg5 harg5 arg6 harg6 arg12 arg14 x0 x1 x2 x3 x4 x5) (Rect.unit (s := S44x8x256) ![25, 0, 0] S1x8x256.size (inb16 25 (by norm_num))).toLoadRect) (cols (kernelRun0_A.sl.v220 c arg1 harg1 arg2 harg2 arg3 harg3 arg4 harg4 arg5 harg5 arg12 arg14 x0 x1 x2 x3 x4) (ld6 arg6 harg6 x5 1536 (by norm_num))))
      (conv (ld7 arg7 harg7 x6 0 (by norm_num) 4352 (by norm_num)) (ld7 arg7 harg7 x6 1 (by norm_num) 4352 (by norm_num)) (ld7 arg7 harg7 x6 2 (by norm_num) 4352 (by norm_num)) (ld8 arg8 harg8 x7 4352 (by norm_num)) (arg16.view.readCov (kernelRun0_A.sl.HS4_27 c arg1 harg1 arg2 harg2 arg3 harg3 arg4 harg4 arg5 harg5 arg6 harg6 arg12 arg14 x0 x1 x2 x3 x4 x5) (Rect.unit (s := S44x8x256) ![26, 0, 0] S1x8x256.size (inb16 26 (by norm_num))).toLoadRect) (arg16.view.readCov (kernelRun0_A.sl.HS4_28 c arg1 harg1 arg2 harg2 arg3 harg3 arg4 harg4 arg5 harg5 arg6 harg6 arg12 arg14 x0 x1 x2 x3 x4 x5) (Rect.unit (s := S44x8x256) ![27, 0, 0] S1x8x256.size (inb16 27 (by norm_num))).toLoadRect) (cols (kernelRun0_A.sl.v220 c arg1 harg1 arg2 harg2 arg3 harg3 arg4 harg4 arg5 harg5 arg12 arg14 x0 x1 x2 x3 x4) (ld6 arg6 harg6 x5 4352 (by norm_num))))) rfl ?_
  rw [(keptA_24 c arg1 harg1 arg2 harg2 arg3 harg3 arg4 harg4 arg5 harg5 arg6 harg6 arg12 arg14 x0 x1 x2 x3 x4 x5).read, (keptA_25 c arg1 harg1 arg2 harg2 arg3 harg3 arg4 harg4 arg5 harg5 arg6 harg6 arg12 arg14 x0 x1 x2 x3 x4 x5).read, (keptA_26 c arg1 harg1 arg2 harg2 arg3 harg3 arg4 harg4 arg5 harg5 arg6 harg6 arg12 arg14 x0 x1 x2 x3 x4 x5).read, (keptA_27 c arg1 harg1 arg2 harg2 arg3 harg3 arg4 harg4 arg5 harg5 arg6 harg6 arg12 arg14 x0 x1 x2 x3 x4 x5).read]
  simp only [ld6_eq, ld7_eq, ld8_eq]
  rfl

theorem actA_7 : kernelRun0_A.sl.r_50 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 7 := by
  refine Eq.trans (b := gated (conv (ld7 arg7 harg7 x6 0 (by norm_num) 1792 (by norm_num)) (ld7 arg7 harg7 x6 1 (by norm_num) 1792 (by norm_num)) (ld7 arg7 harg7 x6 2 (by norm_num) 1792 (by norm_num)) (ld8 arg8 harg8 x7 1792 (by norm_num)) (arg16.view.readCov (kernelRun0_A.sl.HS4_29 c arg1 harg1 arg2 harg2 arg3 harg3 arg4 harg4 arg5 harg5 arg6 harg6 arg12 arg14 x0 x1 x2 x3 x4 x5) (Rect.unit (s := S44x8x256) ![28, 0, 0] S1x8x256.size (inb16 28 (by norm_num))).toLoadRect) (arg16.view.readCov (kernelRun0_A.sl.HS4_30 c arg1 harg1 arg2 harg2 arg3 harg3 arg4 harg4 arg5 harg5 arg6 harg6 arg12 arg14 x0 x1 x2 x3 x4 x5) (Rect.unit (s := S44x8x256) ![29, 0, 0] S1x8x256.size (inb16 29 (by norm_num))).toLoadRect) (cols (kernelRun0_A.sl.v220 c arg1 harg1 arg2 harg2 arg3 harg3 arg4 harg4 arg5 harg5 arg12 arg14 x0 x1 x2 x3 x4) (ld6 arg6 harg6 x5 1792 (by norm_num))))
      (conv (ld7 arg7 harg7 x6 0 (by norm_num) 4608 (by norm_num)) (ld7 arg7 harg7 x6 1 (by norm_num) 4608 (by norm_num)) (ld7 arg7 harg7 x6 2 (by norm_num) 4608 (by norm_num)) (ld8 arg8 harg8 x7 4608 (by norm_num)) (arg16.view.readCov (kernelRun0_A.sl.HS4_31 c arg1 harg1 arg2 harg2 arg3 harg3 arg4 harg4 arg5 harg5 arg6 harg6 arg12 arg14 x0 x1 x2 x3 x4 x5) (Rect.unit (s := S44x8x256) ![30, 0, 0] S1x8x256.size (inb16 30 (by norm_num))).toLoadRect) (arg16.view.readCov (kernelRun0_A.sl.HS4_32 c arg1 harg1 arg2 harg2 arg3 harg3 arg4 harg4 arg5 harg5 arg6 harg6 arg12 arg14 x0 x1 x2 x3 x4 x5) (Rect.unit (s := S44x8x256) ![31, 0, 0] S1x8x256.size (inb16 31 (by norm_num))).toLoadRect) (cols (kernelRun0_A.sl.v220 c arg1 harg1 arg2 harg2 arg3 harg3 arg4 harg4 arg5 harg5 arg12 arg14 x0 x1 x2 x3 x4) (ld6 arg6 harg6 x5 4608 (by norm_num))))) rfl ?_
  rw [(keptA_28 c arg1 harg1 arg2 harg2 arg3 harg3 arg4 harg4 arg5 harg5 arg6 harg6 arg12 arg14 x0 x1 x2 x3 x4 x5).read, (keptA_29 c arg1 harg1 arg2 harg2 arg3 harg3 arg4 harg4 arg5 harg5 arg6 harg6 arg12 arg14 x0 x1 x2 x3 x4 x5).read, (keptA_30 c arg1 harg1 arg2 harg2 arg3 harg3 arg4 harg4 arg5 harg5 arg6 harg6 arg12 arg14 x0 x1 x2 x3 x4 x5).read, (keptA_31 c arg1 harg1 arg2 harg2 arg3 harg3 arg4 harg4 arg5 harg5 arg6 harg6 arg12 arg14 x0 x1 x2 x3 x4 x5).read]
  simp only [ld6_eq, ld7_eq, ld8_eq]
  rfl

theorem actA_8 : kernelRun0_A.sl.r_62 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 8 := by
  refine Eq.trans (b := gated (conv (ld7 arg7 harg7 x6 0 (by norm_num) 2048 (by norm_num)) (ld7 arg7 harg7 x6 1 (by norm_num) 2048 (by norm_num)) (ld7 arg7 harg7 x6 2 (by norm_num) 2048 (by norm_num)) (ld8 arg8 harg8 x7 2048 (by norm_num)) (arg16.view.readCov (kernelRun0_A.sl.HS4_33 c arg1 harg1 arg2 harg2 arg3 harg3 arg4 harg4 arg5 harg5 arg6 harg6 arg12 arg14 x0 x1 x2 x3 x4 x5) (Rect.unit (s := S44x8x256) ![32, 0, 0] S1x8x256.size (inb16 32 (by norm_num))).toLoadRect) (arg16.view.readCov (kernelRun0_A.sl.HS4_34 c arg1 harg1 arg2 harg2 arg3 harg3 arg4 harg4 arg5 harg5 arg6 harg6 arg12 arg14 x0 x1 x2 x3 x4 x5) (Rect.unit (s := S44x8x256) ![33, 0, 0] S1x8x256.size (inb16 33 (by norm_num))).toLoadRect) (cols (kernelRun0_A.sl.v220 c arg1 harg1 arg2 harg2 arg3 harg3 arg4 harg4 arg5 harg5 arg12 arg14 x0 x1 x2 x3 x4) (ld6 arg6 harg6 x5 2048 (by norm_num))))
      (conv (ld7 arg7 harg7 x6 0 (by norm_num) 4864 (by norm_num)) (ld7 arg7 harg7 x6 1 (by norm_num) 4864 (by norm_num)) (ld7 arg7 harg7 x6 2 (by norm_num) 4864 (by norm_num)) (ld8 arg8 harg8 x7 4864 (by norm_num)) (arg16.view.readCov (kernelRun0_A.sl.HS4_35 c arg1 harg1 arg2 harg2 arg3 harg3 arg4 harg4 arg5 harg5 arg6 harg6 arg12 arg14 x0 x1 x2 x3 x4 x5) (Rect.unit (s := S44x8x256) ![34, 0, 0] S1x8x256.size (inb16 34 (by norm_num))).toLoadRect) (arg16.view.readCov (kernelRun0_A.sl.HS4_36 c arg1 harg1 arg2 harg2 arg3 harg3 arg4 harg4 arg5 harg5 arg6 harg6 arg12 arg14 x0 x1 x2 x3 x4 x5) (Rect.unit (s := S44x8x256) ![35, 0, 0] S1x8x256.size (inb16 35 (by norm_num))).toLoadRect) (cols (kernelRun0_A.sl.v220 c arg1 harg1 arg2 harg2 arg3 harg3 arg4 harg4 arg5 harg5 arg12 arg14 x0 x1 x2 x3 x4) (ld6 arg6 harg6 x5 4864 (by norm_num))))) rfl ?_
  rw [(keptA_32 c arg1 harg1 arg2 harg2 arg3 harg3 arg4 harg4 arg5 harg5 arg6 harg6 arg12 arg14 x0 x1 x2 x3 x4 x5).read, (keptA_33 c arg1 harg1 arg2 harg2 arg3 harg3 arg4 harg4 arg5 harg5 arg6 harg6 arg12 arg14 x0 x1 x2 x3 x4 x5).read, (keptA_34 c arg1 harg1 arg2 harg2 arg3 harg3 arg4 harg4 arg5 harg5 arg6 harg6 arg12 arg14 x0 x1 x2 x3 x4 x5).read, (keptA_35 c arg1 harg1 arg2 harg2 arg3 harg3 arg4 harg4 arg5 harg5 arg6 harg6 arg12 arg14 x0 x1 x2 x3 x4 x5).read]
  simp only [ld6_eq, ld7_eq, ld8_eq]
  rfl

theorem actA_9 : kernelRun0_A.sl.r_73 c arg1 harg1 arg2 harg2 arg3 harg3 arg4 harg4 arg5 harg5 arg6 harg6 arg7 harg7 arg8 harg8 arg12 arg14 arg16 x0 x1 x2 x3 x4 x5 x6 x7 = actSlot x5 x6 x7 (kernelRun0_A.sl.v220 c arg1 harg1 arg2 harg2 arg3 harg3 arg4 harg4 arg5 harg5 arg12 arg14 x0 x1 x2 x3 x4) (fun n h => cut16 (fun _ => (0 : EReal)) n h) 9 := by
  refine Eq.trans (b := gated (conv (ld7 arg7 harg7 x6 0 (by norm_num) 2304 (by norm_num)) (ld7 arg7 harg7 x6 1 (by norm_num) 2304 (by norm_num)) (ld7 arg7 harg7 x6 2 (by norm_num) 2304 (by norm_num)) (ld8 arg8 harg8 x7 2304 (by norm_num)) (arg16.view.readCov (kernelRun0_A.sl.HS4_37 c arg1 harg1 arg2 harg2 arg3 harg3 arg4 harg4 arg5 harg5 arg6 harg6 arg12 arg14 x0 x1 x2 x3 x4 x5) (Rect.unit (s := S44x8x256) ![36, 0, 0] S1x8x256.size (inb16 36 (by norm_num))).toLoadRect) (arg16.view.readCov (kernelRun0_A.sl.HS4_38 c arg1 harg1 arg2 harg2 arg3 harg3 arg4 harg4 arg5 harg5 arg6 harg6 arg12 arg14 x0 x1 x2 x3 x4 x5) (Rect.unit (s := S44x8x256) ![37, 0, 0] S1x8x256.size (inb16 37 (by norm_num))).toLoadRect) (cols (kernelRun0_A.sl.v220 c arg1 harg1 arg2 harg2 arg3 harg3 arg4 harg4 arg5 harg5 arg12 arg14 x0 x1 x2 x3 x4) (ld6 arg6 harg6 x5 2304 (by norm_num))))
      (conv (ld7 arg7 harg7 x6 0 (by norm_num) 5120 (by norm_num)) (ld7 arg7 harg7 x6 1 (by norm_num) 5120 (by norm_num)) (ld7 arg7 harg7 x6 2 (by norm_num) 5120 (by norm_num)) (ld8 arg8 harg8 x7 5120 (by norm_num)) (arg16.view.readCov (kernelRun0_A.sl.HS4_39 c arg1 harg1 arg2 harg2 arg3 harg3 arg4 harg4 arg5 harg5 arg6 harg6 arg12 arg14 x0 x1 x2 x3 x4 x5) (Rect.unit (s := S44x8x256) ![38, 0, 0] S1x8x256.size (inb16 38 (by norm_num))).toLoadRect) (arg16.view.readCov (kernelRun0_A.sl.HS4_40 c arg1 harg1 arg2 harg2 arg3 harg3 arg4 harg4 arg5 harg5 arg6 harg6 arg12 arg14 x0 x1 x2 x3 x4 x5) (Rect.unit (s := S44x8x256) ![39, 0, 0] S1x8x256.size (inb16 39 (by norm_num))).toLoadRect) (cols (kernelRun0_A.sl.v220 c arg1 harg1 arg2 harg2 arg3 harg3 arg4 harg4 arg5 harg5 arg12 arg14 x0 x1 x2 x3 x4) (ld6 arg6 harg6 x5 5120 (by norm_num))))) rfl ?_
  rw [(keptA_36 c arg1 harg1 arg2 harg2 arg3 harg3 arg4 harg4 arg5 harg5 arg6 harg6 arg12 arg14 x0 x1 x2 x3 x4 x5).read, (keptA_37 c arg1 harg1 arg2 harg2 arg3 harg3 arg4 harg4 arg5 harg5 arg6 harg6 arg12 arg14 x0 x1 x2 x3 x4 x5).read, (keptA_38 c arg1 harg1 arg2 harg2 arg3 harg3 arg4 harg4 arg5 harg5 arg6 harg6 arg12 arg14 x0 x1 x2 x3 x4 x5).read, (keptA_39 c arg1 harg1 arg2 harg2 arg3 harg3 arg4 harg4 arg5 harg5 arg6 harg6 arg12 arg14 x0 x1 x2 x3 x4 x5).read]
  simp only [ld6_eq, ld7_eq, ld8_eq]
  rfl

theorem gateA_10 : kernelRun0_A.sl.r_97 c arg1 harg1 arg2 harg2 arg3 harg3 arg4 harg4 arg5 harg5 arg6 harg6 arg7 harg7 arg8 harg8 arg12 arg14 arg16 x0 x1 x2 x3 x4 x5 x6 x7 = (conv (ld7 arg7 harg7 x6 0 (by norm_num) 2560 (by norm_num)) (ld7 arg7 harg7 x6 1 (by norm_num) 2560 (by norm_num)) (ld7 arg7 harg7 x6 2 (by norm_num) 2560 (by norm_num)) (ld8 arg8 harg8 x7 2560 (by norm_num)) (arg16.view.readCov (kernelRun0_A.sl.HS4_41 c arg1 harg1 arg2 harg2 arg3 harg3 arg4 harg4 arg5 harg5 arg6 harg6 arg12 arg14 x0 x1 x2 x3 x4 x5) (Rect.unit (s := S44x8x256) ![40, 0, 0] S1x8x256.size (inb16 40 (by norm_num))).toLoadRect) (arg16.view.readCov (kernelRun0_A.sl.HS4_42 c arg1 harg1 arg2 harg2 arg3 harg3 arg4 harg4 arg5 harg5 arg6 harg6 arg12 arg14 x0 x1 x2 x3 x4 x5) (Rect.unit (s := S44x8x256) ![41, 0, 0] S1x8x256.size (inb16 41 (by norm_num))).toLoadRect) (cols (kernelRun0_A.sl.v220 c arg1 harg1 arg2 harg2 arg3 harg3 arg4 harg4 arg5 harg5 arg12 arg14 x0 x1 x2 x3 x4) (ld6 arg6 harg6 x5 2560 (by norm_num)))) := by
  rfl

theorem valA_10 : kernelRun0_A.sl.r_115 c arg1 harg1 arg2 harg2 arg3 harg3 arg4 harg4 arg5 harg5 arg6 harg6 arg7 harg7 arg8 harg8 arg12 arg14 arg16 x0 x1 x2 x3 x4 x5 x6 x7 = (conv (ld7 arg7 harg7 x6 0 (by norm_num) 5376 (by norm_num)) (ld7 arg7 harg7 x6 1 (by norm_num) 5376 (by norm_num)) (ld7 arg7 harg7 x6 2 (by norm_num) 5376 (by norm_num)) (ld8 arg8 harg8 x7 5376 (by norm_num)) (arg16.view.readCov (kernelRun0_A.sl.HS4_43 c arg1 harg1 arg2 harg2 arg3 harg3 arg4 harg4 arg5 harg5 arg6 harg6 arg12 arg14 x0 x1 x2 x3 x4 x5) (Rect.unit (s := S44x8x256) ![42, 0, 0] S1x8x256.size (inb16 42 (by norm_num))).toLoadRect) (arg16.view.readCov (kernelRun0_A.sl.HS4_44 c arg1 harg1 arg2 harg2 arg3 harg3 arg4 harg4 arg5 harg5 arg6 harg6 arg12 arg14 x0 x1 x2 x3 x4 x5) (Rect.unit (s := S44x8x256) ![43, 0, 0] S1x8x256.size (inb16 43 (by norm_num))).toLoadRect) (cols (kernelRun0_A.sl.v220 c arg1 harg1 arg2 harg2 arg3 harg3 arg4 harg4 arg5 harg5 arg12 arg14 x0 x1 x2 x3 x4) (ld6 arg6 harg6 x5 5376 (by norm_num)))) := by
  rfl

theorem actA_10 : gated (kernelRun0_A.sl.r_97 c arg1 harg1 arg2 harg2 arg3 harg3 arg4 harg4 arg5 harg5 arg6 harg6 arg7 harg7 arg8 harg8 arg12 arg14 arg16 x0 x1 x2 x3 x4 x5 x6 x7) (kernelRun0_A.sl.r_115 c arg1 harg1 arg2 harg2 arg3 harg3 arg4 harg4 arg5 harg5 arg6 harg6 arg7 harg7 arg8 harg8 arg12 arg14 arg16 x0 x1 x2 x3 x4 x5 x6 x7) = actSlot x5 x6 x7 (kernelRun0_A.sl.v220 c arg1 harg1 arg2 harg2 arg3 harg3 arg4 harg4 arg5 harg5 arg12 arg14 x0 x1 x2 x3 x4) (fun n h => cut16 (fun _ => (0 : EReal)) n h) 10 := by
  rw [gateA_10, valA_10]
  rw [(keptA_40 c arg1 harg1 arg2 harg2 arg3 harg3 arg4 harg4 arg5 harg5 arg6 harg6 arg12 arg14 x0 x1 x2 x3 x4 x5).read, (keptA_41 c arg1 harg1 arg2 harg2 arg3 harg3 arg4 harg4 arg5 harg5 arg6 harg6 arg12 arg14 x0 x1 x2 x3 x4 x5).read, (keptA_42 c arg1 harg1 arg2 harg2 arg3 harg3 arg4 harg4 arg5 harg5 arg6 harg6 arg12 arg14 x0 x1 x2 x3 x4 x5).read, (keptA_43 c arg1 harg1 arg2 harg2 arg3 harg3 arg4 harg4 arg5 harg5 arg6 harg6 arg12 arg14 x0 x1 x2 x3 x4 x5).read]
  simp only [ld6_eq, ld7_eq, ld8_eq]
  rfl

/-- The tile's closing rows. -/
theorem rowsA : kernelRun0_A.sl.r_117 c arg1 harg1 arg2 harg2 arg3 harg3 arg4 harg4 arg5 harg5 arg6 harg6 arg7 harg7 arg8 harg8 arg9 harg9 arg10 harg10 arg12 arg13 arg14 arg16 x0 x1 x2 x3 x4 x5 x6 x7 x8 x9 = closing (kernelRun0_A.sl.v3036 c arg1 harg1 arg2 harg2 arg3 harg3 arg4 harg4 arg12 arg13 x0 x1 x2 x3) (acts (actSlot x5 x6 x7 (kernelRun0_A.sl.v220 c arg1 harg1 arg2 harg2 arg3 harg3 arg4 harg4 arg5 harg5 arg12 arg14 x0 x1 x2 x3 x4) (fun n h => cut16 (fun _ => (0 : EReal)) n h))) x8 x9 := by
  have h9 : View.readAt (Elt Ideal) arg9.view (Rect.unit (s := S2816x1024) ![0, 0] S2816x1024.size inb_S2816x1024_S2816x1024_0_0).toLoadRect (harg9.unread x8) = x8 := by
    rw [View.readAt_eq_ld, harg9.read_unread]
    exact View.ld_unit_lit _ _ (by decide)
  have h10 : View.readAt (Elt Ideal) arg10.view (Rect.unit (s := S1x1024) ![0, 0] S1x1024.size inb_S1x1024_S1x1024_0_0).toLoadRect (harg10.unread x9) = x9 := by
    rw [View.readAt_eq_ld, harg10.read_unread]
    exact View.ld_unit_lit _ _ (by decide)
  exact pay_closing (kernelRun0_A.sl.r_1 c arg1 harg1 arg2 harg2 arg3 harg3 arg4 harg4 arg5 harg5 arg6 harg6 arg7 harg7 arg8 harg8 arg12 arg14 arg16 x0 x1 x2 x3 x4 x5 x6 x7) (kernelRun0_A.sl.r_13 c arg1 harg1 arg2 harg2 arg3 harg3 arg4 harg4 arg5 harg5 arg6 harg6 arg7 harg7 arg8 harg8 arg12 arg14 arg16 x0 x1 x2 x3 x4 x5 x6 x7) (kernelRun0_A.sl.r_24 c arg1 harg1 arg2 harg2 arg3 harg3 arg4 harg4 arg5 harg5 arg6 harg6 arg7 harg7 arg8 harg8 arg12 arg14 arg16 x0 x1 x2 x3 x4 x5 x6 x7) (kernelRun0_A.sl.v1243 c arg1 harg1 arg2 harg2 arg3 harg3 arg4 harg4 arg5 harg5 arg6 harg6 arg7 harg7 arg8 harg8 arg12 arg14 arg16 x0 x1 x2 x3 x4 x5 x6 x7) (kernelRun0_A.sl.r_30 c arg1 harg1 arg2 harg2 arg3 harg3 arg4 harg4 arg5 harg5 arg6 harg6 arg7 harg7 arg8 harg8 arg12 arg14 arg16 x0 x1 x2 x3 x4 x5 x6 x7) (kernelRun0_A.sl.r_40 c arg1 harg1 arg2 harg2 arg3 harg3 arg4 harg4 arg5 harg5 arg6 harg6 arg7 harg7 arg8 harg8 arg12 arg14 arg16 x0 x1 x2 x3 x4 x5 x6 x7) (kernelRun0_A.sl.r_49 c arg1 harg1 arg2 harg2 arg3 harg3 arg4 harg4 arg5 harg5 arg6 harg6 arg7 harg7 arg8 harg8 arg12 arg14 arg16 x0 x1 x2 x3 x4 x5 x6 x7) (kernelRun0_A.sl.r_50 c arg1 harg1 arg2 harg2 arg3 harg3 arg4 harg4 arg5 harg5 arg6 harg6 arg7 harg7 arg8 harg8 arg12 arg14 arg16 x0 x1 x2 x3 x4 x5 x6 x7) (kernelRun0_A.sl.r_62 c arg1 harg1 arg2 harg2 arg3 harg3 arg4 harg4 arg5 harg5 arg6 harg6 arg7 harg7 arg8 harg8 arg12 arg14 arg16 x0 x1 x2 x3 x4 x5 x6 x7) (kernelRun0_A.sl.r_73 c arg1 harg1 arg2 harg2 arg3 harg3 arg4 harg4 arg5 harg5 arg6 harg6 arg7 harg7 arg8 harg8 arg12 arg14 arg16 x0 x1 x2 x3 x4 x5 x6 x7) (kernelRun0_A.sl.r_97 c arg1 harg1 arg2 harg2 arg3 harg3 arg4 harg4 arg5 harg5 arg6 harg6 arg7 harg7 arg8 harg8 arg12 arg14 arg16 x0 x1 x2 x3 x4 x5 x6 x7) (kernelRun0_A.sl.r_115 c arg1 harg1 arg2 harg2 arg3 harg3 arg4 harg4 arg5 harg5 arg6 harg6 arg7 harg7 arg8 harg8 arg12 arg14 arg16 x0 x1 x2 x3 x4 x5 x6 x7) (kernelRun0_A.sl.v3036 c arg1 harg1 arg2 harg2 arg3 harg3 arg4 harg4 arg12 arg13 x0 x1 x2 x3) _ _ _ _ h9 h10
    (actSlot x5 x6 x7 (kernelRun0_A.sl.v220 c arg1 harg1 arg2 harg2 arg3 harg3 arg4 harg4 arg5 harg5 arg12 arg14 x0 x1 x2 x3 x4) (fun n h => cut16 (fun _ => (0 : EReal)) n h))
    (actA_0 c arg1 harg1 arg2 harg2 arg3 harg3 arg4 harg4 arg5 harg5 arg6 harg6 arg7 harg7 arg8 harg8 arg12 arg14 arg16 x0 x1 x2 x3 x4 x5 x6 x7) (actA_1 c arg1 harg1 arg2 harg2 arg3 harg3 arg4 harg4 arg5 harg5 arg6 harg6 arg7 harg7 arg8 harg8 arg12 arg14 arg16 x0 x1 x2 x3 x4 x5 x6 x7) (actA_2 c arg1 harg1 arg2 harg2 arg3 harg3 arg4 harg4 arg5 harg5 arg6 harg6 arg7 harg7 arg8 harg8 arg12 arg14 arg16 x0 x1 x2 x3 x4 x5 x6 x7) (actA_3 c arg1 harg1 arg2 harg2 arg3 harg3 arg4 harg4 arg5 harg5 arg6 harg6 arg7 harg7 arg8 harg8 arg12 arg14 arg16 x0 x1 x2 x3 x4 x5 x6 x7) (actA_4 c arg1 harg1 arg2 harg2 arg3 harg3 arg4 harg4 arg5 harg5 arg6 harg6 arg7 harg7 arg8 harg8 arg12 arg14 arg16 x0 x1 x2 x3 x4 x5 x6 x7) (actA_5 c arg1 harg1 arg2 harg2 arg3 harg3 arg4 harg4 arg5 harg5 arg6 harg6 arg7 harg7 arg8 harg8 arg12 arg14 arg16 x0 x1 x2 x3 x4 x5 x6 x7) (actA_6 c arg1 harg1 arg2 harg2 arg3 harg3 arg4 harg4 arg5 harg5 arg6 harg6 arg7 harg7 arg8 harg8 arg12 arg14 arg16 x0 x1 x2 x3 x4 x5 x6 x7) (actA_7 c arg1 harg1 arg2 harg2 arg3 harg3 arg4 harg4 arg5 harg5 arg6 harg6 arg7 harg7 arg8 harg8 arg12 arg14 arg16 x0 x1 x2 x3 x4 x5 x6 x7) (actA_8 c arg1 harg1 arg2 harg2 arg3 harg3 arg4 harg4 arg5 harg5 arg6 harg6 arg7 harg7 arg8 harg8 arg12 arg14 arg16 x0 x1 x2 x3 x4 x5 x6 x7) (actA_9 c arg1 harg1 arg2 harg2 arg3 harg3 arg4 harg4 arg5 harg5 arg6 harg6 arg7 harg7 arg8 harg8 arg12 arg14 arg16 x0 x1 x2 x3 x4 x5 x6 x7) (actA_10 c arg1 harg1 arg2 harg2 arg3 harg3 arg4 harg4 arg5 harg5 arg6 harg6 arg7 harg7 arg8 harg8 arg12 arg14 arg16 x0 x1 x2 x3 x4 x5 x6 x7)

variable (hc0 : cond0_0 i)

/-- The tails it leaves. -/
theorem tailsA : Kept (tailOf x5 (kernelRun0_A.sl.v220 c arg1 harg1 arg2 harg2 arg3 harg3 arg4 harg4 arg5 harg5 arg12 arg14 x0 x1 x2 x3 x4)) (fun _ => (0 : EReal)) 44 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).2.1 :=
  Kept.step (keptA_43 c arg1 harg1 arg2 harg2 arg3 harg3 arg4 harg4 arg5 harg5 arg6 harg6 arg12 arg14 x0 x1 x2 x3 x4 x5) (by norm_num) (v := (tail (b6 (cols (kernelRun0_A.sl.v220 c arg1 harg1 arg2 harg2 arg3 harg3 arg4 harg4 arg5 harg5 arg12 arg14 x0 x1 x2 x3 x4) (ld6 arg6 harg6 x5 5376 (by norm_num)))))) (pay6 x5 _ arg6 harg6 43 (by norm_num) 5376 (by norm_num) (by norm_num) rfl)

end

end Cert.Kernel2Ideal.Net
-- ==== Proof.WholeA.lean ====
/- A tile in the first position of its sequence, as a whole. -/
module

public import proofs.«01_k».proof.Proof.Done
public import proofs.«01_k».proof.Proof.TileA

@[expose] public section

set_option maxRecDepth 100000

noncomputable section

namespace Cert.Kernel2Ideal.Net

open Cert.Kernel2Ideal Cert.Kernel2Ideal.Gen Idealize.ShloMosaic

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S2048x1024 .bf16) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S512x1024 .f32) (harg11 : arg11.IsWhole)
  (arg12 : Memref sig .tc .vmem S8x512x128 .f32) (harg12 : arg12.IsWhole)
  (arg13 : Memref sig .tc .vmem S512x1024 .f32) (harg13 : arg13.IsWhole)
  (arg14 : Memref sig .tc .vmem S512x1024 .bf16) (harg14 : arg14.IsWhole)
  (arg15 : Memref sig .tc .vmem S8x512x128 .f32) (harg15 : arg15.IsWhole)
  (arg16 : Memref sig .tc .vmem S44x8x256 .f32) (harg16 : arg16.IsWhole)
  (x0 : Vec Ideal S512x1024 .f32) (x1 : Vec Ideal S512x1024 .bf16) (x2 : Vec Ideal S512x1024 .bf16) (x3 : Vec Ideal S2048x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)
variable (hc0 : cond0_0 i)

theorem mixedA : kernelRun0_A.sl.v26 c arg1 harg1 arg2 harg2 arg3 harg3 arg4 harg4 x0 x1 x2 x3 = mixing x0 x1 x2 (cutW x3 0 (by norm_num)) (cutW x3 1024 (by norm_num)) := by
  refine Eq.trans (b := mixing
    (View.readAt (Elt Ideal) arg1.view (Rect.unit (s := S512x1024) ![0, 0] S512x1024.size inb_S512x1024_S512x1024_0_0).toLoadRect (harg1.unread x0))
    (View.readAt (Elt Ideal) arg2.view (Rect.unit (s := S512x1024) ![0, 0] S512x1024.size inb_S512x1024_S512x1024_0_0).toLoadRect (harg2.unread x1))
    (View.readAt (Elt Ideal) arg3.view (Rect.unit (s := S512x1024) ![0, 0] S512x1024.size inb_S512x1024_S512x1024_0_0).toLoadRect (harg3.unread x2))
    (View.readAt (Elt Ideal) arg4.view (Rect.unit (s := S2048x1024) ![0, 0] S1024x1024.size (inbW 0 (by norm_num))).toLoadRect (harg4.unread x3))
    (View.readAt (Elt Ideal) arg4.view (Rect.unit (s := S2048x1024) ![1024, 0] S1024x1024.size (inbW 1024 (by norm_num))).toLoadRect (harg4.unread x3))) rfl ?_
  rw [ld_whole harg1 _ (by decide), ld_whole harg2 _ (by decide), ld_whole harg3 _ (by decide), ldW_eq harg4, ldW_eq harg4]

theorem planesA : Planes (kernelRun0_A.sl.v26 c arg1 harg1 arg2 harg2 arg3 harg3 arg4 harg4 x0 x1 x2 x3) 8 (kernelRun0_A.sl.HS0_8 c arg1 harg1 arg2 harg2 arg3 harg3 arg4 harg4 x0 x1 x2 x3) := by
  have h0 : Planes (kernelRun0_A.sl.v26 c arg1 harg1 arg2 harg2 arg3 harg3 arg4 harg4 x0 x1 x2 x3) 0 [] := fun _ _ _ _ h => absurd h (Nat.not_lt_zero _)
  have h1 := h0.step (by norm_num) (j := 0) (by norm_num) slices_S512x1024_o0_0_S512x128
  have h2 := h1.step (by norm_num) (j := 128) (by norm_num) slices_S512x1024_o0_128_S512x128
  have h3 := h2.step (by norm_num) (j := 256) (by norm_num) slices_S512x1024_o0_256_S512x128
  have h4 := h3.step (by norm_num) (j := 384) (by norm_num) slices_S512x1024_o0_384_S512x128
  have h5 := h4.step (by norm_num) (j := 512) (by norm_num) slices_S512x1024_o0_512_S512x128
  have h6 := h5.step (by norm_num) (j := 640) (by norm_num) slices_S512x1024_o0_640_S512x128
  have h7 := h6.step (by norm_num) (j := 768) (by norm_num) slices_S512x1024_o0_768_S512x128
  have h8 := h7.step (by norm_num) (j := 896) (by norm_num) slices_S512x1024_o0_896_S512x128
  exact h8

theorem storedA : kernelRun0_A.sl.v3036 c arg1 harg1 arg2 harg2 arg3 harg3 arg4 harg4 arg12 arg13 x0 x1 x2 x3 = gathered arg12 (kernelRun0_A.sl.HS0_8 c arg1 harg1 arg2 harg2 arg3 harg3 arg4 harg4 x0 x1 x2 x3) := by
  refine Eq.trans (b := arg13.view.readCov (Val := Elt Ideal) [⟨Rect.unit (s := S512x1024) ![0, 0] S512x1024.size inb_S512x1024_S512x1024_0_0,
    (shapeCast S512x1024 (gathered arg12 (kernelRun0_A.sl.HS0_8 c arg1 harg1 arg2 harg2 arg3 harg3 arg4 harg4 x0 x1 x2 x3)) shapeCasts_S512x1024_S512x1024 : FVec Ideal S512x1024 .f32)⟩]
    (Rect.unit (s := S512x1024) ![0, 0] S512x1024.size inb_S512x1024_S512x1024_0_0).toLoadRect) rfl ?_
  rw [read_whole _ _ _ (by decide), cast_f32]

theorem halvedA : kernelRun0_A.sl.v220 c arg1 harg1 arg2 harg2 arg3 harg3 arg4 harg4 arg5 harg5 arg12 arg14 x0 x1 x2 x3 x4 = halved (kernelRun0_A.sl.v3036 c arg1 harg1 arg2 harg2 arg3 harg3 arg4 harg4 arg12 arg13 x0 x1 x2 x3) x4 := by
  rw [storedA]
  refine Eq.trans (b := arg14.view.readCov (Val := Elt Ideal) [⟨Rect.unit (s := S512x1024) ![0, 0] S512x1024.size inb_S512x1024_S512x1024_0_0,
    (shapeCast S512x1024 (halved (gathered arg12 (kernelRun0_A.sl.HS0_8 c arg1 harg1 arg2 harg2 arg3 harg3 arg4 harg4 x0 x1 x2 x3))
      (View.readAt (Elt Ideal) arg5.view (Rect.unit (s := S1x1024) ![0, 0] S1x1024.size inb_S1x1024_S1x1024_0_0).toLoadRect (harg5.unread x4)))
      shapeCasts_S512x1024_S512x1024 : FVec Ideal S512x1024 .bf16)⟩]
    (Rect.unit (s := S512x1024) ![0, 0] S512x1024.size inb_S512x1024_S512x1024_0_0).toLoadRect) rfl ?_
  rw [read_whole _ _ _ (by decide), cast_bf16, ld_whole harg5 _ (by decide)]

theorem stripsA : Strips (kernelRun0_A.sl.r_117 c arg1 harg1 arg2 harg2 arg3 harg3 arg4 harg4 arg5 harg5 arg6 harg6 arg7 harg7 arg8 harg8 arg9 harg9 arg10 harg10 arg12 arg13 arg14 arg16 x0 x1 x2 x3 x4 x5 x6 x7 x8 x9) 64 (kernelRun0_A.sl.HS3_64 c arg1 harg1 arg2 harg2 arg3 harg3 arg4 harg4 arg5 harg5 arg6 harg6 arg7 harg7 arg8 harg8 arg9 harg9 arg10 harg10 arg12 arg13 arg14 arg16 x0 x1 x2 x3 x4 x5 x6 x7 x8 x9) := by
  have h0 := Strips.start (kernelRun0_A.sl.r_117 c arg1 harg1 arg2 harg2 arg3 harg3 arg4 harg4 arg5 harg5 arg6 harg6 arg7 harg7 arg8 harg8 arg9 harg9 arg10 harg10 arg12 arg13 arg14 arg16 x0 x1 x2 x3 x4 x5 x6 x7 x8 x9)
  have h1 := h0.step 0 0 (by norm_num) (by norm_num) (by norm_num) (a := 0) (b := 0) (by norm_num) (by norm_num) slices_S512x1024_o0_0_S64x128
  have h2 := h1.step 0 1 (by norm_num) (by norm_num) (by norm_num) (a := 64) (b := 0) (by norm_num) (by norm_num) slices_S512x1024_o64_0_S64x128
  have h3 := h2.step 0 2 (by norm_num) (by norm_num) (by norm_num) (a := 128) (b := 0) (by norm_num) (by norm_num) slices_S512x1024_o128_0_S64x128
  have h4 := h3.step 0 3 (by norm_num) (by norm_num) (by norm_num) (a := 192) (b := 0) (by norm_num) (by norm_num) slices_S512x1024_o192_0_S64x128
  have h5 := h4.step 0 4 (by norm_num) (by norm_num) (by norm_num) (a := 256) (b := 0) (by norm_num) (by norm_num) slices_S512x1024_o256_0_S64x128
  have h6 := h5.step 0 5 (by norm_num) (by norm_num) (by norm_num) (a := 320) (b := 0) (by norm_num) (by norm_num) slices_S512x1024_o320_0_S64x128
  have h7 := h6.step 0 6 (by norm_num) (by norm_num) (by norm_num) (a := 384) (b := 0) (by norm_num) (by norm_num) slices_S512x1024_o384_0_S64x128
  have h8 := h7.step 0 7 (by norm_num) (by norm_num) (by norm_num) (a := 448) (b := 0) (by norm_num) (by norm_num) slices_S512x1024_o448_0_S64x128
  have h9 := h8.step 1 0 (by norm_num) (by norm_num) (by norm_num) (a := 0) (b := 128) (by norm_num) (by norm_num) slices_S512x1024_o0_128_S64x128
  have h10 := h9.step 1 1 (by norm_num) (by norm_num) (by norm_num) (a := 64) (b := 128) (by norm_num) (by norm_num) slices_S512x1024_o64_128_S64x128
  have h11 := h10.step 1 2 (by norm_num) (by norm_num) (by norm_num) (a := 128) (b := 128) (by norm_num) (by norm_num) slices_S512x1024_o128_128_S64x128
  have h12 := h11.step 1 3 (by norm_num) (by norm_num) (by norm_num) (a := 192) (b := 128) (by norm_num) (by norm_num) slices_S512x1024_o192_128_S64x128
  have h13 := h12.step 1 4 (by norm_num) (by norm_num) (by norm_num) (a := 256) (b := 128) (by norm_num) (by norm_num) slices_S512x1024_o256_128_S64x128
  have h14 := h13.step 1 5 (by norm_num) (by norm_num) (by norm_num) (a := 320) (b := 128) (by norm_num) (by norm_num) slices_S512x1024_o320_128_S64x128
  have h15 := h14.step 1 6 (by norm_num) (by norm_num) (by norm_num) (a := 384) (b := 128) (by norm_num) (by norm_num) slices_S512x1024_o384_128_S64x128
  have h16 := h15.step 1 7 (by norm_num) (by norm_num) (by norm_num) (a := 448) (b := 128) (by norm_num) (by norm_num) slices_S512x1024_o448_128_S64x128
  have h17 := h16.step 2 0 (by norm_num) (by norm_num) (by norm_num) (a := 0) (b := 256) (by norm_num) (by norm_num) slices_S512x1024_o0_256_S64x128
  have h18 := h17.step 2 1 (by norm_num) (by norm_num) (by norm_num) (a := 64) (b := 256) (by norm_num) (by norm_num) slices_S512x1024_o64_256_S64x128
  have h19 := h18.step 2 2 (by norm_num) (by norm_num) (by norm_num) (a := 128) (b := 256) (by norm_num) (by norm_num) slices_S512x1024_o128_256_S64x128
  have h20 := h19.step 2 3 (by norm_num) (by norm_num) (by norm_num) (a := 192) (b := 256) (by norm_num) (by norm_num) slices_S512x1024_o192_256_S64x128
  have h21 := h20.step 2 4 (by norm_num) (by norm_num) (by norm_num) (a := 256) (b := 256) (by norm_num) (by norm_num) slices_S512x1024_o256_256_S64x128
  have h22 := h21.step 2 5 (by norm_num) (by norm_num) (by norm_num) (a := 320) (b := 256) (by norm_num) (by norm_num) slices_S512x1024_o320_256_S64x128
  have h23 := h22.step 2 6 (by norm_num) (by norm_num) (by norm_num) (a := 384) (b := 256) (by norm_num) (by norm_num) slices_S512x1024_o384_256_S64x128
  have h24 := h23.step 2 7 (by norm_num) (by norm_num) (by norm_num) (a := 448) (b := 256) (by norm_num) (by norm_num) slices_S512x1024_o448_256_S64x128
  have h25 := h24.step 3 0 (by norm_num) (by norm_num) (by norm_num) (a := 0) (b := 384) (by norm_num) (by norm_num) slices_S512x1024_o0_384_S64x128
  have h26 := h25.step 3 1 (by norm_num) (by norm_num) (by norm_num) (a := 64) (b := 384) (by norm_num) (by norm_num) slices_S512x1024_o64_384_S64x128
  have h27 := h26.step 3 2 (by norm_num) (by norm_num) (by norm_num) (a := 128) (b := 384) (by norm_num) (by norm_num) slices_S512x1024_o128_384_S64x128
  have h28 := h27.step 3 3 (by norm_num) (by norm_num) (by norm_num) (a := 192) (b := 384) (by norm_num) (by norm_num) slices_S512x1024_o192_384_S64x128
  have h29 := h28.step 3 4 (by norm_num) (by norm_num) (by norm_num) (a := 256) (b := 384) (by norm_num) (by norm_num) slices_S512x1024_o256_384_S64x128
  have h30 := h29.step 3 5 (by norm_num) (by norm_num) (by norm_num) (a := 320) (b := 384) (by norm_num) (by norm_num) slices_S512x1024_o320_384_S64x128
  have h31 := h30.step 3 6 (by norm_num) (by norm_num) (by norm_num) (a := 384) (b := 384) (by norm_num) (by norm_num) slices_S512x1024_o384_384_S64x128
  have h32 := h31.step 3 7 (by norm_num) (by norm_num) (by norm_num) (a := 448) (b := 384) (by norm_num) (by norm_num) slices_S512x1024_o448_384_S64x128
  have h33 := h32.step 4 0 (by norm_num) (by norm_num) (by norm_num) (a := 0) (b := 512) (by norm_num) (by norm_num) slices_S512x1024_o0_512_S64x128
  have h34 := h33.step 4 1 (by norm_num) (by norm_num) (by norm_num) (a := 64) (b := 512) (by norm_num) (by norm_num) slices_S512x1024_o64_512_S64x128
  have h35 := h34.step 4 2 (by norm_num) (by norm_num) (by norm_num) (a := 128) (b := 512) (by norm_num) (by norm_num) slices_S512x1024_o128_512_S64x128
  have h36 := h35.step 4 3 (by norm_num) (by norm_num) (by norm_num) (a := 192) (b := 512) (by norm_num) (by norm_num) slices_S512x1024_o192_512_S64x128
  have h37 := h36.step 4 4 (by norm_num) (by norm_num) (by norm_num) (a := 256) (b := 512) (by norm_num) (by norm_num) slices_S512x1024_o256_512_S64x128
  have h38 := h37.step 4 5 (by norm_num) (by norm_num) (by norm_num) (a := 320) (b := 512) (by norm_num) (by norm_num) slices_S512x1024_o320_512_S64x128
  have h39 := h38.step 4 6 (by norm_num) (by norm_num) (by norm_num) (a := 384) (b := 512) (by norm_num) (by norm_num) slices_S512x1024_o384_512_S64x128
  have h40 := h39.step 4 7 (by norm_num) (by norm_num) (by norm_num) (a := 448) (b := 512) (by norm_num) (by norm_num) slices_S512x1024_o448_512_S64x128
  have h41 := h40.step 5 0 (by norm_num) (by norm_num) (by norm_num) (a := 0) (b := 640) (by norm_num) (by norm_num) slices_S512x1024_o0_640_S64x128
  have h42 := h41.step 5 1 (by norm_num) (by norm_num) (by norm_num) (a := 64) (b := 640) (by norm_num) (by norm_num) slices_S512x1024_o64_640_S64x128
  have h43 := h42.step 5 2 (by norm_num) (by norm_num) (by norm_num) (a := 128) (b := 640) (by norm_num) (by norm_num) slices_S512x1024_o128_640_S64x128
  have h44 := h43.step 5 3 (by norm_num) (by norm_num) (by norm_num) (a := 192) (b := 640) (by norm_num) (by norm_num) slices_S512x1024_o192_640_S64x128
  have h45 := h44.step 5 4 (by norm_num) (by norm_num) (by norm_num) (a := 256) (b := 640) (by norm_num) (by norm_num) slices_S512x1024_o256_640_S64x128
  have h46 := h45.step 5 5 (by norm_num) (by norm_num) (by norm_num) (a := 320) (b := 640) (by norm_num) (by norm_num) slices_S512x1024_o320_640_S64x128
  have h47 := h46.step 5 6 (by norm_num) (by norm_num) (by norm_num) (a := 384) (b := 640) (by norm_num) (by norm_num) slices_S512x1024_o384_640_S64x128
  have h48 := h47.step 5 7 (by norm_num) (by norm_num) (by norm_num) (a := 448) (b := 640) (by norm_num) (by norm_num) slices_S512x1024_o448_640_S64x128
  have h49 := h48.step 6 0 (by norm_num) (by norm_num) (by norm_num) (a := 0) (b := 768) (by norm_num) (by norm_num) slices_S512x1024_o0_768_S64x128
  have h50 := h49.step 6 1 (by norm_num) (by norm_num) (by norm_num) (a := 64) (b := 768) (by norm_num) (by norm_num) slices_S512x1024_o64_768_S64x128
  have h51 := h50.step 6 2 (by norm_num) (by norm_num) (by norm_num) (a := 128) (b := 768) (by norm_num) (by norm_num) slices_S512x1024_o128_768_S64x128
  have h52 := h51.step 6 3 (by norm_num) (by norm_num) (by norm_num) (a := 192) (b := 768) (by norm_num) (by norm_num) slices_S512x1024_o192_768_S64x128
  have h53 := h52.step 6 4 (by norm_num) (by norm_num) (by norm_num) (a := 256) (b := 768) (by norm_num) (by norm_num) slices_S512x1024_o256_768_S64x128
  have h54 := h53.step 6 5 (by norm_num) (by norm_num) (by norm_num) (a := 320) (b := 768) (by norm_num) (by norm_num) slices_S512x1024_o320_768_S64x128
  have h55 := h54.step 6 6 (by norm_num) (by norm_num) (by norm_num) (a := 384) (b := 768) (by norm_num) (by norm_num) slices_S512x1024_o384_768_S64x128
  have h56 := h55.step 6 7 (by norm_num) (by norm_num) (by norm_num) (a := 448) (b := 768) (by norm_num) (by norm_num) slices_S512x1024_o448_768_S64x128
  have h57 := h56.step 7 0 (by norm_num) (by norm_num) (by norm_num) (a := 0) (b := 896) (by norm_num) (by norm_num) slices_S512x1024_o0_896_S64x128
  have h58 := h57.step 7 1 (by norm_num) (by norm_num) (by norm_num) (a := 64) (b := 896) (by norm_num) (by norm_num) slices_S512x1024_o64_896_S64x128
  have h59 := h58.step 7 2 (by norm_num) (by norm_num) (by norm_num) (a := 128) (b := 896) (by norm_num) (by norm_num) slices_S512x1024_o128_896_S64x128
  have h60 := h59.step 7 3 (by norm_num) (by norm_num) (by norm_num) (a := 192) (b := 896) (by norm_num) (by norm_num) slices_S512x1024_o192_896_S64x128
  have h61 := h60.step 7 4 (by norm_num) (by norm_num) (by norm_num) (a := 256) (b := 896) (by norm_num) (by norm_num) slices_S512x1024_o256_896_S64x128
  have h62 := h61.step 7 5 (by norm_num) (by norm_num) (by norm_num) (a := 320) (b := 896) (by norm_num) (by norm_num) slices_S512x1024_o320_896_S64x128
  have h63 := h62.step 7 6 (by norm_num) (by norm_num) (by norm_num) (a := 384) (b := 896) (by norm_num) (by norm_num) slices_S512x1024_o384_896_S64x128
  have h64 := h63.step 7 7 (by norm_num) (by norm_num) (by norm_num) (a := 448) (b := 896) (by norm_num) (by norm_num) slices_S512x1024_o448_896_S64x128
  exact h64

theorem backA : Back (kernelRun0_A.sl.r_117 c arg1 harg1 arg2 harg2 arg3 harg3 arg4 harg4 arg5 harg5 arg6 harg6 arg7 harg7 arg8 harg8 arg9 harg9 arg10 harg10 arg12 arg13 arg14 arg16 x0 x1 x2 x3 x4 x5 x6 x7 x8 x9) 8 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9).1 := by
  have s := stripsA c arg1 harg1 arg2 harg2 arg3 harg3 arg4 harg4 arg5 harg5 arg6 harg6 arg7 harg7 arg8 harg8 arg9 harg9 arg10 harg10 arg12 arg13 arg14 arg16 x0 x1 x2 x3 x4 x5 x6 x7 x8 x9
  have h0 := Back.start (kernelRun0_A.sl.r_117 c arg1 harg1 arg2 harg2 arg3 harg3 arg4 harg4 arg5 harg5 arg6 harg6 arg7 harg7 arg8 harg8 arg9 harg9 arg10 harg10 arg12 arg13 arg14 arg16 x0 x1 x2 x3 x4 x5 x6 x7 x8 x9)
  have h1 := h0.step s arg15 (by norm_num) (j := 0) (by norm_num)
  have h2 := h1.step s arg15 (by norm_num) (j := 128) (by norm_num)
  have h3 := h2.step s arg15 (by norm_num) (j := 256) (by norm_num)
  have h4 := h3.step s arg15 (by norm_num) (j := 384) (by norm_num)
  have h5 := h4.step s arg15 (by norm_num) (j := 512) (by norm_num)
  have h6 := h5.step s arg15 (by norm_num) (j := 640) (by norm_num)
  have h7 := h6.step s arg15 (by norm_num) (j := 768) (by norm_num)
  have h8 := h7.step s arg15 (by norm_num) (j := 896) (by norm_num)
  exact h8

theorem doneA : ∃ X, Done x0 x1 x2 x3 x4 x5 x6 x7 x8 x9 (fun _ => (0 : EReal)) (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)
    (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9) X := by
  refine ⟨kernelRun0_A.sl.v3036 c arg1 harg1 arg2 harg2 arg3 harg3 arg4 harg4 arg12 arg13 x0 x1 x2 x3, ⟨fun r q => ?_, fun r q => ?_, fun n h r f => ?_⟩⟩
  · rw [storedA, gathered_apply (planesA c arg1 harg1 arg2 harg2 arg3 harg3 arg4 harg4 x0 x1 x2 x3), mixedA]
  · unfold out0_A_10
    rw [View.read_writes_junk_eq_canon, backA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hc0 r q (by have := q.isLt; omega), rowsA, halvedA]
  · unfold sout0_A_4
    rw [View.read_writes_junk_eq_canon, (tailsA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 hc0).kept n h r f (by omega), halvedA]

end

end Cert.Kernel2Ideal.Net
-- ==== Proof.TileB.lean ====
/- A tile in the other position of its sequence: its activations, its closing rows and the tails it leaves. -/
module

public import proofs.«01_k».proof.Proof.Slots

@[expose] public section

set_option maxRecDepth 100000

noncomputable section

namespace Cert.Kernel2Ideal.Net

open Cert.Kernel2Ideal Cert.Kernel2Ideal.Gen Idealize.ShloMosaic

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S2048x1024 .bf16) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S512x1024 .f32) (harg11 : arg11.IsWhole)
  (arg12 : Memref sig .tc .vmem S8x512x128 .f32) (harg12 : arg12.IsWhole)
  (arg13 : Memref sig .tc .vmem S512x1024 .f32) (harg13 : arg13.IsWhole)
  (arg14 : Memref sig .tc .vmem S512x1024 .bf16) (harg14 : arg14.IsWhole)
  (arg15 : Memref sig .tc .vmem S8x512x128 .f32) (harg15 : arg15.IsWhole)
  (arg16 : Memref sig .tc .vmem S44x8x256 .f32) (harg16 : arg16.IsWhole)
  (x0 : Vec Ideal S512x1024 .f32) (x1 : Vec Ideal S512x1024 .bf16) (x2 : Vec Ideal S512x1024 .bf16) (x3 : Vec Ideal S2048x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)
variable (xs4 : Vec Ideal S44x8x256 .f32)

theorem actB_0 : kernelRun0_B.sl.r_1 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 0 := by
  refine Eq.trans (b := gated (conv (ld7 arg7 harg7 x6 0 (by norm_num) 0 (by norm_num)) (ld7 arg7 harg7 x6 1 (by norm_num) 0 (by norm_num)) (ld7 arg7 harg7 x6 2 (by norm_num) 0 (by norm_num)) (ld8 arg8 harg8 x7 0 (by norm_num)) (ld16 arg16 harg16 xs4 0 (by norm_num)) (ld16 arg16 harg16 xs4 1 (by norm_num)) (cols (kernelRun0_B.sl.v220 c arg1 harg1 arg2 harg2 arg3 harg3 arg4 harg4 arg5 harg5 arg12 arg14 x0 x1 x2 x3 x4) (ld6 arg6 harg6 x5 0 (by norm_num))))
      (conv (ld7 arg7 harg7 x6 0 (by norm_num) 2816 (by norm_num)) (ld7 arg7 harg7 x6 1 (by norm_num) 2816 (by norm_num)) (ld7 arg7 harg7 x6 2 (by norm_num) 2816 (by norm_num)) (ld8 arg8 harg8 x7 2816 (by norm_num)) (ld16 arg16 harg16 xs4 2 (by norm_num)) (ld16 arg16 harg16 xs4 3 (by norm_num)) (cols (kernelRun0_B.sl.v220 c arg1 harg1 arg2 harg2 arg3 harg3 arg4 harg4 arg5 harg5 arg12 arg14 x0 x1 x2 x3 x4) (ld6 arg6 harg6 x5 2816 (by norm_num))))) rfl ?_
  simp only [ld6_eq, ld7_eq, ld8_eq, ld16_eq]
  rfl

theorem actB_1 : kernelRun0_B.sl.r_13 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 1 := by
  refine Eq.trans (b := gated (conv (ld7 arg7 harg7 x6 0 (by norm_num) 256 (by norm_num)) (ld7 arg7 harg7 x6 1 (by norm_num) 256 (by norm_num)) (ld7 arg7 harg7 x6 2 (by norm_num) 256 (by norm_num)) (ld8 arg8 harg8 x7 256 (by norm_num)) (ld16 arg16 harg16 xs4 4 (by norm_num)) (ld16 arg16 harg16 xs4 5 (by norm_num)) (cols (kernelRun0_B.sl.v220 c arg1 harg1 arg2 harg2 arg3 harg3 arg4 harg4 arg5 harg5 arg12 arg14 x0 x1 x2 x3 x4) (ld6 arg6 harg6 x5 256 (by norm_num))))
      (conv (ld7 arg7 harg7 x6 0 (by norm_num) 3072 (by norm_num)) (ld7 arg7 harg7 x6 1 (by norm_num) 3072 (by norm_num)) (ld7 arg7 harg7 x6 2 (by norm_num) 3072 (by norm_num)) (ld8 arg8 harg8 x7 3072 (by norm_num)) (ld16 arg16 harg16 xs4 6 (by norm_num)) (ld16 arg16 harg16 xs4 7 (by norm_num)) (cols (kernelRun0_B.sl.v220 c arg1 harg1 arg2 harg2 arg3 harg3 arg4 harg4 arg5 harg5 arg12 arg14 x0 x1 x2 x3 x4) (ld6 arg6 harg6 x5 3072 (by norm_num))))) rfl ?_
  simp only [ld6_eq, ld7_eq, ld8_eq, ld16_eq]
  rfl

theorem actB_2 : kernelRun0_B.sl.r_24 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 2 := by
  refine Eq.trans (b := gated (conv (ld7 arg7 harg7 x6 0 (by norm_num) 512 (by norm_num)) (ld7 arg7 harg7 x6 1 (by norm_num) 512 (by norm_num)) (ld7 arg7 harg7 x6 2 (by norm_num) 512 (by norm_num)) (ld8 arg8 harg8 x7 512 (by norm_num)) (ld16 arg16 harg16 xs4 8 (by norm_num)) (ld16 arg16 harg16 xs4 9 (by norm_num)) (cols (kernelRun0_B.sl.v220 c arg1 harg1 arg2 harg2 arg3 harg3 arg4 harg4 arg5 harg5 arg12 arg14 x0 x1 x2 x3 x4) (ld6 arg6 harg6 x5 512 (by norm_num))))
      (conv (ld7 arg7 harg7 x6 0 (by norm_num) 3328 (by norm_num)) (ld7 arg7 harg7 x6 1 (by norm_num) 3328 (by norm_num)) (ld7 arg7 harg7 x6 2 (by norm_num) 3328 (by norm_num)) (ld8 arg8 harg8 x7 3328 (by norm_num)) (ld16 arg16 harg16 xs4 10 (by norm_num)) (ld16 arg16 harg16 xs4 11 (by norm_num)) (cols (kernelRun0_B.sl.v220 c arg1 harg1 arg2 harg2 arg3 harg3 arg4 harg4 arg5 harg5 arg12 arg14 x0 x1 x2 x3 x4) (ld6 arg6 harg6 x5 3328 (by norm_num))))) rfl ?_
  simp only [ld6_eq, ld7_eq, ld8_eq, ld16_eq]
  rfl

theorem actB_3 : kernelRun0_B.sl.v1243 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 3 := by
  refine Eq.trans (b := gated (conv (ld7 arg7 harg7 x6 0 (by norm_num) 768 (by norm_num)) (ld7 arg7 harg7 x6 1 (by norm_num) 768 (by norm_num)) (ld7 arg7 harg7 x6 2 (by norm_num) 768 (by norm_num)) (ld8 arg8 harg8 x7 768 (by norm_num)) (ld16 arg16 harg16 xs4 12 (by norm_num)) (ld16 arg16 harg16 xs4 13 (by norm_num)) (cols (kernelRun0_B.sl.v220 c arg1 harg1 arg2 harg2 arg3 harg3 arg4 harg4 arg5 harg5 arg12 arg14 x0 x1 x2 x3 x4) (ld6 arg6 harg6 x5 768 (by norm_num))))
      (conv (ld7 arg7 harg7 x6 0 (by norm_num) 3584 (by norm_num)) (ld7 arg7 harg7 x6 1 (by norm_num) 3584 (by norm_num)) (ld7 arg7 harg7 x6 2 (by norm_num) 3584 (by norm_num)) (ld8 arg8 harg8 x7 3584 (by norm_num)) (ld16 arg16 harg16 xs4 14 (by norm_num)) (ld16 arg16 harg16 xs4 15 (by norm_num)) (cols (kernelRun0_B.sl.v220 c arg1 harg1 arg2 harg2 arg3 harg3 arg4 harg4 arg5 harg5 arg12 arg14 x0 x1 x2 x3 x4) (ld6 arg6 harg6 x5 3584 (by norm_num))))) rfl ?_
  simp only [ld6_eq, ld7_eq, ld8_eq, ld16_eq]
  rfl

theorem actB_4 : kernelRun0_B.sl.r_30 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 4 := by
  refine Eq.trans (b := gated (conv (ld7 arg7 harg7 x6 0 (by norm_num) 1024 (by norm_num)) (ld7 arg7 harg7 x6 1 (by norm_num) 1024 (by norm_num)) (ld7 arg7 harg7 x6 2 (by norm_num) 1024 (by norm_num)) (ld8 arg8 harg8 x7 1024 (by norm_num)) (ld16 arg16 harg16 xs4 16 (by norm_num)) (ld16 arg16 harg16 xs4 17 (by norm_num)) (cols (kernelRun0_B.sl.v220 c arg1 harg1 arg2 harg2 arg3 harg3 arg4 harg4 arg5 harg5 arg12 arg14 x0 x1 x2 x3 x4) (ld6 arg6 harg6 x5 1024 (by norm_num))))
      (conv (ld7 arg7 harg7 x6 0 (by norm_num) 3840 (by norm_num)) (ld7 arg7 harg7 x6 1 (by norm_num) 3840 (by norm_num)) (ld7 arg7 harg7 x6 2 (by norm_num) 3840 (by norm_num)) (ld8 arg8 harg8 x7 3840 (by norm_num)) (ld16 arg16 harg16 xs4 18 (by norm_num)) (ld16 arg16 harg16 xs4 19 (by norm_num)) (cols (kernelRun0_B.sl.v220 c arg1 harg1 arg2 harg2 arg3 harg3 arg4 harg4 arg5 harg5 arg12 arg14 x0 x1 x2 x3 x4) (ld6 arg6 harg6 x5 3840 (by norm_num))))) rfl ?_
  simp only [ld6_eq, ld7_eq, ld8_eq, ld16_eq]
  rfl

theorem actB_5 : kernelRun0_B.sl.r_40 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 5 := by
  refine Eq.trans (b := gated (conv (ld7 arg7 harg7 x6 0 (by norm_num) 1280 (by norm_num)) (ld7 arg7 harg7 x6 1 (by norm_num) 1280 (by norm_num)) (ld7 arg7 harg7 x6 2 (by norm_num) 1280 (by norm_num)) (ld8 arg8 harg8 x7 1280 (by norm_num)) (ld16 arg16 harg16 xs4 20 (by norm_num)) (ld16 arg16 harg16 xs4 21 (by norm_num)) (cols (kernelRun0_B.sl.v220 c arg1 harg1 arg2 harg2 arg3 harg3 arg4 harg4 arg5 harg5 arg12 arg14 x0 x1 x2 x3 x4) (ld6 arg6 harg6 x5 1280 (by norm_num))))
      (conv (ld7 arg7 harg7 x6 0 (by norm_num) 4096 (by norm_num)) (ld7 arg7 harg7 x6 1 (by norm_num) 4096 (by norm_num)) (ld7 arg7 harg7 x6 2 (by norm_num) 4096 (by norm_num)) (ld8 arg8 harg8 x7 4096 (by norm_num)) (ld16 arg16 harg16 xs4 22 (by norm_num)) (ld16 arg16 harg16 xs4 23 (by norm_num)) (cols (kernelRun0_B.sl.v220 c arg1 harg1 arg2 harg2 arg3 harg3 arg4 harg4 arg5 harg5 arg12 arg14 x0 x1 x2 x3 x4) (ld6 arg6 harg6 x5 4096 (by norm_num))))) rfl ?_
  simp only [ld6_eq, ld7_eq, ld8_eq, ld16_eq]
  rfl

theorem actB_6 : kernelRun0_B.sl.r_49 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 6 := by
  refine Eq.trans (b := gated (conv (ld7 arg7 harg7 x6 0 (by norm_num) 1536 (by norm_num)) (ld7 arg7 harg7 x6 1 (by norm_num) 1536 (by norm_num)) (ld7 arg7 harg7 x6 2 (by norm_num) 1536 (by norm_num)) (ld8 arg8 harg8 x7 1536 (by norm_num)) (ld16 arg16 harg16 xs4 24 (by norm_num)) (ld16 arg16 harg16 xs4 25 (by norm_num)) (cols (kernelRun0_B.sl.v220 c arg1 harg1 arg2 harg2 arg3 harg3 arg4 harg4 arg5 harg5 arg12 arg14 x0 x1 x2 x3 x4) (ld6 arg6 harg6 x5 1536 (by norm_num))))
      (conv (ld7 arg7 harg7 x6 0 (by norm_num) 4352 (by norm_num)) (ld7 arg7 harg7 x6 1 (by norm_num) 4352 (by norm_num)) (ld7 arg7 harg7 x6 2 (by norm_num) 4352 (by norm_num)) (ld8 arg8 harg8 x7 4352 (by norm_num)) (ld16 arg16 harg16 xs4 26 (by norm_num)) (ld16 arg16 harg16 xs4 27 (by norm_num)) (cols (kernelRun0_B.sl.v220 c arg1 harg1 arg2 harg2 arg3 harg3 arg4 harg4 arg5 harg5 arg12 arg14 x0 x1 x2 x3 x4) (ld6 arg6 harg6 x5 4352 (by norm_num))))) rfl ?_
  simp only [ld6_eq, ld7_eq, ld8_eq, ld16_eq]
  rfl

theorem actB_7 : kernelRun0_B.sl.r_50 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 7 := by
  refine Eq.trans (b := gated (conv (ld7 arg7 harg7 x6 0 (by norm_num) 1792 (by norm_num)) (ld7 arg7 harg7 x6 1 (by norm_num) 1792 (by norm_num)) (ld7 arg7 harg7 x6 2 (by norm_num) 1792 (by norm_num)) (ld8 arg8 harg8 x7 1792 (by norm_num)) (ld16 arg16 harg16 xs4 28 (by norm_num)) (ld16 arg16 harg16 xs4 29 (by norm_num)) (cols (kernelRun0_B.sl.v220 c arg1 harg1 arg2 harg2 arg3 harg3 arg4 harg4 arg5 harg5 arg12 arg14 x0 x1 x2 x3 x4) (ld6 arg6 harg6 x5 1792 (by norm_num))))
      (conv (ld7 arg7 harg7 x6 0 (by norm_num) 4608 (by norm_num)) (ld7 arg7 harg7 x6 1 (by norm_num) 4608 (by norm_num)) (ld7 arg7 harg7 x6 2 (by norm_num) 4608 (by norm_num)) (ld8 arg8 harg8 x7 4608 (by norm_num)) (ld16 arg16 harg16 xs4 30 (by norm_num)) (ld16 arg16 harg16 xs4 31 (by norm_num)) (cols (kernelRun0_B.sl.v220 c arg1 harg1 arg2 harg2 arg3 harg3 arg4 harg4 arg5 harg5 arg12 arg14 x0 x1 x2 x3 x4) (ld6 arg6 harg6 x5 4608 (by norm_num))))) rfl ?_
  simp only [ld6_eq, ld7_eq, ld8_eq, ld16_eq]
  rfl

theorem actB_8 : kernelRun0_B.sl.r_62 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 8 := by
  refine Eq.trans (b := gated (conv (ld7 arg7 harg7 x6 0 (by norm_num) 2048 (by norm_num)) (ld7 arg7 harg7 x6 1 (by norm_num) 2048 (by norm_num)) (ld7 arg7 harg7 x6 2 (by norm_num) 2048 (by norm_num)) (ld8 arg8 harg8 x7 2048 (by norm_num)) (ld16 arg16 harg16 xs4 32 (by norm_num)) (ld16 arg16 harg16 xs4 33 (by norm_num)) (cols (kernelRun0_B.sl.v220 c arg1 harg1 arg2 harg2 arg3 harg3 arg4 harg4 arg5 harg5 arg12 arg14 x0 x1 x2 x3 x4) (ld6 arg6 harg6 x5 2048 (by norm_num))))
      (conv (ld7 arg7 harg7 x6 0 (by norm_num) 4864 (by norm_num)) (ld7 arg7 harg7 x6 1 (by norm_num) 4864 (by norm_num)) (ld7 arg7 harg7 x6 2 (by norm_num) 4864 (by norm_num)) (ld8 arg8 harg8 x7 4864 (by norm_num)) (ld16 arg16 harg16 xs4 34 (by norm_num)) (ld16 arg16 harg16 xs4 35 (by norm_num)) (cols (kernelRun0_B.sl.v220 c arg1 harg1 arg2 harg2 arg3 harg3 arg4 harg4 arg5 harg5 arg12 arg14 x0 x1 x2 x3 x4) (ld6 arg6 harg6 x5 4864 (by norm_num))))) rfl ?_
  simp only [ld6_eq, ld7_eq, ld8_eq, ld16_eq]
  rfl

theorem actB_9 : kernelRun0_B.sl.r_73 c arg1 harg1 arg2 harg2 arg3 harg3 arg4 harg4 arg5 harg5 arg6 harg6 arg7 harg7 arg8 harg8 arg12 arg14 arg16 harg16 x0 x1 x2 x3 x4 x5 x6 x7 xs4 = actSlot x5 x6 x7 (kernelRun0_B.sl.v220 c arg1 harg1 arg2 harg2 arg3 harg3 arg4 harg4 arg5 harg5 arg12 arg14 x0 x1 x2 x3 x4) (fun n h => cut16 xs4 n h) 9 := by
  refine Eq.trans (b := gated (conv (ld7 arg7 harg7 x6 0 (by norm_num) 2304 (by norm_num)) (ld7 arg7 harg7 x6 1 (by norm_num) 2304 (by norm_num)) (ld7 arg7 harg7 x6 2 (by norm_num) 2304 (by norm_num)) (ld8 arg8 harg8 x7 2304 (by norm_num)) (ld16 arg16 harg16 xs4 36 (by norm_num)) (ld16 arg16 harg16 xs4 37 (by norm_num)) (cols (kernelRun0_B.sl.v220 c arg1 harg1 arg2 harg2 arg3 harg3 arg4 harg4 arg5 harg5 arg12 arg14 x0 x1 x2 x3 x4) (ld6 arg6 harg6 x5 2304 (by norm_num))))
      (conv (ld7 arg7 harg7 x6 0 (by norm_num) 5120 (by norm_num)) (ld7 arg7 harg7 x6 1 (by norm_num) 5120 (by norm_num)) (ld7 arg7 harg7 x6 2 (by norm_num) 5120 (by norm_num)) (ld8 arg8 harg8 x7 5120 (by norm_num)) (ld16 arg16 harg16 xs4 38 (by norm_num)) (ld16 arg16 harg16 xs4 39 (by norm_num)) (cols (kernelRun0_B.sl.v220 c arg1 harg1 arg2 harg2 arg3 harg3 arg4 harg4 arg5 harg5 arg12 arg14 x0 x1 x2 x3 x4) (ld6 arg6 harg6 x5 5120 (by norm_num))))) rfl ?_
  simp only [ld6_eq, ld7_eq, ld8_eq, ld16_eq]
  rfl

theorem gateB_10 : kernelRun0_B.sl.r_97 c arg1 harg1 arg2 harg2 arg3 harg3 arg4 harg4 arg5 harg5 arg6 harg6 arg7 harg7 arg8 harg8 arg12 arg14 arg16 harg16 x0 x1 x2 x3 x4 x5 x6 x7 xs4 = (conv (ld7 arg7 harg7 x6 0 (by norm_num) 2560 (by norm_num)) (ld7 arg7 harg7 x6 1 (by norm_num) 2560 (by norm_num)) (ld7 arg7 harg7 x6 2 (by norm_num) 2560 (by norm_num)) (ld8 arg8 harg8 x7 2560 (by norm_num)) (ld16 arg16 harg16 xs4 40 (by norm_num)) (ld16 arg16 harg16 xs4 41 (by norm_num)) (cols (kernelRun0_B.sl.v220 c arg1 harg1 arg2 harg2 arg3 harg3 arg4 harg4 arg5 harg5 arg12 arg14 x0 x1 x2 x3 x4) (ld6 arg6 harg6 x5 2560 (by norm_num)))) := by
  rfl

theorem valB_10 : kernelRun0_B.sl.r_115 c arg1 harg1 arg2 harg2 arg3 harg3 arg4 harg4 arg5 harg5 arg6 harg6 arg7 harg7 arg8 harg8 arg12 arg14 arg16 harg16 x0 x1 x2 x3 x4 x5 x6 x7 xs4 = (conv (ld7 arg7 harg7 x6 0 (by norm_num) 5376 (by norm_num)) (ld7 arg7 harg7 x6 1 (by norm_num) 5376 (by norm_num)) (ld7 arg7 harg7 x6 2 (by norm_num) 5376 (by norm_num)) (ld8 arg8 harg8 x7 5376 (by norm_num)) (ld16 arg16 harg16 xs4 42 (by norm_num)) (ld16 arg16 harg16 xs4 43 (by norm_num)) (cols (kernelRun0_B.sl.v220 c arg1 harg1 arg2 harg2 arg3 harg3 arg4 harg4 arg5 harg5 arg12 arg14 x0 x1 x2 x3 x4) (ld6 arg6 harg6 x5 5376 (by norm_num)))) := by
  rfl

theorem actB_10 : gated (kernelRun0_B.sl.r_97 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_115 c arg1 harg1 arg2 harg2 arg3 harg3 arg4 harg4 arg5 harg5 arg6 harg6 arg7 harg7 arg8 harg8 arg12 arg14 arg16 harg16 x0 x1 x2 x3 x4 x5 x6 x7 xs4) = actSlot x5 x6 x7 (kernelRun0_B.sl.v220 c arg1 harg1 arg2 harg2 arg3 harg3 arg4 harg4 arg5 harg5 arg12 arg14 x0 x1 x2 x3 x4) (fun n h => cut16 xs4 n h) 10 := by
  rw [gateB_10, valB_10]
  simp only [ld6_eq, ld7_eq, ld8_eq, ld16_eq]
  rfl

/-- The tile's closing rows. -/
theorem rowsB : kernelRun0_B.sl.r_117 c arg1 harg1 arg2 harg2 arg3 harg3 arg4 harg4 arg5 harg5 arg6 harg6 arg7 harg7 arg8 harg8 arg9 harg9 arg10 harg10 arg12 arg13 arg14 arg16 harg16 x0 x1 x2 x3 x4 x5 x6 x7 x8 x9 xs4 = closing (kernelRun0_B.sl.v3036 c arg1 harg1 arg2 harg2 arg3 harg3 arg4 harg4 arg12 arg13 x0 x1 x2 x3) (acts (actSlot x5 x6 x7 (kernelRun0_B.sl.v220 c arg1 harg1 arg2 harg2 arg3 harg3 arg4 harg4 arg5 harg5 arg12 arg14 x0 x1 x2 x3 x4) (fun n h => cut16 xs4 n h))) x8 x9 := by
  have h9 : View.readAt (Elt Ideal) arg9.view (Rect.unit (s := S2816x1024) ![0, 0] S2816x1024.size inb_S2816x1024_S2816x1024_0_0).toLoadRect (harg9.unread x8) = x8 := by
    rw [View.readAt_eq_ld, harg9.read_unread]
    exact View.ld_unit_lit _ _ (by decide)
  have h10 : View.readAt (Elt Ideal) arg10.view (Rect.unit (s := S1x1024) ![0, 0] S1x1024.size inb_S1x1024_S1x1024_0_0).toLoadRect (harg10.unread x9) = x9 := by
    rw [View.readAt_eq_ld, harg10.read_unread]
    exact View.ld_unit_lit _ _ (by decide)
  exact pay_closing (kernelRun0_B.sl.r_1 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_13 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_24 c arg1 harg1 arg2 harg2 arg3 harg3 arg4 harg4 arg5 harg5 arg6 harg6 arg7 harg7 arg8 harg8 arg12 arg14 arg16 harg16 x0 x1 x2 x3 x4 x5 x6 x7 xs4) (kernelRun0_B.sl.v1243 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_30 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_40 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_49 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_50 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_62 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_73 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_97 c arg1 harg1 arg2 harg2 arg3 harg3 arg4 harg4 arg5 harg5 arg6 harg6 arg7 harg7 arg8 harg8 arg12 arg14 arg16 harg16 x0 x1 x2 x3 x4 x5 x6 x7 xs4) (kernelRun0_B.sl.r_115 c arg1 harg1 arg2 harg2 arg3 harg3 arg4 harg4 arg5 harg5 arg6 harg6 arg7 harg7 arg8 harg8 arg12 arg14 arg16 harg16 x0 x1 x2 x3 x4 x5 x6 x7 xs4) (kernelRun0_B.sl.v3036 c arg1 harg1 arg2 harg2 arg3 harg3 arg4 harg4 arg12 arg13 x0 x1 x2 x3) _ _ _ _ h9 h10
    (actSlot x5 x6 x7 (kernelRun0_B.sl.v220 c arg1 harg1 arg2 harg2 arg3 harg3 arg4 harg4 arg5 harg5 arg12 arg14 x0 x1 x2 x3 x4) (fun n h => cut16 xs4 n h))
    (actB_0 c arg1 harg1 arg2 harg2 arg3 harg3 arg4 harg4 arg5 harg5 arg6 harg6 arg7 harg7 arg8 harg8 arg12 arg14 arg16 harg16 x0 x1 x2 x3 x4 x5 x6 x7 xs4) (actB_1 c arg1 harg1 arg2 harg2 arg3 harg3 arg4 harg4 arg5 harg5 arg6 harg6 arg7 harg7 arg8 harg8 arg12 arg14 arg16 harg16 x0 x1 x2 x3 x4 x5 x6 x7 xs4) (actB_2 c arg1 harg1 arg2 harg2 arg3 harg3 arg4 harg4 arg5 harg5 arg6 harg6 arg7 harg7 arg8 harg8 arg12 arg14 arg16 harg16 x0 x1 x2 x3 x4 x5 x6 x7 xs4) (actB_3 c arg1 harg1 arg2 harg2 arg3 harg3 arg4 harg4 arg5 harg5 arg6 harg6 arg7 harg7 arg8 harg8 arg12 arg14 arg16 harg16 x0 x1 x2 x3 x4 x5 x6 x7 xs4) (actB_4 c arg1 harg1 arg2 harg2 arg3 harg3 arg4 harg4 arg5 harg5 arg6 harg6 arg7 harg7 arg8 harg8 arg12 arg14 arg16 harg16 x0 x1 x2 x3 x4 x5 x6 x7 xs4) (actB_5 c arg1 harg1 arg2 harg2 arg3 harg3 arg4 harg4 arg5 harg5 arg6 harg6 arg7 harg7 arg8 harg8 arg12 arg14 arg16 harg16 x0 x1 x2 x3 x4 x5 x6 x7 xs4) (actB_6 c arg1 harg1 arg2 harg2 arg3 harg3 arg4 harg4 arg5 harg5 arg6 harg6 arg7 harg7 arg8 harg8 arg12 arg14 arg16 harg16 x0 x1 x2 x3 x4 x5 x6 x7 xs4) (actB_7 c arg1 harg1 arg2 harg2 arg3 harg3 arg4 harg4 arg5 harg5 arg6 harg6 arg7 harg7 arg8 harg8 arg12 arg14 arg16 harg16 x0 x1 x2 x3 x4 x5 x6 x7 xs4) (actB_8 c arg1 harg1 arg2 harg2 arg3 harg3 arg4 harg4 arg5 harg5 arg6 harg6 arg7 harg7 arg8 harg8 arg12 arg14 arg16 harg16 x0 x1 x2 x3 x4 x5 x6 x7 xs4) (actB_9 c arg1 harg1 arg2 harg2 arg3 harg3 arg4 harg4 arg5 harg5 arg6 harg6 arg7 harg7 arg8 harg8 arg12 arg14 arg16 harg16 x0 x1 x2 x3 x4 x5 x6 x7 xs4) (actB_10 c arg1 harg1 arg2 harg2 arg3 harg3 arg4 harg4 arg5 harg5 arg6 harg6 arg7 harg7 arg8 harg8 arg12 arg14 arg16 harg16 x0 x1 x2 x3 x4 x5 x6 x7 xs4)

variable (hc0 : ¬cond0_0 i)

/-- The tails it leaves. -/
theorem tailsB : Kept (tailOf x5 (kernelRun0_B.sl.v220 c arg1 harg1 arg2 harg2 arg3 harg3 arg4 harg4 arg5 harg5 arg12 arg14 x0 x1 x2 x3 x4)) (View.canon ([] : List (View.Piece (Elt Ideal) S44x8x256 .f32))) 44 (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs4).2.1 := by
  have h0 := Kept.start (tailOf x5 (kernelRun0_B.sl.v220 c arg1 harg1 arg2 harg2 arg3 harg3 arg4 harg4 arg5 harg5 arg12 arg14 x0 x1 x2 x3 x4)) []
  have h1 := Kept.step h0 (by norm_num) (v := (tail (b7 (cols (kernelRun0_B.sl.v220 c arg1 harg1 arg2 harg2 arg3 harg3 arg4 harg4 arg5 harg5 arg12 arg14 x0 x1 x2 x3 x4) (ld6 arg6 harg6 x5 0 (by norm_num)))))) (pay7 x5 _ arg6 harg6 0 (by norm_num) 0 (by norm_num) (by norm_num) rfl)
  have h2 := Kept.step h1 (by norm_num) (v := (tail (b6 (cols (kernelRun0_B.sl.v220 c arg1 harg1 arg2 harg2 arg3 harg3 arg4 harg4 arg5 harg5 arg12 arg14 x0 x1 x2 x3 x4) (ld6 arg6 harg6 x5 0 (by norm_num)))))) (pay6 x5 _ arg6 harg6 1 (by norm_num) 0 (by norm_num) (by norm_num) rfl)
  have h3 := Kept.step h2 (by norm_num) (v := (tail (b7 (cols (kernelRun0_B.sl.v220 c arg1 harg1 arg2 harg2 arg3 harg3 arg4 harg4 arg5 harg5 arg12 arg14 x0 x1 x2 x3 x4) (ld6 arg6 harg6 x5 2816 (by norm_num)))))) (pay7 x5 _ arg6 harg6 2 (by norm_num) 2816 (by norm_num) (by norm_num) rfl)
  have h4 := Kept.step h3 (by norm_num) (v := (tail (b6 (cols (kernelRun0_B.sl.v220 c arg1 harg1 arg2 harg2 arg3 harg3 arg4 harg4 arg5 harg5 arg12 arg14 x0 x1 x2 x3 x4) (ld6 arg6 harg6 x5 2816 (by norm_num)))))) (pay6 x5 _ arg6 harg6 3 (by norm_num) 2816 (by norm_num) (by norm_num) rfl)
  have h5 := Kept.step h4 (by norm_num) (v := (tail (b7 (cols (kernelRun0_B.sl.v220 c arg1 harg1 arg2 harg2 arg3 harg3 arg4 harg4 arg5 harg5 arg12 arg14 x0 x1 x2 x3 x4) (ld6 arg6 harg6 x5 256 (by norm_num)))))) (pay7 x5 _ arg6 harg6 4 (by norm_num) 256 (by norm_num) (by norm_num) rfl)
  have h6 := Kept.step h5 (by norm_num) (v := (tail (b6 (cols (kernelRun0_B.sl.v220 c arg1 harg1 arg2 harg2 arg3 harg3 arg4 harg4 arg5 harg5 arg12 arg14 x0 x1 x2 x3 x4) (ld6 arg6 harg6 x5 256 (by norm_num)))))) (pay6 x5 _ arg6 harg6 5 (by norm_num) 256 (by norm_num) (by norm_num) rfl)
  have h7 := Kept.step h6 (by norm_num) (v := (tail (b7 (cols (kernelRun0_B.sl.v220 c arg1 harg1 arg2 harg2 arg3 harg3 arg4 harg4 arg5 harg5 arg12 arg14 x0 x1 x2 x3 x4) (ld6 arg6 harg6 x5 3072 (by norm_num)))))) (pay7 x5 _ arg6 harg6 6 (by norm_num) 3072 (by norm_num) (by norm_num) rfl)
  have h8 := Kept.step h7 (by norm_num) (v := (tail (b6 (cols (kernelRun0_B.sl.v220 c arg1 harg1 arg2 harg2 arg3 harg3 arg4 harg4 arg5 harg5 arg12 arg14 x0 x1 x2 x3 x4) (ld6 arg6 harg6 x5 3072 (by norm_num)))))) (pay6 x5 _ arg6 harg6 7 (by norm_num) 3072 (by norm_num) (by norm_num) rfl)
  have h9 := Kept.step h8 (by norm_num) (v := (tail (b7 (cols (kernelRun0_B.sl.v220 c arg1 harg1 arg2 harg2 arg3 harg3 arg4 harg4 arg5 harg5 arg12 arg14 x0 x1 x2 x3 x4) (ld6 arg6 harg6 x5 512 (by norm_num)))))) (pay7 x5 _ arg6 harg6 8 (by norm_num) 512 (by norm_num) (by norm_num) rfl)
  have h10 := Kept.step h9 (by norm_num) (v := (tail (b6 (cols (kernelRun0_B.sl.v220 c arg1 harg1 arg2 harg2 arg3 harg3 arg4 harg4 arg5 harg5 arg12 arg14 x0 x1 x2 x3 x4) (ld6 arg6 harg6 x5 512 (by norm_num)))))) (pay6 x5 _ arg6 harg6 9 (by norm_num) 512 (by norm_num) (by norm_num) rfl)
  have h11 := Kept.step h10 (by norm_num) (v := (tail (b7 (cols (kernelRun0_B.sl.v220 c arg1 harg1 arg2 harg2 arg3 harg3 arg4 harg4 arg5 harg5 arg12 arg14 x0 x1 x2 x3 x4) (ld6 arg6 harg6 x5 3328 (by norm_num)))))) (pay7 x5 _ arg6 harg6 10 (by norm_num) 3328 (by norm_num) (by norm_num) rfl)
  have h12 := Kept.step h11 (by norm_num) (v := (tail (b6 (cols (kernelRun0_B.sl.v220 c arg1 harg1 arg2 harg2 arg3 harg3 arg4 harg4 arg5 harg5 arg12 arg14 x0 x1 x2 x3 x4) (ld6 arg6 harg6 x5 3328 (by norm_num)))))) (pay6 x5 _ arg6 harg6 11 (by norm_num) 3328 (by norm_num) (by norm_num) rfl)
  have h13 := Kept.step h12 (by norm_num) (v := (tail (b7 (cols (kernelRun0_B.sl.v220 c arg1 harg1 arg2 harg2 arg3 harg3 arg4 harg4 arg5 harg5 arg12 arg14 x0 x1 x2 x3 x4) (ld6 arg6 harg6 x5 768 (by norm_num)))))) (pay7 x5 _ arg6 harg6 12 (by norm_num) 768 (by norm_num) (by norm_num) rfl)
  have h14 := Kept.step h13 (by norm_num) (v := (tail (b6 (cols (kernelRun0_B.sl.v220 c arg1 harg1 arg2 harg2 arg3 harg3 arg4 harg4 arg5 harg5 arg12 arg14 x0 x1 x2 x3 x4) (ld6 arg6 harg6 x5 768 (by norm_num)))))) (pay6 x5 _ arg6 harg6 13 (by norm_num) 768 (by norm_num) (by norm_num) rfl)
  have h15 := Kept.step h14 (by norm_num) (v := (tail (b7 (cols (kernelRun0_B.sl.v220 c arg1 harg1 arg2 harg2 arg3 harg3 arg4 harg4 arg5 harg5 arg12 arg14 x0 x1 x2 x3 x4) (ld6 arg6 harg6 x5 3584 (by norm_num)))))) (pay7 x5 _ arg6 harg6 14 (by norm_num) 3584 (by norm_num) (by norm_num) rfl)
  have h16 := Kept.step h15 (by norm_num) (v := (tail (b6 (cols (kernelRun0_B.sl.v220 c arg1 harg1 arg2 harg2 arg3 harg3 arg4 harg4 arg5 harg5 arg12 arg14 x0 x1 x2 x3 x4) (ld6 arg6 harg6 x5 3584 (by norm_num)))))) (pay6 x5 _ arg6 harg6 15 (by norm_num) 3584 (by norm_num) (by norm_num) rfl)
  have h17 := Kept.step h16 (by norm_num) (v := (tail (b7 (cols (kernelRun0_B.sl.v220 c arg1 harg1 arg2 harg2 arg3 harg3 arg4 harg4 arg5 harg5 arg12 arg14 x0 x1 x2 x3 x4) (ld6 arg6 harg6 x5 1024 (by norm_num)))))) (pay7 x5 _ arg6 harg6 16 (by norm_num) 1024 (by norm_num) (by norm_num) rfl)
  have h18 := Kept.step h17 (by norm_num) (v := (tail (b6 (cols (kernelRun0_B.sl.v220 c arg1 harg1 arg2 harg2 arg3 harg3 arg4 harg4 arg5 harg5 arg12 arg14 x0 x1 x2 x3 x4) (ld6 arg6 harg6 x5 1024 (by norm_num)))))) (pay6 x5 _ arg6 harg6 17 (by norm_num) 1024 (by norm_num) (by norm_num) rfl)
  have h19 := Kept.step h18 (by norm_num) (v := (tail (b7 (cols (kernelRun0_B.sl.v220 c arg1 harg1 arg2 harg2 arg3 harg3 arg4 harg4 arg5 harg5 arg12 arg14 x0 x1 x2 x3 x4) (ld6 arg6 harg6 x5 3840 (by norm_num)))))) (pay7 x5 _ arg6 harg6 18 (by norm_num) 3840 (by norm_num) (by norm_num) rfl)
  have h20 := Kept.step h19 (by norm_num) (v := (tail (b6 (cols (kernelRun0_B.sl.v220 c arg1 harg1 arg2 harg2 arg3 harg3 arg4 harg4 arg5 harg5 arg12 arg14 x0 x1 x2 x3 x4) (ld6 arg6 harg6 x5 3840 (by norm_num)))))) (pay6 x5 _ arg6 harg6 19 (by norm_num) 3840 (by norm_num) (by norm_num) rfl)
  have h21 := Kept.step h20 (by norm_num) (v := (tail (b7 (cols (kernelRun0_B.sl.v220 c arg1 harg1 arg2 harg2 arg3 harg3 arg4 harg4 arg5 harg5 arg12 arg14 x0 x1 x2 x3 x4) (ld6 arg6 harg6 x5 1280 (by norm_num)))))) (pay7 x5 _ arg6 harg6 20 (by norm_num) 1280 (by norm_num) (by norm_num) rfl)
  have h22 := Kept.step h21 (by norm_num) (v := (tail (b6 (cols (kernelRun0_B.sl.v220 c arg1 harg1 arg2 harg2 arg3 harg3 arg4 harg4 arg5 harg5 arg12 arg14 x0 x1 x2 x3 x4) (ld6 arg6 harg6 x5 1280 (by norm_num)))))) (pay6 x5 _ arg6 harg6 21 (by norm_num) 1280 (by norm_num) (by norm_num) rfl)
  have h23 := Kept.step h22 (by norm_num) (v := (tail (b7 (cols (kernelRun0_B.sl.v220 c arg1 harg1 arg2 harg2 arg3 harg3 arg4 harg4 arg5 harg5 arg12 arg14 x0 x1 x2 x3 x4) (ld6 arg6 harg6 x5 4096 (by norm_num)))))) (pay7 x5 _ arg6 harg6 22 (by norm_num) 4096 (by norm_num) (by norm_num) rfl)
  have h24 := Kept.step h23 (by norm_num) (v := (tail (b6 (cols (kernelRun0_B.sl.v220 c arg1 harg1 arg2 harg2 arg3 harg3 arg4 harg4 arg5 harg5 arg12 arg14 x0 x1 x2 x3 x4) (ld6 arg6 harg6 x5 4096 (by norm_num)))))) (pay6 x5 _ arg6 harg6 23 (by norm_num) 4096 (by norm_num) (by norm_num) rfl)
  have h25 := Kept.step h24 (by norm_num) (v := (tail (b7 (cols (kernelRun0_B.sl.v220 c arg1 harg1 arg2 harg2 arg3 harg3 arg4 harg4 arg5 harg5 arg12 arg14 x0 x1 x2 x3 x4) (ld6 arg6 harg6 x5 1536 (by norm_num)))))) (pay7 x5 _ arg6 harg6 24 (by norm_num) 1536 (by norm_num) (by norm_num) rfl)
  have h26 := Kept.step h25 (by norm_num) (v := (tail (b6 (cols (kernelRun0_B.sl.v220 c arg1 harg1 arg2 harg2 arg3 harg3 arg4 harg4 arg5 harg5 arg12 arg14 x0 x1 x2 x3 x4) (ld6 arg6 harg6 x5 1536 (by norm_num)))))) (pay6 x5 _ arg6 harg6 25 (by norm_num) 1536 (by norm_num) (by norm_num) rfl)
  have h27 := Kept.step h26 (by norm_num) (v := (tail (b7 (cols (kernelRun0_B.sl.v220 c arg1 harg1 arg2 harg2 arg3 harg3 arg4 harg4 arg5 harg5 arg12 arg14 x0 x1 x2 x3 x4) (ld6 arg6 harg6 x5 4352 (by norm_num)))))) (pay7 x5 _ arg6 harg6 26 (by norm_num) 4352 (by norm_num) (by norm_num) rfl)
  have h28 := Kept.step h27 (by norm_num) (v := (tail (b6 (cols (kernelRun0_B.sl.v220 c arg1 harg1 arg2 harg2 arg3 harg3 arg4 harg4 arg5 harg5 arg12 arg14 x0 x1 x2 x3 x4) (ld6 arg6 harg6 x5 4352 (by norm_num)))))) (pay6 x5 _ arg6 harg6 27 (by norm_num) 4352 (by norm_num) (by norm_num) rfl)
  have h29 := Kept.step h28 (by norm_num) (v := (tail (b7 (cols (kernelRun0_B.sl.v220 c arg1 harg1 arg2 harg2 arg3 harg3 arg4 harg4 arg5 harg5 arg12 arg14 x0 x1 x2 x3 x4) (ld6 arg6 harg6 x5 1792 (by norm_num)))))) (pay7 x5 _ arg6 harg6 28 (by norm_num) 1792 (by norm_num) (by norm_num) rfl)
  have h30 := Kept.step h29 (by norm_num) (v := (tail (b6 (cols (kernelRun0_B.sl.v220 c arg1 harg1 arg2 harg2 arg3 harg3 arg4 harg4 arg5 harg5 arg12 arg14 x0 x1 x2 x3 x4) (ld6 arg6 harg6 x5 1792 (by norm_num)))))) (pay6 x5 _ arg6 harg6 29 (by norm_num) 1792 (by norm_num) (by norm_num) rfl)
  have h31 := Kept.step h30 (by norm_num) (v := (tail (b7 (cols (kernelRun0_B.sl.v220 c arg1 harg1 arg2 harg2 arg3 harg3 arg4 harg4 arg5 harg5 arg12 arg14 x0 x1 x2 x3 x4) (ld6 arg6 harg6 x5 4608 (by norm_num)))))) (pay7 x5 _ arg6 harg6 30 (by norm_num) 4608 (by norm_num) (by norm_num) rfl)
  have h32 := Kept.step h31 (by norm_num) (v := (tail (b6 (cols (kernelRun0_B.sl.v220 c arg1 harg1 arg2 harg2 arg3 harg3 arg4 harg4 arg5 harg5 arg12 arg14 x0 x1 x2 x3 x4) (ld6 arg6 harg6 x5 4608 (by norm_num)))))) (pay6 x5 _ arg6 harg6 31 (by norm_num) 4608 (by norm_num) (by norm_num) rfl)
  have h33 := Kept.step h32 (by norm_num) (v := (tail (b7 (cols (kernelRun0_B.sl.v220 c arg1 harg1 arg2 harg2 arg3 harg3 arg4 harg4 arg5 harg5 arg12 arg14 x0 x1 x2 x3 x4) (ld6 arg6 harg6 x5 2048 (by norm_num)))))) (pay7 x5 _ arg6 harg6 32 (by norm_num) 2048 (by norm_num) (by norm_num) rfl)
  have h34 := Kept.step h33 (by norm_num) (v := (tail (b6 (cols (kernelRun0_B.sl.v220 c arg1 harg1 arg2 harg2 arg3 harg3 arg4 harg4 arg5 harg5 arg12 arg14 x0 x1 x2 x3 x4) (ld6 arg6 harg6 x5 2048 (by norm_num)))))) (pay6 x5 _ arg6 harg6 33 (by norm_num) 2048 (by norm_num) (by norm_num) rfl)
  have h35 := Kept.step h34 (by norm_num) (v := (tail (b7 (cols (kernelRun0_B.sl.v220 c arg1 harg1 arg2 harg2 arg3 harg3 arg4 harg4 arg5 harg5 arg12 arg14 x0 x1 x2 x3 x4) (ld6 arg6 harg6 x5 4864 (by norm_num)))))) (pay7 x5 _ arg6 harg6 34 (by norm_num) 4864 (by norm_num) (by norm_num) rfl)
  have h36 := Kept.step h35 (by norm_num) (v := (tail (b6 (cols (kernelRun0_B.sl.v220 c arg1 harg1 arg2 harg2 arg3 harg3 arg4 harg4 arg5 harg5 arg12 arg14 x0 x1 x2 x3 x4) (ld6 arg6 harg6 x5 4864 (by norm_num)))))) (pay6 x5 _ arg6 harg6 35 (by norm_num) 4864 (by norm_num) (by norm_num) rfl)
  have h37 := Kept.step h36 (by norm_num) (v := (tail (b7 (cols (kernelRun0_B.sl.v220 c arg1 harg1 arg2 harg2 arg3 harg3 arg4 harg4 arg5 harg5 arg12 arg14 x0 x1 x2 x3 x4) (ld6 arg6 harg6 x5 2304 (by norm_num)))))) (pay7 x5 _ arg6 harg6 36 (by norm_num) 2304 (by norm_num) (by norm_num) rfl)
  have h38 := Kept.step h37 (by norm_num) (v := (tail (b6 (cols (kernelRun0_B.sl.v220 c arg1 harg1 arg2 harg2 arg3 harg3 arg4 harg4 arg5 harg5 arg12 arg14 x0 x1 x2 x3 x4) (ld6 arg6 harg6 x5 2304 (by norm_num)))))) (pay6 x5 _ arg6 harg6 37 (by norm_num) 2304 (by norm_num) (by norm_num) rfl)
  have h39 := Kept.step h38 (by norm_num) (v := (tail (b7 (cols (kernelRun0_B.sl.v220 c arg1 harg1 arg2 harg2 arg3 harg3 arg4 harg4 arg5 harg5 arg12 arg14 x0 x1 x2 x3 x4) (ld6 arg6 harg6 x5 5120 (by norm_num)))))) (pay7 x5 _ arg6 harg6 38 (by norm_num) 5120 (by norm_num) (by norm_num) rfl)
  have h40 := Kept.step h39 (by norm_num) (v := (tail (b6 (cols (kernelRun0_B.sl.v220 c arg1 harg1 arg2 harg2 arg3 harg3 arg4 harg4 arg5 harg5 arg12 arg14 x0 x1 x2 x3 x4) (ld6 arg6 harg6 x5 5120 (by norm_num)))))) (pay6 x5 _ arg6 harg6 39 (by norm_num) 5120 (by norm_num) (by norm_num) rfl)
  have h41 := Kept.step h40 (by norm_num) (v := (tail (b7 (cols (kernelRun0_B.sl.v220 c arg1 harg1 arg2 harg2 arg3 harg3 arg4 harg4 arg5 harg5 arg12 arg14 x0 x1 x2 x3 x4) (ld6 arg6 harg6 x5 2560 (by norm_num)))))) (pay7 x5 _ arg6 harg6 40 (by norm_num) 2560 (by norm_num) (by norm_num) rfl)
  have h42 := Kept.step h41 (by norm_num) (v := (tail (b6 (cols (kernelRun0_B.sl.v220 c arg1 harg1 arg2 harg2 arg3 harg3 arg4 harg4 arg5 harg5 arg12 arg14 x0 x1 x2 x3 x4) (ld6 arg6 harg6 x5 2560 (by norm_num)))))) (pay6 x5 _ arg6 harg6 41 (by norm_num) 2560 (by norm_num) (by norm_num) rfl)
  have h43 := Kept.step h42 (by norm_num) (v := (tail (b7 (cols (kernelRun0_B.sl.v220 c arg1 harg1 arg2 harg2 arg3 harg3 arg4 harg4 arg5 harg5 arg12 arg14 x0 x1 x2 x3 x4) (ld6 arg6 harg6 x5 5376 (by norm_num)))))) (pay7 x5 _ arg6 harg6 42 (by norm_num) 5376 (by norm_num) (by norm_num) rfl)
  have h44 := Kept.step h43 (by norm_num) (v := (tail (b6 (cols (kernelRun0_B.sl.v220 c arg1 harg1 arg2 harg2 arg3 harg3 arg4 harg4 arg5 harg5 arg12 arg14 x0 x1 x2 x3 x4) (ld6 arg6 harg6 x5 5376 (by norm_num)))))) (pay6 x5 _ arg6 harg6 43 (by norm_num) 5376 (by norm_num) (by norm_num) rfl)
  exact h44

end

end Cert.Kernel2Ideal.Net
-- ==== Proof.WholeB.lean ====
/- A tile in the other position of its sequence, as a whole. -/
module

public import proofs.«01_k».proof.Proof.Done
public import proofs.«01_k».proof.Proof.TileB

@[expose] public section

set_option maxRecDepth 100000

noncomputable section

namespace Cert.Kernel2Ideal.Net

open Cert.Kernel2Ideal Cert.Kernel2Ideal.Gen Idealize.ShloMosaic

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S2048x1024 .bf16) (harg4 : arg4.IsWhole)
  (arg5 : Memref sig .tc .vmem S1x1024 .f32) (harg5 : arg5.IsWhole)
  (arg6 : Memref sig .tc .vmem S1024x5632 .bf16) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S2816x1024 .bf16) (harg9 : arg9.IsWhole)
  (arg10 : Memref sig .tc .vmem S1x1024 .f32) (harg10 : arg10.IsWhole)
  (arg11 : Memref sig .tc .vmem S512x1024 .f32) (harg11 : arg11.IsWhole)
  (arg12 : Memref sig .tc .vmem S8x512x128 .f32) (harg12 : arg12.IsWhole)
  (arg13 : Memref sig .tc .vmem S512x1024 .f32) (harg13 : arg13.IsWhole)
  (arg14 : Memref sig .tc .vmem S512x1024 .bf16) (harg14 : arg14.IsWhole)
  (arg15 : Memref sig .tc .vmem S8x512x128 .f32) (harg15 : arg15.IsWhole)
  (arg16 : Memref sig .tc .vmem S44x8x256 .f32) (harg16 : arg16.IsWhole)
  (x0 : Vec Ideal S512x1024 .f32) (x1 : Vec Ideal S512x1024 .bf16) (x2 : Vec Ideal S512x1024 .bf16) (x3 : Vec Ideal S2048x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)
variable (xs4 : Vec Ideal S44x8x256 .f32)
variable (hc0 : ¬cond0_0 i)

theorem mixedB : kernelRun0_B.sl.v26 c arg1 harg1 arg2 harg2 arg3 harg3 arg4 harg4 x0 x1 x2 x3 = mixing x0 x1 x2 (cutW x3 0 (by norm_num)) (cutW x3 1024 (by norm_num)) := by
  refine Eq.trans (b := mixing
    (View.readAt (Elt Ideal) arg1.view (Rect.unit (s := S512x1024) ![0, 0] S512x1024.size inb_S512x1024_S512x1024_0_0).toLoadRect (harg1.unread x0))
    (View.readAt (Elt Ideal) arg2.view (Rect.unit (s := S512x1024) ![0, 0] S512x1024.size inb_S512x1024_S512x1024_0_0).toLoadRect (harg2.unread x1))
    (View.readAt (Elt Ideal) arg3.view (Rect.unit (s := S512x1024) ![0, 0] S512x1024.size inb_S512x1024_S512x1024_0_0).toLoadRect (harg3.unread x2))
    (View.readAt (Elt Ideal) arg4.view (Rect.unit (s := S2048x1024) ![0, 0] S1024x1024.size (inbW 0 (by norm_num))).toLoadRect (harg4.unread x3))
    (View.readAt (Elt Ideal) arg4.view (Rect.unit (s := S2048x1024) ![1024, 0] S1024x1024.size (inbW 1024 (by norm_num))).toLoadRect (harg4.unread x3))) rfl ?_
  rw [ld_whole harg1 _ (by decide), ld_whole harg2 _ (by decide), ld_whole harg3 _ (by decide), ldW_eq harg4, ldW_eq harg4]

theorem planesB : Planes (kernelRun0_B.sl.v26 c arg1 harg1 arg2 harg2 arg3 harg3 arg4 harg4 x0 x1 x2 x3) 8 (kernelRun0_B.sl.HS0_8 c arg1 harg1 arg2 harg2 arg3 harg3 arg4 harg4 x0 x1 x2 x3) := by
  have h0 : Planes (kernelRun0_B.sl.v26 c arg1 harg1 arg2 harg2 arg3 harg3 arg4 harg4 x0 x1 x2 x3) 0 [] := fun _ _ _ _ h => absurd h (Nat.not_lt_zero _)
  have h1 := h0.step (by norm_num) (j := 0) (by norm_num) slices_S512x1024_o0_0_S512x128
  have h2 := h1.step (by norm_num) (j := 128) (by norm_num) slices_S512x1024_o0_128_S512x128
  have h3 := h2.step (by norm_num) (j := 256) (by norm_num) slices_S512x1024_o0_256_S512x128
  have h4 := h3.step (by norm_num) (j := 384) (by norm_num) slices_S512x1024_o0_384_S512x128
  have h5 := h4.step (by norm_num) (j := 512) (by norm_num) slices_S512x1024_o0_512_S512x128
  have h6 := h5.step (by norm_num) (j := 640) (by norm_num) slices_S512x1024_o0_640_S512x128
  have h7 := h6.step (by norm_num) (j := 768) (by norm_num) slices_S512x1024_o0_768_S512x128
  have h8 := h7.step (by norm_num) (j := 896) (by norm_num) slices_S512x1024_o0_896_S512x128
  exact h8

theorem storedB : kernelRun0_B.sl.v3036 c arg1 harg1 arg2 harg2 arg3 harg3 arg4 harg4 arg12 arg13 x0 x1 x2 x3 = gathered arg12 (kernelRun0_B.sl.HS0_8 c arg1 harg1 arg2 harg2 arg3 harg3 arg4 harg4 x0 x1 x2 x3) := by
  refine Eq.trans (b := arg13.view.readCov (Val := Elt Ideal) [⟨Rect.unit (s := S512x1024) ![0, 0] S512x1024.size inb_S512x1024_S512x1024_0_0,
    (shapeCast S512x1024 (gathered arg12 (kernelRun0_B.sl.HS0_8 c arg1 harg1 arg2 harg2 arg3 harg3 arg4 harg4 x0 x1 x2 x3)) shapeCasts_S512x1024_S512x1024 : FVec Ideal S512x1024 .f32)⟩]
    (Rect.unit (s := S512x1024) ![0, 0] S512x1024.size inb_S512x1024_S512x1024_0_0).toLoadRect) rfl ?_
  rw [read_whole _ _ _ (by decide), cast_f32]

theorem halvedB : kernelRun0_B.sl.v220 c arg1 harg1 arg2 harg2 arg3 harg3 arg4 harg4 arg5 harg5 arg12 arg14 x0 x1 x2 x3 x4 = halved (kernelRun0_B.sl.v3036 c arg1 harg1 arg2 harg2 arg3 harg3 arg4 harg4 arg12 arg13 x0 x1 x2 x3) x4 := by
  rw [storedB]
  refine Eq.trans (b := arg14.view.readCov (Val := Elt Ideal) [⟨Rect.unit (s := S512x1024) ![0, 0] S512x1024.size inb_S512x1024_S512x1024_0_0,
    (shapeCast S512x1024 (halved (gathered arg12 (kernelRun0_B.sl.HS0_8 c arg1 harg1 arg2 harg2 arg3 harg3 arg4 harg4 x0 x1 x2 x3))
      (View.readAt (Elt Ideal) arg5.view (Rect.unit (s := S1x1024) ![0, 0] S1x1024.size inb_S1x1024_S1x1024_0_0).toLoadRect (harg5.unread x4)))
      shapeCasts_S512x1024_S512x1024 : FVec Ideal S512x1024 .bf16)⟩]
    (Rect.unit (s := S512x1024) ![0, 0] S512x1024.size inb_S512x1024_S512x1024_0_0).toLoadRect) rfl ?_
  rw [read_whole _ _ _ (by decide), cast_bf16, ld_whole harg5 _ (by decide)]

theorem stripsB : Strips (kernelRun0_B.sl.r_117 c arg1 harg1 arg2 harg2 arg3 harg3 arg4 harg4 arg5 harg5 arg6 harg6 arg7 harg7 arg8 harg8 arg9 harg9 arg10 harg10 arg12 arg13 arg14 arg16 harg16 x0 x1 x2 x3 x4 x5 x6 x7 x8 x9 xs4) 64 (kernelRun0_B.sl.HS3_64 c arg1 harg1 arg2 harg2 arg3 harg3 arg4 harg4 arg5 harg5 arg6 harg6 arg7 harg7 arg8 harg8 arg9 harg9 arg10 harg10 arg12 arg13 arg14 arg16 harg16 x0 x1 x2 x3 x4 x5 x6 x7 x8 x9 xs4) := by
  have h0 := Strips.start (kernelRun0_B.sl.r_117 c arg1 harg1 arg2 harg2 arg3 harg3 arg4 harg4 arg5 harg5 arg6 harg6 arg7 harg7 arg8 harg8 arg9 harg9 arg10 harg10 arg12 arg13 arg14 arg16 harg16 x0 x1 x2 x3 x4 x5 x6 x7 x8 x9 xs4)
  have h1 := h0.step 0 0 (by norm_num) (by norm_num) (by norm_num) (a := 0) (b := 0) (by norm_num) (by norm_num) slices_S512x1024_o0_0_S64x128
  have h2 := h1.step 0 1 (by norm_num) (by norm_num) (by norm_num) (a := 64) (b := 0) (by norm_num) (by norm_num) slices_S512x1024_o64_0_S64x128
  have h3 := h2.step 0 2 (by norm_num) (by norm_num) (by norm_num) (a := 128) (b := 0) (by norm_num) (by norm_num) slices_S512x1024_o128_0_S64x128
  have h4 := h3.step 0 3 (by norm_num) (by norm_num) (by norm_num) (a := 192) (b := 0) (by norm_num) (by norm_num) slices_S512x1024_o192_0_S64x128
  have h5 := h4.step 0 4 (by norm_num) (by norm_num) (by norm_num) (a := 256) (b := 0) (by norm_num) (by norm_num) slices_S512x1024_o256_0_S64x128
  have h6 := h5.step 0 5 (by norm_num) (by norm_num) (by norm_num) (a := 320) (b := 0) (by norm_num) (by norm_num) slices_S512x1024_o320_0_S64x128
  have h7 := h6.step 0 6 (by norm_num) (by norm_num) (by norm_num) (a := 384) (b := 0) (by norm_num) (by norm_num) slices_S512x1024_o384_0_S64x128
  have h8 := h7.step 0 7 (by norm_num) (by norm_num) (by norm_num) (a := 448) (b := 0) (by norm_num) (by norm_num) slices_S512x1024_o448_0_S64x128
  have h9 := h8.step 1 0 (by norm_num) (by norm_num) (by norm_num) (a := 0) (b := 128) (by norm_num) (by norm_num) slices_S512x1024_o0_128_S64x128
  have h10 := h9.step 1 1 (by norm_num) (by norm_num) (by norm_num) (a := 64) (b := 128) (by norm_num) (by norm_num) slices_S512x1024_o64_128_S64x128
  have h11 := h10.step 1 2 (by norm_num) (by norm_num) (by norm_num) (a := 128) (b := 128) (by norm_num) (by norm_num) slices_S512x1024_o128_128_S64x128
  have h12 := h11.step 1 3 (by norm_num) (by norm_num) (by norm_num) (a := 192) (b := 128) (by norm_num) (by norm_num) slices_S512x1024_o192_128_S64x128
  have h13 := h12.step 1 4 (by norm_num) (by norm_num) (by norm_num) (a := 256) (b := 128) (by norm_num) (by norm_num) slices_S512x1024_o256_128_S64x128
  have h14 := h13.step 1 5 (by norm_num) (by norm_num) (by norm_num) (a := 320) (b := 128) (by norm_num) (by norm_num) slices_S512x1024_o320_128_S64x128
  have h15 := h14.step 1 6 (by norm_num) (by norm_num) (by norm_num) (a := 384) (b := 128) (by norm_num) (by norm_num) slices_S512x1024_o384_128_S64x128
  have h16 := h15.step 1 7 (by norm_num) (by norm_num) (by norm_num) (a := 448) (b := 128) (by norm_num) (by norm_num) slices_S512x1024_o448_128_S64x128
  have h17 := h16.step 2 0 (by norm_num) (by norm_num) (by norm_num) (a := 0) (b := 256) (by norm_num) (by norm_num) slices_S512x1024_o0_256_S64x128
  have h18 := h17.step 2 1 (by norm_num) (by norm_num) (by norm_num) (a := 64) (b := 256) (by norm_num) (by norm_num) slices_S512x1024_o64_256_S64x128
  have h19 := h18.step 2 2 (by norm_num) (by norm_num) (by norm_num) (a := 128) (b := 256) (by norm_num) (by norm_num) slices_S512x1024_o128_256_S64x128
  have h20 := h19.step 2 3 (by norm_num) (by norm_num) (by norm_num) (a := 192) (b := 256) (by norm_num) (by norm_num) slices_S512x1024_o192_256_S64x128
  have h21 := h20.step 2 4 (by norm_num) (by norm_num) (by norm_num) (a := 256) (b := 256) (by norm_num) (by norm_num) slices_S512x1024_o256_256_S64x128
  have h22 := h21.step 2 5 (by norm_num) (by norm_num) (by norm_num) (a := 320) (b := 256) (by norm_num) (by norm_num) slices_S512x1024_o320_256_S64x128
  have h23 := h22.step 2 6 (by norm_num) (by norm_num) (by norm_num) (a := 384) (b := 256) (by norm_num) (by norm_num) slices_S512x1024_o384_256_S64x128
  have h24 := h23.step 2 7 (by norm_num) (by norm_num) (by norm_num) (a := 448) (b := 256) (by norm_num) (by norm_num) slices_S512x1024_o448_256_S64x128
  have h25 := h24.step 3 0 (by norm_num) (by norm_num) (by norm_num) (a := 0) (b := 384) (by norm_num) (by norm_num) slices_S512x1024_o0_384_S64x128
  have h26 := h25.step 3 1 (by norm_num) (by norm_num) (by norm_num) (a := 64) (b := 384) (by norm_num) (by norm_num) slices_S512x1024_o64_384_S64x128
  have h27 := h26.step 3 2 (by norm_num) (by norm_num) (by norm_num) (a := 128) (b := 384) (by norm_num) (by norm_num) slices_S512x1024_o128_384_S64x128
  have h28 := h27.step 3 3 (by norm_num) (by norm_num) (by norm_num) (a := 192) (b := 384) (by norm_num) (by norm_num) slices_S512x1024_o192_384_S64x128
  have h29 := h28.step 3 4 (by norm_num) (by norm_num) (by norm_num) (a := 256) (b := 384) (by norm_num) (by norm_num) slices_S512x1024_o256_384_S64x128
  have h30 := h29.step 3 5 (by norm_num) (by norm_num) (by norm_num) (a := 320) (b := 384) (by norm_num) (by norm_num) slices_S512x1024_o320_384_S64x128
  have h31 := h30.step 3 6 (by norm_num) (by norm_num) (by norm_num) (a := 384) (b := 384) (by norm_num) (by norm_num) slices_S512x1024_o384_384_S64x128
  have h32 := h31.step 3 7 (by norm_num) (by norm_num) (by norm_num) (a := 448) (b := 384) (by norm_num) (by norm_num) slices_S512x1024_o448_384_S64x128
  have h33 := h32.step 4 0 (by norm_num) (by norm_num) (by norm_num) (a := 0) (b := 512) (by norm_num) (by norm_num) slices_S512x1024_o0_512_S64x128
  have h34 := h33.step 4 1 (by norm_num) (by norm_num) (by norm_num) (a := 64) (b := 512) (by norm_num) (by norm_num) slices_S512x1024_o64_512_S64x128
  have h35 := h34.step 4 2 (by norm_num) (by norm_num) (by norm_num) (a := 128) (b := 512) (by norm_num) (by norm_num) slices_S512x1024_o128_512_S64x128
  have h36 := h35.step 4 3 (by norm_num) (by norm_num) (by norm_num) (a := 192) (b := 512) (by norm_num) (by norm_num) slices_S512x1024_o192_512_S64x128
  have h37 := h36.step 4 4 (by norm_num) (by norm_num) (by norm_num) (a := 256) (b := 512) (by norm_num) (by norm_num) slices_S512x1024_o256_512_S64x128
  have h38 := h37.step 4 5 (by norm_num) (by norm_num) (by norm_num) (a := 320) (b := 512) (by norm_num) (by norm_num) slices_S512x1024_o320_512_S64x128
  have h39 := h38.step 4 6 (by norm_num) (by norm_num) (by norm_num) (a := 384) (b := 512) (by norm_num) (by norm_num) slices_S512x1024_o384_512_S64x128
  have h40 := h39.step 4 7 (by norm_num) (by norm_num) (by norm_num) (a := 448) (b := 512) (by norm_num) (by norm_num) slices_S512x1024_o448_512_S64x128
  have h41 := h40.step 5 0 (by norm_num) (by norm_num) (by norm_num) (a := 0) (b := 640) (by norm_num) (by norm_num) slices_S512x1024_o0_640_S64x128
  have h42 := h41.step 5 1 (by norm_num) (by norm_num) (by norm_num) (a := 64) (b := 640) (by norm_num) (by norm_num) slices_S512x1024_o64_640_S64x128
  have h43 := h42.step 5 2 (by norm_num) (by norm_num) (by norm_num) (a := 128) (b := 640) (by norm_num) (by norm_num) slices_S512x1024_o128_640_S64x128
  have h44 := h43.step 5 3 (by norm_num) (by norm_num) (by norm_num) (a := 192) (b := 640) (by norm_num) (by norm_num) slices_S512x1024_o192_640_S64x128
  have h45 := h44.step 5 4 (by norm_num) (by norm_num) (by norm_num) (a := 256) (b := 640) (by norm_num) (by norm_num) slices_S512x1024_o256_640_S64x128
  have h46 := h45.step 5 5 (by norm_num) (by norm_num) (by norm_num) (a := 320) (b := 640) (by norm_num) (by norm_num) slices_S512x1024_o320_640_S64x128
  have h47 := h46.step 5 6 (by norm_num) (by norm_num) (by norm_num) (a := 384) (b := 640) (by norm_num) (by norm_num) slices_S512x1024_o384_640_S64x128
  have h48 := h47.step 5 7 (by norm_num) (by norm_num) (by norm_num) (a := 448) (b := 640) (by norm_num) (by norm_num) slices_S512x1024_o448_640_S64x128
  have h49 := h48.step 6 0 (by norm_num) (by norm_num) (by norm_num) (a := 0) (b := 768) (by norm_num) (by norm_num) slices_S512x1024_o0_768_S64x128
  have h50 := h49.step 6 1 (by norm_num) (by norm_num) (by norm_num) (a := 64) (b := 768) (by norm_num) (by norm_num) slices_S512x1024_o64_768_S64x128
  have h51 := h50.step 6 2 (by norm_num) (by norm_num) (by norm_num) (a := 128) (b := 768) (by norm_num) (by norm_num) slices_S512x1024_o128_768_S64x128
  have h52 := h51.step 6 3 (by norm_num) (by norm_num) (by norm_num) (a := 192) (b := 768) (by norm_num) (by norm_num) slices_S512x1024_o192_768_S64x128
  have h53 := h52.step 6 4 (by norm_num) (by norm_num) (by norm_num) (a := 256) (b := 768) (by norm_num) (by norm_num) slices_S512x1024_o256_768_S64x128
  have h54 := h53.step 6 5 (by norm_num) (by norm_num) (by norm_num) (a := 320) (b := 768) (by norm_num) (by norm_num) slices_S512x1024_o320_768_S64x128
  have h55 := h54.step 6 6 (by norm_num) (by norm_num) (by norm_num) (a := 384) (b := 768) (by norm_num) (by norm_num) slices_S512x1024_o384_768_S64x128
  have h56 := h55.step 6 7 (by norm_num) (by norm_num) (by norm_num) (a := 448) (b := 768) (by norm_num) (by norm_num) slices_S512x1024_o448_768_S64x128
  have h57 := h56.step 7 0 (by norm_num) (by norm_num) (by norm_num) (a := 0) (b := 896) (by norm_num) (by norm_num) slices_S512x1024_o0_896_S64x128
  have h58 := h57.step 7 1 (by norm_num) (by norm_num) (by norm_num) (a := 64) (b := 896) (by norm_num) (by norm_num) slices_S512x1024_o64_896_S64x128
  have h59 := h58.step 7 2 (by norm_num) (by norm_num) (by norm_num) (a := 128) (b := 896) (by norm_num) (by norm_num) slices_S512x1024_o128_896_S64x128
  have h60 := h59.step 7 3 (by norm_num) (by norm_num) (by norm_num) (a := 192) (b := 896) (by norm_num) (by norm_num) slices_S512x1024_o192_896_S64x128
  have h61 := h60.step 7 4 (by norm_num) (by norm_num) (by norm_num) (a := 256) (b := 896) (by norm_num) (by norm_num) slices_S512x1024_o256_896_S64x128
  have h62 := h61.step 7 5 (by norm_num) (by norm_num) (by norm_num) (a := 320) (b := 896) (by norm_num) (by norm_num) slices_S512x1024_o320_896_S64x128
  have h63 := h62.step 7 6 (by norm_num) (by norm_num) (by norm_num) (a := 384) (b := 896) (by norm_num) (by norm_num) slices_S512x1024_o384_896_S64x128
  have h64 := h63.step 7 7 (by norm_num) (by norm_num) (by norm_num) (a := 448) (b := 896) (by norm_num) (by norm_num) slices_S512x1024_o448_896_S64x128
  exact h64

theorem backB : Back (kernelRun0_B.sl.r_117 c arg1 harg1 arg2 harg2 arg3 harg3 arg4 harg4 arg5 harg5 arg6 harg6 arg7 harg7 arg8 harg8 arg9 harg9 arg10 harg10 arg12 arg13 arg14 arg16 harg16 x0 x1 x2 x3 x4 x5 x6 x7 x8 x9 xs4) 8 (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs4).1 := by
  have s := stripsB c arg1 harg1 arg2 harg2 arg3 harg3 arg4 harg4 arg5 harg5 arg6 harg6 arg7 harg7 arg8 harg8 arg9 harg9 arg10 harg10 arg12 arg13 arg14 arg16 harg16 x0 x1 x2 x3 x4 x5 x6 x7 x8 x9 xs4
  have h0 := Back.start (kernelRun0_B.sl.r_117 c arg1 harg1 arg2 harg2 arg3 harg3 arg4 harg4 arg5 harg5 arg6 harg6 arg7 harg7 arg8 harg8 arg9 harg9 arg10 harg10 arg12 arg13 arg14 arg16 harg16 x0 x1 x2 x3 x4 x5 x6 x7 x8 x9 xs4)
  have h1 := h0.step s arg15 (by norm_num) (j := 0) (by norm_num)
  have h2 := h1.step s arg15 (by norm_num) (j := 128) (by norm_num)
  have h3 := h2.step s arg15 (by norm_num) (j := 256) (by norm_num)
  have h4 := h3.step s arg15 (by norm_num) (j := 384) (by norm_num)
  have h5 := h4.step s arg15 (by norm_num) (j := 512) (by norm_num)
  have h6 := h5.step s arg15 (by norm_num) (j := 640) (by norm_num)
  have h7 := h6.step s arg15 (by norm_num) (j := 768) (by norm_num)
  have h8 := h7.step s arg15 (by norm_num) (j := 896) (by norm_num)
  exact h8

theorem doneB : ∃ X, Done x0 x1 x2 x3 x4 x5 x6 x7 x8 x9 xs4 (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs4)
    (sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs4) X := by
  refine ⟨kernelRun0_B.sl.v3036 c arg1 harg1 arg2 harg2 arg3 harg3 arg4 harg4 arg12 arg13 x0 x1 x2 x3, ⟨fun r q => ?_, fun r q => ?_, fun n h r f => ?_⟩⟩
  · rw [storedB, gathered_apply (planesB c arg1 harg1 arg2 harg2 arg3 harg3 arg4 harg4 x0 x1 x2 x3), mixedB]
  · unfold out0_B_10
    rw [View.read_writes_junk_eq_canon, backB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 hc0 r q (by have := q.isLt; omega), rowsB, halvedB]
  · unfold sout0_B_4
    rw [View.read_writes_junk_eq_canon, (tailsB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 hc0).kept n h r f (by omega), halvedB]

end

end Cert.Kernel2Ideal.Net
-- ==== Proof.RefRow.lean ====
/- The reference of the mix and the network at an index. -/
module

public import proofs.«01_k».proof.Proof.Row
public import proofs.«01_k».proof.Proof.Gen.Reference2Ideal.Read
public import Idealize.ShloMosaic.Lib.MatmulPlain
public import Idealize.ShloMosaic.Lib.Pointwise

@[expose] public section

set_option maxRecDepth 16384

noncomputable section

namespace Cert.Reference2Ideal.Look

open Cert.Reference2Ideal.Read Cert.Reference2Ideal Cert.Reference2Ideal.Gen Idealize.ShloMosaic Cert.Row

variable (x0 x1 x2 : FVec Ideal S8x2048x1024 .f32) (x3 : FVec Ideal S1x2048x1024 .f32) (x4 : FVec Ideal S1x1024 .f32)
  (x5 : FVec Ideal S1x1024x5632 .f32) (x6 : FVec Ideal S1x3x5632 .f32) (x7 : FVec Ideal S1x5632 .f32) (x8 : FVec Ideal S1x2816x1024 .f32)
  (x9 : FVec Ideal S1024 .f32)

/-- The weights as the argument arrays give them. -/
def weights : Weights where
  wo := fun k c => x3 (ix3 0 k c)
  g2 := fun c => x4 (ix2 0 c)
  wup := fun k f => x5 (ix3 0 k f)
  cw := fun t f => x6 (ix3 0 t f)
  cb := fun f => x7 (ix2 0 f)
  wdn := fun f c => x8 (ix3 0 f c)
  gf := fun c => x9 (ix1 c)

/-- Row `T` of the sequences laid end to end. -/
def rows (x : FVec Ideal S8x2048x1024 .f32) (T : ℕ) (c : Fin 1024) : EReal :=
  x (ix3 ⟨T / 2048 % 8, Nat.mod_lt _ (by norm_num)⟩ ⟨T % 2048, Nat.mod_lt _ (by norm_num)⟩ c)

/-- The mixed rows. -/
def mixes (T : ℕ) (c : Fin 1024) : EReal :=
  mixed (rows x0 T) (rows x1 T) (rows x2 T) (fun k c => x3 (ix3 0 k c)) c

theorem rows_at (x : FVec Ideal S8x2048x1024 .f32) (b : Fin 8) (s : Fin 2048) (c : Fin 1024) :
    rows x (b.val * 2048 + s.val) c = x (ix3 b s c) := by
  unfold rows
  congr 2
  · exact Fin.ext (by show (b.val * 2048 + s.val) / 2048 % 8 = b.val; omega)
  · exact Fin.ext (by show (b.val * 2048 + s.val) % 2048 = s.val; omega)

theorem join_low (b : Fin 8) (s : Fin 2048) (k : Fin 1024) :
    val_main_v0 (F := Ideal) x1 x2 (ix3 b s ⟨k.val, by omega⟩) = x1 (ix3 b s k) := by
  pointwise [val_main_v0]

theorem join_high (b : Fin 8) (s : Fin 2048) (k : Fin 1024) :
    val_main_v0 (F := Ideal) x1 x2 (ix3 b s ⟨1024 + k.val, by omega⟩) = x2 (ix3 b s k) := by
  pointwise [val_main_v0]

theorem mix_read (b : Fin 8) (s : Fin 2048) (c : Fin 1024) :
    val_main_v3 (F := Ideal) x0 x1 x2 x3 (ix3 b s c) = mixes x0 x1 x2 x3 (b.val * 2048 + s.val) c := by
  have h : val_main_v3 (F := Ideal) x0 x1 x2 x3 (ix3 b s c)
      = x0 (ix3 b s c) + ∑ k : Fin 2048, val_main_v0 (F := Ideal) x1 x2 (ix3 b s k) * x3 (ix3 0 k c) := by
    unfold val_main_v3 val_main_v2
    generalize val_main_v0 (F := Ideal) x1 x2 = y
    pointwise [val_main_v1]
  rw [h, show (∑ k : Fin 2048, val_main_v0 (F := Ideal) x1 x2 (ix3 b s k) * x3 (ix3 0 k c)) = _ from Fin.sum_univ_add (a := 1024) (b := 1024) _]
  unfold mixes mixed
  simp only [rows_at]
  rw [add_assoc]
  congr 2
  · exact Finset.sum_congr rfl fun k _ => congrArg (· * _) (join_low x1 x2 b s k)
  · exact Finset.sum_congr rfl fun k _ => congrArg (· * _) (join_high x1 x2 b s k)

theorem up_read (b : Fin 8) (s : Fin 2048) (f : Fin 5632) :
    val_main_v22 (F := Ideal) x0 x1 x2 x3 x4 x5 (ix3 b s f)
      = up (weights x3 x4 x5 x6 x7 x8 x9) (mixes x0 x1 x2 x3 (b.val * 2048 + s.val)) f := by
  unfold up Row.norm weights
  simp only [← mix_read]
  pointwise [val_main_v22, val_main_v17, val_main_v16, val_main_v15, val_main_v14, val_main_v13, val_main_v12, val_main_v11, val_main_v10, val_main_cst_1,
    val_main_v9, val_main_v8, val_main_cst_0, val_main_v7, val_main_v6, val_main_cst, val_main_v5, val_main_v4, val_main_v18]

end Cert.Reference2Ideal.Look
-- ==== Proof.Front.lean ====
/- The arrays the host code prepares for the second kernel, read at an index. -/
module

public import proofs.«01_k».proof.Proof.RefRow
public import proofs.«01_k».proof.Proof.Gen.Kernel2Ideal.Value
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Kernel2Ideal.Front

open Cert.Kernel2Ideal Cert.Kernel2Ideal.Gen Idealize.ShloMosaic Idealize.ShloMosaic.TcCoe Cert.Row
open Cert.Reference2Ideal.Look (rows mixes weights)

variable (m : (ℓ : Loc nD τ sig) → Buf (Elt Ideal) ℓ)

/-- The arguments of a launch. -/
abbrev a0 (c : Dev nD) : FVec Ideal S8x2048x1024 .f32 := m ((c : Thread nD τ).loc main_arg0)
abbrev a1 (c : Dev nD) : FVec Ideal S8x2048x1024 .f32 := m ((c : Thread nD τ).loc main_arg1)
abbrev a2 (c : Dev nD) : FVec Ideal S8x2048x1024 .f32 := m ((c : Thread nD τ).loc main_arg2)
abbrev a3 (c : Dev nD) : FVec Ideal S1x2048x1024 .f32 := m ((c : Thread nD τ).loc main_arg3)
abbrev a4 (c : Dev nD) : FVec Ideal S1x1024 .f32 := m ((c : Thread nD τ).loc main_arg4)
abbrev a5 (c : Dev nD) : FVec Ideal S1x1024x5632 .f32 := m ((c : Thread nD τ).loc main_arg5)
abbrev a6 (c : Dev nD) : FVec Ideal S1x3x5632 .f32 := m ((c : Thread nD τ).loc main_arg6)
abbrev a7 (c : Dev nD) : FVec Ideal S1x5632 .f32 := m ((c : Thread nD τ).loc main_arg7)
abbrev a8 (c : Dev nD) : FVec Ideal S1x2816x1024 .f32 := m ((c : Thread nD τ).loc main_arg8)
abbrev a9 (c : Dev nD) : FVec Ideal S1024 .f32 := m ((c : Thread nD τ).loc main_arg9)

/-- The launch's weights and mixed rows. -/
abbrev wts (c : Dev nD) : Weights := weights (a3 m c) (a4 m c) (a5 m c) (a6 m c) (a7 m c) (a8 m c) (a9 m c)
abbrev mix (c : Dev nD) : ℕ → Fin 1024 → EReal := mixes (a0 m c) (a1 m c) (a2 m c) (a3 m c)

set_option maxHeartbeats 1000000 in
theorem x_at (c : Dev nD) (R : Fin 16384) (k : Fin 1024) : V m c main_v0 (ix2 R k) = rows (a0 m c) R.val k := by
  have hR := R.isLt
  have h : V m c main_v0 (ix2 R k) = a0 m c (ix3 ⟨R.val / 2048, by omega⟩ ⟨R.val % 2048, by omega⟩ k) := by
    simp only [V, hostOps0]
    after_reads_at
  rw [h]
  unfold rows
  congr 2
  exact Fin.ext (by show R.val / 2048 = R.val / 2048 % 8; omega)

set_option maxHeartbeats 1000000 in
theorem att_at (c : Dev nD) (R : Fin 16384) (k : Fin 1024) : V m c main_v2 (ix2 R k) = rows (a1 m c) R.val k := by
  have hR := R.isLt
  have h : V m c main_v2 (ix2 R k) = a1 m c (ix3 ⟨R.val / 2048, by omega⟩ ⟨R.val % 2048, by omega⟩ k) := by
    simp only [V, hostOps0]
    after_reads_at
  rw [h]
  unfold rows
  congr 2
  exact Fin.ext (by show R.val / 2048 = R.val / 2048 % 8; omega)

set_option maxHeartbeats 1000000 in
theorem ssm_at (c : Dev nD) (R : Fin 16384) (k : Fin 1024) : V m c main_v4 (ix2 R k) = rows (a2 m c) R.val k := by
  have hR := R.isLt
  have h : V m c main_v4 (ix2 R k) = a2 m c (ix3 ⟨R.val / 2048, by omega⟩ ⟨R.val % 2048, by omega⟩ k) := by
    simp only [V, hostOps0]
    after_reads_at
  rw [h]
  unfold rows
  congr 2
  exact Fin.ext (by show R.val / 2048 = R.val / 2048 % 8; omega)

set_option maxHeartbeats 1000000 in
theorem wo_at (c : Dev nD) (k : Fin 2048) (q : Fin 1024) : V m c main_v6 (ix2 k q) = (wts m c).wo k q := by
  simp only [V, hostOps0]
  after_reads_at
  rfl

set_option maxHeartbeats 1000000 in
theorem g2_at (c : Dev nD) (q : Fin 1024) : V m c main_v8 (ix2 0 q) = (wts m c).g2 q := by
  simp only [V, hostOps0]
  after_reads_at
  rfl

set_option maxHeartbeats 1000000 in
theorem wup_at (c : Dev nD) (k : Fin 1024) (f : Fin 5632) : V m c main_v10 (ix2 k f) = (wts m c).wup k f := by
  simp only [V, hostOps0]
  after_reads_at
  rfl

set_option maxHeartbeats 1000000 in
theorem cw_at (c : Dev nD) (k : Fin 3) (f : Fin 5632) : V m c main_v11 (ix2 k f) = (wts m c).cw k f := by
  simp only [V, hostOps0]
  after_reads_at
  rfl

set_option maxHeartbeats 1000000 in
theorem cb_at (c : Dev nD) (f : Fin 5632) : V m c main_v13 (ix2 0 f) = (wts m c).cb f := by
  simp only [V, hostOps0]
  after_reads_at
  rfl

set_option maxHeartbeats 1000000 in
theorem wdn_at (c : Dev nD) (f : Fin 2816) (q : Fin 1024) : V m c main_v15 (ix2 f q) = (wts m c).wdn f q := by
  simp only [V, hostOps0]
  after_reads_at
  rfl

set_option maxHeartbeats 1000000 in
theorem gf_at (c : Dev nD) (q : Fin 1024) : V m c main_v16 (ix2 0 q) = (wts m c).gf q := by
  simp only [V, hostOps0]
  after_reads_at
  rfl

end Cert.Kernel2Ideal.Front
-- ==== Proof.Sheet.lean ====
/- The blocks of one grid point of the second kernel, read at an index. -/
module

public import proofs.«01_k».proof.Proof.Front

@[expose] public section

set_option maxRecDepth 16384

noncomputable section

namespace Cert.Kernel2Ideal.Front

open Cert.Kernel2Ideal Cert.Kernel2Ideal.Gen Idealize.ShloMosaic Idealize.ShloMosaic.TcCoe Cert.Row
open Cert.Reference2Ideal.Look (rows mixes weights)

variable (m : (ℓ : Loc nD τ sig) → Buf (Elt Ideal) ℓ)

/-- The block indices of every window, at every grid point. -/
theorem idx : ∀ t : Fin cfg0.N,
    win0_0.index t = ![t.val, 0] ∧ win0_1.index t = ![t.val, 0] ∧ win0_2.index t = ![t.val, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] ∧
    win0_10.index t = ![t.val, 0] :=
  (by decide +kernel : ∀ t : Fin grid0.N, _)

theorem lt32 (t : Fin cfg0.N) : t.val < 32 := lt_of_lt_of_eq t.isLt (show cfg0.N = 32 from N_0)

theorem read0 (A : Vec Ideal S16384x1024 .f32) (t : Fin cfg0.N) (r : Fin 512) (k : Fin 1024) (R : Fin 16384) (hR : R.val = 512 * t.val + r.val) :
    (((cfg0.win 0).blk t).view.read (Elt Ideal) A : Vec Ideal S512x1024 .f32) (ix2 r k) = A (ix2 R k) := by
  blk_ext [idx t]

theorem block0 (c : Dev nD) (t : Fin cfg0.N) (r : Fin 512) (k : Fin 1024) :
    (iblk m c 0 t : Vec Ideal S512x1024 .f32) (ix2 r k) = rows (a0 m c) (512 * t.val + r.val) k :=
  (read0 (V m c main_v0) t r k ⟨512 * t.val + r.val, by have := lt32 t; omega⟩ rfl).trans (x_at m c ⟨512 * t.val + r.val, by have := lt32 t; omega⟩ k)

theorem read1 (A : Vec Ideal S16384x1024 .bf16) (t : Fin cfg0.N) (r : Fin 512) (k : Fin 1024) (R : Fin 16384) (hR : R.val = 512 * t.val + r.val) :
    (((cfg0.win 1).blk t).view.read (Elt Ideal) A : Vec Ideal S512x1024 .bf16) (ix2 r k) = A (ix2 R k) := by
  blk_ext [idx t]

theorem block1 (c : Dev nD) (t : Fin cfg0.N) (r : Fin 512) (k : Fin 1024) :
    (iblk m c 1 t : Vec Ideal S512x1024 .bf16) (ix2 r k) = rows (a1 m c) (512 * t.val + r.val) k :=
  (read1 (V m c main_v2) t r k ⟨512 * t.val + r.val, by have := lt32 t; omega⟩ rfl).trans (att_at m c ⟨512 * t.val + r.val, by have := lt32 t; omega⟩ k)

theorem read2 (A : Vec Ideal S16384x1024 .bf16) (t : Fin cfg0.N) (r : Fin 512) (k : Fin 1024) (R : Fin 16384) (hR : R.val = 512 * t.val + r.val) :
    (((cfg0.win 2).blk t).view.read (Elt Ideal) A : Vec Ideal S512x1024 .bf16) (ix2 r k) = A (ix2 R k) := by
  blk_ext [idx t]

theorem block2 (c : Dev nD) (t : Fin cfg0.N) (r : Fin 512) (k : Fin 1024) :
    (iblk m c 2 t : Vec Ideal S512x1024 .bf16) (ix2 r k) = rows (a2 m c) (512 * t.val + r.val) k :=
  (read2 (V m c main_v4) t r k ⟨512 * t.val + r.val, by have := lt32 t; omega⟩ rfl).trans (ssm_at m c ⟨512 * t.val + r.val, by have := lt32 t; omega⟩ k)

theorem read3 (A : Vec Ideal S2048x1024 .bf16) (t : Fin cfg0.N) (k : Fin 2048) (q : Fin 1024) :
    (((cfg0.win 3).blk t).view.read (Elt Ideal) A : Vec Ideal S2048x1024 .bf16) (ix2 k q) = A (ix2 k q) := by
  blk_ext [idx t]

theorem block3 (c : Dev nD) (t : Fin cfg0.N) (k : Fin 2048) (q : Fin 1024) : (iblk m c 3 t : Vec Ideal S2048x1024 .bf16) (ix2 k q) = (wts m c).wo k q :=
  (read3 (V m c main_v6) t k q).trans (wo_at m c k q)

theorem read4 (A : Vec Ideal S1x1024 .f32) (t : Fin cfg0.N) (k : Fin 1) (q : Fin 1024) :
    (((cfg0.win 4).blk t).view.read (Elt Ideal) A : Vec Ideal S1x1024 .f32) (ix2 k q) = A (ix2 k q) := by
  blk_ext [idx t]

theorem block4 (c : Dev nD) (t : Fin cfg0.N) (q : Fin 1024) : (iblk m c 4 t : Vec Ideal S1x1024 .f32) (ix2 0 q) = (wts m c).g2 q :=
  (read4 (V m c main_v8) t 0 q).trans (g2_at m c q)

theorem read5 (A : Vec Ideal S1024x5632 .bf16) (t : Fin cfg0.N) (k : Fin 1024) (q : Fin 5632) :
    (((cfg0.win 5).blk t).view.read (Elt Ideal) A : Vec Ideal S1024x5632 .bf16) (ix2 k q) = A (ix2 k q) := by
  blk_ext [idx t]

theorem block5 (c : Dev nD) (t : Fin cfg0.N) (k : Fin 1024) (q : Fin 5632) : (iblk m c 5 t : Vec Ideal S1024x5632 .bf16) (ix2 k q) = (wts m c).wup k q :=
  (read5 (V m c main_v10) t k q).trans (wup_at m c k q)

theorem read6 (A : Vec Ideal S3x5632 .f32) (t : Fin cfg0.N) (k : Fin 3) (q : Fin 5632) :
    (((cfg0.win 6).blk t).view.read (Elt Ideal) A : Vec Ideal S3x5632 .f32) (ix2 k q) = A (ix2 k q) := by
  blk_ext [idx t]

theorem block6 (c : Dev nD) (t : Fin cfg0.N) (k : Fin 3) (q : Fin 5632) : (iblk m c 6 t : Vec Ideal S3x5632 .f32) (ix2 k q) = (wts m c).cw k q :=
  (read6 (V m c main_v11) t k q).trans (cw_at m c k q)

theorem read7 (A : Vec Ideal S1x5632 .f32) (t : Fin cfg0.N) (k : Fin 1) (q : Fin 5632) :
    (((cfg0.win 7).blk t).view.read (Elt Ideal) A : Vec Ideal S1x5632 .f32) (ix2 k q) = A (ix2 k q) := by
  blk_ext [idx t]

theorem block7 (c : Dev nD) (t : Fin cfg0.N) (q : Fin 5632) : (iblk m c 7 t : Vec Ideal S1x5632 .f32) (ix2 0 q) = (wts m c).cb q :=
  (read7 (V m c main_v13) t 0 q).trans (cb_at m c q)

theorem read8 (A : Vec Ideal S2816x1024 .bf16) (t : Fin cfg0.N) (k : Fin 2816) (q : Fin 1024) :
    (((cfg0.win 8).blk t).view.read (Elt Ideal) A : Vec Ideal S2816x1024 .bf16) (ix2 k q) = A (ix2 k q) := by
  blk_ext [idx t]

theorem block8 (c : Dev nD) (t : Fin cfg0.N) (k : Fin 2816) (q : Fin 1024) : (iblk m c 8 t : Vec Ideal S2816x1024 .bf16) (ix2 k q) = (wts m c).wdn k q :=
  (read8 (V m c main_v15) t k q).trans (wdn_at m c k q)

theorem read9 (A : Vec Ideal S1x1024 .f32) (t : Fin cfg0.N) (k : Fin 1) (q : Fin 1024) :
    (((cfg0.win 9).blk t).view.read (Elt Ideal) A : Vec Ideal S1x1024 .f32) (ix2 k q) = A (ix2 k q) := by
  blk_ext [idx t]

theorem block9 (c : Dev nD) (t : Fin cfg0.N) (q : Fin 1024) : (iblk m c 9 t : Vec Ideal S1x1024 .f32) (ix2 0 q) = (wts m c).gf q :=
  (read9 (V m c main_v16) t 0 q).trans (gf_at m c q)

/-- The place of a block's entry in the result's array. -/
theorem emb_out (t : Fin cfg0.N) (r : Fin 512) (k : Fin 1024) (R : Fin 16384) (hR : R.val = 512 * t.val + r.val) :
    (((cfg0.win 10).blk t).view.emb (ix2 r k : S512x1024.Idx) : S16384x1024.Idx) = (ix2 R k : S16384x1024.Idx) := by
  blk_ext [idx t]

end Cert.Kernel2Ideal.Front
-- ==== Proof.Fold.lean ====
/- What the second kernel's run leaves of its result. -/
module

public import proofs.«01_k».proof.Proof.Token
public import proofs.«01_k».proof.Proof.WholeA
public import proofs.«01_k».proof.Proof.WholeB
public import proofs.«01_k».proof.Proof.Sheet

@[expose] public section

set_option maxRecDepth 16384

noncomputable section

namespace Cert.Kernel2Ideal.Front

open Cert.Kernel2Ideal Cert.Kernel2Ideal.Gen Idealize.ShloMosaic Idealize.ShloMosaic.TcCoe Cert.Row Cert.Kernel2Ideal.Net
open Cert.Reference2Ideal.Look (rows mixes weights)

variable (m : (ℓ : Loc nD τ sig) → Buf (Elt Ideal) ℓ)

/-- The mixed rows of a tile. -/
theorem mixed_rows (c : Dev nD) (t : Fin cfg0.N) (r : Fin 512) (q : Fin 1024) :
    mixing (iblk m c 0 t) (iblk m c 1 t) (iblk m c 2 t) (cutW (iblk m c 3 t) 0 (by norm_num)) (cutW (iblk m c 3 t) 1024 (by norm_num)) (ix2 r q)
      = mix m c (512 * t.val + r.val) q := by
  rw [mixing_apply]
  show _ = mixed _ _ _ _ q
  unfold mixed
  refine congrArg₂ (· + ·) (congrArg₂ (· + ·) (block0 m c t r q) (Finset.sum_congr rfl fun k _ => congrArg₂ (· * ·) (block1 m c t r k) ?_))
    (Finset.sum_congr rfl fun k _ => congrArg₂ (· * ·) (block2 m c t r k) ?_)
  · refine (block3 m c t _ q).trans (congrArg (fun k => (wts m c).wo k q) (Fin.ext ?_))
    show 0 + k.val = k.val
    omega
  · exact block3 m c t _ q

/-- What a tile is given, its tails aside. -/
theorem given (c : Dev nD) (t : Fin cfg0.N) (z : S44x8x256.Idx → EReal)
    (one : ∀ (s : ℕ) (h : s < 22) (f : Fin 256), z (ix3 ⟨2 * s, by omega⟩ 7 f) = Row.back (wts m c) (mix m c) 1 (512 * t.val) ⟨colOf s + f.val, by have := colOf_le s h; omega⟩)
    (two : ∀ (s : ℕ) (h : s < 22) (f : Fin 256), z (ix3 ⟨2 * s + 1, by omega⟩ 7 f) = Row.back (wts m c) (mix m c) 2 (512 * t.val) ⟨colOf s + f.val, by have := colOf_le s h; omega⟩) :
    Given (wts m c) (mix m c) t.val (iblk m c 0 t) (iblk m c 1 t) (iblk m c 2 t) (iblk m c 3 t) (iblk m c 4 t) (iblk m c 5 t) (iblk m c 6 t) (iblk m c 7 t) (iblk m c 8 t) (iblk m c 9 t) z where
  rows := mixed_rows m c t
  g2 := block4 m c t
  wup := block5 m c t
  cw := block6 m c t
  cb := block7 m c t
  wdn := block8 m c t
  gf := block9 m c t
  one := one
  two := two

/-- What holds after a tile: its rows of the result, and the two last rows of its lifted tile as tails. -/
structure After (W : Weights) (M : ℕ → Fin 1024 → EReal) (t : ℕ) (o : S512x1024.Idx → EReal) (car : S44x8x256.Idx → EReal) : Prop where
  out : ∀ (r : Fin 512) (q : Fin 1024), o (ix2 r q) = Row.out W M (512 * t + r.val) q
  one : ∀ (s : ℕ) (h : s < 22) (f : Fin 256), car (ix3 ⟨2 * s, by omega⟩ 7 f) = Row.up W (M (512 * t + 511)) ⟨colOf s + f.val, by have := colOf_le s h; omega⟩
  two : ∀ (s : ℕ) (h : s < 22) (f : Fin 256), car (ix3 ⟨2 * s + 1, by omega⟩ 7 f) = Row.up W (M (512 * t + 510)) ⟨colOf s + f.val, by have := colOf_le s h; omega⟩

theorem after_of {c : Dev nD} {t : Fin cfg0.N} {z : S44x8x256.Idx → EReal} {o : S512x1024.Idx → EReal} {car : S44x8x256.Idx → EReal}
    (G : Given (wts m c) (mix m c) t.val (iblk m c 0 t) (iblk m c 1 t) (iblk m c 2 t) (iblk m c 3 t) (iblk m c 4 t) (iblk m c 5 t) (iblk m c 6 t) (iblk m c 7 t) (iblk m c 8 t) (iblk m c 9 t) z)
    (D : ∃ X, Done (iblk m c 0 t) (iblk m c 1 t) (iblk m c 2 t) (iblk m c 3 t) (iblk m c 4 t) (iblk m c 5 t) (iblk m c 6 t) (iblk m c 7 t) (iblk m c 8 t) (iblk m c 9 t) z o car X) :
    After (wts m c) (mix m c) t.val o car := by
  obtain ⟨X, D⟩ := D
  exact ⟨out_row G D, car_one G D, car_two G D⟩

/-- A tile that starts a sequence. -/
theorem tileA (c : Dev nD) (t : Fin cfg0.N) (h0 : t.val % 4 = 0) :
    ∃ X, Done (iblk m c 0 t) (iblk m c 1 t) (iblk m c 2 t) (iblk m c 3 t) (iblk m c 4 t) (iblk m c 5 t) (iblk m c 6 t) (iblk m c 7 t) (iblk m c 8 t) (iblk m c 9 t) (fun _ => (0 : EReal)) (outsAt0 m c t.val t.isLt).1 (outsAt0 m c t.val t.isLt).2 X := by
  rw [outsAt0_A m c t h0]
  dsimp only
  exact doneA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0)

/-- A tile that goes on with a sequence. -/
theorem tileB (c : Dev nD) (t : Fin cfg0.N) (h0 : ¬t.val % 4 = 0) :
    ∃ X, Done (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 (outsAt0 m c t.val t.isLt).1 (outsAt0 m c t.val t.isLt).2 X := by
  rw [outsAt0_B m c t h0]
  dsimp only
  exact doneB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 (fun h => h0 ((hcond0_0 t).mp h))

/-- After a tile that starts a sequence. -/
theorem afterA (c : Dev nD) (t : Fin cfg0.N) (h0 : t.val % 4 = 0) :
    After (wts m c) (mix m c) t.val (outsAt0 m c t.val t.isLt).1 (outsAt0 m c t.val t.isLt).2 :=
  after_of m (given m c t (fun _ => 0) (fun s h f => by unfold Row.back; rw [if_pos (by omega)]) (fun s h f => by unfold Row.back; rw [if_pos (by omega)]))
    (tileA m c t h0)

/-- After a tile that goes on with a sequence. -/
theorem afterB (c : Dev nD) (t : Fin cfg0.N) (h0 : ¬t.val % 4 = 0)
    (A : After (wts m c) (mix m c) (t.val - 1) (outsAt0 m c (t.val - 1) (Nat.lt_of_le_of_lt (Nat.sub_le _ _) t.isLt)).1
      (outsAt0 m c (t.val - 1) (Nat.lt_of_le_of_lt (Nat.sub_le _ _) t.isLt)).2) :
    After (wts m c) (mix m c) t.val (outsAt0 m c t.val t.isLt).1 (outsAt0 m c t.val t.isLt).2 := by
  refine after_of m (given m c t (outsAt0 m c (t.val - 1) (Nat.lt_of_le_of_lt (Nat.sub_le _ _) t.isLt)).2
    (fun s h f => (A.one s h f).trans ?_) (fun s h f => (A.two s h f).trans ?_)) (tileB m c t h0)
  · unfold Row.back
    rw [if_neg (by omega), show 512 * t.val - 1 = 512 * (t.val - 1) + 511 by omega]
  · unfold Row.back
    rw [if_neg (by omega), show 512 * t.val - 2 = 512 * (t.val - 1) + 510 by omega]

/-- After every tile. -/
theorem after (c : Dev nD) : ∀ (n : ℕ) (hn : n < cfg0.N), After (wts m c) (mix m c) n (outsAt0 m c n hn).1 (outsAt0 m c n hn).2 := by
  intro n
  induction n with
  | zero => exact fun hn => afterA m c ⟨0, hn⟩ (Nat.zero_mod _)
  | succ n ih =>
    intro hn
    by_cases h0 : (n + 1) % 4 = 0
    · exact afterA m c ⟨n + 1, hn⟩ h0
    · exact afterB m c ⟨n + 1, hn⟩ h0 (ih (Nat.lt_of_succ_lt hn))

/-- The result's array. -/
def res (W : Weights) (M : ℕ → Fin 1024 → EReal) : Vec Ideal S16384x1024 .f32 := fun y => Row.out W M (y 0).val (y 1)

theorem exists_ix2 {a b : ℕ} (y : (⟨2, ![a, b]⟩ : Shape).Idx) : ∃ (i : Fin a) (j : Fin b), y = ix2 i j :=
  ⟨y 0, y 1, funext fun x => by match x with | ⟨0, _⟩ => rfl | ⟨1, _⟩ => rfl⟩

/-- One entry of a tile's block is the array's entry at its place. -/
theorem out_point {W : Weights} {M : ℕ → Fin 1024 → EReal} (t : Fin cfg0.N) (o : Vec Ideal S512x1024 .f32)
    (h : ∀ (r : Fin 512) (q : Fin 1024), o (ix2 r q) = Row.out W M (512 * t.val + r.val) q) (y : S512x1024.Idx) :
    o y = res W M (((cfg0.win 10).blk t).view.emb y) := by
  obtain ⟨r, q, rfl⟩ := exists_ix2 y
  rw [emb_out t r q ⟨512 * t.val + r.val, by have := lt32 t; omega⟩ rfl, h]
  rfl

/-- The result's array after the run. -/
theorem final_out (c : Dev nD) : (dats m 0 c).arrAt 10 cfg0.N = res (wts m c) (mix m c) := by
  refine (dats m 0 c).arrAt_eq_of_covers 10 _ (by decide +kernel) fun t hf y => ?_
  blk_simp
  rw [after0_10]
  exact out_point t _ (after m c t.val t.isLt).out y

end Cert.Kernel2Ideal.Front
-- ==== Proof.RefOut.lean ====
/- The reference of the mix and the network, to its result. -/
module

public import proofs.«01_k».proof.Proof.RefRow
public import Idealize.ShloMosaic.Lib.KernelVsHost

@[expose] public section

set_option maxRecDepth 16384

noncomputable section

namespace Cert.Reference2Ideal.Look

open Cert.Reference2Ideal.Read Cert.Reference2Ideal Cert.Reference2Ideal.Gen Idealize.ShloMosaic Cert.Row

variable (x0 x1 x2 : FVec Ideal S8x2048x1024 .f32) (x3 : FVec Ideal S1x2048x1024 .f32) (x4 : FVec Ideal S1x1024 .f32)
  (x5 : FVec Ideal S1x1024x5632 .f32) (x6 : FVec Ideal S1x3x5632 .f32) (x7 : FVec Ideal S1x5632 .f32) (x8 : FVec Ideal S1x2816x1024 .f32)
  (x9 : FVec Ideal S1024 .f32)

theorem pad_in (b : Fin 8) (p : Fin 2050) (f : Fin 5632) (h : ¬p.val < 2) :
    val_main_v23 (F := Ideal) x0 x1 x2 x3 x4 x5 (ix3 b p f) = val_main_v22 (F := Ideal) x0 x1 x2 x3 x4 x5 (ix3 b ⟨p.val - 2, by omega⟩ f) := by
  unfold val_main_v23
  generalize val_main_v22 (F := Ideal) x0 x1 x2 x3 x4 x5 = y
  refine pad_apply_of_inside _ _ _ _ _ _ _ _ _ fun a => ?_
  match a with
  | ⟨0, _⟩ => show b.val = 0 + b.val * 1; omega
  | ⟨1, _⟩ => show p.val = 2 + (p.val - 2) * 1; omega
  | ⟨2, _⟩ => show f.val = 0 + f.val * 1; omega

theorem pad_out (b : Fin 8) (p : Fin 2050) (f : Fin 5632) (h : p.val < 2) :
    val_main_v23 (F := Ideal) x0 x1 x2 x3 x4 x5 (ix3 b p f) = 0 := by
  unfold val_main_v23
  generalize val_main_v22 (F := Ideal) x0 x1 x2 x3 x4 x5 = y
  refine (pad_apply_of_not_inside _ _ _ _ _ _ _ _ (1 : Fin 3) ?_).trans ?_
  · show ¬(2 ≤ p.val ∧ _)
    omega
  · show (((0#32 : BitVec 32).toInt : ℝ) : EReal) = 0
    simp

theorem shift_read (b : Fin 8) (s : Fin 2048) (f : Fin 5632) (d : ℕ) (hd : d ≤ 2) :
    val_main_v23 (F := Ideal) x0 x1 x2 x3 x4 x5 (ix3 b ⟨d + s.val, by omega⟩ f)
      = back (weights x3 x4 x5 x6 x7 x8 x9) (mixes x0 x1 x2 x3) (2 - d) (b.val * 2048 + s.val) f := by
  unfold back
  by_cases h : d + s.val < 2
  · rw [pad_out _ _ _ _ _ _ _ _ _ h, if_pos (by omega)]
  · rw [pad_in _ _ _ _ _ _ _ _ _ h, if_neg (by omega), up_read x0 x1 x2 x3 x4 x5 x6 x7 x8 x9 b ⟨d + s.val - 2, by omega⟩ f,
      show b.val * 2048 + s.val - (2 - d) = b.val * 2048 + (d + s.val - 2) by omega]

theorem conv_read (b : Fin 8) (s : Fin 2048) (f : Fin 5632) :
    val_main_v48 (F := Ideal) x0 x1 x2 x3 x4 x5 x6 x7 (ix3 b s f)
      = conv (weights x3 x4 x5 x6 x7 x8 x9) (back (weights x3 x4 x5 x6 x7 x8 x9) (mixes x0 x1 x2 x3) 2 (b.val * 2048 + s.val))
          (back (weights x3 x4 x5 x6 x7 x8 x9) (mixes x0 x1 x2 x3) 1 (b.val * 2048 + s.val)) (back (weights x3 x4 x5 x6 x7 x8 x9) (mixes x0 x1 x2 x3) 0 (b.val * 2048 + s.val)) f := by
  have h0 := shift_read x0 x1 x2 x3 x4 x5 x6 x7 x8 x9 b s f 0 (by norm_num)
  have h1 := shift_read x0 x1 x2 x3 x4 x5 x6 x7 x8 x9 b s f 1 (by norm_num)
  have h2 := shift_read x0 x1 x2 x3 x4 x5 x6 x7 x8 x9 b s f 2 (by norm_num)
  unfold conv
  refine Eq.trans ?_ (congrArg₂ (fun p q : EReal => x7 (ix2 0 f) + x6 (ix3 0 2 f) * p + x6 (ix3 0 1 f) * q + x6 (ix3 0 0 f) * _) h2 h1)
  refine Eq.trans ?_ (congrArg (fun p : EReal => _ + x6 (ix3 0 0 f) * p) h0)
  clear h0 h1 h2
  have h : val_main_v48 (F := Ideal) x0 x1 x2 x3 x4 x5 x6 x7 (ix3 b s f)
      = 0 + val_main_v23 (F := Ideal) x0 x1 x2 x3 x4 x5 (ix3 b ⟨0 + s.val, by omega⟩ f) * x6 (ix3 0 0 f)
        + val_main_v23 (F := Ideal) x0 x1 x2 x3 x4 x5 (ix3 b ⟨1 + s.val, by omega⟩ f) * x6 (ix3 0 1 f)
        + val_main_v23 (F := Ideal) x0 x1 x2 x3 x4 x5 (ix3 b ⟨2 + s.val, by omega⟩ f) * x6 (ix3 0 2 f) + x7 (ix2 0 f) := by
    unfold val_main_v48 val_main_v45 val_main_v38 val_main_v31 val_main_v44 val_main_v37 val_main_v29 val_main_v39 val_main_v32 val_main_v24
    generalize val_main_v23 (F := Ideal) x0 x1 x2 x3 x4 x5 = y
    pointwise [val_main_v30, val_main_cst_2, val_main_v19, val_main_v20, val_main_v25, val_main_v26, val_main_v27, val_main_v28, val_main_v33, val_main_v34, val_main_v35, val_main_v36,
      val_main_v40, val_main_v41, val_main_v42, val_main_v43, val_main_v46, val_main_v47]
  rw [h, zero_add]
  generalize val_main_v23 (F := Ideal) x0 x1 x2 x3 x4 x5 = y
  simp only [mul_comm (x6 _)]
  ac_rfl

theorem act_read (b : Fin 8) (s : Fin 2048) (f : Fin 2816) :
    val_main_v52 (F := Ideal) x0 x1 x2 x3 x4 x5 x6 x7 (ix3 b s f)
      = act (conv (weights x3 x4 x5 x6 x7 x8 x9) (back (weights x3 x4 x5 x6 x7 x8 x9) (mixes x0 x1 x2 x3) 2 (b.val * 2048 + s.val))
          (back (weights x3 x4 x5 x6 x7 x8 x9) (mixes x0 x1 x2 x3) 1 (b.val * 2048 + s.val)) (back (weights x3 x4 x5 x6 x7 x8 x9) (mixes x0 x1 x2 x3) 0 (b.val * 2048 + s.val))) f := by
  unfold act Row.sig
  rw [← conv_read x0 x1 x2 x3 x4 x5 x6 x7 x8 x9 b s ⟨f.val, by omega⟩, ← conv_read x0 x1 x2 x3 x4 x5 x6 x7 x8 x9 b s ⟨2816 + f.val, by omega⟩]
  unfold val_main_v52 val_main_v51 val_main_call1_v5 val_main_call1_v3 val_main_call1_v1 val_main_call1_v0 val_main_v49 val_main_v50
  generalize val_main_v48 (F := Ideal) x0 x1 x2 x3 x4 x5 x6 x7 = y
  pointwise [val_main_call1_v2, val_main_call1_v4, val_main_call1_cst, val_main_call1_cst_0]

theorem sum_read (b : Fin 8) (s : Fin 2048) (c : Fin 1024) :
    val_main_v54 (F := Ideal) x0 x1 x2 x3 x4 x5 x6 x7 x8 (ix3 b s c)
      = mixes x0 x1 x2 x3 (b.val * 2048 + s.val) c + ∑ f : Fin 2816, act (conv (weights x3 x4 x5 x6 x7 x8 x9) (back (weights x3 x4 x5 x6 x7 x8 x9) (mixes x0 x1 x2 x3) 2 (b.val * 2048 + s.val))
          (back (weights x3 x4 x5 x6 x7 x8 x9) (mixes x0 x1 x2 x3) 1 (b.val * 2048 + s.val)) (back (weights x3 x4 x5 x6 x7 x8 x9) (mixes x0 x1 x2 x3) 0 (b.val * 2048 + s.val))) f * x8 (ix3 0 f c) := by
  simp only [← act_read]
  rw [← mix_read]
  unfold val_main_v54 val_main_v53
  generalize val_main_v52 (F := Ideal) x0 x1 x2 x3 x4 x5 x6 x7 = y
  generalize val_main_v3 (F := Ideal) x0 x1 x2 x3 = z
  pointwise [val_main_v21]

/-- The reference's result. -/
theorem out_read (b : Fin 8) (s : Fin 2048) (T : Fin 16384) (hT : T.val = b.val * 2048 + s.val) (c : Fin 1024) :
    val_main_v68 (F := Ideal) x0 x1 x2 x3 x4 x5 x6 x7 x8 x9 (ix2 T c)
      = out (weights x3 x4 x5 x6 x7 x8 x9) (mixes x0 x1 x2 x3) T.val c := by
  have hb := b.isLt
  have hs := s.isLt
  have h : val_main_v68 (F := Ideal) x0 x1 x2 x3 x4 x5 x6 x7 x8 x9 (ix2 T c) = val_main_v67 (F := Ideal) x0 x1 x2 x3 x4 x5 x6 x7 x8 x9 (ix3 b s c) := by
    unfold val_main_v68
    generalize val_main_v67 (F := Ideal) x0 x1 x2 x3 x4 x5 x6 x7 x8 x9 = y
    refine shapeCast_apply y _ (ix2 T c) (ix3 b s c) ?_
    rewrite [Shape.rowMajor_val_two, Shape.rowMajor_val_three]
    show (b.val * 2048 + s.val) * 1024 + c.val = T.val * 1024 + c.val
    rw [hT]
  rw [h, hT]
  unfold out close
  rw [show (fun c => mixes x0 x1 x2 x3 (b.val * 2048 + s.val) c + ∑ f : Fin 2816, act (conv (weights x3 x4 x5 x6 x7 x8 x9) (back (weights x3 x4 x5 x6 x7 x8 x9) (mixes x0 x1 x2 x3) 2 (b.val * 2048 + s.val))
          (back (weights x3 x4 x5 x6 x7 x8 x9) (mixes x0 x1 x2 x3) 1 (b.val * 2048 + s.val)) (back (weights x3 x4 x5 x6 x7 x8 x9) (mixes x0 x1 x2 x3) 0 (b.val * 2048 + s.val))) f * (weights x3 x4 x5 x6 x7 x8 x9).wdn f c)
        = fun c => val_main_v54 (F := Ideal) x0 x1 x2 x3 x4 x5 x6 x7 x8 (ix3 b s c) from funext fun c => (sum_read x0 x1 x2 x3 x4 x5 x6 x7 x8 x9 b s c).symm]
  unfold Row.norm val_main_v67 val_main_v64 val_main_v63 val_main_v62 val_main_v61 val_main_v59 val_main_v57 val_main_v56 val_main_v55
  generalize val_main_v54 (F := Ideal) x0 x1 x2 x3 x4 x5 x6 x7 x8 = y
  unfold weights
  pointwise [val_main_v66, val_main_v65, val_main_v60, val_main_cst_5, val_main_v58, val_main_cst_4, val_main_cst_3]

end Cert.Reference2Ideal.Look
-- ==== Proof.lean ====
/- The certificate, for each of the two calls: the frames of its three programs, its named constants, and the equality of the kernel's outputs with the
   reference's results. The attention's equality is in `Final`; that of the mix and the network is in `Fold` and `RefOut`. Here they are set against the runs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Final
public import proofs.«01_k».proof.Proof.Fold
public import proofs.«01_k».proof.Proof.RefOut
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

attribute [local instance] Cert.Kernel.Gen.facts Cert.KernelIdeal.Gen.facts Cert.ReferenceIdeal.Gen.facts Cert.Finite.facts

/-- The reference's attention over memory `m'` is the kernel's over memory `m`, where the two hold the same inputs. -/
theorem att_agree (m : (ℓ : Loc Cert.KernelIdeal.nD Cert.KernelIdeal.τ Cert.KernelIdeal.sig) → Buf (Elt Ideal) ℓ)
    (h : Cert.Pre_KernelIdeal_finite_inputs m) (c : Dev Cert.KernelIdeal.nD)
    (x0 : FVec Ideal Cert.ReferenceIdeal.S8x2048x3072 .f32) (x1 : FVec Ideal Cert.ReferenceIdeal.S32x8 .f32)
    (x2 x3 x4 x5 : FVec Ideal Cert.ReferenceIdeal.S1x64 .f32) (x6 : FVec Ideal Cert.ReferenceIdeal.S1x128 .f32)
    (e0 : x0 = Cert.KernelIdeal.Host.qkv m c) (e1 : x1 = Cert.KernelIdeal.Host.table m c) (e2 : x2 = Cert.KernelIdeal.Host.lq1 m c)
    (e3 : x3 = Cert.KernelIdeal.Host.lk1 m c) (e4 : x4 = Cert.KernelIdeal.Host.lq2 m c) (e5 : x5 = Cert.KernelIdeal.Host.lk2 m c)
    (e6 : x6 = Cert.KernelIdeal.Host.gain m c) :
    Cert.ReferenceIdeal.Read.val_main_v108 (F := Ideal) x0 x1 x2 x3 x4 x5 x6
      = (Cert.KernelIdeal.Gen.dats m 0 c).arrAt 10 Cert.KernelIdeal.cfg0.N := by
  subst e0 e1 e2 e3 e4 e5 e6
  obtain ⟨h0, h1, h2, h3, h4, h5⟩ := Cert.Finite.reals (Cert.KernelIdeal.Host.qkv m c) (Cert.KernelIdeal.Host.table m c) (Cert.KernelIdeal.Host.lq1 m c)
    (Cert.KernelIdeal.Host.lk1 m c) (Cert.KernelIdeal.Host.lq2 m c) (Cert.KernelIdeal.Host.lk2 m c) (Cert.KernelIdeal.Host.gain m c)
    (Cert.KernelIdeal.Host.weightOut m c) (Cert.KernelIdeal.Host.weightUp m c) (Cert.KernelIdeal.Host.weightDown m c) fun j => congrFun (h c) j
  exact Cert.Final.att_eq m c h0 h1 h2 h3 h4 h5

theorem algebraic : Cert.algebraic_KernelIdeal_ReferenceIdeal_pre_finite_inputs := by
  intro m g m' g' hpre hagree
  refine ⟨fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N, ?_, ?_⟩
  · exact (θ_run Cert.KernelIdeal.defs _ _).mono (fun r h => h)
      (Cert.KernelIdeal.Value.run_blocks m g)
  · refine (θ_run Cert.ReferenceIdeal.defs _ _).mono (fun r h c => ?_) (Cert.ReferenceIdeal.Value.run (F := Ideal) m' g')
    obtain ⟨a0, a1, a2, a3, a4, a5, a6, a7, a8, a9⟩ := hagree c
    refine ⟨(h c).1.trans ((Cert.ReferenceIdeal.Read.val_main_v108_eq (F := Ideal) (StableHlo.launchContents m' c)).trans
        (att_agree m hpre c _ _ _ _ _ _ _ a0 a1 a2 a3 a4 a5 a6)), ?_, ?_, ?_, (h c).2.2.2.2⟩
    · exact (h c).2.1.trans ((congrArg (Cert.ReferenceIdeal.Read.val_main_v110 (F := Ideal)) a7).trans (Cert.Final.out_eq m c))
    · exact (h c).2.2.1.trans ((congrArg (Cert.ReferenceIdeal.Read.val_main_v112 (F := Ideal)) a8).trans (Cert.Final.up_eq m c))
    · exact (h c).2.2.2.1.trans ((congrArg (Cert.ReferenceIdeal.Read.val_main_v114 (F := Ideal)) a9).trans (Cert.Final.down_eq m c))

theorem reference_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem preserves2 : Cert.preserves_Kernel2_Kernel2Ideal :=
  IdealRules.named_const.statement Cert.Kernel2Ideal.κ "neg_log2e" .f32 0xBFB8AA3B#32 ((-((Real.log 2)⁻¹) : ℝ) : EReal) rfl

attribute [local instance] Cert.Kernel2.Gen.facts Cert.Kernel2Ideal.Gen.facts Cert.Reference2Ideal.Gen.facts

/-- The second reference's result over memory `m'` is the second kernel's over memory `m`, where the two hold the same inputs. -/
theorem mix_agree (m : (ℓ : Loc Cert.Kernel2Ideal.nD Cert.Kernel2Ideal.τ Cert.Kernel2Ideal.sig) → Buf (Elt Ideal) ℓ) (c : Dev Cert.Kernel2Ideal.nD)
    (x0 x1 x2 : FVec Ideal Cert.Reference2Ideal.S8x2048x1024 .f32) (x3 : FVec Ideal Cert.Reference2Ideal.S1x2048x1024 .f32)
    (x4 : FVec Ideal Cert.Reference2Ideal.S1x1024 .f32) (x5 : FVec Ideal Cert.Reference2Ideal.S1x1024x5632 .f32) (x6 : FVec Ideal Cert.Reference2Ideal.S1x3x5632 .f32)
    (x7 : FVec Ideal Cert.Reference2Ideal.S1x5632 .f32) (x8 : FVec Ideal Cert.Reference2Ideal.S1x2816x1024 .f32) (x9 : FVec Ideal Cert.Reference2Ideal.S1024 .f32)
    (e0 : x0 = Cert.Kernel2Ideal.Front.a0 m c) (e1 : x1 = Cert.Kernel2Ideal.Front.a1 m c) (e2 : x2 = Cert.Kernel2Ideal.Front.a2 m c)
    (e3 : x3 = Cert.Kernel2Ideal.Front.a3 m c) (e4 : x4 = Cert.Kernel2Ideal.Front.a4 m c) (e5 : x5 = Cert.Kernel2Ideal.Front.a5 m c)
    (e6 : x6 = Cert.Kernel2Ideal.Front.a6 m c) (e7 : x7 = Cert.Kernel2Ideal.Front.a7 m c) (e8 : x8 = Cert.Kernel2Ideal.Front.a8 m c)
    (e9 : x9 = Cert.Kernel2Ideal.Front.a9 m c) :
    Cert.Reference2Ideal.Read.val_main_v68 (F := Ideal) x0 x1 x2 x3 x4 x5 x6 x7 x8 x9
      = (Cert.Kernel2Ideal.Gen.dats m 0 c).arrAt 10 Cert.Kernel2Ideal.cfg0.N := by
  subst e0 e1 e2 e3 e4 e5 e6 e7 e8 e9
  rw [Cert.Kernel2Ideal.Front.final_out m c]
  funext y
  obtain ⟨T, q, rfl⟩ := Cert.Kernel2Ideal.Front.exists_ix2 y
  have hT := T.isLt
  exact Cert.Reference2Ideal.Look.out_read _ _ _ _ _ _ _ _ _ _ ⟨T.val / 2048, by omega⟩ ⟨T.val % 2048, by omega⟩ T (by show T.val = T.val / 2048 * 2048 + T.val % 2048; omega) q

theorem algebraic2 : Cert.algebraic_Kernel2Ideal_Reference2Ideal := by
  intro m g m' g' hpre hagree
  refine ⟨fun c => (Cert.Kernel2Ideal.Gen.dats m 0 c).arrAt 10 Cert.Kernel2Ideal.cfg0.N, ?_, ?_⟩
  · exact (θ_run Cert.Kernel2Ideal.defs _ _).mono (fun r h => h) (Cert.Kernel2Ideal.Value.run_blocks m g)
  · refine (θ_run Cert.Reference2Ideal.defs _ _).mono (fun r h c => ?_) (Cert.Reference2Ideal.Value.run (F := Ideal) m' g')
    obtain ⟨a0, a1, a2, a3, a4, a5, a6, a7, a8, a9⟩ := hagree c
    exact ⟨(h c).1.trans ((Cert.Reference2Ideal.Read.val_main_v68_eq (F := Ideal) m' c).trans
        (mix_agree m c _ _ _ _ _ _ _ _ _ _ a0 a1 a2 a3 a4 a5 a6 a7 a8 a9)), (h c).2⟩

theorem reference_frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Finite.facts,
  fun m ρ _ => Cert.Kernel.Gen.frame m ρ, fun m ρ _ => Cert.KernelIdeal.Gen.frame m ρ, fun m ρ _ => Cert.KernelIdeal.Gen.frame m ρ,
  reference_frame, fun m g _ => reference_frame m g trivial,
  fun m ρ _ => Cert.Kernel2.Gen.frame m ρ, fun m ρ _ => Cert.Kernel2Ideal.Gen.frame m ρ, reference_frame2,
  preserves, algebraic, preserves2, algebraic2⟩

end Cert.Proof

end
